-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S3 : Shape := ⟨1, ![3]⟩
abbrev S3x8192x28x128 : Shape := ⟨4, ![3, 8192, 28, 128]⟩
abbrev S3x8192x28 : Shape := ⟨3, ![3, 8192, 28]⟩
abbrev S3x8192x4x128 : Shape := ⟨4, ![3, 8192, 4, 128]⟩
abbrev S3x8192x4 : Shape := ⟨3, ![3, 8192, 4]⟩
abbrev S_ : Shape := ⟨0, ![]⟩

class Facts : Prop where
  bcast_S_S3 : S_.BroadcastsInDim S3 (![] : Fin 0 → Fin S3.rank)
  reducesTo_S3_S_d0 : S3.ReducesTo [0] S_
  h_S_ : 0 < S_.numel
  bcast_S_S3x8192x28x128 : S_.BroadcastsInDim S3x8192x28x128 (![] : Fin 0 → Fin S3x8192x28x128.rank)
  reducesTo_S3x8192x28x128_S_d0_1_2_3 : S3x8192x28x128.ReducesTo [0, 1, 2, 3] S_
  bcast_S_S3x8192x28 : S_.BroadcastsInDim S3x8192x28 (![] : Fin 0 → Fin S3x8192x28.rank)
  reducesTo_S3x8192x28_S_d0_1_2 : S3x8192x28.ReducesTo [0, 1, 2] S_
  bcast_S_S3x8192x4x128 : S_.BroadcastsInDim S3x8192x4x128 (![] : Fin 0 → Fin S3x8192x4x128.rank)
  reducesTo_S3x8192x4x128_S_d0_1_2_3 : S3x8192x4x128.ReducesTo [0, 1, 2, 3] S_
  bcast_S_S3x8192x4 : S_.BroadcastsInDim S3x8192x4 (![] : Fin 0 → Fin S3x8192x4.rank)
  reducesTo_S3x8192x4_S_d0_1_2 : S3x8192x4.ReducesTo [0, 1, 2] S_

variable [Facts]

def fn_part2 {F : FTy → Type} [FloatOps F] (main_arg7 : FVec F S3x8192x4x128 .f32) (main_arg8 : FVec F S3x8192x4 .f32) (main_v30 : IVec S_ 1) (main_v33 : IVec S3x8192x4 1) : IVec S_ 1 :=
  let main_c_12 : IVec S_ 1 := constantI S_ 1 1#1
  let main_v34 : IVec S_ 1 := (fun x v => Host.reduce IntOp.andi x v reducesTo_S3x8192x4_S_d0_1_2 h_S_) main_v33 main_c_12
  let main_v35 : IVec S_ 1 := andi main_v30 main_v34
  let main_v36 : FVec F S3x8192x4x128 .f32 := Host.absf main_arg7
  let main_cst_13 : FVec F S_ .f32 := constant S_ .f32 0x7F800000#32
  let main_v37 : FVec F S3x8192x4x128 .f32 := broadcastInDim S3x8192x4x128 ![] bcast_S_S3x8192x4x128 main_cst_13
  let main_v38 : IVec S3x8192x4x128 1 := cmpf .olt main_v36 main_v37
  let main_c_14 : IVec S_ 1 := constantI S_ 1 1#1
  let main_v39 : IVec S_ 1 := (fun x v => Host.reduce IntOp.andi x v reducesTo_S3x8192x4x128_S_d0_1_2_3 h_S_) main_v38 main_c_14
  let main_v40 : IVec S_ 1 := andi main_v35 main_v39
  let main_v41 : FVec F S3x8192x4 .f32 := Host.absf main_arg8
  let main_cst_15 : FVec F S_ .f32 := constant S_ .f32 0x7F800000#32
  let main_v42 : FVec F S3x8192x4 .f32 := broadcastInDim S3x8192x4 ![] bcast_S_S3x8192x4 main_cst_15
  let main_v43 : IVec S3x8192x4 1 := cmpf .olt main_v41 main_v42
  let main_c_16 : IVec S_ 1 := constantI S_ 1 1#1
  let main_v44 : IVec S_ 1 := (fun x v => Host.reduce IntOp.andi x v reducesTo_S3x8192x4_S_d0_1_2 h_S_) main_v43 main_c_16
  let main_v45 : IVec S_ 1 := andi main_v40 main_v44
  main_v45

def fn_part1 {F : FTy → Type} [FloatOps F] (main_arg4 : FVec F S3x8192x28 .f32) (main_arg5 : FVec F S3x8192x4x128 .f32) (main_arg6 : FVec F S3x8192x4 .f32) (main_arg7 : FVec F S3x8192x4x128 .f32) (main_arg8 : FVec F S3x8192x4 .f32) (main_v15 : IVec S_ 1) (main_v16 : FVec F S3x8192x28x128 .f32) : IVec S_ 1 :=
  let main_cst_5 : FVec F S_ .f32 := constant S_ .f32 0x7F800000#32
  let main_v17 : FVec F S3x8192x28x128 .f32 := broadcastInDim S3x8192x28x128 ![] bcast_S_S3x8192x28x128 main_cst_5
  let main_v18 : IVec S3x8192x28x128 1 := cmpf .olt main_v16 main_v17
  let main_c_6 : IVec S_ 1 := constantI S_ 1 1#1
  let main_v19 : IVec S_ 1 := (fun x v => Host.reduce IntOp.andi x v reducesTo_S3x8192x28x128_S_d0_1_2_3 h_S_) main_v18 main_c_6
  let main_v20 : IVec S_ 1 := andi main_v15 main_v19
  let main_v21 : FVec F S3x8192x28 .f32 := Host.absf main_arg4
  let main_cst_7 : FVec F S_ .f32 := constant S_ .f32 0x7F800000#32
  let main_v22 : FVec F S3x8192x28 .f32 := broadcastInDim S3x8192x28 ![] bcast_S_S3x8192x28 main_cst_7
  let main_v23 : IVec S3x8192x28 1 := cmpf .olt main_v21 main_v22
  let main_c_8 : IVec S_ 1 := constantI S_ 1 1#1
  let main_v24 : IVec S_ 1 := (fun x v => Host.reduce IntOp.andi x v reducesTo_S3x8192x28_S_d0_1_2 h_S_) main_v23 main_c_8
  let main_v25 : IVec S_ 1 := andi main_v20 main_v24
  let main_v26 : FVec F S3x8192x4x128 .f32 := Host.absf main_arg5
  let main_cst_9 : FVec F S_ .f32 := constant S_ .f32 0x7F800000#32
  let main_v27 : FVec F S3x8192x4x128 .f32 := broadcastInDim S3x8192x4x128 ![] bcast_S_S3x8192x4x128 main_cst_9
  let main_v28 : IVec S3x8192x4x128 1 := cmpf .olt main_v26 main_v27
  let main_c_10 : IVec S_ 1 := constantI S_ 1 1#1
  let main_v29 : IVec S_ 1 := (fun x v => Host.reduce IntOp.andi x v reducesTo_S3x8192x4x128_S_d0_1_2_3 h_S_) main_v28 main_c_10
  let main_v30 : IVec S_ 1 := andi main_v25 main_v29
  let main_v31 : FVec F S3x8192x4 .f32 := Host.absf main_arg6
  let main_cst_11 : FVec F S_ .f32 := constant S_ .f32 0x7F800000#32
  let main_v32 : FVec F S3x8192x4 .f32 := broadcastInDim S3x8192x4 ![] bcast_S_S3x8192x4 main_cst_11
  let main_v33 : IVec S3x8192x4 1 := cmpf .olt main_v31 main_v32
  fn_part2 (F := F) main_arg7 main_arg8 main_v30 main_v33

def fn {F : FTy → Type} [FloatOps F] (main_arg0 : IVec S3 32) (main_arg1 : FVec F S3x8192x28x128 .f32) (main_arg2 : FVec F S3x8192x28 .f32) (main_arg3 : FVec F S3x8192x28x128 .f32) (main_arg4 : FVec F S3x8192x28 .f32) (main_arg5 : FVec F S3x8192x4x128 .f32) (main_arg6 : FVec F S3x8192x4 .f32) (main_arg7 : FVec F S3x8192x4x128 .f32) (main_arg8 : FVec F S3x8192x4 .f32) (main_arg9 : FVec F S3x8192x4x128 .bf16) (main_arg10 : FVec F S3x8192x4 .f32) : IVec S_ 1 :=
  let main_c : IVec S_ 32 := constantI S_ 32 4294967041#32
  let main_v0 : IVec S3 32 := broadcastInDim S3 ![] bcast_S_S3 main_c
  let main_v1 : IVec S3 1 := cmpi .sgt main_arg0 main_v0
  let main_c_0 : IVec S_ 32 := constantI S_ 32 2147483393#32
  let main_v2 : IVec S3 32 := broadcastInDim S3 ![] bcast_S_S3 main_c_0
  let main_v3 : IVec S3 1 := cmpi .sle main_arg0 main_v2
  let main_v4 : IVec S3 1 := andi main_v1 main_v3
  let main_c_1 : IVec S_ 1 := constantI S_ 1 1#1
  let main_v5 : IVec S_ 1 := (fun x v => Host.reduce IntOp.andi x v reducesTo_S3_S_d0 h_S_) main_v4 main_c_1
  let main_v6 : FVec F S3x8192x28x128 .f32 := Host.absf main_arg1
  let main_cst : FVec F S_ .f32 := constant S_ .f32 0x7F800000#32
  let main_v7 : FVec F S3x8192x28x128 .f32 := broadcastInDim S3x8192x28x128 ![] bcast_S_S3x8192x28x128 main_cst
  let main_v8 : IVec S3x8192x28x128 1 := cmpf .olt main_v6 main_v7
  let main_c_2 : IVec S_ 1 := constantI S_ 1 1#1
  let main_v9 : IVec S_ 1 := (fun x v => Host.reduce IntOp.andi x v reducesTo_S3x8192x28x128_S_d0_1_2_3 h_S_) main_v8 main_c_2
  let main_v10 : IVec S_ 1 := andi main_v5 main_v9
  let main_v11 : FVec F S3x8192x28 .f32 := Host.absf main_arg2
  let main_cst_3 : FVec F S_ .f32 := constant S_ .f32 0x7F800000#32
  let main_v12 : FVec F S3x8192x28 .f32 := broadcastInDim S3x8192x28 ![] bcast_S_S3x8192x28 main_cst_3
  let main_v13 : IVec S3x8192x28 1 := cmpf .olt main_v11 main_v12
  let main_c_4 : IVec S_ 1 := constantI S_ 1 1#1
  let main_v14 : IVec S_ 1 := (fun x v => Host.reduce IntOp.andi x v reducesTo_S3x8192x28_S_d0_1_2 h_S_) main_v13 main_c_4
  let main_v15 : IVec S_ 1 := andi main_v10 main_v14
  let main_v16 : FVec F S3x8192x28x128 .f32 := Host.absf main_arg3
  fn_part1 (F := F) main_arg4 main_arg5 main_arg6 main_arg7 main_arg8 main_v15 main_v16
-- ==== Kernel.lean ====
abbrev S3 : Shape := ⟨1, ![3]⟩
abbrev S3x8192x28x128 : Shape := ⟨4, ![3, 8192, 28, 128]⟩
abbrev S3x8192x28 : Shape := ⟨3, ![3, 8192, 28]⟩
abbrev S3x8192x4x128 : Shape := ⟨4, ![3, 8192, 4, 128]⟩
abbrev S3x8192x4 : Shape := ⟨3, ![3, 8192, 4]⟩
abbrev S3x8192x4x1 : Shape := ⟨4, ![3, 8192, 4, 1]⟩
abbrev S3x4x128x8192 : Shape := ⟨4, ![3, 4, 128, 8192]⟩
abbrev S3x28x8192x128 : Shape := ⟨4, ![3, 28, 8192, 128]⟩
abbrev S3x28x8192 : Shape := ⟨3, ![3, 28, 8192]⟩
abbrev S3x28x1x8192 : Shape := ⟨4, ![3, 28, 1, 8192]⟩
abbrev S3x4x8192x128 : Shape := ⟨4, ![3, 4, 8192, 128]⟩
abbrev S3x4x8192 : Shape := ⟨3, ![3, 4, 8192]⟩
abbrev S_ : Shape := ⟨0, ![]⟩
abbrev S3x4x8192x1 : Shape := ⟨4, ![3, 4, 8192, 1]⟩
abbrev S3x8192x3584 : Shape := ⟨3, ![3, 8192, 3584]⟩
abbrev S1x7x256x128 : Shape := ⟨4, ![1, 7, 256, 128]⟩
abbrev S1x7x1x256 : Shape := ⟨4, ![1, 7, 1, 256]⟩
abbrev S1x1x8192x128 : Shape := ⟨4, ![1, 1, 8192, 128]⟩
abbrev S1x1x128x8192 : Shape := ⟨4, ![1, 1, 128, 8192]⟩
abbrev S1x256x896 : Shape := ⟨3, ![1, 256, 896]⟩
abbrev S1 : Shape := ⟨1, ![1]⟩
abbrev S1x256 : Shape := ⟨2, ![1, 256]⟩
abbrev S128x256 : Shape := ⟨2, ![128, 256]⟩
abbrev S1x1x256x128 : Shape := ⟨4, ![1, 1, 256, 128]⟩
abbrev S256x128 : Shape := ⟨2, ![256, 128]⟩
abbrev S256x256 : Shape := ⟨2, ![256, 256]⟩
abbrev S1x1x1x256 : Shape := ⟨4, ![1, 1, 1, 256]⟩
abbrev S256 : Shape := ⟨1, ![256]⟩
abbrev S1x1x128x256 : Shape := ⟨4, ![1, 1, 128, 256]⟩
abbrev S1x256x128 : Shape := ⟨3, ![1, 256, 128]⟩

abbrev nBuf : Space → Nat
  | .hbm => 41
  | .vmem => 20
  | .smem => 1
  | _ => 0

abbrev bufTy : (tb : Table) → Fin (tcTables nBuf tb) → BufTy
  | .hbm, ⟨0, _⟩ => ⟨S3, .i32⟩
  | .hbm, ⟨1, _⟩ => ⟨S3x8192x28x128, .f32⟩
  | .hbm, ⟨2, _⟩ => ⟨S3x8192x28, .f32⟩
  | .hbm, ⟨3, _⟩ => ⟨S3x8192x28x128, .f32⟩
  | .hbm, ⟨4, _⟩ => ⟨S3x8192x28, .f32⟩
  | .hbm, ⟨5, _⟩ => ⟨S3x8192x4x128, .f32⟩
  | .hbm, ⟨6, _⟩ => ⟨S3x8192x4, .f32⟩
  | .hbm, ⟨7, _⟩ => ⟨S3x8192x4x128, .f32⟩
  | .hbm, ⟨8, _⟩ => ⟨S3x8192x4, .f32⟩
  | .hbm, ⟨9, _⟩ => ⟨S3x8192x4x128, .bf16⟩
  | .hbm, ⟨10, _⟩ => ⟨S3x8192x4, .f32⟩
  | .hbm, ⟨11, _⟩ => ⟨S3x8192x28x128, .fp8e4m3⟩
  | .hbm, ⟨12, _⟩ => ⟨S3x8192x28x128, .fp8e4m3⟩
  | .hbm, ⟨13, _⟩ => ⟨S3x8192x4x128, .fp8e4m3⟩
  | .hbm, ⟨14, _⟩ => ⟨S3x8192x4x128, .fp8e4m3⟩
  | .hbm, ⟨15, _⟩ => ⟨S3x8192x4, .bf16⟩
  | .hbm, ⟨16, _⟩ => ⟨S3x8192x4x1, .bf16⟩
  | .hbm, ⟨17, _⟩ => ⟨S3x8192x4x128, .bf16⟩
  | .hbm, ⟨18, _⟩ => ⟨S3x8192x4x128, .bf16⟩
  | .hbm, ⟨19, _⟩ => ⟨S3x4x128x8192, .bf16⟩
  | .hbm, ⟨20, _⟩ => ⟨S3x28x8192x128, .fp8e4m3⟩
  | .hbm, ⟨21, _⟩ => ⟨S3x28x8192x128, .fp8e4m3⟩
  | .hbm, ⟨22, _⟩ => ⟨S3x28x8192, .f32⟩
  | .hbm, ⟨23, _⟩ => ⟨S3x28x1x8192, .f32⟩
  | .hbm, ⟨24, _⟩ => ⟨S3x28x8192, .f32⟩
  | .hbm, ⟨25, _⟩ => ⟨S3x28x1x8192, .f32⟩
  | .hbm, ⟨26, _⟩ => ⟨S3x4x8192x128, .fp8e4m3⟩
  | .hbm, ⟨27, _⟩ => ⟨S3x4x8192x128, .fp8e4m3⟩
  | .hbm, ⟨28, _⟩ => ⟨S3x4x8192, .f32⟩
  | .hbm, ⟨29, _⟩ => ⟨S_, .f32⟩
  | .hbm, ⟨30, _⟩ => ⟨S3x4x8192, .f32⟩
  | .hbm, ⟨31, _⟩ => ⟨S3x4x8192, .f32⟩
  | .hbm, ⟨32, _⟩ => ⟨S3x4x8192x1, .f32⟩
  | .hbm, ⟨33, _⟩ => ⟨S3x4x8192x128, .f32⟩
  | .hbm, ⟨34, _⟩ => ⟨S3x4x8192, .f32⟩
  | .hbm, ⟨35, _⟩ => ⟨S_, .f32⟩
  | .hbm, ⟨36, _⟩ => ⟨S3x4x8192, .f32⟩
  | .hbm, ⟨37, _⟩ => ⟨S3x4x8192, .f32⟩
  | .hbm, ⟨38, _⟩ => ⟨S3x4x8192x1, .f32⟩
  | .hbm, ⟨39, _⟩ => ⟨S3x4x8192x128, .f32⟩
  | .hbm, ⟨40, _⟩ => ⟨S3x8192x3584, .bf16⟩
  | .local _ .vmem, ⟨0, _⟩ => ⟨S1x7x256x128, .fp8e4m3⟩
  | .local _ .vmem, ⟨1, _⟩ => ⟨S1x7x256x128, .fp8e4m3⟩
  | .local _ .vmem, ⟨2, _⟩ => ⟨S1x7x256x128, .fp8e4m3⟩
  | .local _ .vmem, ⟨3, _⟩ => ⟨S1x7x256x128, .fp8e4m3⟩
  | .local _ .vmem, ⟨4, _⟩ => ⟨S1x7x1x256, .f32⟩
  | .local _ .vmem, ⟨5, _⟩ => ⟨S1x7x1x256, .f32⟩
  | .local _ .vmem, ⟨6, _⟩ => ⟨S1x7x1x256, .f32⟩
  | .local _ .vmem, ⟨7, _⟩ => ⟨S1x7x1x256, .f32⟩
  | .local _ .vmem, ⟨8, _⟩ => ⟨S1x1x8192x128, .fp8e4m3⟩
  | .local _ .vmem, ⟨9, _⟩ => ⟨S1x1x8192x128, .fp8e4m3⟩
  | .local _ .vmem, ⟨10, _⟩ => ⟨S1x1x8192x128, .fp8e4m3⟩
  | .local _ .vmem, ⟨11, _⟩ => ⟨S1x1x8192x128, .fp8e4m3⟩
  | .local _ .vmem, ⟨12, _⟩ => ⟨S1x1x8192x128, .f32⟩
  | .local _ .vmem, ⟨13, _⟩ => ⟨S1x1x8192x128, .f32⟩
  | .local _ .vmem, ⟨14, _⟩ => ⟨S1x1x8192x128, .f32⟩
  | .local _ .vmem, ⟨15, _⟩ => ⟨S1x1x8192x128, .f32⟩
  | .local _ .vmem, ⟨16, _⟩ => ⟨S1x1x128x8192, .bf16⟩
  | .local _ .vmem, ⟨17, _⟩ => ⟨S1x1x128x8192, .bf16⟩
  | .local _ .vmem, ⟨18, _⟩ => ⟨S1x256x896, .bf16⟩
  | .local _ .vmem, ⟨19, _⟩ => ⟨S1x256x896, .bf16⟩
  | .local _ .smem, ⟨0, _⟩ => ⟨S3, .i32⟩
  | _, _ => ⟨S3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![3, 4, 32], ![false, false, false]⟩

def k0_off1 (i : grid0.Coords) : Fin 1 → Nat :=
  let arg0 : BitVec 32 := BitVec.ofNat 32 (i 0).val
  let v0 : Index := Scalar.indexCast arg0
  ![v0.toNat]
@[reducible] def k0_t1_loop (i : grid0.Coords) (v1 : BitVec 32) : Scf.Loop 32 :=
  let c0_i32_20 : BitVec 32 := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let v52 : BitVec 32 := Scalar.subi v28 c0_i32_20
  let c1_i32_21 : BitVec 32 := 1#32
  let v54 : BitVec 32 := Scalar.divsi v52 c1_i32_21
  let v55 : BitVec 32 := Scalar.muli v54 c1_i32_21
  let v56 : BitVec 32 := Scalar.addi c0_i32_20 v55
  let c1_i32_22 : BitVec 32 := 1#32
  ⟨c0_i32_20, v56, c1_i32_22⟩

def k0_mult1 (i : grid0.Coords) (v1 : BitVec 32) (k0_t1 : Fin (k0_t1_loop i v1).trips) : BitVec 32 :=
  let c0_i32_20 : BitVec 32 := 0#32
  let c1_i32_22 : BitVec 32 := 1#32
  let arg14 : BitVec 32 := Scf.iv c0_i32_20 c1_i32_22 k0_t1
  let c256_i32_515 : BitVec 32 := 256#32
  let v997 : BitVec 32 := Scalar.muli arg14 c256_i32_515
  v997
def k0_off2 (i : grid0.Coords) (v1 : BitVec 32) (k0_t1 : Fin (k0_t1_loop i v1).trips) : Fin 4 → Nat :=
  let c0_516 : Index := 0#32
  let c0_517 : Index := 0#32
  let c0_i32_20 : BitVec 32 := 0#32
  let c1_i32_22 : BitVec 32 := 1#32
  let arg14 : BitVec 32 := Scf.iv c0_i32_20 c1_i32_22 k0_t1
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off3 (i : grid0.Coords) (v1 : BitVec 32) (k0_t1 : Fin (k0_t1_loop i v1).trips) : Fin 4 → Nat :=
  let c0_533 : Index := 0#32
  let c0_534 : Index := 0#32
  let c0_535 : Index := 0#32
  let c0_i32_20 : BitVec 32 := 0#32
  let c1_i32_22 : BitVec 32 := 1#32
  let arg14 : BitVec 32 := Scf.iv c0_i32_20 c1_i32_22 k0_t1
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t2_loop (i : grid0.Coords) (v1 : BitVec 32) : Scf.Loop 32 :=
  let c0_i32_20 : BitVec 32 := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let v52 : BitVec 32 := Scalar.subi v28 c0_i32_20
  let c1_i32_21 : BitVec 32 := 1#32
  let v54 : BitVec 32 := Scalar.divsi v52 c1_i32_21
  let v55 : BitVec 32 := Scalar.muli v54 c1_i32_21
  let v56 : BitVec 32 := Scalar.addi c0_i32_20 v55
  let v53 : BitVec 32 := Scalar.addi c0_i32_20 v52
  let c1_i32_23 : BitVec 32 := 1#32
  ⟨v56, v53, c1_i32_23⟩
def k0_mult2 (i : grid0.Coords) (v1 : BitVec 32) (k0_t2 : Fin (k0_t2_loop i v1).trips) : BitVec 32 :=
  let c0_i32_20 : BitVec 32 := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let v52 : BitVec 32 := Scalar.subi v28 c0_i32_20
  let c1_i32_21 : BitVec 32 := 1#32
  let v54 : BitVec 32 := Scalar.divsi v52 c1_i32_21
  let v55 : BitVec 32 := Scalar.muli v54 c1_i32_21
  let v56 : BitVec 32 := Scalar.addi c0_i32_20 v55
  let c1_i32_23 : BitVec 32 := 1#32
  let arg14 : BitVec 32 := Scf.iv v56 c1_i32_23 k0_t2
  let c256_i32_515 : BitVec 32 := 256#32
  let v997 : BitVec 32 := Scalar.muli arg14 c256_i32_515
  v997
def k0_off4 (i : grid0.Coords) (v1 : BitVec 32) (k0_t2 : Fin (k0_t2_loop i v1).trips) : Fin 4 → Nat :=
  let c0_516 : Index := 0#32
  let c0_517 : Index := 0#32
  let c0_i32_20 : BitVec 32 := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let v52 : BitVec 32 := Scalar.subi v28 c0_i32_20
  let c1_i32_21 : BitVec 32 := 1#32
  let v54 : BitVec 32 := Scalar.divsi v52 c1_i32_21
  let v55 : BitVec 32 := Scalar.muli v54 c1_i32_21
  let v56 : BitVec 32 := Scalar.addi c0_i32_20 v55
  let c1_i32_23 : BitVec 32 := 1#32
  let arg14 : BitVec 32 := Scf.iv v56 c1_i32_23 k0_t2
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off5 (i : grid0.Coords) (v1 : BitVec 32) (k0_t2 : Fin (k0_t2_loop i v1).trips) : Fin 4 → Nat :=
  let c0_533 : Index := 0#32
  let c0_534 : Index := 0#32
  let c0_535 : Index := 0#32
  let c0_i32_20 : BitVec 32 := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let v52 : BitVec 32 := Scalar.subi v28 c0_i32_20
  let c1_i32_21 : BitVec 32 := 1#32
  let v54 : BitVec 32 := Scalar.divsi v52 c1_i32_21
  let v55 : BitVec 32 := Scalar.muli v54 c1_i32_21
  let v56 : BitVec 32 := Scalar.addi c0_i32_20 v55
  let c1_i32_23 : BitVec 32 := 1#32
  let arg14 : BitVec 32 := Scf.iv v56 c1_i32_23 k0_t2
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t3_loop (i : grid0.Coords) (v1 : BitVec 32) : Scf.Loop 32 :=
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let v59 : BitVec 32 := Scalar.subi v51 v28
  let c1_i32_24 : BitVec 32 := 1#32
  let v61 : BitVec 32 := Scalar.divsi v59 c1_i32_24
  let v62 : BitVec 32 := Scalar.muli v61 c1_i32_24
  let v63 : BitVec 32 := Scalar.addi v28 v62
  let c1_i32_25 : BitVec 32 := 1#32
  ⟨v28, v63, c1_i32_25⟩
def k0_mult3 (i : grid0.Coords) (v1 : BitVec 32) (k0_t3 : Fin (k0_t3_loop i v1).trips) : BitVec 32 :=
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c1_i32_25 : BitVec 32 := 1#32
  let arg14 : BitVec 32 := Scf.iv v28 c1_i32_25 k0_t3
  let c256_i32_515 : BitVec 32 := 256#32
  let v997 : BitVec 32 := Scalar.muli arg14 c256_i32_515
  v997
def k0_off6 (i : grid0.Coords) (v1 : BitVec 32) (k0_t3 : Fin (k0_t3_loop i v1).trips) : Fin 4 → Nat :=
  let c0_516 : Index := 0#32
  let c0_517 : Index := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c1_i32_25 : BitVec 32 := 1#32
  let arg14 : BitVec 32 := Scf.iv v28 c1_i32_25 k0_t3
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off7 (i : grid0.Coords) (v1 : BitVec 32) (k0_t3 : Fin (k0_t3_loop i v1).trips) : Fin 4 → Nat :=
  let c0_550 : Index := 0#32
  let c0_551 : Index := 0#32
  let c0_552 : Index := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c1_i32_25 : BitVec 32 := 1#32
  let arg14 : BitVec 32 := Scf.iv v28 c1_i32_25 k0_t3
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t4_loop (i : grid0.Coords) (v1 : BitVec 32) : Scf.Loop 32 :=
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let v59 : BitVec 32 := Scalar.subi v51 v28
  let c1_i32_24 : BitVec 32 := 1#32
  let v61 : BitVec 32 := Scalar.divsi v59 c1_i32_24
  let v62 : BitVec 32 := Scalar.muli v61 c1_i32_24
  let v63 : BitVec 32 := Scalar.addi v28 v62
  let v60 : BitVec 32 := Scalar.addi v28 v59
  let c1_i32_26 : BitVec 32 := 1#32
  ⟨v63, v60, c1_i32_26⟩
def k0_mult4 (i : grid0.Coords) (v1 : BitVec 32) (k0_t4 : Fin (k0_t4_loop i v1).trips) : BitVec 32 :=
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let v59 : BitVec 32 := Scalar.subi v51 v28
  let c1_i32_24 : BitVec 32 := 1#32
  let v61 : BitVec 32 := Scalar.divsi v59 c1_i32_24
  let v62 : BitVec 32 := Scalar.muli v61 c1_i32_24
  let v63 : BitVec 32 := Scalar.addi v28 v62
  let c1_i32_26 : BitVec 32 := 1#32
  let arg14 : BitVec 32 := Scf.iv v63 c1_i32_26 k0_t4
  let c256_i32_515 : BitVec 32 := 256#32
  let v997 : BitVec 32 := Scalar.muli arg14 c256_i32_515
  v997
def k0_off8 (i : grid0.Coords) (v1 : BitVec 32) (k0_t4 : Fin (k0_t4_loop i v1).trips) : Fin 4 → Nat :=
  let c0_516 : Index := 0#32
  let c0_517 : Index := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let v59 : BitVec 32 := Scalar.subi v51 v28
  let c1_i32_24 : BitVec 32 := 1#32
  let v61 : BitVec 32 := Scalar.divsi v59 c1_i32_24
  let v62 : BitVec 32 := Scalar.muli v61 c1_i32_24
  let v63 : BitVec 32 := Scalar.addi v28 v62
  let c1_i32_26 : BitVec 32 := 1#32
  let arg14 : BitVec 32 := Scf.iv v63 c1_i32_26 k0_t4
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off9 (i : grid0.Coords) (v1 : BitVec 32) (k0_t4 : Fin (k0_t4_loop i v1).trips) : Fin 4 → Nat :=
  let c0_550 : Index := 0#32
  let c0_551 : Index := 0#32
  let c0_552 : Index := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let v59 : BitVec 32 := Scalar.subi v51 v28
  let c1_i32_24 : BitVec 32 := 1#32
  let v61 : BitVec 32 := Scalar.divsi v59 c1_i32_24
  let v62 : BitVec 32 := Scalar.muli v61 c1_i32_24
  let v63 : BitVec 32 := Scalar.addi v28 v62
  let c1_i32_26 : BitVec 32 := 1#32
  let arg14 : BitVec 32 := Scf.iv v63 c1_i32_26 k0_t4
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t5_loop (i : grid0.Coords) (v1 : BitVec 32) : Scf.Loop 32 :=
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let v66 : BitVec 32 := Scalar.subi arg2 v51
  let c1_i32_27 : BitVec 32 := 1#32
  let v68 : BitVec 32 := Scalar.divsi v66 c1_i32_27
  let v69 : BitVec 32 := Scalar.muli v68 c1_i32_27
  let v70 : BitVec 32 := Scalar.addi v51 v69
  let c1_i32_28 : BitVec 32 := 1#32
  ⟨v51, v70, c1_i32_28⟩
def k0_mult5 (i : grid0.Coords) (v1 : BitVec 32) (k0_t5 : Fin (k0_t5_loop i v1).trips) : BitVec 32 :=
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let c1_i32_28 : BitVec 32 := 1#32
  let arg14 : BitVec 32 := Scf.iv v51 c1_i32_28 k0_t5
  let c256_i32_515 : BitVec 32 := 256#32
  let v997 : BitVec 32 := Scalar.muli arg14 c256_i32_515
  v997
def k0_off10 (i : grid0.Coords) (v1 : BitVec 32) (k0_t5 : Fin (k0_t5_loop i v1).trips) : Fin 4 → Nat :=
  let c0_516 : Index := 0#32
  let c0_517 : Index := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let c1_i32_28 : BitVec 32 := 1#32
  let arg14 : BitVec 32 := Scf.iv v51 c1_i32_28 k0_t5
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off11 (i : grid0.Coords) (v1 : BitVec 32) (k0_t5 : Fin (k0_t5_loop i v1).trips) : Fin 4 → Nat :=
  let c0_533 : Index := 0#32
  let c0_534 : Index := 0#32
  let c0_535 : Index := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let c1_i32_28 : BitVec 32 := 1#32
  let arg14 : BitVec 32 := Scf.iv v51 c1_i32_28 k0_t5
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t6_loop (i : grid0.Coords) (v1 : BitVec 32) : Scf.Loop 32 :=
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let v66 : BitVec 32 := Scalar.subi arg2 v51
  let c1_i32_27 : BitVec 32 := 1#32
  let v68 : BitVec 32 := Scalar.divsi v66 c1_i32_27
  let v69 : BitVec 32 := Scalar.muli v68 c1_i32_27
  let v70 : BitVec 32 := Scalar.addi v51 v69
  let v67 : BitVec 32 := Scalar.addi v51 v66
  let c1_i32_29 : BitVec 32 := 1#32
  ⟨v70, v67, c1_i32_29⟩
def k0_mult6 (i : grid0.Coords) (v1 : BitVec 32) (k0_t6 : Fin (k0_t6_loop i v1).trips) : BitVec 32 :=
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let v66 : BitVec 32 := Scalar.subi arg2 v51
  let c1_i32_27 : BitVec 32 := 1#32
  let v68 : BitVec 32 := Scalar.divsi v66 c1_i32_27
  let v69 : BitVec 32 := Scalar.muli v68 c1_i32_27
  let v70 : BitVec 32 := Scalar.addi v51 v69
  let c1_i32_29 : BitVec 32 := 1#32
  let arg14 : BitVec 32 := Scf.iv v70 c1_i32_29 k0_t6
  let c256_i32_515 : BitVec 32 := 256#32
  let v997 : BitVec 32 := Scalar.muli arg14 c256_i32_515
  v997
def k0_off12 (i : grid0.Coords) (v1 : BitVec 32) (k0_t6 : Fin (k0_t6_loop i v1).trips) : Fin 4 → Nat :=
  let c0_516 : Index := 0#32
  let c0_517 : Index := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let v66 : BitVec 32 := Scalar.subi arg2 v51
  let c1_i32_27 : BitVec 32 := 1#32
  let v68 : BitVec 32 := Scalar.divsi v66 c1_i32_27
  let v69 : BitVec 32 := Scalar.muli v68 c1_i32_27
  let v70 : BitVec 32 := Scalar.addi v51 v69
  let c1_i32_29 : BitVec 32 := 1#32
  let arg14 : BitVec 32 := Scf.iv v70 c1_i32_29 k0_t6
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off13 (i : grid0.Coords) (v1 : BitVec 32) (k0_t6 : Fin (k0_t6_loop i v1).trips) : Fin 4 → Nat :=
  let c0_533 : Index := 0#32
  let c0_534 : Index := 0#32
  let c0_535 : Index := 0#32
  let arg2 : BitVec 32 := BitVec.ofNat 32 (i 2).val
  let c1_i32_8 : BitVec 32 := 1#32
  let v26 : BitVec 32 := Scalar.addi arg2 c1_i32_8
  let c0_i32_9 : BitVec 32 := 0#32
  let c256_i32 : BitVec 32 := 256#32
  let v2 : BitVec 32 := Scalar.muli arg2 c256_i32
  let c255_i32 : BitVec 32 := 255#32
  let v6 : BitVec 32 := Scalar.subi v2 c255_i32
  let v7 : BitVec 32 := Scalar.subi v6 v1
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c256_i32_2 : BitVec 32 := 256#32
  let c0_i32_4 : BitVec 32 := 0#32
  let v14 : BitVec 1 := Scalar.cmpi .sgt c256_i32_2 c0_i32_4
  let v15 : BitVec 32 := Scalar.extui v14
  let c0_i32_5 : BitVec 32 := 0#32
  let v16 : BitVec 1 := Scalar.cmpi .slt c256_i32_2 c0_i32_5
  let v17 : BitVec 32 := Scalar.extui v16
  let v18 : BitVec 32 := Scalar.subi v15 v17
  let v19 : BitVec 1 := Scalar.cmpi .ne v13 v18
  let v20 : BitVec 32 := Scalar.remsi v7 c256_i32_2
  let c0_i32_6 : BitVec 32 := 0#32
  let v21 : BitVec 1 := Scalar.cmpi .ne v20 c0_i32_6
  let v22 : BitVec 1 := Scalar.andi v19 v21
  let v8 : BitVec 32 := Scalar.divsi v7 c256_i32_2
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.addi v24 c1_i32_7
  let v27 : BitVec 32 := Scalar.maxsi c0_i32_9 v25
  let v28 : BitVec 32 := Scalar.minsi v26 v27
  let c256_i32_10 : BitVec 32 := 256#32
  let v29 : BitVec 32 := Scalar.addi v2 c256_i32_10
  let c1_i32_11 : BitVec 32 := 1#32
  let v30 : BitVec 32 := Scalar.subi v29 c1_i32_11
  let v31 : BitVec 32 := Scalar.subi v30 v1
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c256_i32_12 : BitVec 32 := 256#32
  let c0_i32_15 : BitVec 32 := 0#32
  let v38 : BitVec 1 := Scalar.cmpi .sgt c256_i32_12 c0_i32_15
  let v39 : BitVec 32 := Scalar.extui v38
  let c0_i32_16 : BitVec 32 := 0#32
  let v40 : BitVec 1 := Scalar.cmpi .slt c256_i32_12 c0_i32_16
  let v41 : BitVec 32 := Scalar.extui v40
  let v42 : BitVec 32 := Scalar.subi v39 v41
  let v43 : BitVec 1 := Scalar.cmpi .ne v37 v42
  let v44 : BitVec 32 := Scalar.remsi v31 c256_i32_12
  let c0_i32_17 : BitVec 32 := 0#32
  let v45 : BitVec 1 := Scalar.cmpi .ne v44 c0_i32_17
  let v46 : BitVec 1 := Scalar.andi v43 v45
  let v32 : BitVec 32 := Scalar.divsi v31 c256_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 32 := Scalar.addi v48 c1_i32_19
  let v50 : BitVec 32 := Scalar.maxsi v28 v49
  let v51 : BitVec 32 := Scalar.minsi arg2 v50
  let v66 : BitVec 32 := Scalar.subi arg2 v51
  let c1_i32_27 : BitVec 32 := 1#32
  let v68 : BitVec 32 := Scalar.divsi v66 c1_i32_27
  let v69 : BitVec 32 := Scalar.muli v68 c1_i32_27
  let v70 : BitVec 32 := Scalar.addi v51 v69
  let c1_i32_29 : BitVec 32 := 1#32
  let arg14 : BitVec 32 := Scf.iv v70 c1_i32_29 k0_t6
  let c256_i32_515 : BitVec 32 := 256#32
  let v997 : BitVec 32 := Scalar.muli arg14 c256_i32_515
  let v998 : BitVec 32 := v997
  let v1026 : Index := Scalar.indexCast v998
  ![0, 0, 0, v1026.toNat]
def k0_mult7 (i : grid0.Coords) : BitVec 32 :=
  let arg2 : BitVec 32 := BitVec.ofNat 32 (i 2).val
  let c256_i32_30 : BitVec 32 := 256#32
  let v73 : BitVec 32 := Scalar.muli arg2 c256_i32_30
  v73
def k0_off14 (i : grid0.Coords) : Fin 4 → Nat :=
  let c0 : Index := 0#32
  let c0_31 : Index := 0#32
  let arg2 : BitVec 32 := BitVec.ofNat 32 (i 2).val
  let c256_i32_30 : BitVec 32 := 256#32
  let v73 : BitVec 32 := Scalar.muli arg2 c256_i32_30
  let v74 : BitVec 32 := v73
  let v75 : Index := Scalar.indexCast v74
  let c0_32 : Index := 0#32
  ![0, 0, v75.toNat, 0]
def k0_off15 (i : grid0.Coords) : Fin 4 → Nat :=
  let c0_64 : Index := 0#32
  let c0_65 : Index := 0#32
  let c0_66 : Index := 0#32
  let arg2 : BitVec 32 := BitVec.ofNat 32 (i 2).val
  let c256_i32_30 : BitVec 32 := 256#32
  let v73 : BitVec 32 := Scalar.muli arg2 c256_i32_30
  let v74 : BitVec 32 := v73
  let v130 : Index := Scalar.indexCast v74
  ![0, 0, 0, v130.toNat]
@[reducible] def k0_t7_loop (i : grid0.Coords) (v1 : BitVec 32) : Scf.Loop 32 :=
  let c0_i32_95 : BitVec 32 := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let v194 : BitVec 32 := Scalar.subi v170 c0_i32_95
  let c1_i32_96 : BitVec 32 := 1#32
  let v196 : BitVec 32 := Scalar.divsi v194 c1_i32_96
  let v197 : BitVec 32 := Scalar.muli v196 c1_i32_96
  let v198 : BitVec 32 := Scalar.addi c0_i32_95 v197
  let c1_i32_97 : BitVec 32 := 1#32
  ⟨c0_i32_95, v198, c1_i32_97⟩
def k0_mult8 (i : grid0.Coords) (v1 : BitVec 32) (k0_t7 : Fin (k0_t7_loop i v1).trips) : BitVec 32 :=
  let c0_i32_95 : BitVec 32 := 0#32
  let c1_i32_97 : BitVec 32 := 1#32
  let arg14 : BitVec 32 := Scf.iv c0_i32_95 c1_i32_97 k0_t7
  let c256_i32_515 : BitVec 32 := 256#32
  let v997 : BitVec 32 := Scalar.muli arg14 c256_i32_515
  v997
def k0_off16 (i : grid0.Coords) (v1 : BitVec 32) (k0_t7 : Fin (k0_t7_loop i v1).trips) : Fin 4 → Nat :=
  let c0_516 : Index := 0#32
  let c0_517 : Index := 0#32
  let c0_i32_95 : BitVec 32 := 0#32
  let c1_i32_97 : BitVec 32 := 1#32
  let arg14 : BitVec 32 := Scf.iv c0_i32_95 c1_i32_97 k0_t7
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off17 (i : grid0.Coords) (v1 : BitVec 32) (k0_t7 : Fin (k0_t7_loop i v1).trips) : Fin 4 → Nat :=
  let c0_533 : Index := 0#32
  let c0_534 : Index := 0#32
  let c0_535 : Index := 0#32
  let c0_i32_95 : BitVec 32 := 0#32
  let c1_i32_97 : BitVec 32 := 1#32
  let arg14 : BitVec 32 := Scf.iv c0_i32_95 c1_i32_97 k0_t7
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t8_loop (i : grid0.Coords) (v1 : BitVec 32) : Scf.Loop 32 :=
  let c0_i32_95 : BitVec 32 := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let v194 : BitVec 32 := Scalar.subi v170 c0_i32_95
  let c1_i32_96 : BitVec 32 := 1#32
  let v196 : BitVec 32 := Scalar.divsi v194 c1_i32_96
  let v197 : BitVec 32 := Scalar.muli v196 c1_i32_96
  let v198 : BitVec 32 := Scalar.addi c0_i32_95 v197
  let v195 : BitVec 32 := Scalar.addi c0_i32_95 v194
  let c1_i32_98 : BitVec 32 := 1#32
  ⟨v198, v195, c1_i32_98⟩
def k0_mult9 (i : grid0.Coords) (v1 : BitVec 32) (k0_t8 : Fin (k0_t8_loop i v1).trips) : BitVec 32 :=
  let c0_i32_95 : BitVec 32 := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let v194 : BitVec 32 := Scalar.subi v170 c0_i32_95
  let c1_i32_96 : BitVec 32 := 1#32
  let v196 : BitVec 32 := Scalar.divsi v194 c1_i32_96
  let v197 : BitVec 32 := Scalar.muli v196 c1_i32_96
  let v198 : BitVec 32 := Scalar.addi c0_i32_95 v197
  let c1_i32_98 : BitVec 32 := 1#32
  let arg14 : BitVec 32 := Scf.iv v198 c1_i32_98 k0_t8
  let c256_i32_515 : BitVec 32 := 256#32
  let v997 : BitVec 32 := Scalar.muli arg14 c256_i32_515
  v997
def k0_off18 (i : grid0.Coords) (v1 : BitVec 32) (k0_t8 : Fin (k0_t8_loop i v1).trips) : Fin 4 → Nat :=
  let c0_516 : Index := 0#32
  let c0_517 : Index := 0#32
  let c0_i32_95 : BitVec 32 := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let v194 : BitVec 32 := Scalar.subi v170 c0_i32_95
  let c1_i32_96 : BitVec 32 := 1#32
  let v196 : BitVec 32 := Scalar.divsi v194 c1_i32_96
  let v197 : BitVec 32 := Scalar.muli v196 c1_i32_96
  let v198 : BitVec 32 := Scalar.addi c0_i32_95 v197
  let c1_i32_98 : BitVec 32 := 1#32
  let arg14 : BitVec 32 := Scf.iv v198 c1_i32_98 k0_t8
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off19 (i : grid0.Coords) (v1 : BitVec 32) (k0_t8 : Fin (k0_t8_loop i v1).trips) : Fin 4 → Nat :=
  let c0_533 : Index := 0#32
  let c0_534 : Index := 0#32
  let c0_535 : Index := 0#32
  let c0_i32_95 : BitVec 32 := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let v194 : BitVec 32 := Scalar.subi v170 c0_i32_95
  let c1_i32_96 : BitVec 32 := 1#32
  let v196 : BitVec 32 := Scalar.divsi v194 c1_i32_96
  let v197 : BitVec 32 := Scalar.muli v196 c1_i32_96
  let v198 : BitVec 32 := Scalar.addi c0_i32_95 v197
  let c1_i32_98 : BitVec 32 := 1#32
  let arg14 : BitVec 32 := Scf.iv v198 c1_i32_98 k0_t8
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t9_loop (i : grid0.Coords) (v1 : BitVec 32) : Scf.Loop 32 :=
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let v201 : BitVec 32 := Scalar.subi v193 v170
  let c1_i32_99 : BitVec 32 := 1#32
  let v203 : BitVec 32 := Scalar.divsi v201 c1_i32_99
  let v204 : BitVec 32 := Scalar.muli v203 c1_i32_99
  let v205 : BitVec 32 := Scalar.addi v170 v204
  let c1_i32_100 : BitVec 32 := 1#32
  ⟨v170, v205, c1_i32_100⟩
def k0_mult10 (i : grid0.Coords) (v1 : BitVec 32) (k0_t9 : Fin (k0_t9_loop i v1).trips) : BitVec 32 :=
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c1_i32_100 : BitVec 32 := 1#32
  let arg14 : BitVec 32 := Scf.iv v170 c1_i32_100 k0_t9
  let c256_i32_515 : BitVec 32 := 256#32
  let v997 : BitVec 32 := Scalar.muli arg14 c256_i32_515
  v997
def k0_off20 (i : grid0.Coords) (v1 : BitVec 32) (k0_t9 : Fin (k0_t9_loop i v1).trips) : Fin 4 → Nat :=
  let c0_516 : Index := 0#32
  let c0_517 : Index := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c1_i32_100 : BitVec 32 := 1#32
  let arg14 : BitVec 32 := Scf.iv v170 c1_i32_100 k0_t9
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off21 (i : grid0.Coords) (v1 : BitVec 32) (k0_t9 : Fin (k0_t9_loop i v1).trips) : Fin 4 → Nat :=
  let c0_550 : Index := 0#32
  let c0_551 : Index := 0#32
  let c0_552 : Index := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c1_i32_100 : BitVec 32 := 1#32
  let arg14 : BitVec 32 := Scf.iv v170 c1_i32_100 k0_t9
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t10_loop (i : grid0.Coords) (v1 : BitVec 32) : Scf.Loop 32 :=
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let v201 : BitVec 32 := Scalar.subi v193 v170
  let c1_i32_99 : BitVec 32 := 1#32
  let v203 : BitVec 32 := Scalar.divsi v201 c1_i32_99
  let v204 : BitVec 32 := Scalar.muli v203 c1_i32_99
  let v205 : BitVec 32 := Scalar.addi v170 v204
  let v202 : BitVec 32 := Scalar.addi v170 v201
  let c1_i32_101 : BitVec 32 := 1#32
  ⟨v205, v202, c1_i32_101⟩
def k0_mult11 (i : grid0.Coords) (v1 : BitVec 32) (k0_t10 : Fin (k0_t10_loop i v1).trips) : BitVec 32 :=
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let v201 : BitVec 32 := Scalar.subi v193 v170
  let c1_i32_99 : BitVec 32 := 1#32
  let v203 : BitVec 32 := Scalar.divsi v201 c1_i32_99
  let v204 : BitVec 32 := Scalar.muli v203 c1_i32_99
  let v205 : BitVec 32 := Scalar.addi v170 v204
  let c1_i32_101 : BitVec 32 := 1#32
  let arg14 : BitVec 32 := Scf.iv v205 c1_i32_101 k0_t10
  let c256_i32_515 : BitVec 32 := 256#32
  let v997 : BitVec 32 := Scalar.muli arg14 c256_i32_515
  v997
def k0_off22 (i : grid0.Coords) (v1 : BitVec 32) (k0_t10 : Fin (k0_t10_loop i v1).trips) : Fin 4 → Nat :=
  let c0_516 : Index := 0#32
  let c0_517 : Index := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let v201 : BitVec 32 := Scalar.subi v193 v170
  let c1_i32_99 : BitVec 32 := 1#32
  let v203 : BitVec 32 := Scalar.divsi v201 c1_i32_99
  let v204 : BitVec 32 := Scalar.muli v203 c1_i32_99
  let v205 : BitVec 32 := Scalar.addi v170 v204
  let c1_i32_101 : BitVec 32 := 1#32
  let arg14 : BitVec 32 := Scf.iv v205 c1_i32_101 k0_t10
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off23 (i : grid0.Coords) (v1 : BitVec 32) (k0_t10 : Fin (k0_t10_loop i v1).trips) : Fin 4 → Nat :=
  let c0_550 : Index := 0#32
  let c0_551 : Index := 0#32
  let c0_552 : Index := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let v201 : BitVec 32 := Scalar.subi v193 v170
  let c1_i32_99 : BitVec 32 := 1#32
  let v203 : BitVec 32 := Scalar.divsi v201 c1_i32_99
  let v204 : BitVec 32 := Scalar.muli v203 c1_i32_99
  let v205 : BitVec 32 := Scalar.addi v170 v204
  let c1_i32_101 : BitVec 32 := 1#32
  let arg14 : BitVec 32 := Scf.iv v205 c1_i32_101 k0_t10
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t11_loop (i : grid0.Coords) (v1 : BitVec 32) : Scf.Loop 32 :=
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let v208 : BitVec 32 := Scalar.subi arg2 v193
  let c1_i32_102 : BitVec 32 := 1#32
  let v210 : BitVec 32 := Scalar.divsi v208 c1_i32_102
  let v211 : BitVec 32 := Scalar.muli v210 c1_i32_102
  let v212 : BitVec 32 := Scalar.addi v193 v211
  let c1_i32_103 : BitVec 32 := 1#32
  ⟨v193, v212, c1_i32_103⟩
def k0_mult12 (i : grid0.Coords) (v1 : BitVec 32) (k0_t11 : Fin (k0_t11_loop i v1).trips) : BitVec 32 :=
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let c1_i32_103 : BitVec 32 := 1#32
  let arg14 : BitVec 32 := Scf.iv v193 c1_i32_103 k0_t11
  let c256_i32_515 : BitVec 32 := 256#32
  let v997 : BitVec 32 := Scalar.muli arg14 c256_i32_515
  v997
def k0_off24 (i : grid0.Coords) (v1 : BitVec 32) (k0_t11 : Fin (k0_t11_loop i v1).trips) : Fin 4 → Nat :=
  let c0_516 : Index := 0#32
  let c0_517 : Index := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let c1_i32_103 : BitVec 32 := 1#32
  let arg14 : BitVec 32 := Scf.iv v193 c1_i32_103 k0_t11
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off25 (i : grid0.Coords) (v1 : BitVec 32) (k0_t11 : Fin (k0_t11_loop i v1).trips) : Fin 4 → Nat :=
  let c0_533 : Index := 0#32
  let c0_534 : Index := 0#32
  let c0_535 : Index := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let c1_i32_103 : BitVec 32 := 1#32
  let arg14 : BitVec 32 := Scf.iv v193 c1_i32_103 k0_t11
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t12_loop (i : grid0.Coords) (v1 : BitVec 32) : Scf.Loop 32 :=
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let v208 : BitVec 32 := Scalar.subi arg2 v193
  let c1_i32_102 : BitVec 32 := 1#32
  let v210 : BitVec 32 := Scalar.divsi v208 c1_i32_102
  let v211 : BitVec 32 := Scalar.muli v210 c1_i32_102
  let v212 : BitVec 32 := Scalar.addi v193 v211
  let v209 : BitVec 32 := Scalar.addi v193 v208
  let c1_i32_104 : BitVec 32 := 1#32
  ⟨v212, v209, c1_i32_104⟩
def k0_mult13 (i : grid0.Coords) (v1 : BitVec 32) (k0_t12 : Fin (k0_t12_loop i v1).trips) : BitVec 32 :=
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let v208 : BitVec 32 := Scalar.subi arg2 v193
  let c1_i32_102 : BitVec 32 := 1#32
  let v210 : BitVec 32 := Scalar.divsi v208 c1_i32_102
  let v211 : BitVec 32 := Scalar.muli v210 c1_i32_102
  let v212 : BitVec 32 := Scalar.addi v193 v211
  let c1_i32_104 : BitVec 32 := 1#32
  let arg14 : BitVec 32 := Scf.iv v212 c1_i32_104 k0_t12
  let c256_i32_515 : BitVec 32 := 256#32
  let v997 : BitVec 32 := Scalar.muli arg14 c256_i32_515
  v997
def k0_off26 (i : grid0.Coords) (v1 : BitVec 32) (k0_t12 : Fin (k0_t12_loop i v1).trips) : Fin 4 → Nat :=
  let c0_516 : Index := 0#32
  let c0_517 : Index := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let v208 : BitVec 32 := Scalar.subi arg2 v193
  let c1_i32_102 : BitVec 32 := 1#32
  let v210 : BitVec 32 := Scalar.divsi v208 c1_i32_102
  let v211 : BitVec 32 := Scalar.muli v210 c1_i32_102
  let v212 : BitVec 32 := Scalar.addi v193 v211
  let c1_i32_104 : BitVec 32 := 1#32
  let arg14 : BitVec 32 := Scf.iv v212 c1_i32_104 k0_t12
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off27 (i : grid0.Coords) (v1 : BitVec 32) (k0_t12 : Fin (k0_t12_loop i v1).trips) : Fin 4 → Nat :=
  let c0_533 : Index := 0#32
  let c0_534 : Index := 0#32
  let c0_535 : Index := 0#32
  let arg2 : BitVec 32 := BitVec.ofNat 32 (i 2).val
  let c1_i32_83 : BitVec 32 := 1#32
  let v168 : BitVec 32 := Scalar.addi arg2 c1_i32_83
  let c0_i32_84 : BitVec 32 := 0#32
  let c256_i32 : BitVec 32 := 256#32
  let v2 : BitVec 32 := Scalar.muli arg2 c256_i32
  let c255_i32_74 : BitVec 32 := 255#32
  let v148 : BitVec 32 := Scalar.subi v2 c255_i32_74
  let v149 : BitVec 32 := Scalar.subi v148 v1
  let c0_i32_76 : BitVec 32 := 0#32
  let v151 : BitVec 1 := Scalar.cmpi .sgt v149 c0_i32_76
  let v152 : BitVec 32 := Scalar.extui v151
  let c0_i32_77 : BitVec 32 := 0#32
  let v153 : BitVec 1 := Scalar.cmpi .slt v149 c0_i32_77
  let v154 : BitVec 32 := Scalar.extui v153
  let v155 : BitVec 32 := Scalar.subi v152 v154
  let c256_i32_75 : BitVec 32 := 256#32
  let c0_i32_78 : BitVec 32 := 0#32
  let v156 : BitVec 1 := Scalar.cmpi .sgt c256_i32_75 c0_i32_78
  let v157 : BitVec 32 := Scalar.extui v156
  let c0_i32_79 : BitVec 32 := 0#32
  let v158 : BitVec 1 := Scalar.cmpi .slt c256_i32_75 c0_i32_79
  let v159 : BitVec 32 := Scalar.extui v158
  let v160 : BitVec 32 := Scalar.subi v157 v159
  let v161 : BitVec 1 := Scalar.cmpi .ne v155 v160
  let v162 : BitVec 32 := Scalar.remsi v149 c256_i32_75
  let c0_i32_80 : BitVec 32 := 0#32
  let v163 : BitVec 1 := Scalar.cmpi .ne v162 c0_i32_80
  let v164 : BitVec 1 := Scalar.andi v161 v163
  let v150 : BitVec 32 := Scalar.divsi v149 c256_i32_75
  let c1_i32_81 : BitVec 32 := 1#32
  let v165 : BitVec 32 := Scalar.subi v150 c1_i32_81
  let v166 : BitVec 32 := Scalar.select v164 v165 v150
  let c1_i32_82 : BitVec 32 := 1#32
  let v167 : BitVec 32 := Scalar.addi v166 c1_i32_82
  let v169 : BitVec 32 := Scalar.maxsi c0_i32_84 v167
  let v170 : BitVec 32 := Scalar.minsi v168 v169
  let c256_i32_85 : BitVec 32 := 256#32
  let v171 : BitVec 32 := Scalar.addi v2 c256_i32_85
  let c1_i32_86 : BitVec 32 := 1#32
  let v172 : BitVec 32 := Scalar.subi v171 c1_i32_86
  let v173 : BitVec 32 := Scalar.subi v172 v1
  let c0_i32_88 : BitVec 32 := 0#32
  let v175 : BitVec 1 := Scalar.cmpi .sgt v173 c0_i32_88
  let v176 : BitVec 32 := Scalar.extui v175
  let c0_i32_89 : BitVec 32 := 0#32
  let v177 : BitVec 1 := Scalar.cmpi .slt v173 c0_i32_89
  let v178 : BitVec 32 := Scalar.extui v177
  let v179 : BitVec 32 := Scalar.subi v176 v178
  let c256_i32_87 : BitVec 32 := 256#32
  let c0_i32_90 : BitVec 32 := 0#32
  let v180 : BitVec 1 := Scalar.cmpi .sgt c256_i32_87 c0_i32_90
  let v181 : BitVec 32 := Scalar.extui v180
  let c0_i32_91 : BitVec 32 := 0#32
  let v182 : BitVec 1 := Scalar.cmpi .slt c256_i32_87 c0_i32_91
  let v183 : BitVec 32 := Scalar.extui v182
  let v184 : BitVec 32 := Scalar.subi v181 v183
  let v185 : BitVec 1 := Scalar.cmpi .ne v179 v184
  let v186 : BitVec 32 := Scalar.remsi v173 c256_i32_87
  let c0_i32_92 : BitVec 32 := 0#32
  let v187 : BitVec 1 := Scalar.cmpi .ne v186 c0_i32_92
  let v188 : BitVec 1 := Scalar.andi v185 v187
  let v174 : BitVec 32 := Scalar.divsi v173 c256_i32_87
  let c1_i32_93 : BitVec 32 := 1#32
  let v189 : BitVec 32 := Scalar.subi v174 c1_i32_93
  let v190 : BitVec 32 := Scalar.select v188 v189 v174
  let c1_i32_94 : BitVec 32 := 1#32
  let v191 : BitVec 32 := Scalar.addi v190 c1_i32_94
  let v192 : BitVec 32 := Scalar.maxsi v170 v191
  let v193 : BitVec 32 := Scalar.minsi arg2 v192
  let v208 : BitVec 32 := Scalar.subi arg2 v193
  let c1_i32_102 : BitVec 32 := 1#32
  let v210 : BitVec 32 := Scalar.divsi v208 c1_i32_102
  let v211 : BitVec 32 := Scalar.muli v210 c1_i32_102
  let v212 : BitVec 32 := Scalar.addi v193 v211
  let c1_i32_104 : BitVec 32 := 1#32
  let arg14 : BitVec 32 := Scf.iv v212 c1_i32_104 k0_t12
  let c256_i32_515 : BitVec 32 := 256#32
  let v997 : BitVec 32 := Scalar.muli arg14 c256_i32_515
  let v998 : BitVec 32 := v997
  let v1026 : Index := Scalar.indexCast v998
  ![0, 0, 0, v1026.toNat]
def k0_mult14 (i : grid0.Coords) : BitVec 32 :=
  let arg2 : BitVec 32 := BitVec.ofNat 32 (i 2).val
  let c256_i32_105 : BitVec 32 := 256#32
  let v215 : BitVec 32 := Scalar.muli arg2 c256_i32_105
  v215
@[reducible] def k0_t13_loop (i : grid0.Coords) (v1 : BitVec 32) : Scf.Loop 32 :=
  let c0_i32_169 : BitVec 32 := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let v336 : BitVec 32 := Scalar.subi v312 c0_i32_169
  let c1_i32_170 : BitVec 32 := 1#32
  let v338 : BitVec 32 := Scalar.divsi v336 c1_i32_170
  let v339 : BitVec 32 := Scalar.muli v338 c1_i32_170
  let v340 : BitVec 32 := Scalar.addi c0_i32_169 v339
  let c1_i32_171 : BitVec 32 := 1#32
  ⟨c0_i32_169, v340, c1_i32_171⟩
def k0_mult15 (i : grid0.Coords) (v1 : BitVec 32) (k0_t13 : Fin (k0_t13_loop i v1).trips) : BitVec 32 :=
  let c0_i32_169 : BitVec 32 := 0#32
  let c1_i32_171 : BitVec 32 := 1#32
  let arg14 : BitVec 32 := Scf.iv c0_i32_169 c1_i32_171 k0_t13
  let c256_i32_515 : BitVec 32 := 256#32
  let v997 : BitVec 32 := Scalar.muli arg14 c256_i32_515
  v997
def k0_off28 (i : grid0.Coords) (v1 : BitVec 32) (k0_t13 : Fin (k0_t13_loop i v1).trips) : Fin 4 → Nat :=
  let c0_516 : Index := 0#32
  let c0_517 : Index := 0#32
  let c0_i32_169 : BitVec 32 := 0#32
  let c1_i32_171 : BitVec 32 := 1#32
  let arg14 : BitVec 32 := Scf.iv c0_i32_169 c1_i32_171 k0_t13
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off29 (i : grid0.Coords) (v1 : BitVec 32) (k0_t13 : Fin (k0_t13_loop i v1).trips) : Fin 4 → Nat :=
  let c0_533 : Index := 0#32
  let c0_534 : Index := 0#32
  let c0_535 : Index := 0#32
  let c0_i32_169 : BitVec 32 := 0#32
  let c1_i32_171 : BitVec 32 := 1#32
  let arg14 : BitVec 32 := Scf.iv c0_i32_169 c1_i32_171 k0_t13
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t14_loop (i : grid0.Coords) (v1 : BitVec 32) : Scf.Loop 32 :=
  let c0_i32_169 : BitVec 32 := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let v336 : BitVec 32 := Scalar.subi v312 c0_i32_169
  let c1_i32_170 : BitVec 32 := 1#32
  let v338 : BitVec 32 := Scalar.divsi v336 c1_i32_170
  let v339 : BitVec 32 := Scalar.muli v338 c1_i32_170
  let v340 : BitVec 32 := Scalar.addi c0_i32_169 v339
  let v337 : BitVec 32 := Scalar.addi c0_i32_169 v336
  let c1_i32_172 : BitVec 32 := 1#32
  ⟨v340, v337, c1_i32_172⟩
def k0_mult16 (i : grid0.Coords) (v1 : BitVec 32) (k0_t14 : Fin (k0_t14_loop i v1).trips) : BitVec 32 :=
  let c0_i32_169 : BitVec 32 := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let v336 : BitVec 32 := Scalar.subi v312 c0_i32_169
  let c1_i32_170 : BitVec 32 := 1#32
  let v338 : BitVec 32 := Scalar.divsi v336 c1_i32_170
  let v339 : BitVec 32 := Scalar.muli v338 c1_i32_170
  let v340 : BitVec 32 := Scalar.addi c0_i32_169 v339
  let c1_i32_172 : BitVec 32 := 1#32
  let arg14 : BitVec 32 := Scf.iv v340 c1_i32_172 k0_t14
  let c256_i32_515 : BitVec 32 := 256#32
  let v997 : BitVec 32 := Scalar.muli arg14 c256_i32_515
  v997
def k0_off30 (i : grid0.Coords) (v1 : BitVec 32) (k0_t14 : Fin (k0_t14_loop i v1).trips) : Fin 4 → Nat :=
  let c0_516 : Index := 0#32
  let c0_517 : Index := 0#32
  let c0_i32_169 : BitVec 32 := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let v336 : BitVec 32 := Scalar.subi v312 c0_i32_169
  let c1_i32_170 : BitVec 32 := 1#32
  let v338 : BitVec 32 := Scalar.divsi v336 c1_i32_170
  let v339 : BitVec 32 := Scalar.muli v338 c1_i32_170
  let v340 : BitVec 32 := Scalar.addi c0_i32_169 v339
  let c1_i32_172 : BitVec 32 := 1#32
  let arg14 : BitVec 32 := Scf.iv v340 c1_i32_172 k0_t14
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off31 (i : grid0.Coords) (v1 : BitVec 32) (k0_t14 : Fin (k0_t14_loop i v1).trips) : Fin 4 → Nat :=
  let c0_533 : Index := 0#32
  let c0_534 : Index := 0#32
  let c0_535 : Index := 0#32
  let c0_i32_169 : BitVec 32 := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let v336 : BitVec 32 := Scalar.subi v312 c0_i32_169
  let c1_i32_170 : BitVec 32 := 1#32
  let v338 : BitVec 32 := Scalar.divsi v336 c1_i32_170
  let v339 : BitVec 32 := Scalar.muli v338 c1_i32_170
  let v340 : BitVec 32 := Scalar.addi c0_i32_169 v339
  let c1_i32_172 : BitVec 32 := 1#32
  let arg14 : BitVec 32 := Scf.iv v340 c1_i32_172 k0_t14
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t15_loop (i : grid0.Coords) (v1 : BitVec 32) : Scf.Loop 32 :=
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let v343 : BitVec 32 := Scalar.subi v335 v312
  let c1_i32_173 : BitVec 32 := 1#32
  let v345 : BitVec 32 := Scalar.divsi v343 c1_i32_173
  let v346 : BitVec 32 := Scalar.muli v345 c1_i32_173
  let v347 : BitVec 32 := Scalar.addi v312 v346
  let c1_i32_174 : BitVec 32 := 1#32
  ⟨v312, v347, c1_i32_174⟩
def k0_mult17 (i : grid0.Coords) (v1 : BitVec 32) (k0_t15 : Fin (k0_t15_loop i v1).trips) : BitVec 32 :=
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c1_i32_174 : BitVec 32 := 1#32
  let arg14 : BitVec 32 := Scf.iv v312 c1_i32_174 k0_t15
  let c256_i32_515 : BitVec 32 := 256#32
  let v997 : BitVec 32 := Scalar.muli arg14 c256_i32_515
  v997
def k0_off32 (i : grid0.Coords) (v1 : BitVec 32) (k0_t15 : Fin (k0_t15_loop i v1).trips) : Fin 4 → Nat :=
  let c0_516 : Index := 0#32
  let c0_517 : Index := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c1_i32_174 : BitVec 32 := 1#32
  let arg14 : BitVec 32 := Scf.iv v312 c1_i32_174 k0_t15
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off33 (i : grid0.Coords) (v1 : BitVec 32) (k0_t15 : Fin (k0_t15_loop i v1).trips) : Fin 4 → Nat :=
  let c0_550 : Index := 0#32
  let c0_551 : Index := 0#32
  let c0_552 : Index := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c1_i32_174 : BitVec 32 := 1#32
  let arg14 : BitVec 32 := Scf.iv v312 c1_i32_174 k0_t15
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t16_loop (i : grid0.Coords) (v1 : BitVec 32) : Scf.Loop 32 :=
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let v343 : BitVec 32 := Scalar.subi v335 v312
  let c1_i32_173 : BitVec 32 := 1#32
  let v345 : BitVec 32 := Scalar.divsi v343 c1_i32_173
  let v346 : BitVec 32 := Scalar.muli v345 c1_i32_173
  let v347 : BitVec 32 := Scalar.addi v312 v346
  let v344 : BitVec 32 := Scalar.addi v312 v343
  let c1_i32_175 : BitVec 32 := 1#32
  ⟨v347, v344, c1_i32_175⟩
def k0_mult18 (i : grid0.Coords) (v1 : BitVec 32) (k0_t16 : Fin (k0_t16_loop i v1).trips) : BitVec 32 :=
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let v343 : BitVec 32 := Scalar.subi v335 v312
  let c1_i32_173 : BitVec 32 := 1#32
  let v345 : BitVec 32 := Scalar.divsi v343 c1_i32_173
  let v346 : BitVec 32 := Scalar.muli v345 c1_i32_173
  let v347 : BitVec 32 := Scalar.addi v312 v346
  let c1_i32_175 : BitVec 32 := 1#32
  let arg14 : BitVec 32 := Scf.iv v347 c1_i32_175 k0_t16
  let c256_i32_515 : BitVec 32 := 256#32
  let v997 : BitVec 32 := Scalar.muli arg14 c256_i32_515
  v997
def k0_off34 (i : grid0.Coords) (v1 : BitVec 32) (k0_t16 : Fin (k0_t16_loop i v1).trips) : Fin 4 → Nat :=
  let c0_516 : Index := 0#32
  let c0_517 : Index := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let v343 : BitVec 32 := Scalar.subi v335 v312
  let c1_i32_173 : BitVec 32 := 1#32
  let v345 : BitVec 32 := Scalar.divsi v343 c1_i32_173
  let v346 : BitVec 32 := Scalar.muli v345 c1_i32_173
  let v347 : BitVec 32 := Scalar.addi v312 v346
  let c1_i32_175 : BitVec 32 := 1#32
  let arg14 : BitVec 32 := Scf.iv v347 c1_i32_175 k0_t16
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off35 (i : grid0.Coords) (v1 : BitVec 32) (k0_t16 : Fin (k0_t16_loop i v1).trips) : Fin 4 → Nat :=
  let c0_550 : Index := 0#32
  let c0_551 : Index := 0#32
  let c0_552 : Index := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let v343 : BitVec 32 := Scalar.subi v335 v312
  let c1_i32_173 : BitVec 32 := 1#32
  let v345 : BitVec 32 := Scalar.divsi v343 c1_i32_173
  let v346 : BitVec 32 := Scalar.muli v345 c1_i32_173
  let v347 : BitVec 32 := Scalar.addi v312 v346
  let c1_i32_175 : BitVec 32 := 1#32
  let arg14 : BitVec 32 := Scf.iv v347 c1_i32_175 k0_t16
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t17_loop (i : grid0.Coords) (v1 : BitVec 32) : Scf.Loop 32 :=
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let v350 : BitVec 32 := Scalar.subi arg2 v335
  let c1_i32_176 : BitVec 32 := 1#32
  let v352 : BitVec 32 := Scalar.divsi v350 c1_i32_176
  let v353 : BitVec 32 := Scalar.muli v352 c1_i32_176
  let v354 : BitVec 32 := Scalar.addi v335 v353
  let c1_i32_177 : BitVec 32 := 1#32
  ⟨v335, v354, c1_i32_177⟩
def k0_mult19 (i : grid0.Coords) (v1 : BitVec 32) (k0_t17 : Fin (k0_t17_loop i v1).trips) : BitVec 32 :=
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let c1_i32_177 : BitVec 32 := 1#32
  let arg14 : BitVec 32 := Scf.iv v335 c1_i32_177 k0_t17
  let c256_i32_515 : BitVec 32 := 256#32
  let v997 : BitVec 32 := Scalar.muli arg14 c256_i32_515
  v997
def k0_off36 (i : grid0.Coords) (v1 : BitVec 32) (k0_t17 : Fin (k0_t17_loop i v1).trips) : Fin 4 → Nat :=
  let c0_516 : Index := 0#32
  let c0_517 : Index := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let c1_i32_177 : BitVec 32 := 1#32
  let arg14 : BitVec 32 := Scf.iv v335 c1_i32_177 k0_t17
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off37 (i : grid0.Coords) (v1 : BitVec 32) (k0_t17 : Fin (k0_t17_loop i v1).trips) : Fin 4 → Nat :=
  let c0_533 : Index := 0#32
  let c0_534 : Index := 0#32
  let c0_535 : Index := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let c1_i32_177 : BitVec 32 := 1#32
  let arg14 : BitVec 32 := Scf.iv v335 c1_i32_177 k0_t17
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t18_loop (i : grid0.Coords) (v1 : BitVec 32) : Scf.Loop 32 :=
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let v350 : BitVec 32 := Scalar.subi arg2 v335
  let c1_i32_176 : BitVec 32 := 1#32
  let v352 : BitVec 32 := Scalar.divsi v350 c1_i32_176
  let v353 : BitVec 32 := Scalar.muli v352 c1_i32_176
  let v354 : BitVec 32 := Scalar.addi v335 v353
  let v351 : BitVec 32 := Scalar.addi v335 v350
  let c1_i32_178 : BitVec 32 := 1#32
  ⟨v354, v351, c1_i32_178⟩
def k0_mult20 (i : grid0.Coords) (v1 : BitVec 32) (k0_t18 : Fin (k0_t18_loop i v1).trips) : BitVec 32 :=
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let v350 : BitVec 32 := Scalar.subi arg2 v335
  let c1_i32_176 : BitVec 32 := 1#32
  let v352 : BitVec 32 := Scalar.divsi v350 c1_i32_176
  let v353 : BitVec 32 := Scalar.muli v352 c1_i32_176
  let v354 : BitVec 32 := Scalar.addi v335 v353
  let c1_i32_178 : BitVec 32 := 1#32
  let arg14 : BitVec 32 := Scf.iv v354 c1_i32_178 k0_t18
  let c256_i32_515 : BitVec 32 := 256#32
  let v997 : BitVec 32 := Scalar.muli arg14 c256_i32_515
  v997
def k0_off38 (i : grid0.Coords) (v1 : BitVec 32) (k0_t18 : Fin (k0_t18_loop i v1).trips) : Fin 4 → Nat :=
  let c0_516 : Index := 0#32
  let c0_517 : Index := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let v350 : BitVec 32 := Scalar.subi arg2 v335
  let c1_i32_176 : BitVec 32 := 1#32
  let v352 : BitVec 32 := Scalar.divsi v350 c1_i32_176
  let v353 : BitVec 32 := Scalar.muli v352 c1_i32_176
  let v354 : BitVec 32 := Scalar.addi v335 v353
  let c1_i32_178 : BitVec 32 := 1#32
  let arg14 : BitVec 32 := Scf.iv v354 c1_i32_178 k0_t18
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off39 (i : grid0.Coords) (v1 : BitVec 32) (k0_t18 : Fin (k0_t18_loop i v1).trips) : Fin 4 → Nat :=
  let c0_533 : Index := 0#32
  let c0_534 : Index := 0#32
  let c0_535 : Index := 0#32
  let arg2 : BitVec 32 := BitVec.ofNat 32 (i 2).val
  let c1_i32_157 : BitVec 32 := 1#32
  let v310 : BitVec 32 := Scalar.addi arg2 c1_i32_157
  let c0_i32_158 : BitVec 32 := 0#32
  let c256_i32 : BitVec 32 := 256#32
  let v2 : BitVec 32 := Scalar.muli arg2 c256_i32
  let c255_i32_148 : BitVec 32 := 255#32
  let v290 : BitVec 32 := Scalar.subi v2 c255_i32_148
  let v291 : BitVec 32 := Scalar.subi v290 v1
  let c0_i32_150 : BitVec 32 := 0#32
  let v293 : BitVec 1 := Scalar.cmpi .sgt v291 c0_i32_150
  let v294 : BitVec 32 := Scalar.extui v293
  let c0_i32_151 : BitVec 32 := 0#32
  let v295 : BitVec 1 := Scalar.cmpi .slt v291 c0_i32_151
  let v296 : BitVec 32 := Scalar.extui v295
  let v297 : BitVec 32 := Scalar.subi v294 v296
  let c256_i32_149 : BitVec 32 := 256#32
  let c0_i32_152 : BitVec 32 := 0#32
  let v298 : BitVec 1 := Scalar.cmpi .sgt c256_i32_149 c0_i32_152
  let v299 : BitVec 32 := Scalar.extui v298
  let c0_i32_153 : BitVec 32 := 0#32
  let v300 : BitVec 1 := Scalar.cmpi .slt c256_i32_149 c0_i32_153
  let v301 : BitVec 32 := Scalar.extui v300
  let v302 : BitVec 32 := Scalar.subi v299 v301
  let v303 : BitVec 1 := Scalar.cmpi .ne v297 v302
  let v304 : BitVec 32 := Scalar.remsi v291 c256_i32_149
  let c0_i32_154 : BitVec 32 := 0#32
  let v305 : BitVec 1 := Scalar.cmpi .ne v304 c0_i32_154
  let v306 : BitVec 1 := Scalar.andi v303 v305
  let v292 : BitVec 32 := Scalar.divsi v291 c256_i32_149
  let c1_i32_155 : BitVec 32 := 1#32
  let v307 : BitVec 32 := Scalar.subi v292 c1_i32_155
  let v308 : BitVec 32 := Scalar.select v306 v307 v292
  let c1_i32_156 : BitVec 32 := 1#32
  let v309 : BitVec 32 := Scalar.addi v308 c1_i32_156
  let v311 : BitVec 32 := Scalar.maxsi c0_i32_158 v309
  let v312 : BitVec 32 := Scalar.minsi v310 v311
  let c256_i32_159 : BitVec 32 := 256#32
  let v313 : BitVec 32 := Scalar.addi v2 c256_i32_159
  let c1_i32_160 : BitVec 32 := 1#32
  let v314 : BitVec 32 := Scalar.subi v313 c1_i32_160
  let v315 : BitVec 32 := Scalar.subi v314 v1
  let c0_i32_162 : BitVec 32 := 0#32
  let v317 : BitVec 1 := Scalar.cmpi .sgt v315 c0_i32_162
  let v318 : BitVec 32 := Scalar.extui v317
  let c0_i32_163 : BitVec 32 := 0#32
  let v319 : BitVec 1 := Scalar.cmpi .slt v315 c0_i32_163
  let v320 : BitVec 32 := Scalar.extui v319
  let v321 : BitVec 32 := Scalar.subi v318 v320
  let c256_i32_161 : BitVec 32 := 256#32
  let c0_i32_164 : BitVec 32 := 0#32
  let v322 : BitVec 1 := Scalar.cmpi .sgt c256_i32_161 c0_i32_164
  let v323 : BitVec 32 := Scalar.extui v322
  let c0_i32_165 : BitVec 32 := 0#32
  let v324 : BitVec 1 := Scalar.cmpi .slt c256_i32_161 c0_i32_165
  let v325 : BitVec 32 := Scalar.extui v324
  let v326 : BitVec 32 := Scalar.subi v323 v325
  let v327 : BitVec 1 := Scalar.cmpi .ne v321 v326
  let v328 : BitVec 32 := Scalar.remsi v315 c256_i32_161
  let c0_i32_166 : BitVec 32 := 0#32
  let v329 : BitVec 1 := Scalar.cmpi .ne v328 c0_i32_166
  let v330 : BitVec 1 := Scalar.andi v327 v329
  let v316 : BitVec 32 := Scalar.divsi v315 c256_i32_161
  let c1_i32_167 : BitVec 32 := 1#32
  let v331 : BitVec 32 := Scalar.subi v316 c1_i32_167
  let v332 : BitVec 32 := Scalar.select v330 v331 v316
  let c1_i32_168 : BitVec 32 := 1#32
  let v333 : BitVec 32 := Scalar.addi v332 c1_i32_168
  let v334 : BitVec 32 := Scalar.maxsi v312 v333
  let v335 : BitVec 32 := Scalar.minsi arg2 v334
  let v350 : BitVec 32 := Scalar.subi arg2 v335
  let c1_i32_176 : BitVec 32 := 1#32
  let v352 : BitVec 32 := Scalar.divsi v350 c1_i32_176
  let v353 : BitVec 32 := Scalar.muli v352 c1_i32_176
  let v354 : BitVec 32 := Scalar.addi v335 v353
  let c1_i32_178 : BitVec 32 := 1#32
  let arg14 : BitVec 32 := Scf.iv v354 c1_i32_178 k0_t18
  let c256_i32_515 : BitVec 32 := 256#32
  let v997 : BitVec 32 := Scalar.muli arg14 c256_i32_515
  let v998 : BitVec 32 := v997
  let v1026 : Index := Scalar.indexCast v998
  ![0, 0, 0, v1026.toNat]
def k0_mult21 (i : grid0.Coords) : BitVec 32 :=
  let arg2 : BitVec 32 := BitVec.ofNat 32 (i 2).val
  let c256_i32_179 : BitVec 32 := 256#32
  let v357 : BitVec 32 := Scalar.muli arg2 c256_i32_179
  v357
@[reducible] def k0_t19_loop (i : grid0.Coords) (v1 : BitVec 32) : Scf.Loop 32 :=
  let c0_i32_243 : BitVec 32 := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let v478 : BitVec 32 := Scalar.subi v454 c0_i32_243
  let c1_i32_244 : BitVec 32 := 1#32
  let v480 : BitVec 32 := Scalar.divsi v478 c1_i32_244
  let v481 : BitVec 32 := Scalar.muli v480 c1_i32_244
  let v482 : BitVec 32 := Scalar.addi c0_i32_243 v481
  let c1_i32_245 : BitVec 32 := 1#32
  ⟨c0_i32_243, v482, c1_i32_245⟩
def k0_mult22 (i : grid0.Coords) (v1 : BitVec 32) (k0_t19 : Fin (k0_t19_loop i v1).trips) : BitVec 32 :=
  let c0_i32_243 : BitVec 32 := 0#32
  let c1_i32_245 : BitVec 32 := 1#32
  let arg14 : BitVec 32 := Scf.iv c0_i32_243 c1_i32_245 k0_t19
  let c256_i32_515 : BitVec 32 := 256#32
  let v997 : BitVec 32 := Scalar.muli arg14 c256_i32_515
  v997
def k0_off40 (i : grid0.Coords) (v1 : BitVec 32) (k0_t19 : Fin (k0_t19_loop i v1).trips) : Fin 4 → Nat :=
  let c0_516 : Index := 0#32
  let c0_517 : Index := 0#32
  let c0_i32_243 : BitVec 32 := 0#32
  let c1_i32_245 : BitVec 32 := 1#32
  let arg14 : BitVec 32 := Scf.iv c0_i32_243 c1_i32_245 k0_t19
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off41 (i : grid0.Coords) (v1 : BitVec 32) (k0_t19 : Fin (k0_t19_loop i v1).trips) : Fin 4 → Nat :=
  let c0_533 : Index := 0#32
  let c0_534 : Index := 0#32
  let c0_535 : Index := 0#32
  let c0_i32_243 : BitVec 32 := 0#32
  let c1_i32_245 : BitVec 32 := 1#32
  let arg14 : BitVec 32 := Scf.iv c0_i32_243 c1_i32_245 k0_t19
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t20_loop (i : grid0.Coords) (v1 : BitVec 32) : Scf.Loop 32 :=
  let c0_i32_243 : BitVec 32 := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let v478 : BitVec 32 := Scalar.subi v454 c0_i32_243
  let c1_i32_244 : BitVec 32 := 1#32
  let v480 : BitVec 32 := Scalar.divsi v478 c1_i32_244
  let v481 : BitVec 32 := Scalar.muli v480 c1_i32_244
  let v482 : BitVec 32 := Scalar.addi c0_i32_243 v481
  let v479 : BitVec 32 := Scalar.addi c0_i32_243 v478
  let c1_i32_246 : BitVec 32 := 1#32
  ⟨v482, v479, c1_i32_246⟩
def k0_mult23 (i : grid0.Coords) (v1 : BitVec 32) (k0_t20 : Fin (k0_t20_loop i v1).trips) : BitVec 32 :=
  let c0_i32_243 : BitVec 32 := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let v478 : BitVec 32 := Scalar.subi v454 c0_i32_243
  let c1_i32_244 : BitVec 32 := 1#32
  let v480 : BitVec 32 := Scalar.divsi v478 c1_i32_244
  let v481 : BitVec 32 := Scalar.muli v480 c1_i32_244
  let v482 : BitVec 32 := Scalar.addi c0_i32_243 v481
  let c1_i32_246 : BitVec 32 := 1#32
  let arg14 : BitVec 32 := Scf.iv v482 c1_i32_246 k0_t20
  let c256_i32_515 : BitVec 32 := 256#32
  let v997 : BitVec 32 := Scalar.muli arg14 c256_i32_515
  v997
def k0_off42 (i : grid0.Coords) (v1 : BitVec 32) (k0_t20 : Fin (k0_t20_loop i v1).trips) : Fin 4 → Nat :=
  let c0_516 : Index := 0#32
  let c0_517 : Index := 0#32
  let c0_i32_243 : BitVec 32 := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let v478 : BitVec 32 := Scalar.subi v454 c0_i32_243
  let c1_i32_244 : BitVec 32 := 1#32
  let v480 : BitVec 32 := Scalar.divsi v478 c1_i32_244
  let v481 : BitVec 32 := Scalar.muli v480 c1_i32_244
  let v482 : BitVec 32 := Scalar.addi c0_i32_243 v481
  let c1_i32_246 : BitVec 32 := 1#32
  let arg14 : BitVec 32 := Scf.iv v482 c1_i32_246 k0_t20
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off43 (i : grid0.Coords) (v1 : BitVec 32) (k0_t20 : Fin (k0_t20_loop i v1).trips) : Fin 4 → Nat :=
  let c0_533 : Index := 0#32
  let c0_534 : Index := 0#32
  let c0_535 : Index := 0#32
  let c0_i32_243 : BitVec 32 := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let v478 : BitVec 32 := Scalar.subi v454 c0_i32_243
  let c1_i32_244 : BitVec 32 := 1#32
  let v480 : BitVec 32 := Scalar.divsi v478 c1_i32_244
  let v481 : BitVec 32 := Scalar.muli v480 c1_i32_244
  let v482 : BitVec 32 := Scalar.addi c0_i32_243 v481
  let c1_i32_246 : BitVec 32 := 1#32
  let arg14 : BitVec 32 := Scf.iv v482 c1_i32_246 k0_t20
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t21_loop (i : grid0.Coords) (v1 : BitVec 32) : Scf.Loop 32 :=
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let v485 : BitVec 32 := Scalar.subi v477 v454
  let c1_i32_247 : BitVec 32 := 1#32
  let v487 : BitVec 32 := Scalar.divsi v485 c1_i32_247
  let v488 : BitVec 32 := Scalar.muli v487 c1_i32_247
  let v489 : BitVec 32 := Scalar.addi v454 v488
  let c1_i32_248 : BitVec 32 := 1#32
  ⟨v454, v489, c1_i32_248⟩
def k0_mult24 (i : grid0.Coords) (v1 : BitVec 32) (k0_t21 : Fin (k0_t21_loop i v1).trips) : BitVec 32 :=
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c1_i32_248 : BitVec 32 := 1#32
  let arg14 : BitVec 32 := Scf.iv v454 c1_i32_248 k0_t21
  let c256_i32_515 : BitVec 32 := 256#32
  let v997 : BitVec 32 := Scalar.muli arg14 c256_i32_515
  v997
def k0_off44 (i : grid0.Coords) (v1 : BitVec 32) (k0_t21 : Fin (k0_t21_loop i v1).trips) : Fin 4 → Nat :=
  let c0_516 : Index := 0#32
  let c0_517 : Index := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c1_i32_248 : BitVec 32 := 1#32
  let arg14 : BitVec 32 := Scf.iv v454 c1_i32_248 k0_t21
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off45 (i : grid0.Coords) (v1 : BitVec 32) (k0_t21 : Fin (k0_t21_loop i v1).trips) : Fin 4 → Nat :=
  let c0_550 : Index := 0#32
  let c0_551 : Index := 0#32
  let c0_552 : Index := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c1_i32_248 : BitVec 32 := 1#32
  let arg14 : BitVec 32 := Scf.iv v454 c1_i32_248 k0_t21
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t22_loop (i : grid0.Coords) (v1 : BitVec 32) : Scf.Loop 32 :=
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let v485 : BitVec 32 := Scalar.subi v477 v454
  let c1_i32_247 : BitVec 32 := 1#32
  let v487 : BitVec 32 := Scalar.divsi v485 c1_i32_247
  let v488 : BitVec 32 := Scalar.muli v487 c1_i32_247
  let v489 : BitVec 32 := Scalar.addi v454 v488
  let v486 : BitVec 32 := Scalar.addi v454 v485
  let c1_i32_249 : BitVec 32 := 1#32
  ⟨v489, v486, c1_i32_249⟩
def k0_mult25 (i : grid0.Coords) (v1 : BitVec 32) (k0_t22 : Fin (k0_t22_loop i v1).trips) : BitVec 32 :=
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let v485 : BitVec 32 := Scalar.subi v477 v454
  let c1_i32_247 : BitVec 32 := 1#32
  let v487 : BitVec 32 := Scalar.divsi v485 c1_i32_247
  let v488 : BitVec 32 := Scalar.muli v487 c1_i32_247
  let v489 : BitVec 32 := Scalar.addi v454 v488
  let c1_i32_249 : BitVec 32 := 1#32
  let arg14 : BitVec 32 := Scf.iv v489 c1_i32_249 k0_t22
  let c256_i32_515 : BitVec 32 := 256#32
  let v997 : BitVec 32 := Scalar.muli arg14 c256_i32_515
  v997
def k0_off46 (i : grid0.Coords) (v1 : BitVec 32) (k0_t22 : Fin (k0_t22_loop i v1).trips) : Fin 4 → Nat :=
  let c0_516 : Index := 0#32
  let c0_517 : Index := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let v485 : BitVec 32 := Scalar.subi v477 v454
  let c1_i32_247 : BitVec 32 := 1#32
  let v487 : BitVec 32 := Scalar.divsi v485 c1_i32_247
  let v488 : BitVec 32 := Scalar.muli v487 c1_i32_247
  let v489 : BitVec 32 := Scalar.addi v454 v488
  let c1_i32_249 : BitVec 32 := 1#32
  let arg14 : BitVec 32 := Scf.iv v489 c1_i32_249 k0_t22
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off47 (i : grid0.Coords) (v1 : BitVec 32) (k0_t22 : Fin (k0_t22_loop i v1).trips) : Fin 4 → Nat :=
  let c0_550 : Index := 0#32
  let c0_551 : Index := 0#32
  let c0_552 : Index := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let v485 : BitVec 32 := Scalar.subi v477 v454
  let c1_i32_247 : BitVec 32 := 1#32
  let v487 : BitVec 32 := Scalar.divsi v485 c1_i32_247
  let v488 : BitVec 32 := Scalar.muli v487 c1_i32_247
  let v489 : BitVec 32 := Scalar.addi v454 v488
  let c1_i32_249 : BitVec 32 := 1#32
  let arg14 : BitVec 32 := Scf.iv v489 c1_i32_249 k0_t22
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t23_loop (i : grid0.Coords) (v1 : BitVec 32) : Scf.Loop 32 :=
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let v492 : BitVec 32 := Scalar.subi arg2 v477
  let c1_i32_250 : BitVec 32 := 1#32
  let v494 : BitVec 32 := Scalar.divsi v492 c1_i32_250
  let v495 : BitVec 32 := Scalar.muli v494 c1_i32_250
  let v496 : BitVec 32 := Scalar.addi v477 v495
  let c1_i32_251 : BitVec 32 := 1#32
  ⟨v477, v496, c1_i32_251⟩
def k0_mult26 (i : grid0.Coords) (v1 : BitVec 32) (k0_t23 : Fin (k0_t23_loop i v1).trips) : BitVec 32 :=
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let c1_i32_251 : BitVec 32 := 1#32
  let arg14 : BitVec 32 := Scf.iv v477 c1_i32_251 k0_t23
  let c256_i32_515 : BitVec 32 := 256#32
  let v997 : BitVec 32 := Scalar.muli arg14 c256_i32_515
  v997
def k0_off48 (i : grid0.Coords) (v1 : BitVec 32) (k0_t23 : Fin (k0_t23_loop i v1).trips) : Fin 4 → Nat :=
  let c0_516 : Index := 0#32
  let c0_517 : Index := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let c1_i32_251 : BitVec 32 := 1#32
  let arg14 : BitVec 32 := Scf.iv v477 c1_i32_251 k0_t23
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off49 (i : grid0.Coords) (v1 : BitVec 32) (k0_t23 : Fin (k0_t23_loop i v1).trips) : Fin 4 → Nat :=
  let c0_533 : Index := 0#32
  let c0_534 : Index := 0#32
  let c0_535 : Index := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let c1_i32_251 : BitVec 32 := 1#32
  let arg14 : BitVec 32 := Scf.iv v477 c1_i32_251 k0_t23
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t24_loop (i : grid0.Coords) (v1 : BitVec 32) : Scf.Loop 32 :=
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let v492 : BitVec 32 := Scalar.subi arg2 v477
  let c1_i32_250 : BitVec 32 := 1#32
  let v494 : BitVec 32 := Scalar.divsi v492 c1_i32_250
  let v495 : BitVec 32 := Scalar.muli v494 c1_i32_250
  let v496 : BitVec 32 := Scalar.addi v477 v495
  let v493 : BitVec 32 := Scalar.addi v477 v492
  let c1_i32_252 : BitVec 32 := 1#32
  ⟨v496, v493, c1_i32_252⟩
def k0_mult27 (i : grid0.Coords) (v1 : BitVec 32) (k0_t24 : Fin (k0_t24_loop i v1).trips) : BitVec 32 :=
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let v492 : BitVec 32 := Scalar.subi arg2 v477
  let c1_i32_250 : BitVec 32 := 1#32
  let v494 : BitVec 32 := Scalar.divsi v492 c1_i32_250
  let v495 : BitVec 32 := Scalar.muli v494 c1_i32_250
  let v496 : BitVec 32 := Scalar.addi v477 v495
  let c1_i32_252 : BitVec 32 := 1#32
  let arg14 : BitVec 32 := Scf.iv v496 c1_i32_252 k0_t24
  let c256_i32_515 : BitVec 32 := 256#32
  let v997 : BitVec 32 := Scalar.muli arg14 c256_i32_515
  v997
def k0_off50 (i : grid0.Coords) (v1 : BitVec 32) (k0_t24 : Fin (k0_t24_loop i v1).trips) : Fin 4 → Nat :=
  let c0_516 : Index := 0#32
  let c0_517 : Index := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let v492 : BitVec 32 := Scalar.subi arg2 v477
  let c1_i32_250 : BitVec 32 := 1#32
  let v494 : BitVec 32 := Scalar.divsi v492 c1_i32_250
  let v495 : BitVec 32 := Scalar.muli v494 c1_i32_250
  let v496 : BitVec 32 := Scalar.addi v477 v495
  let c1_i32_252 : BitVec 32 := 1#32
  let arg14 : BitVec 32 := Scf.iv v496 c1_i32_252 k0_t24
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off51 (i : grid0.Coords) (v1 : BitVec 32) (k0_t24 : Fin (k0_t24_loop i v1).trips) : Fin 4 → Nat :=
  let c0_533 : Index := 0#32
  let c0_534 : Index := 0#32
  let c0_535 : Index := 0#32
  let arg2 : BitVec 32 := BitVec.ofNat 32 (i 2).val
  let c1_i32_231 : BitVec 32 := 1#32
  let v452 : BitVec 32 := Scalar.addi arg2 c1_i32_231
  let c0_i32_232 : BitVec 32 := 0#32
  let c256_i32 : BitVec 32 := 256#32
  let v2 : BitVec 32 := Scalar.muli arg2 c256_i32
  let c255_i32_222 : BitVec 32 := 255#32
  let v432 : BitVec 32 := Scalar.subi v2 c255_i32_222
  let v433 : BitVec 32 := Scalar.subi v432 v1
  let c0_i32_224 : BitVec 32 := 0#32
  let v435 : BitVec 1 := Scalar.cmpi .sgt v433 c0_i32_224
  let v436 : BitVec 32 := Scalar.extui v435
  let c0_i32_225 : BitVec 32 := 0#32
  let v437 : BitVec 1 := Scalar.cmpi .slt v433 c0_i32_225
  let v438 : BitVec 32 := Scalar.extui v437
  let v439 : BitVec 32 := Scalar.subi v436 v438
  let c256_i32_223 : BitVec 32 := 256#32
  let c0_i32_226 : BitVec 32 := 0#32
  let v440 : BitVec 1 := Scalar.cmpi .sgt c256_i32_223 c0_i32_226
  let v441 : BitVec 32 := Scalar.extui v440
  let c0_i32_227 : BitVec 32 := 0#32
  let v442 : BitVec 1 := Scalar.cmpi .slt c256_i32_223 c0_i32_227
  let v443 : BitVec 32 := Scalar.extui v442
  let v444 : BitVec 32 := Scalar.subi v441 v443
  let v445 : BitVec 1 := Scalar.cmpi .ne v439 v444
  let v446 : BitVec 32 := Scalar.remsi v433 c256_i32_223
  let c0_i32_228 : BitVec 32 := 0#32
  let v447 : BitVec 1 := Scalar.cmpi .ne v446 c0_i32_228
  let v448 : BitVec 1 := Scalar.andi v445 v447
  let v434 : BitVec 32 := Scalar.divsi v433 c256_i32_223
  let c1_i32_229 : BitVec 32 := 1#32
  let v449 : BitVec 32 := Scalar.subi v434 c1_i32_229
  let v450 : BitVec 32 := Scalar.select v448 v449 v434
  let c1_i32_230 : BitVec 32 := 1#32
  let v451 : BitVec 32 := Scalar.addi v450 c1_i32_230
  let v453 : BitVec 32 := Scalar.maxsi c0_i32_232 v451
  let v454 : BitVec 32 := Scalar.minsi v452 v453
  let c256_i32_233 : BitVec 32 := 256#32
  let v455 : BitVec 32 := Scalar.addi v2 c256_i32_233
  let c1_i32_234 : BitVec 32 := 1#32
  let v456 : BitVec 32 := Scalar.subi v455 c1_i32_234
  let v457 : BitVec 32 := Scalar.subi v456 v1
  let c0_i32_236 : BitVec 32 := 0#32
  let v459 : BitVec 1 := Scalar.cmpi .sgt v457 c0_i32_236
  let v460 : BitVec 32 := Scalar.extui v459
  let c0_i32_237 : BitVec 32 := 0#32
  let v461 : BitVec 1 := Scalar.cmpi .slt v457 c0_i32_237
  let v462 : BitVec 32 := Scalar.extui v461
  let v463 : BitVec 32 := Scalar.subi v460 v462
  let c256_i32_235 : BitVec 32 := 256#32
  let c0_i32_238 : BitVec 32 := 0#32
  let v464 : BitVec 1 := Scalar.cmpi .sgt c256_i32_235 c0_i32_238
  let v465 : BitVec 32 := Scalar.extui v464
  let c0_i32_239 : BitVec 32 := 0#32
  let v466 : BitVec 1 := Scalar.cmpi .slt c256_i32_235 c0_i32_239
  let v467 : BitVec 32 := Scalar.extui v466
  let v468 : BitVec 32 := Scalar.subi v465 v467
  let v469 : BitVec 1 := Scalar.cmpi .ne v463 v468
  let v470 : BitVec 32 := Scalar.remsi v457 c256_i32_235
  let c0_i32_240 : BitVec 32 := 0#32
  let v471 : BitVec 1 := Scalar.cmpi .ne v470 c0_i32_240
  let v472 : BitVec 1 := Scalar.andi v469 v471
  let v458 : BitVec 32 := Scalar.divsi v457 c256_i32_235
  let c1_i32_241 : BitVec 32 := 1#32
  let v473 : BitVec 32 := Scalar.subi v458 c1_i32_241
  let v474 : BitVec 32 := Scalar.select v472 v473 v458
  let c1_i32_242 : BitVec 32 := 1#32
  let v475 : BitVec 32 := Scalar.addi v474 c1_i32_242
  let v476 : BitVec 32 := Scalar.maxsi v454 v475
  let v477 : BitVec 32 := Scalar.minsi arg2 v476
  let v492 : BitVec 32 := Scalar.subi arg2 v477
  let c1_i32_250 : BitVec 32 := 1#32
  let v494 : BitVec 32 := Scalar.divsi v492 c1_i32_250
  let v495 : BitVec 32 := Scalar.muli v494 c1_i32_250
  let v496 : BitVec 32 := Scalar.addi v477 v495
  let c1_i32_252 : BitVec 32 := 1#32
  let arg14 : BitVec 32 := Scf.iv v496 c1_i32_252 k0_t24
  let c256_i32_515 : BitVec 32 := 256#32
  let v997 : BitVec 32 := Scalar.muli arg14 c256_i32_515
  let v998 : BitVec 32 := v997
  let v1026 : Index := Scalar.indexCast v998
  ![0, 0, 0, v1026.toNat]
def k0_mult28 (i : grid0.Coords) : BitVec 32 :=
  let arg2 : BitVec 32 := BitVec.ofNat 32 (i 2).val
  let c256_i32_253 : BitVec 32 := 256#32
  let v499 : BitVec 32 := Scalar.muli arg2 c256_i32_253
  v499
@[reducible] def k0_t25_loop (i : grid0.Coords) (v1 : BitVec 32) : Scf.Loop 32 :=
  let c0_i32_317 : BitVec 32 := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let v620 : BitVec 32 := Scalar.subi v596 c0_i32_317
  let c1_i32_318 : BitVec 32 := 1#32
  let v622 : BitVec 32 := Scalar.divsi v620 c1_i32_318
  let v623 : BitVec 32 := Scalar.muli v622 c1_i32_318
  let v624 : BitVec 32 := Scalar.addi c0_i32_317 v623
  let c1_i32_319 : BitVec 32 := 1#32
  ⟨c0_i32_317, v624, c1_i32_319⟩
def k0_mult29 (i : grid0.Coords) (v1 : BitVec 32) (k0_t25 : Fin (k0_t25_loop i v1).trips) : BitVec 32 :=
  let c0_i32_317 : BitVec 32 := 0#32
  let c1_i32_319 : BitVec 32 := 1#32
  let arg14 : BitVec 32 := Scf.iv c0_i32_317 c1_i32_319 k0_t25
  let c256_i32_515 : BitVec 32 := 256#32
  let v997 : BitVec 32 := Scalar.muli arg14 c256_i32_515
  v997
def k0_off52 (i : grid0.Coords) (v1 : BitVec 32) (k0_t25 : Fin (k0_t25_loop i v1).trips) : Fin 4 → Nat :=
  let c0_516 : Index := 0#32
  let c0_517 : Index := 0#32
  let c0_i32_317 : BitVec 32 := 0#32
  let c1_i32_319 : BitVec 32 := 1#32
  let arg14 : BitVec 32 := Scf.iv c0_i32_317 c1_i32_319 k0_t25
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off53 (i : grid0.Coords) (v1 : BitVec 32) (k0_t25 : Fin (k0_t25_loop i v1).trips) : Fin 4 → Nat :=
  let c0_533 : Index := 0#32
  let c0_534 : Index := 0#32
  let c0_535 : Index := 0#32
  let c0_i32_317 : BitVec 32 := 0#32
  let c1_i32_319 : BitVec 32 := 1#32
  let arg14 : BitVec 32 := Scf.iv c0_i32_317 c1_i32_319 k0_t25
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t26_loop (i : grid0.Coords) (v1 : BitVec 32) : Scf.Loop 32 :=
  let c0_i32_317 : BitVec 32 := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let v620 : BitVec 32 := Scalar.subi v596 c0_i32_317
  let c1_i32_318 : BitVec 32 := 1#32
  let v622 : BitVec 32 := Scalar.divsi v620 c1_i32_318
  let v623 : BitVec 32 := Scalar.muli v622 c1_i32_318
  let v624 : BitVec 32 := Scalar.addi c0_i32_317 v623
  let v621 : BitVec 32 := Scalar.addi c0_i32_317 v620
  let c1_i32_320 : BitVec 32 := 1#32
  ⟨v624, v621, c1_i32_320⟩
def k0_mult30 (i : grid0.Coords) (v1 : BitVec 32) (k0_t26 : Fin (k0_t26_loop i v1).trips) : BitVec 32 :=
  let c0_i32_317 : BitVec 32 := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let v620 : BitVec 32 := Scalar.subi v596 c0_i32_317
  let c1_i32_318 : BitVec 32 := 1#32
  let v622 : BitVec 32 := Scalar.divsi v620 c1_i32_318
  let v623 : BitVec 32 := Scalar.muli v622 c1_i32_318
  let v624 : BitVec 32 := Scalar.addi c0_i32_317 v623
  let c1_i32_320 : BitVec 32 := 1#32
  let arg14 : BitVec 32 := Scf.iv v624 c1_i32_320 k0_t26
  let c256_i32_515 : BitVec 32 := 256#32
  let v997 : BitVec 32 := Scalar.muli arg14 c256_i32_515
  v997
def k0_off54 (i : grid0.Coords) (v1 : BitVec 32) (k0_t26 : Fin (k0_t26_loop i v1).trips) : Fin 4 → Nat :=
  let c0_516 : Index := 0#32
  let c0_517 : Index := 0#32
  let c0_i32_317 : BitVec 32 := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let v620 : BitVec 32 := Scalar.subi v596 c0_i32_317
  let c1_i32_318 : BitVec 32 := 1#32
  let v622 : BitVec 32 := Scalar.divsi v620 c1_i32_318
  let v623 : BitVec 32 := Scalar.muli v622 c1_i32_318
  let v624 : BitVec 32 := Scalar.addi c0_i32_317 v623
  let c1_i32_320 : BitVec 32 := 1#32
  let arg14 : BitVec 32 := Scf.iv v624 c1_i32_320 k0_t26
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off55 (i : grid0.Coords) (v1 : BitVec 32) (k0_t26 : Fin (k0_t26_loop i v1).trips) : Fin 4 → Nat :=
  let c0_533 : Index := 0#32
  let c0_534 : Index := 0#32
  let c0_535 : Index := 0#32
  let c0_i32_317 : BitVec 32 := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let v620 : BitVec 32 := Scalar.subi v596 c0_i32_317
  let c1_i32_318 : BitVec 32 := 1#32
  let v622 : BitVec 32 := Scalar.divsi v620 c1_i32_318
  let v623 : BitVec 32 := Scalar.muli v622 c1_i32_318
  let v624 : BitVec 32 := Scalar.addi c0_i32_317 v623
  let c1_i32_320 : BitVec 32 := 1#32
  let arg14 : BitVec 32 := Scf.iv v624 c1_i32_320 k0_t26
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t27_loop (i : grid0.Coords) (v1 : BitVec 32) : Scf.Loop 32 :=
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let v627 : BitVec 32 := Scalar.subi v619 v596
  let c1_i32_321 : BitVec 32 := 1#32
  let v629 : BitVec 32 := Scalar.divsi v627 c1_i32_321
  let v630 : BitVec 32 := Scalar.muli v629 c1_i32_321
  let v631 : BitVec 32 := Scalar.addi v596 v630
  let c1_i32_322 : BitVec 32 := 1#32
  ⟨v596, v631, c1_i32_322⟩
def k0_mult31 (i : grid0.Coords) (v1 : BitVec 32) (k0_t27 : Fin (k0_t27_loop i v1).trips) : BitVec 32 :=
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c1_i32_322 : BitVec 32 := 1#32
  let arg14 : BitVec 32 := Scf.iv v596 c1_i32_322 k0_t27
  let c256_i32_515 : BitVec 32 := 256#32
  let v997 : BitVec 32 := Scalar.muli arg14 c256_i32_515
  v997
def k0_off56 (i : grid0.Coords) (v1 : BitVec 32) (k0_t27 : Fin (k0_t27_loop i v1).trips) : Fin 4 → Nat :=
  let c0_516 : Index := 0#32
  let c0_517 : Index := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c1_i32_322 : BitVec 32 := 1#32
  let arg14 : BitVec 32 := Scf.iv v596 c1_i32_322 k0_t27
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off57 (i : grid0.Coords) (v1 : BitVec 32) (k0_t27 : Fin (k0_t27_loop i v1).trips) : Fin 4 → Nat :=
  let c0_550 : Index := 0#32
  let c0_551 : Index := 0#32
  let c0_552 : Index := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c1_i32_322 : BitVec 32 := 1#32
  let arg14 : BitVec 32 := Scf.iv v596 c1_i32_322 k0_t27
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t28_loop (i : grid0.Coords) (v1 : BitVec 32) : Scf.Loop 32 :=
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let v627 : BitVec 32 := Scalar.subi v619 v596
  let c1_i32_321 : BitVec 32 := 1#32
  let v629 : BitVec 32 := Scalar.divsi v627 c1_i32_321
  let v630 : BitVec 32 := Scalar.muli v629 c1_i32_321
  let v631 : BitVec 32 := Scalar.addi v596 v630
  let v628 : BitVec 32 := Scalar.addi v596 v627
  let c1_i32_323 : BitVec 32 := 1#32
  ⟨v631, v628, c1_i32_323⟩
def k0_mult32 (i : grid0.Coords) (v1 : BitVec 32) (k0_t28 : Fin (k0_t28_loop i v1).trips) : BitVec 32 :=
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let v627 : BitVec 32 := Scalar.subi v619 v596
  let c1_i32_321 : BitVec 32 := 1#32
  let v629 : BitVec 32 := Scalar.divsi v627 c1_i32_321
  let v630 : BitVec 32 := Scalar.muli v629 c1_i32_321
  let v631 : BitVec 32 := Scalar.addi v596 v630
  let c1_i32_323 : BitVec 32 := 1#32
  let arg14 : BitVec 32 := Scf.iv v631 c1_i32_323 k0_t28
  let c256_i32_515 : BitVec 32 := 256#32
  let v997 : BitVec 32 := Scalar.muli arg14 c256_i32_515
  v997
def k0_off58 (i : grid0.Coords) (v1 : BitVec 32) (k0_t28 : Fin (k0_t28_loop i v1).trips) : Fin 4 → Nat :=
  let c0_516 : Index := 0#32
  let c0_517 : Index := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let v627 : BitVec 32 := Scalar.subi v619 v596
  let c1_i32_321 : BitVec 32 := 1#32
  let v629 : BitVec 32 := Scalar.divsi v627 c1_i32_321
  let v630 : BitVec 32 := Scalar.muli v629 c1_i32_321
  let v631 : BitVec 32 := Scalar.addi v596 v630
  let c1_i32_323 : BitVec 32 := 1#32
  let arg14 : BitVec 32 := Scf.iv v631 c1_i32_323 k0_t28
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off59 (i : grid0.Coords) (v1 : BitVec 32) (k0_t28 : Fin (k0_t28_loop i v1).trips) : Fin 4 → Nat :=
  let c0_550 : Index := 0#32
  let c0_551 : Index := 0#32
  let c0_552 : Index := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let v627 : BitVec 32 := Scalar.subi v619 v596
  let c1_i32_321 : BitVec 32 := 1#32
  let v629 : BitVec 32 := Scalar.divsi v627 c1_i32_321
  let v630 : BitVec 32 := Scalar.muli v629 c1_i32_321
  let v631 : BitVec 32 := Scalar.addi v596 v630
  let c1_i32_323 : BitVec 32 := 1#32
  let arg14 : BitVec 32 := Scf.iv v631 c1_i32_323 k0_t28
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t29_loop (i : grid0.Coords) (v1 : BitVec 32) : Scf.Loop 32 :=
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let v634 : BitVec 32 := Scalar.subi arg2 v619
  let c1_i32_324 : BitVec 32 := 1#32
  let v636 : BitVec 32 := Scalar.divsi v634 c1_i32_324
  let v637 : BitVec 32 := Scalar.muli v636 c1_i32_324
  let v638 : BitVec 32 := Scalar.addi v619 v637
  let c1_i32_325 : BitVec 32 := 1#32
  ⟨v619, v638, c1_i32_325⟩
def k0_mult33 (i : grid0.Coords) (v1 : BitVec 32) (k0_t29 : Fin (k0_t29_loop i v1).trips) : BitVec 32 :=
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let c1_i32_325 : BitVec 32 := 1#32
  let arg14 : BitVec 32 := Scf.iv v619 c1_i32_325 k0_t29
  let c256_i32_515 : BitVec 32 := 256#32
  let v997 : BitVec 32 := Scalar.muli arg14 c256_i32_515
  v997
def k0_off60 (i : grid0.Coords) (v1 : BitVec 32) (k0_t29 : Fin (k0_t29_loop i v1).trips) : Fin 4 → Nat :=
  let c0_516 : Index := 0#32
  let c0_517 : Index := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let c1_i32_325 : BitVec 32 := 1#32
  let arg14 : BitVec 32 := Scf.iv v619 c1_i32_325 k0_t29
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off61 (i : grid0.Coords) (v1 : BitVec 32) (k0_t29 : Fin (k0_t29_loop i v1).trips) : Fin 4 → Nat :=
  let c0_533 : Index := 0#32
  let c0_534 : Index := 0#32
  let c0_535 : Index := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let c1_i32_325 : BitVec 32 := 1#32
  let arg14 : BitVec 32 := Scf.iv v619 c1_i32_325 k0_t29
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t30_loop (i : grid0.Coords) (v1 : BitVec 32) : Scf.Loop 32 :=
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let v634 : BitVec 32 := Scalar.subi arg2 v619
  let c1_i32_324 : BitVec 32 := 1#32
  let v636 : BitVec 32 := Scalar.divsi v634 c1_i32_324
  let v637 : BitVec 32 := Scalar.muli v636 c1_i32_324
  let v638 : BitVec 32 := Scalar.addi v619 v637
  let v635 : BitVec 32 := Scalar.addi v619 v634
  let c1_i32_326 : BitVec 32 := 1#32
  ⟨v638, v635, c1_i32_326⟩
def k0_mult34 (i : grid0.Coords) (v1 : BitVec 32) (k0_t30 : Fin (k0_t30_loop i v1).trips) : BitVec 32 :=
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let v634 : BitVec 32 := Scalar.subi arg2 v619
  let c1_i32_324 : BitVec 32 := 1#32
  let v636 : BitVec 32 := Scalar.divsi v634 c1_i32_324
  let v637 : BitVec 32 := Scalar.muli v636 c1_i32_324
  let v638 : BitVec 32 := Scalar.addi v619 v637
  let c1_i32_326 : BitVec 32 := 1#32
  let arg14 : BitVec 32 := Scf.iv v638 c1_i32_326 k0_t30
  let c256_i32_515 : BitVec 32 := 256#32
  let v997 : BitVec 32 := Scalar.muli arg14 c256_i32_515
  v997
def k0_off62 (i : grid0.Coords) (v1 : BitVec 32) (k0_t30 : Fin (k0_t30_loop i v1).trips) : Fin 4 → Nat :=
  let c0_516 : Index := 0#32
  let c0_517 : Index := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let v634 : BitVec 32 := Scalar.subi arg2 v619
  let c1_i32_324 : BitVec 32 := 1#32
  let v636 : BitVec 32 := Scalar.divsi v634 c1_i32_324
  let v637 : BitVec 32 := Scalar.muli v636 c1_i32_324
  let v638 : BitVec 32 := Scalar.addi v619 v637
  let c1_i32_326 : BitVec 32 := 1#32
  let arg14 : BitVec 32 := Scf.iv v638 c1_i32_326 k0_t30
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off63 (i : grid0.Coords) (v1 : BitVec 32) (k0_t30 : Fin (k0_t30_loop i v1).trips) : Fin 4 → Nat :=
  let c0_533 : Index := 0#32
  let c0_534 : Index := 0#32
  let c0_535 : Index := 0#32
  let arg2 : BitVec 32 := BitVec.ofNat 32 (i 2).val
  let c1_i32_305 : BitVec 32 := 1#32
  let v594 : BitVec 32 := Scalar.addi arg2 c1_i32_305
  let c0_i32_306 : BitVec 32 := 0#32
  let c256_i32 : BitVec 32 := 256#32
  let v2 : BitVec 32 := Scalar.muli arg2 c256_i32
  let c255_i32_296 : BitVec 32 := 255#32
  let v574 : BitVec 32 := Scalar.subi v2 c255_i32_296
  let v575 : BitVec 32 := Scalar.subi v574 v1
  let c0_i32_298 : BitVec 32 := 0#32
  let v577 : BitVec 1 := Scalar.cmpi .sgt v575 c0_i32_298
  let v578 : BitVec 32 := Scalar.extui v577
  let c0_i32_299 : BitVec 32 := 0#32
  let v579 : BitVec 1 := Scalar.cmpi .slt v575 c0_i32_299
  let v580 : BitVec 32 := Scalar.extui v579
  let v581 : BitVec 32 := Scalar.subi v578 v580
  let c256_i32_297 : BitVec 32 := 256#32
  let c0_i32_300 : BitVec 32 := 0#32
  let v582 : BitVec 1 := Scalar.cmpi .sgt c256_i32_297 c0_i32_300
  let v583 : BitVec 32 := Scalar.extui v582
  let c0_i32_301 : BitVec 32 := 0#32
  let v584 : BitVec 1 := Scalar.cmpi .slt c256_i32_297 c0_i32_301
  let v585 : BitVec 32 := Scalar.extui v584
  let v586 : BitVec 32 := Scalar.subi v583 v585
  let v587 : BitVec 1 := Scalar.cmpi .ne v581 v586
  let v588 : BitVec 32 := Scalar.remsi v575 c256_i32_297
  let c0_i32_302 : BitVec 32 := 0#32
  let v589 : BitVec 1 := Scalar.cmpi .ne v588 c0_i32_302
  let v590 : BitVec 1 := Scalar.andi v587 v589
  let v576 : BitVec 32 := Scalar.divsi v575 c256_i32_297
  let c1_i32_303 : BitVec 32 := 1#32
  let v591 : BitVec 32 := Scalar.subi v576 c1_i32_303
  let v592 : BitVec 32 := Scalar.select v590 v591 v576
  let c1_i32_304 : BitVec 32 := 1#32
  let v593 : BitVec 32 := Scalar.addi v592 c1_i32_304
  let v595 : BitVec 32 := Scalar.maxsi c0_i32_306 v593
  let v596 : BitVec 32 := Scalar.minsi v594 v595
  let c256_i32_307 : BitVec 32 := 256#32
  let v597 : BitVec 32 := Scalar.addi v2 c256_i32_307
  let c1_i32_308 : BitVec 32 := 1#32
  let v598 : BitVec 32 := Scalar.subi v597 c1_i32_308
  let v599 : BitVec 32 := Scalar.subi v598 v1
  let c0_i32_310 : BitVec 32 := 0#32
  let v601 : BitVec 1 := Scalar.cmpi .sgt v599 c0_i32_310
  let v602 : BitVec 32 := Scalar.extui v601
  let c0_i32_311 : BitVec 32 := 0#32
  let v603 : BitVec 1 := Scalar.cmpi .slt v599 c0_i32_311
  let v604 : BitVec 32 := Scalar.extui v603
  let v605 : BitVec 32 := Scalar.subi v602 v604
  let c256_i32_309 : BitVec 32 := 256#32
  let c0_i32_312 : BitVec 32 := 0#32
  let v606 : BitVec 1 := Scalar.cmpi .sgt c256_i32_309 c0_i32_312
  let v607 : BitVec 32 := Scalar.extui v606
  let c0_i32_313 : BitVec 32 := 0#32
  let v608 : BitVec 1 := Scalar.cmpi .slt c256_i32_309 c0_i32_313
  let v609 : BitVec 32 := Scalar.extui v608
  let v610 : BitVec 32 := Scalar.subi v607 v609
  let v611 : BitVec 1 := Scalar.cmpi .ne v605 v610
  let v612 : BitVec 32 := Scalar.remsi v599 c256_i32_309
  let c0_i32_314 : BitVec 32 := 0#32
  let v613 : BitVec 1 := Scalar.cmpi .ne v612 c0_i32_314
  let v614 : BitVec 1 := Scalar.andi v611 v613
  let v600 : BitVec 32 := Scalar.divsi v599 c256_i32_309
  let c1_i32_315 : BitVec 32 := 1#32
  let v615 : BitVec 32 := Scalar.subi v600 c1_i32_315
  let v616 : BitVec 32 := Scalar.select v614 v615 v600
  let c1_i32_316 : BitVec 32 := 1#32
  let v617 : BitVec 32 := Scalar.addi v616 c1_i32_316
  let v618 : BitVec 32 := Scalar.maxsi v596 v617
  let v619 : BitVec 32 := Scalar.minsi arg2 v618
  let v634 : BitVec 32 := Scalar.subi arg2 v619
  let c1_i32_324 : BitVec 32 := 1#32
  let v636 : BitVec 32 := Scalar.divsi v634 c1_i32_324
  let v637 : BitVec 32 := Scalar.muli v636 c1_i32_324
  let v638 : BitVec 32 := Scalar.addi v619 v637
  let c1_i32_326 : BitVec 32 := 1#32
  let arg14 : BitVec 32 := Scf.iv v638 c1_i32_326 k0_t30
  let c256_i32_515 : BitVec 32 := 256#32
  let v997 : BitVec 32 := Scalar.muli arg14 c256_i32_515
  let v998 : BitVec 32 := v997
  let v1026 : Index := Scalar.indexCast v998
  ![0, 0, 0, v1026.toNat]
def k0_mult35 (i : grid0.Coords) : BitVec 32 :=
  let arg2 : BitVec 32 := BitVec.ofNat 32 (i 2).val
  let c256_i32_327 : BitVec 32 := 256#32
  let v641 : BitVec 32 := Scalar.muli arg2 c256_i32_327
  v641
@[reducible] def k0_t31_loop (i : grid0.Coords) (v1 : BitVec 32) : Scf.Loop 32 :=
  let c0_i32_391 : BitVec 32 := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let v762 : BitVec 32 := Scalar.subi v738 c0_i32_391
  let c1_i32_392 : BitVec 32 := 1#32
  let v764 : BitVec 32 := Scalar.divsi v762 c1_i32_392
  let v765 : BitVec 32 := Scalar.muli v764 c1_i32_392
  let v766 : BitVec 32 := Scalar.addi c0_i32_391 v765
  let c1_i32_393 : BitVec 32 := 1#32
  ⟨c0_i32_391, v766, c1_i32_393⟩
def k0_mult36 (i : grid0.Coords) (v1 : BitVec 32) (k0_t31 : Fin (k0_t31_loop i v1).trips) : BitVec 32 :=
  let c0_i32_391 : BitVec 32 := 0#32
  let c1_i32_393 : BitVec 32 := 1#32
  let arg14 : BitVec 32 := Scf.iv c0_i32_391 c1_i32_393 k0_t31
  let c256_i32_515 : BitVec 32 := 256#32
  let v997 : BitVec 32 := Scalar.muli arg14 c256_i32_515
  v997
def k0_off64 (i : grid0.Coords) (v1 : BitVec 32) (k0_t31 : Fin (k0_t31_loop i v1).trips) : Fin 4 → Nat :=
  let c0_516 : Index := 0#32
  let c0_517 : Index := 0#32
  let c0_i32_391 : BitVec 32 := 0#32
  let c1_i32_393 : BitVec 32 := 1#32
  let arg14 : BitVec 32 := Scf.iv c0_i32_391 c1_i32_393 k0_t31
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off65 (i : grid0.Coords) (v1 : BitVec 32) (k0_t31 : Fin (k0_t31_loop i v1).trips) : Fin 4 → Nat :=
  let c0_533 : Index := 0#32
  let c0_534 : Index := 0#32
  let c0_535 : Index := 0#32
  let c0_i32_391 : BitVec 32 := 0#32
  let c1_i32_393 : BitVec 32 := 1#32
  let arg14 : BitVec 32 := Scf.iv c0_i32_391 c1_i32_393 k0_t31
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t32_loop (i : grid0.Coords) (v1 : BitVec 32) : Scf.Loop 32 :=
  let c0_i32_391 : BitVec 32 := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let v762 : BitVec 32 := Scalar.subi v738 c0_i32_391
  let c1_i32_392 : BitVec 32 := 1#32
  let v764 : BitVec 32 := Scalar.divsi v762 c1_i32_392
  let v765 : BitVec 32 := Scalar.muli v764 c1_i32_392
  let v766 : BitVec 32 := Scalar.addi c0_i32_391 v765
  let v763 : BitVec 32 := Scalar.addi c0_i32_391 v762
  let c1_i32_394 : BitVec 32 := 1#32
  ⟨v766, v763, c1_i32_394⟩
def k0_mult37 (i : grid0.Coords) (v1 : BitVec 32) (k0_t32 : Fin (k0_t32_loop i v1).trips) : BitVec 32 :=
  let c0_i32_391 : BitVec 32 := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let v762 : BitVec 32 := Scalar.subi v738 c0_i32_391
  let c1_i32_392 : BitVec 32 := 1#32
  let v764 : BitVec 32 := Scalar.divsi v762 c1_i32_392
  let v765 : BitVec 32 := Scalar.muli v764 c1_i32_392
  let v766 : BitVec 32 := Scalar.addi c0_i32_391 v765
  let c1_i32_394 : BitVec 32 := 1#32
  let arg14 : BitVec 32 := Scf.iv v766 c1_i32_394 k0_t32
  let c256_i32_515 : BitVec 32 := 256#32
  let v997 : BitVec 32 := Scalar.muli arg14 c256_i32_515
  v997
def k0_off66 (i : grid0.Coords) (v1 : BitVec 32) (k0_t32 : Fin (k0_t32_loop i v1).trips) : Fin 4 → Nat :=
  let c0_516 : Index := 0#32
  let c0_517 : Index := 0#32
  let c0_i32_391 : BitVec 32 := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let v762 : BitVec 32 := Scalar.subi v738 c0_i32_391
  let c1_i32_392 : BitVec 32 := 1#32
  let v764 : BitVec 32 := Scalar.divsi v762 c1_i32_392
  let v765 : BitVec 32 := Scalar.muli v764 c1_i32_392
  let v766 : BitVec 32 := Scalar.addi c0_i32_391 v765
  let c1_i32_394 : BitVec 32 := 1#32
  let arg14 : BitVec 32 := Scf.iv v766 c1_i32_394 k0_t32
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off67 (i : grid0.Coords) (v1 : BitVec 32) (k0_t32 : Fin (k0_t32_loop i v1).trips) : Fin 4 → Nat :=
  let c0_533 : Index := 0#32
  let c0_534 : Index := 0#32
  let c0_535 : Index := 0#32
  let c0_i32_391 : BitVec 32 := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let v762 : BitVec 32 := Scalar.subi v738 c0_i32_391
  let c1_i32_392 : BitVec 32 := 1#32
  let v764 : BitVec 32 := Scalar.divsi v762 c1_i32_392
  let v765 : BitVec 32 := Scalar.muli v764 c1_i32_392
  let v766 : BitVec 32 := Scalar.addi c0_i32_391 v765
  let c1_i32_394 : BitVec 32 := 1#32
  let arg14 : BitVec 32 := Scf.iv v766 c1_i32_394 k0_t32
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t33_loop (i : grid0.Coords) (v1 : BitVec 32) : Scf.Loop 32 :=
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let v769 : BitVec 32 := Scalar.subi v761 v738
  let c1_i32_395 : BitVec 32 := 1#32
  let v771 : BitVec 32 := Scalar.divsi v769 c1_i32_395
  let v772 : BitVec 32 := Scalar.muli v771 c1_i32_395
  let v773 : BitVec 32 := Scalar.addi v738 v772
  let c1_i32_396 : BitVec 32 := 1#32
  ⟨v738, v773, c1_i32_396⟩
def k0_mult38 (i : grid0.Coords) (v1 : BitVec 32) (k0_t33 : Fin (k0_t33_loop i v1).trips) : BitVec 32 :=
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c1_i32_396 : BitVec 32 := 1#32
  let arg14 : BitVec 32 := Scf.iv v738 c1_i32_396 k0_t33
  let c256_i32_515 : BitVec 32 := 256#32
  let v997 : BitVec 32 := Scalar.muli arg14 c256_i32_515
  v997
def k0_off68 (i : grid0.Coords) (v1 : BitVec 32) (k0_t33 : Fin (k0_t33_loop i v1).trips) : Fin 4 → Nat :=
  let c0_516 : Index := 0#32
  let c0_517 : Index := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c1_i32_396 : BitVec 32 := 1#32
  let arg14 : BitVec 32 := Scf.iv v738 c1_i32_396 k0_t33
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off69 (i : grid0.Coords) (v1 : BitVec 32) (k0_t33 : Fin (k0_t33_loop i v1).trips) : Fin 4 → Nat :=
  let c0_550 : Index := 0#32
  let c0_551 : Index := 0#32
  let c0_552 : Index := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c1_i32_396 : BitVec 32 := 1#32
  let arg14 : BitVec 32 := Scf.iv v738 c1_i32_396 k0_t33
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t34_loop (i : grid0.Coords) (v1 : BitVec 32) : Scf.Loop 32 :=
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let v769 : BitVec 32 := Scalar.subi v761 v738
  let c1_i32_395 : BitVec 32 := 1#32
  let v771 : BitVec 32 := Scalar.divsi v769 c1_i32_395
  let v772 : BitVec 32 := Scalar.muli v771 c1_i32_395
  let v773 : BitVec 32 := Scalar.addi v738 v772
  let v770 : BitVec 32 := Scalar.addi v738 v769
  let c1_i32_397 : BitVec 32 := 1#32
  ⟨v773, v770, c1_i32_397⟩
def k0_mult39 (i : grid0.Coords) (v1 : BitVec 32) (k0_t34 : Fin (k0_t34_loop i v1).trips) : BitVec 32 :=
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let v769 : BitVec 32 := Scalar.subi v761 v738
  let c1_i32_395 : BitVec 32 := 1#32
  let v771 : BitVec 32 := Scalar.divsi v769 c1_i32_395
  let v772 : BitVec 32 := Scalar.muli v771 c1_i32_395
  let v773 : BitVec 32 := Scalar.addi v738 v772
  let c1_i32_397 : BitVec 32 := 1#32
  let arg14 : BitVec 32 := Scf.iv v773 c1_i32_397 k0_t34
  let c256_i32_515 : BitVec 32 := 256#32
  let v997 : BitVec 32 := Scalar.muli arg14 c256_i32_515
  v997
def k0_off70 (i : grid0.Coords) (v1 : BitVec 32) (k0_t34 : Fin (k0_t34_loop i v1).trips) : Fin 4 → Nat :=
  let c0_516 : Index := 0#32
  let c0_517 : Index := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let v769 : BitVec 32 := Scalar.subi v761 v738
  let c1_i32_395 : BitVec 32 := 1#32
  let v771 : BitVec 32 := Scalar.divsi v769 c1_i32_395
  let v772 : BitVec 32 := Scalar.muli v771 c1_i32_395
  let v773 : BitVec 32 := Scalar.addi v738 v772
  let c1_i32_397 : BitVec 32 := 1#32
  let arg14 : BitVec 32 := Scf.iv v773 c1_i32_397 k0_t34
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off71 (i : grid0.Coords) (v1 : BitVec 32) (k0_t34 : Fin (k0_t34_loop i v1).trips) : Fin 4 → Nat :=
  let c0_550 : Index := 0#32
  let c0_551 : Index := 0#32
  let c0_552 : Index := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let v769 : BitVec 32 := Scalar.subi v761 v738
  let c1_i32_395 : BitVec 32 := 1#32
  let v771 : BitVec 32 := Scalar.divsi v769 c1_i32_395
  let v772 : BitVec 32 := Scalar.muli v771 c1_i32_395
  let v773 : BitVec 32 := Scalar.addi v738 v772
  let c1_i32_397 : BitVec 32 := 1#32
  let arg14 : BitVec 32 := Scf.iv v773 c1_i32_397 k0_t34
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t35_loop (i : grid0.Coords) (v1 : BitVec 32) : Scf.Loop 32 :=
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let v776 : BitVec 32 := Scalar.subi arg2 v761
  let c1_i32_398 : BitVec 32 := 1#32
  let v778 : BitVec 32 := Scalar.divsi v776 c1_i32_398
  let v779 : BitVec 32 := Scalar.muli v778 c1_i32_398
  let v780 : BitVec 32 := Scalar.addi v761 v779
  let c1_i32_399 : BitVec 32 := 1#32
  ⟨v761, v780, c1_i32_399⟩
def k0_mult40 (i : grid0.Coords) (v1 : BitVec 32) (k0_t35 : Fin (k0_t35_loop i v1).trips) : BitVec 32 :=
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let c1_i32_399 : BitVec 32 := 1#32
  let arg14 : BitVec 32 := Scf.iv v761 c1_i32_399 k0_t35
  let c256_i32_515 : BitVec 32 := 256#32
  let v997 : BitVec 32 := Scalar.muli arg14 c256_i32_515
  v997
def k0_off72 (i : grid0.Coords) (v1 : BitVec 32) (k0_t35 : Fin (k0_t35_loop i v1).trips) : Fin 4 → Nat :=
  let c0_516 : Index := 0#32
  let c0_517 : Index := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let c1_i32_399 : BitVec 32 := 1#32
  let arg14 : BitVec 32 := Scf.iv v761 c1_i32_399 k0_t35
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off73 (i : grid0.Coords) (v1 : BitVec 32) (k0_t35 : Fin (k0_t35_loop i v1).trips) : Fin 4 → Nat :=
  let c0_533 : Index := 0#32
  let c0_534 : Index := 0#32
  let c0_535 : Index := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let c1_i32_399 : BitVec 32 := 1#32
  let arg14 : BitVec 32 := Scf.iv v761 c1_i32_399 k0_t35
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t36_loop (i : grid0.Coords) (v1 : BitVec 32) : Scf.Loop 32 :=
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let v776 : BitVec 32 := Scalar.subi arg2 v761
  let c1_i32_398 : BitVec 32 := 1#32
  let v778 : BitVec 32 := Scalar.divsi v776 c1_i32_398
  let v779 : BitVec 32 := Scalar.muli v778 c1_i32_398
  let v780 : BitVec 32 := Scalar.addi v761 v779
  let v777 : BitVec 32 := Scalar.addi v761 v776
  let c1_i32_400 : BitVec 32 := 1#32
  ⟨v780, v777, c1_i32_400⟩
def k0_mult41 (i : grid0.Coords) (v1 : BitVec 32) (k0_t36 : Fin (k0_t36_loop i v1).trips) : BitVec 32 :=
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let v776 : BitVec 32 := Scalar.subi arg2 v761
  let c1_i32_398 : BitVec 32 := 1#32
  let v778 : BitVec 32 := Scalar.divsi v776 c1_i32_398
  let v779 : BitVec 32 := Scalar.muli v778 c1_i32_398
  let v780 : BitVec 32 := Scalar.addi v761 v779
  let c1_i32_400 : BitVec 32 := 1#32
  let arg14 : BitVec 32 := Scf.iv v780 c1_i32_400 k0_t36
  let c256_i32_515 : BitVec 32 := 256#32
  let v997 : BitVec 32 := Scalar.muli arg14 c256_i32_515
  v997
def k0_off74 (i : grid0.Coords) (v1 : BitVec 32) (k0_t36 : Fin (k0_t36_loop i v1).trips) : Fin 4 → Nat :=
  let c0_516 : Index := 0#32
  let c0_517 : Index := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let v776 : BitVec 32 := Scalar.subi arg2 v761
  let c1_i32_398 : BitVec 32 := 1#32
  let v778 : BitVec 32 := Scalar.divsi v776 c1_i32_398
  let v779 : BitVec 32 := Scalar.muli v778 c1_i32_398
  let v780 : BitVec 32 := Scalar.addi v761 v779
  let c1_i32_400 : BitVec 32 := 1#32
  let arg14 : BitVec 32 := Scf.iv v780 c1_i32_400 k0_t36
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off75 (i : grid0.Coords) (v1 : BitVec 32) (k0_t36 : Fin (k0_t36_loop i v1).trips) : Fin 4 → Nat :=
  let c0_533 : Index := 0#32
  let c0_534 : Index := 0#32
  let c0_535 : Index := 0#32
  let arg2 : BitVec 32 := BitVec.ofNat 32 (i 2).val
  let c1_i32_379 : BitVec 32 := 1#32
  let v736 : BitVec 32 := Scalar.addi arg2 c1_i32_379
  let c0_i32_380 : BitVec 32 := 0#32
  let c256_i32 : BitVec 32 := 256#32
  let v2 : BitVec 32 := Scalar.muli arg2 c256_i32
  let c255_i32_370 : BitVec 32 := 255#32
  let v716 : BitVec 32 := Scalar.subi v2 c255_i32_370
  let v717 : BitVec 32 := Scalar.subi v716 v1
  let c0_i32_372 : BitVec 32 := 0#32
  let v719 : BitVec 1 := Scalar.cmpi .sgt v717 c0_i32_372
  let v720 : BitVec 32 := Scalar.extui v719
  let c0_i32_373 : BitVec 32 := 0#32
  let v721 : BitVec 1 := Scalar.cmpi .slt v717 c0_i32_373
  let v722 : BitVec 32 := Scalar.extui v721
  let v723 : BitVec 32 := Scalar.subi v720 v722
  let c256_i32_371 : BitVec 32 := 256#32
  let c0_i32_374 : BitVec 32 := 0#32
  let v724 : BitVec 1 := Scalar.cmpi .sgt c256_i32_371 c0_i32_374
  let v725 : BitVec 32 := Scalar.extui v724
  let c0_i32_375 : BitVec 32 := 0#32
  let v726 : BitVec 1 := Scalar.cmpi .slt c256_i32_371 c0_i32_375
  let v727 : BitVec 32 := Scalar.extui v726
  let v728 : BitVec 32 := Scalar.subi v725 v727
  let v729 : BitVec 1 := Scalar.cmpi .ne v723 v728
  let v730 : BitVec 32 := Scalar.remsi v717 c256_i32_371
  let c0_i32_376 : BitVec 32 := 0#32
  let v731 : BitVec 1 := Scalar.cmpi .ne v730 c0_i32_376
  let v732 : BitVec 1 := Scalar.andi v729 v731
  let v718 : BitVec 32 := Scalar.divsi v717 c256_i32_371
  let c1_i32_377 : BitVec 32 := 1#32
  let v733 : BitVec 32 := Scalar.subi v718 c1_i32_377
  let v734 : BitVec 32 := Scalar.select v732 v733 v718
  let c1_i32_378 : BitVec 32 := 1#32
  let v735 : BitVec 32 := Scalar.addi v734 c1_i32_378
  let v737 : BitVec 32 := Scalar.maxsi c0_i32_380 v735
  let v738 : BitVec 32 := Scalar.minsi v736 v737
  let c256_i32_381 : BitVec 32 := 256#32
  let v739 : BitVec 32 := Scalar.addi v2 c256_i32_381
  let c1_i32_382 : BitVec 32 := 1#32
  let v740 : BitVec 32 := Scalar.subi v739 c1_i32_382
  let v741 : BitVec 32 := Scalar.subi v740 v1
  let c0_i32_384 : BitVec 32 := 0#32
  let v743 : BitVec 1 := Scalar.cmpi .sgt v741 c0_i32_384
  let v744 : BitVec 32 := Scalar.extui v743
  let c0_i32_385 : BitVec 32 := 0#32
  let v745 : BitVec 1 := Scalar.cmpi .slt v741 c0_i32_385
  let v746 : BitVec 32 := Scalar.extui v745
  let v747 : BitVec 32 := Scalar.subi v744 v746
  let c256_i32_383 : BitVec 32 := 256#32
  let c0_i32_386 : BitVec 32 := 0#32
  let v748 : BitVec 1 := Scalar.cmpi .sgt c256_i32_383 c0_i32_386
  let v749 : BitVec 32 := Scalar.extui v748
  let c0_i32_387 : BitVec 32 := 0#32
  let v750 : BitVec 1 := Scalar.cmpi .slt c256_i32_383 c0_i32_387
  let v751 : BitVec 32 := Scalar.extui v750
  let v752 : BitVec 32 := Scalar.subi v749 v751
  let v753 : BitVec 1 := Scalar.cmpi .ne v747 v752
  let v754 : BitVec 32 := Scalar.remsi v741 c256_i32_383
  let c0_i32_388 : BitVec 32 := 0#32
  let v755 : BitVec 1 := Scalar.cmpi .ne v754 c0_i32_388
  let v756 : BitVec 1 := Scalar.andi v753 v755
  let v742 : BitVec 32 := Scalar.divsi v741 c256_i32_383
  let c1_i32_389 : BitVec 32 := 1#32
  let v757 : BitVec 32 := Scalar.subi v742 c1_i32_389
  let v758 : BitVec 32 := Scalar.select v756 v757 v742
  let c1_i32_390 : BitVec 32 := 1#32
  let v759 : BitVec 32 := Scalar.addi v758 c1_i32_390
  let v760 : BitVec 32 := Scalar.maxsi v738 v759
  let v761 : BitVec 32 := Scalar.minsi arg2 v760
  let v776 : BitVec 32 := Scalar.subi arg2 v761
  let c1_i32_398 : BitVec 32 := 1#32
  let v778 : BitVec 32 := Scalar.divsi v776 c1_i32_398
  let v779 : BitVec 32 := Scalar.muli v778 c1_i32_398
  let v780 : BitVec 32 := Scalar.addi v761 v779
  let c1_i32_400 : BitVec 32 := 1#32
  let arg14 : BitVec 32 := Scf.iv v780 c1_i32_400 k0_t36
  let c256_i32_515 : BitVec 32 := 256#32
  let v997 : BitVec 32 := Scalar.muli arg14 c256_i32_515
  let v998 : BitVec 32 := v997
  let v1026 : Index := Scalar.indexCast v998
  ![0, 0, 0, v1026.toNat]
def k0_mult42 (i : grid0.Coords) : BitVec 32 :=
  let arg2 : BitVec 32 := BitVec.ofNat 32 (i 2).val
  let c256_i32_401 : BitVec 32 := 256#32
  let v783 : BitVec 32 := Scalar.muli arg2 c256_i32_401
  v783
@[reducible] def k0_t37_loop (i : grid0.Coords) (v1 : BitVec 32) : Scf.Loop 32 :=
  let c0_i32_465 : BitVec 32 := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let v904 : BitVec 32 := Scalar.subi v880 c0_i32_465
  let c1_i32_466 : BitVec 32 := 1#32
  let v906 : BitVec 32 := Scalar.divsi v904 c1_i32_466
  let v907 : BitVec 32 := Scalar.muli v906 c1_i32_466
  let v908 : BitVec 32 := Scalar.addi c0_i32_465 v907
  let c1_i32_467 : BitVec 32 := 1#32
  ⟨c0_i32_465, v908, c1_i32_467⟩
def k0_mult43 (i : grid0.Coords) (v1 : BitVec 32) (k0_t37 : Fin (k0_t37_loop i v1).trips) : BitVec 32 :=
  let c0_i32_465 : BitVec 32 := 0#32
  let c1_i32_467 : BitVec 32 := 1#32
  let arg14 : BitVec 32 := Scf.iv c0_i32_465 c1_i32_467 k0_t37
  let c256_i32_515 : BitVec 32 := 256#32
  let v997 : BitVec 32 := Scalar.muli arg14 c256_i32_515
  v997
def k0_off76 (i : grid0.Coords) (v1 : BitVec 32) (k0_t37 : Fin (k0_t37_loop i v1).trips) : Fin 4 → Nat :=
  let c0_516 : Index := 0#32
  let c0_517 : Index := 0#32
  let c0_i32_465 : BitVec 32 := 0#32
  let c1_i32_467 : BitVec 32 := 1#32
  let arg14 : BitVec 32 := Scf.iv c0_i32_465 c1_i32_467 k0_t37
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off77 (i : grid0.Coords) (v1 : BitVec 32) (k0_t37 : Fin (k0_t37_loop i v1).trips) : Fin 4 → Nat :=
  let c0_533 : Index := 0#32
  let c0_534 : Index := 0#32
  let c0_535 : Index := 0#32
  let c0_i32_465 : BitVec 32 := 0#32
  let c1_i32_467 : BitVec 32 := 1#32
  let arg14 : BitVec 32 := Scf.iv c0_i32_465 c1_i32_467 k0_t37
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t38_loop (i : grid0.Coords) (v1 : BitVec 32) : Scf.Loop 32 :=
  let c0_i32_465 : BitVec 32 := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let v904 : BitVec 32 := Scalar.subi v880 c0_i32_465
  let c1_i32_466 : BitVec 32 := 1#32
  let v906 : BitVec 32 := Scalar.divsi v904 c1_i32_466
  let v907 : BitVec 32 := Scalar.muli v906 c1_i32_466
  let v908 : BitVec 32 := Scalar.addi c0_i32_465 v907
  let v905 : BitVec 32 := Scalar.addi c0_i32_465 v904
  let c1_i32_468 : BitVec 32 := 1#32
  ⟨v908, v905, c1_i32_468⟩
def k0_mult44 (i : grid0.Coords) (v1 : BitVec 32) (k0_t38 : Fin (k0_t38_loop i v1).trips) : BitVec 32 :=
  let c0_i32_465 : BitVec 32 := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let v904 : BitVec 32 := Scalar.subi v880 c0_i32_465
  let c1_i32_466 : BitVec 32 := 1#32
  let v906 : BitVec 32 := Scalar.divsi v904 c1_i32_466
  let v907 : BitVec 32 := Scalar.muli v906 c1_i32_466
  let v908 : BitVec 32 := Scalar.addi c0_i32_465 v907
  let c1_i32_468 : BitVec 32 := 1#32
  let arg14 : BitVec 32 := Scf.iv v908 c1_i32_468 k0_t38
  let c256_i32_515 : BitVec 32 := 256#32
  let v997 : BitVec 32 := Scalar.muli arg14 c256_i32_515
  v997
def k0_off78 (i : grid0.Coords) (v1 : BitVec 32) (k0_t38 : Fin (k0_t38_loop i v1).trips) : Fin 4 → Nat :=
  let c0_516 : Index := 0#32
  let c0_517 : Index := 0#32
  let c0_i32_465 : BitVec 32 := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let v904 : BitVec 32 := Scalar.subi v880 c0_i32_465
  let c1_i32_466 : BitVec 32 := 1#32
  let v906 : BitVec 32 := Scalar.divsi v904 c1_i32_466
  let v907 : BitVec 32 := Scalar.muli v906 c1_i32_466
  let v908 : BitVec 32 := Scalar.addi c0_i32_465 v907
  let c1_i32_468 : BitVec 32 := 1#32
  let arg14 : BitVec 32 := Scf.iv v908 c1_i32_468 k0_t38
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off79 (i : grid0.Coords) (v1 : BitVec 32) (k0_t38 : Fin (k0_t38_loop i v1).trips) : Fin 4 → Nat :=
  let c0_533 : Index := 0#32
  let c0_534 : Index := 0#32
  let c0_535 : Index := 0#32
  let c0_i32_465 : BitVec 32 := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let v904 : BitVec 32 := Scalar.subi v880 c0_i32_465
  let c1_i32_466 : BitVec 32 := 1#32
  let v906 : BitVec 32 := Scalar.divsi v904 c1_i32_466
  let v907 : BitVec 32 := Scalar.muli v906 c1_i32_466
  let v908 : BitVec 32 := Scalar.addi c0_i32_465 v907
  let c1_i32_468 : BitVec 32 := 1#32
  let arg14 : BitVec 32 := Scf.iv v908 c1_i32_468 k0_t38
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t39_loop (i : grid0.Coords) (v1 : BitVec 32) : Scf.Loop 32 :=
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let v911 : BitVec 32 := Scalar.subi v903 v880
  let c1_i32_469 : BitVec 32 := 1#32
  let v913 : BitVec 32 := Scalar.divsi v911 c1_i32_469
  let v914 : BitVec 32 := Scalar.muli v913 c1_i32_469
  let v915 : BitVec 32 := Scalar.addi v880 v914
  let c1_i32_470 : BitVec 32 := 1#32
  ⟨v880, v915, c1_i32_470⟩
def k0_mult45 (i : grid0.Coords) (v1 : BitVec 32) (k0_t39 : Fin (k0_t39_loop i v1).trips) : BitVec 32 :=
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c1_i32_470 : BitVec 32 := 1#32
  let arg14 : BitVec 32 := Scf.iv v880 c1_i32_470 k0_t39
  let c256_i32_515 : BitVec 32 := 256#32
  let v997 : BitVec 32 := Scalar.muli arg14 c256_i32_515
  v997
def k0_off80 (i : grid0.Coords) (v1 : BitVec 32) (k0_t39 : Fin (k0_t39_loop i v1).trips) : Fin 4 → Nat :=
  let c0_516 : Index := 0#32
  let c0_517 : Index := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c1_i32_470 : BitVec 32 := 1#32
  let arg14 : BitVec 32 := Scf.iv v880 c1_i32_470 k0_t39
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off81 (i : grid0.Coords) (v1 : BitVec 32) (k0_t39 : Fin (k0_t39_loop i v1).trips) : Fin 4 → Nat :=
  let c0_550 : Index := 0#32
  let c0_551 : Index := 0#32
  let c0_552 : Index := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c1_i32_470 : BitVec 32 := 1#32
  let arg14 : BitVec 32 := Scf.iv v880 c1_i32_470 k0_t39
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t40_loop (i : grid0.Coords) (v1 : BitVec 32) : Scf.Loop 32 :=
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let v911 : BitVec 32 := Scalar.subi v903 v880
  let c1_i32_469 : BitVec 32 := 1#32
  let v913 : BitVec 32 := Scalar.divsi v911 c1_i32_469
  let v914 : BitVec 32 := Scalar.muli v913 c1_i32_469
  let v915 : BitVec 32 := Scalar.addi v880 v914
  let v912 : BitVec 32 := Scalar.addi v880 v911
  let c1_i32_471 : BitVec 32 := 1#32
  ⟨v915, v912, c1_i32_471⟩
def k0_mult46 (i : grid0.Coords) (v1 : BitVec 32) (k0_t40 : Fin (k0_t40_loop i v1).trips) : BitVec 32 :=
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let v911 : BitVec 32 := Scalar.subi v903 v880
  let c1_i32_469 : BitVec 32 := 1#32
  let v913 : BitVec 32 := Scalar.divsi v911 c1_i32_469
  let v914 : BitVec 32 := Scalar.muli v913 c1_i32_469
  let v915 : BitVec 32 := Scalar.addi v880 v914
  let c1_i32_471 : BitVec 32 := 1#32
  let arg14 : BitVec 32 := Scf.iv v915 c1_i32_471 k0_t40
  let c256_i32_515 : BitVec 32 := 256#32
  let v997 : BitVec 32 := Scalar.muli arg14 c256_i32_515
  v997
def k0_off82 (i : grid0.Coords) (v1 : BitVec 32) (k0_t40 : Fin (k0_t40_loop i v1).trips) : Fin 4 → Nat :=
  let c0_516 : Index := 0#32
  let c0_517 : Index := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let v911 : BitVec 32 := Scalar.subi v903 v880
  let c1_i32_469 : BitVec 32 := 1#32
  let v913 : BitVec 32 := Scalar.divsi v911 c1_i32_469
  let v914 : BitVec 32 := Scalar.muli v913 c1_i32_469
  let v915 : BitVec 32 := Scalar.addi v880 v914
  let c1_i32_471 : BitVec 32 := 1#32
  let arg14 : BitVec 32 := Scf.iv v915 c1_i32_471 k0_t40
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off83 (i : grid0.Coords) (v1 : BitVec 32) (k0_t40 : Fin (k0_t40_loop i v1).trips) : Fin 4 → Nat :=
  let c0_550 : Index := 0#32
  let c0_551 : Index := 0#32
  let c0_552 : Index := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let v911 : BitVec 32 := Scalar.subi v903 v880
  let c1_i32_469 : BitVec 32 := 1#32
  let v913 : BitVec 32 := Scalar.divsi v911 c1_i32_469
  let v914 : BitVec 32 := Scalar.muli v913 c1_i32_469
  let v915 : BitVec 32 := Scalar.addi v880 v914
  let c1_i32_471 : BitVec 32 := 1#32
  let arg14 : BitVec 32 := Scf.iv v915 c1_i32_471 k0_t40
  let c256_i32_515 : BitVec 32 := 256#32
  let v997 : BitVec 32 := Scalar.muli arg14 c256_i32_515
  let v998 : BitVec 32 := v997
  let v1054 : Index := Scalar.indexCast v998
  ![0, 0, 0, v1054.toNat]
@[reducible] def k0_t41_loop (i : grid0.Coords) (v1 : BitVec 32) : Scf.Loop 32 :=
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let v918 : BitVec 32 := Scalar.subi arg2 v903
  let c1_i32_472 : BitVec 32 := 1#32
  let v920 : BitVec 32 := Scalar.divsi v918 c1_i32_472
  let v921 : BitVec 32 := Scalar.muli v920 c1_i32_472
  let v922 : BitVec 32 := Scalar.addi v903 v921
  let c1_i32_473 : BitVec 32 := 1#32
  ⟨v903, v922, c1_i32_473⟩
def k0_mult47 (i : grid0.Coords) (v1 : BitVec 32) (k0_t41 : Fin (k0_t41_loop i v1).trips) : BitVec 32 :=
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let c1_i32_473 : BitVec 32 := 1#32
  let arg14 : BitVec 32 := Scf.iv v903 c1_i32_473 k0_t41
  let c256_i32_515 : BitVec 32 := 256#32
  let v997 : BitVec 32 := Scalar.muli arg14 c256_i32_515
  v997
def k0_off84 (i : grid0.Coords) (v1 : BitVec 32) (k0_t41 : Fin (k0_t41_loop i v1).trips) : Fin 4 → Nat :=
  let c0_516 : Index := 0#32
  let c0_517 : Index := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let c1_i32_473 : BitVec 32 := 1#32
  let arg14 : BitVec 32 := Scf.iv v903 c1_i32_473 k0_t41
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off85 (i : grid0.Coords) (v1 : BitVec 32) (k0_t41 : Fin (k0_t41_loop i v1).trips) : Fin 4 → Nat :=
  let c0_533 : Index := 0#32
  let c0_534 : Index := 0#32
  let c0_535 : Index := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let c1_i32_473 : BitVec 32 := 1#32
  let arg14 : BitVec 32 := Scf.iv v903 c1_i32_473 k0_t41
  let c256_i32_515 : BitVec 32 := 256#32
  let v997 : BitVec 32 := Scalar.muli arg14 c256_i32_515
  let v998 : BitVec 32 := v997
  let v1026 : Index := Scalar.indexCast v998
  ![0, 0, 0, v1026.toNat]
@[reducible] def k0_t42_loop (i : grid0.Coords) (v1 : BitVec 32) : Scf.Loop 32 :=
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let v918 : BitVec 32 := Scalar.subi arg2 v903
  let c1_i32_472 : BitVec 32 := 1#32
  let v920 : BitVec 32 := Scalar.divsi v918 c1_i32_472
  let v921 : BitVec 32 := Scalar.muli v920 c1_i32_472
  let v922 : BitVec 32 := Scalar.addi v903 v921
  let v919 : BitVec 32 := Scalar.addi v903 v918
  let c1_i32_474 : BitVec 32 := 1#32
  ⟨v922, v919, c1_i32_474⟩
def k0_mult48 (i : grid0.Coords) (v1 : BitVec 32) (k0_t42 : Fin (k0_t42_loop i v1).trips) : BitVec 32 :=
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let v918 : BitVec 32 := Scalar.subi arg2 v903
  let c1_i32_472 : BitVec 32 := 1#32
  let v920 : BitVec 32 := Scalar.divsi v918 c1_i32_472
  let v921 : BitVec 32 := Scalar.muli v920 c1_i32_472
  let v922 : BitVec 32 := Scalar.addi v903 v921
  let c1_i32_474 : BitVec 32 := 1#32
  let arg14 : BitVec 32 := Scf.iv v922 c1_i32_474 k0_t42
  let c256_i32_515 : BitVec 32 := 256#32
  let v997 : BitVec 32 := Scalar.muli arg14 c256_i32_515
  v997
def k0_off86 (i : grid0.Coords) (v1 : BitVec 32) (k0_t42 : Fin (k0_t42_loop i v1).trips) : Fin 4 → Nat :=
  let c0_516 : Index := 0#32
  let c0_517 : Index := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let v918 : BitVec 32 := Scalar.subi arg2 v903
  let c1_i32_472 : BitVec 32 := 1#32
  let v920 : BitVec 32 := Scalar.divsi v918 c1_i32_472
  let v921 : BitVec 32 := Scalar.muli v920 c1_i32_472
  let v922 : BitVec 32 := Scalar.addi v903 v921
  let c1_i32_474 : BitVec 32 := 1#32
  let arg14 : BitVec 32 := Scf.iv v922 c1_i32_474 k0_t42
  let c256_i32_515 : BitVec 32 := 256#32
  let v997 : BitVec 32 := Scalar.muli arg14 c256_i32_515
  let v998 : BitVec 32 := v997
  let v999 : Index := Scalar.indexCast v998
  let c0_518 : Index := 0#32
  ![0, 0, v999.toNat, 0]
def k0_off87 (i : grid0.Coords) (v1 : BitVec 32) (k0_t42 : Fin (k0_t42_loop i v1).trips) : Fin 4 → Nat :=
  let c0_533 : Index := 0#32
  let c0_534 : Index := 0#32
  let c0_535 : Index := 0#32
  let arg2 : BitVec 32 := BitVec.ofNat 32 (i 2).val
  let c1_i32_453 : BitVec 32 := 1#32
  let v878 : BitVec 32 := Scalar.addi arg2 c1_i32_453
  let c0_i32_454 : BitVec 32 := 0#32
  let c256_i32 : BitVec 32 := 256#32
  let v2 : BitVec 32 := Scalar.muli arg2 c256_i32
  let c255_i32_444 : BitVec 32 := 255#32
  let v858 : BitVec 32 := Scalar.subi v2 c255_i32_444
  let v859 : BitVec 32 := Scalar.subi v858 v1
  let c0_i32_446 : BitVec 32 := 0#32
  let v861 : BitVec 1 := Scalar.cmpi .sgt v859 c0_i32_446
  let v862 : BitVec 32 := Scalar.extui v861
  let c0_i32_447 : BitVec 32 := 0#32
  let v863 : BitVec 1 := Scalar.cmpi .slt v859 c0_i32_447
  let v864 : BitVec 32 := Scalar.extui v863
  let v865 : BitVec 32 := Scalar.subi v862 v864
  let c256_i32_445 : BitVec 32 := 256#32
  let c0_i32_448 : BitVec 32 := 0#32
  let v866 : BitVec 1 := Scalar.cmpi .sgt c256_i32_445 c0_i32_448
  let v867 : BitVec 32 := Scalar.extui v866
  let c0_i32_449 : BitVec 32 := 0#32
  let v868 : BitVec 1 := Scalar.cmpi .slt c256_i32_445 c0_i32_449
  let v869 : BitVec 32 := Scalar.extui v868
  let v870 : BitVec 32 := Scalar.subi v867 v869
  let v871 : BitVec 1 := Scalar.cmpi .ne v865 v870
  let v872 : BitVec 32 := Scalar.remsi v859 c256_i32_445
  let c0_i32_450 : BitVec 32 := 0#32
  let v873 : BitVec 1 := Scalar.cmpi .ne v872 c0_i32_450
  let v874 : BitVec 1 := Scalar.andi v871 v873
  let v860 : BitVec 32 := Scalar.divsi v859 c256_i32_445
  let c1_i32_451 : BitVec 32 := 1#32
  let v875 : BitVec 32 := Scalar.subi v860 c1_i32_451
  let v876 : BitVec 32 := Scalar.select v874 v875 v860
  let c1_i32_452 : BitVec 32 := 1#32
  let v877 : BitVec 32 := Scalar.addi v876 c1_i32_452
  let v879 : BitVec 32 := Scalar.maxsi c0_i32_454 v877
  let v880 : BitVec 32 := Scalar.minsi v878 v879
  let c256_i32_455 : BitVec 32 := 256#32
  let v881 : BitVec 32 := Scalar.addi v2 c256_i32_455
  let c1_i32_456 : BitVec 32 := 1#32
  let v882 : BitVec 32 := Scalar.subi v881 c1_i32_456
  let v883 : BitVec 32 := Scalar.subi v882 v1
  let c0_i32_458 : BitVec 32 := 0#32
  let v885 : BitVec 1 := Scalar.cmpi .sgt v883 c0_i32_458
  let v886 : BitVec 32 := Scalar.extui v885
  let c0_i32_459 : BitVec 32 := 0#32
  let v887 : BitVec 1 := Scalar.cmpi .slt v883 c0_i32_459
  let v888 : BitVec 32 := Scalar.extui v887
  let v889 : BitVec 32 := Scalar.subi v886 v888
  let c256_i32_457 : BitVec 32 := 256#32
  let c0_i32_460 : BitVec 32 := 0#32
  let v890 : BitVec 1 := Scalar.cmpi .sgt c256_i32_457 c0_i32_460
  let v891 : BitVec 32 := Scalar.extui v890
  let c0_i32_461 : BitVec 32 := 0#32
  let v892 : BitVec 1 := Scalar.cmpi .slt c256_i32_457 c0_i32_461
  let v893 : BitVec 32 := Scalar.extui v892
  let v894 : BitVec 32 := Scalar.subi v891 v893
  let v895 : BitVec 1 := Scalar.cmpi .ne v889 v894
  let v896 : BitVec 32 := Scalar.remsi v883 c256_i32_457
  let c0_i32_462 : BitVec 32 := 0#32
  let v897 : BitVec 1 := Scalar.cmpi .ne v896 c0_i32_462
  let v898 : BitVec 1 := Scalar.andi v895 v897
  let v884 : BitVec 32 := Scalar.divsi v883 c256_i32_457
  let c1_i32_463 : BitVec 32 := 1#32
  let v899 : BitVec 32 := Scalar.subi v884 c1_i32_463
  let v900 : BitVec 32 := Scalar.select v898 v899 v884
  let c1_i32_464 : BitVec 32 := 1#32
  let v901 : BitVec 32 := Scalar.addi v900 c1_i32_464
  let v902 : BitVec 32 := Scalar.maxsi v880 v901
  let v903 : BitVec 32 := Scalar.minsi arg2 v902
  let v918 : BitVec 32 := Scalar.subi arg2 v903
  let c1_i32_472 : BitVec 32 := 1#32
  let v920 : BitVec 32 := Scalar.divsi v918 c1_i32_472
  let v921 : BitVec 32 := Scalar.muli v920 c1_i32_472
  let v922 : BitVec 32 := Scalar.addi v903 v921
  let c1_i32_474 : BitVec 32 := 1#32
  let arg14 : BitVec 32 := Scf.iv v922 c1_i32_474 k0_t42
  let c256_i32_515 : BitVec 32 := 256#32
  let v997 : BitVec 32 := Scalar.muli arg14 c256_i32_515
  let v998 : BitVec 32 := v997
  let v1026 : Index := Scalar.indexCast v998
  ![0, 0, 0, v1026.toNat]

def k0_chk1_0 (i : grid0.Coords) (v1 : BitVec 32) : Prop :=
  ((k0_t1_loop i v1).OK) ∧
  (∀ k0_t1 : Fin (k0_t1_loop i v1).trips, 256 ∣ (k0_mult1 i v1 k0_t1).toNat) ∧
  (∀ k0_t1 : Fin (k0_t1_loop i v1).trips, ∀ a, (k0_off2 i v1 k0_t1) a + S1x1x256x128.size a ≤ S1x1x8192x128.size a) ∧
  (∀ k0_t1 : Fin (k0_t1_loop i v1).trips, ∀ a, (k0_off3 i v1 k0_t1) a + S1x1x128x256.size a ≤ S1x1x128x8192.size a) ∧
  ((k0_t2_loop i v1).OK) ∧
  (∀ k0_t2 : Fin (k0_t2_loop i v1).trips, 256 ∣ (k0_mult2 i v1 k0_t2).toNat) ∧
  (∀ k0_t2 : Fin (k0_t2_loop i v1).trips, ∀ a, (k0_off4 i v1 k0_t2) a + S1x1x256x128.size a ≤ S1x1x8192x128.size a) ∧
  (∀ k0_t2 : Fin (k0_t2_loop i v1).trips, ∀ a, (k0_off5 i v1 k0_t2) a + S1x1x128x256.size a ≤ S1x1x128x8192.size a) ∧
  ((k0_t3_loop i v1).OK) ∧
  (∀ k0_t3 : Fin (k0_t3_loop i v1).trips, 256 ∣ (k0_mult3 i v1 k0_t3).toNat) ∧
  (∀ k0_t3 : Fin (k0_t3_loop i v1).trips, ∀ a, (k0_off6 i v1 k0_t3) a + S1x1x256x128.size a ≤ S1x1x8192x128.size a) ∧
  (∀ k0_t3 : Fin (k0_t3_loop i v1).trips, ∀ a, (k0_off7 i v1 k0_t3) a + S1x1x128x256.size a ≤ S1x1x128x8192.size a) ∧
  ((k0_t4_loop i v1).OK) ∧
  (∀ k0_t4 : Fin (k0_t4_loop i v1).trips, 256 ∣ (k0_mult4 i v1 k0_t4).toNat) ∧
  (∀ k0_t4 : Fin (k0_t4_loop i v1).trips, ∀ a, (k0_off8 i v1 k0_t4) a + S1x1x256x128.size a ≤ S1x1x8192x128.size a) ∧
  (∀ k0_t4 : Fin (k0_t4_loop i v1).trips, ∀ a, (k0_off9 i v1 k0_t4) a + S1x1x128x256.size a ≤ S1x1x128x8192.size a) ∧
  ((k0_t5_loop i v1).OK) ∧
  (∀ k0_t5 : Fin (k0_t5_loop i v1).trips, 256 ∣ (k0_mult5 i v1 k0_t5).toNat) ∧
  (∀ k0_t5 : Fin (k0_t5_loop i v1).trips, ∀ a, (k0_off10 i v1 k0_t5) a + S1x1x256x128.size a ≤ S1x1x8192x128.size a) ∧
  (∀ k0_t5 : Fin (k0_t5_loop i v1).trips, ∀ a, (k0_off11 i v1 k0_t5) a + S1x1x128x256.size a ≤ S1x1x128x8192.size a) ∧
  ((k0_t6_loop i v1).OK) ∧
  (∀ k0_t6 : Fin (k0_t6_loop i v1).trips, 256 ∣ (k0_mult6 i v1 k0_t6).toNat) ∧
  (∀ k0_t6 : Fin (k0_t6_loop i v1).trips, ∀ a, (k0_off12 i v1 k0_t6) a + S1x1x256x128.size a ≤ S1x1x8192x128.size a) ∧
  (∀ k0_t6 : Fin (k0_t6_loop i v1).trips, ∀ a, (k0_off13 i v1 k0_t6) a + S1x1x128x256.size a ≤ S1x1x128x8192.size a) ∧
  ((k0_t7_loop i v1).OK) ∧
  (∀ k0_t7 : Fin (k0_t7_loop i v1).trips, 256 ∣ (k0_mult8 i v1 k0_t7).toNat) ∧
  (∀ k0_t7 : Fin (k0_t7_loop i v1).trips, ∀ a, (k0_off16 i v1 k0_t7) a + S1x1x256x128.size a ≤ S1x1x8192x128.size a) ∧
  (∀ k0_t7 : Fin (k0_t7_loop i v1).trips, ∀ a, (k0_off17 i v1 k0_t7) a + S1x1x128x256.size a ≤ S1x1x128x8192.size a) ∧
  ((k0_t8_loop i v1).OK) ∧
  (∀ k0_t8 : Fin (k0_t8_loop i v1).trips, 256 ∣ (k0_mult9 i v1 k0_t8).toNat) ∧
  (∀ k0_t8 : Fin (k0_t8_loop i v1).trips, ∀ a, (k0_off18 i v1 k0_t8) a + S1x1x256x128.size a ≤ S1x1x8192x128.size a) ∧
  (∀ k0_t8 : Fin (k0_t8_loop i v1).trips, ∀ a, (k0_off19 i v1 k0_t8) a + S1x1x128x256.size a ≤ S1x1x128x8192.size a)
def k0_chk1_1 (i : grid0.Coords) (v1 : BitVec 32) : Prop :=
  ((k0_t9_loop i v1).OK) ∧
  (∀ k0_t9 : Fin (k0_t9_loop i v1).trips, 256 ∣ (k0_mult10 i v1 k0_t9).toNat) ∧
  (∀ k0_t9 : Fin (k0_t9_loop i v1).trips, ∀ a, (k0_off20 i v1 k0_t9) a + S1x1x256x128.size a ≤ S1x1x8192x128.size a) ∧
  (∀ k0_t9 : Fin (k0_t9_loop i v1).trips, ∀ a, (k0_off21 i v1 k0_t9) a + S1x1x128x256.size a ≤ S1x1x128x8192.size a) ∧
  ((k0_t10_loop i v1).OK) ∧
  (∀ k0_t10 : Fin (k0_t10_loop i v1).trips, 256 ∣ (k0_mult11 i v1 k0_t10).toNat) ∧
  (∀ k0_t10 : Fin (k0_t10_loop i v1).trips, ∀ a, (k0_off22 i v1 k0_t10) a + S1x1x256x128.size a ≤ S1x1x8192x128.size a) ∧
  (∀ k0_t10 : Fin (k0_t10_loop i v1).trips, ∀ a, (k0_off23 i v1 k0_t10) a + S1x1x128x256.size a ≤ S1x1x128x8192.size a) ∧
  ((k0_t11_loop i v1).OK) ∧
  (∀ k0_t11 : Fin (k0_t11_loop i v1).trips, 256 ∣ (k0_mult12 i v1 k0_t11).toNat) ∧
  (∀ k0_t11 : Fin (k0_t11_loop i v1).trips, ∀ a, (k0_off24 i v1 k0_t11) a + S1x1x256x128.size a ≤ S1x1x8192x128.size a) ∧
  (∀ k0_t11 : Fin (k0_t11_loop i v1).trips, ∀ a, (k0_off25 i v1 k0_t11) a + S1x1x128x256.size a ≤ S1x1x128x8192.size a) ∧
  ((k0_t12_loop i v1).OK) ∧
  (∀ k0_t12 : Fin (k0_t12_loop i v1).trips, 256 ∣ (k0_mult13 i v1 k0_t12).toNat) ∧
  (∀ k0_t12 : Fin (k0_t12_loop i v1).trips, ∀ a, (k0_off26 i v1 k0_t12) a + S1x1x256x128.size a ≤ S1x1x8192x128.size a) ∧
  (∀ k0_t12 : Fin (k0_t12_loop i v1).trips, ∀ a, (k0_off27 i v1 k0_t12) a + S1x1x128x256.size a ≤ S1x1x128x8192.size a) ∧
  ((k0_t13_loop i v1).OK) ∧
  (∀ k0_t13 : Fin (k0_t13_loop i v1).trips, 256 ∣ (k0_mult15 i v1 k0_t13).toNat) ∧
  (∀ k0_t13 : Fin (k0_t13_loop i v1).trips, ∀ a, (k0_off28 i v1 k0_t13) a + S1x1x256x128.size a ≤ S1x1x8192x128.size a) ∧
  (∀ k0_t13 : Fin (k0_t13_loop i v1).trips, ∀ a, (k0_off29 i v1 k0_t13) a + S1x1x128x256.size a ≤ S1x1x128x8192.size a) ∧
  ((k0_t14_loop i v1).OK) ∧
  (∀ k0_t14 : Fin (k0_t14_loop i v1).trips, 256 ∣ (k0_mult16 i v1 k0_t14).toNat) ∧
  (∀ k0_t14 : Fin (k0_t14_loop i v1).trips, ∀ a, (k0_off30 i v1 k0_t14) a + S1x1x256x128.size a ≤ S1x1x8192x128.size a) ∧
  (∀ k0_t14 : Fin (k0_t14_loop i v1).trips, ∀ a, (k0_off31 i v1 k0_t14) a + S1x1x128x256.size a ≤ S1x1x128x8192.size a) ∧
  ((k0_t15_loop i v1).OK) ∧
  (∀ k0_t15 : Fin (k0_t15_loop i v1).trips, 256 ∣ (k0_mult17 i v1 k0_t15).toNat) ∧
  (∀ k0_t15 : Fin (k0_t15_loop i v1).trips, ∀ a, (k0_off32 i v1 k0_t15) a + S1x1x256x128.size a ≤ S1x1x8192x128.size a) ∧
  (∀ k0_t15 : Fin (k0_t15_loop i v1).trips, ∀ a, (k0_off33 i v1 k0_t15) a + S1x1x128x256.size a ≤ S1x1x128x8192.size a) ∧
  ((k0_t16_loop i v1).OK) ∧
  (∀ k0_t16 : Fin (k0_t16_loop i v1).trips, 256 ∣ (k0_mult18 i v1 k0_t16).toNat) ∧
  (∀ k0_t16 : Fin (k0_t16_loop i v1).trips, ∀ a, (k0_off34 i v1 k0_t16) a + S1x1x256x128.size a ≤ S1x1x8192x128.size a) ∧
  (∀ k0_t16 : Fin (k0_t16_loop i v1).trips, ∀ a, (k0_off35 i v1 k0_t16) a + S1x1x128x256.size a ≤ S1x1x128x8192.size a)
def k0_chk1_2 (i : grid0.Coords) (v1 : BitVec 32) : Prop :=
  ((k0_t17_loop i v1).OK) ∧
  (∀ k0_t17 : Fin (k0_t17_loop i v1).trips, 256 ∣ (k0_mult19 i v1 k0_t17).toNat) ∧
  (∀ k0_t17 : Fin (k0_t17_loop i v1).trips, ∀ a, (k0_off36 i v1 k0_t17) a + S1x1x256x128.size a ≤ S1x1x8192x128.size a) ∧
  (∀ k0_t17 : Fin (k0_t17_loop i v1).trips, ∀ a, (k0_off37 i v1 k0_t17) a + S1x1x128x256.size a ≤ S1x1x128x8192.size a) ∧
  ((k0_t18_loop i v1).OK) ∧
  (∀ k0_t18 : Fin (k0_t18_loop i v1).trips, 256 ∣ (k0_mult20 i v1 k0_t18).toNat) ∧
  (∀ k0_t18 : Fin (k0_t18_loop i v1).trips, ∀ a, (k0_off38 i v1 k0_t18) a + S1x1x256x128.size a ≤ S1x1x8192x128.size a) ∧
  (∀ k0_t18 : Fin (k0_t18_loop i v1).trips, ∀ a, (k0_off39 i v1 k0_t18) a + S1x1x128x256.size a ≤ S1x1x128x8192.size a) ∧
  ((k0_t19_loop i v1).OK) ∧
  (∀ k0_t19 : Fin (k0_t19_loop i v1).trips, 256 ∣ (k0_mult22 i v1 k0_t19).toNat) ∧
  (∀ k0_t19 : Fin (k0_t19_loop i v1).trips, ∀ a, (k0_off40 i v1 k0_t19) a + S1x1x256x128.size a ≤ S1x1x8192x128.size a) ∧
  (∀ k0_t19 : Fin (k0_t19_loop i v1).trips, ∀ a, (k0_off41 i v1 k0_t19) a + S1x1x128x256.size a ≤ S1x1x128x8192.size a) ∧
  ((k0_t20_loop i v1).OK) ∧
  (∀ k0_t20 : Fin (k0_t20_loop i v1).trips, 256 ∣ (k0_mult23 i v1 k0_t20).toNat) ∧
  (∀ k0_t20 : Fin (k0_t20_loop i v1).trips, ∀ a, (k0_off42 i v1 k0_t20) a + S1x1x256x128.size a ≤ S1x1x8192x128.size a) ∧
  (∀ k0_t20 : Fin (k0_t20_loop i v1).trips, ∀ a, (k0_off43 i v1 k0_t20) a + S1x1x128x256.size a ≤ S1x1x128x8192.size a) ∧
  ((k0_t21_loop i v1).OK) ∧
  (∀ k0_t21 : Fin (k0_t21_loop i v1).trips, 256 ∣ (k0_mult24 i v1 k0_t21).toNat) ∧
  (∀ k0_t21 : Fin (k0_t21_loop i v1).trips, ∀ a, (k0_off44 i v1 k0_t21) a + S1x1x256x128.size a ≤ S1x1x8192x128.size a) ∧
  (∀ k0_t21 : Fin (k0_t21_loop i v1).trips, ∀ a, (k0_off45 i v1 k0_t21) a + S1x1x128x256.size a ≤ S1x1x128x8192.size a) ∧
  ((k0_t22_loop i v1).OK) ∧
  (∀ k0_t22 : Fin (k0_t22_loop i v1).trips, 256 ∣ (k0_mult25 i v1 k0_t22).toNat) ∧
  (∀ k0_t22 : Fin (k0_t22_loop i v1).trips, ∀ a, (k0_off46 i v1 k0_t22) a + S1x1x256x128.size a ≤ S1x1x8192x128.size a) ∧
  (∀ k0_t22 : Fin (k0_t22_loop i v1).trips, ∀ a, (k0_off47 i v1 k0_t22) a + S1x1x128x256.size a ≤ S1x1x128x8192.size a) ∧
  ((k0_t23_loop i v1).OK) ∧
  (∀ k0_t23 : Fin (k0_t23_loop i v1).trips, 256 ∣ (k0_mult26 i v1 k0_t23).toNat) ∧
  (∀ k0_t23 : Fin (k0_t23_loop i v1).trips, ∀ a, (k0_off48 i v1 k0_t23) a + S1x1x256x128.size a ≤ S1x1x8192x128.size a) ∧
  (∀ k0_t23 : Fin (k0_t23_loop i v1).trips, ∀ a, (k0_off49 i v1 k0_t23) a + S1x1x128x256.size a ≤ S1x1x128x8192.size a) ∧
  ((k0_t24_loop i v1).OK) ∧
  (∀ k0_t24 : Fin (k0_t24_loop i v1).trips, 256 ∣ (k0_mult27 i v1 k0_t24).toNat) ∧
  (∀ k0_t24 : Fin (k0_t24_loop i v1).trips, ∀ a, (k0_off50 i v1 k0_t24) a + S1x1x256x128.size a ≤ S1x1x8192x128.size a) ∧
  (∀ k0_t24 : Fin (k0_t24_loop i v1).trips, ∀ a, (k0_off51 i v1 k0_t24) a + S1x1x128x256.size a ≤ S1x1x128x8192.size a)
def k0_chk1_3 (i : grid0.Coords) (v1 : BitVec 32) : Prop :=
  ((k0_t25_loop i v1).OK) ∧
  (∀ k0_t25 : Fin (k0_t25_loop i v1).trips, 256 ∣ (k0_mult29 i v1 k0_t25).toNat) ∧
  (∀ k0_t25 : Fin (k0_t25_loop i v1).trips, ∀ a, (k0_off52 i v1 k0_t25) a + S1x1x256x128.size a ≤ S1x1x8192x128.size a) ∧
  (∀ k0_t25 : Fin (k0_t25_loop i v1).trips, ∀ a, (k0_off53 i v1 k0_t25) a + S1x1x128x256.size a ≤ S1x1x128x8192.size a) ∧
  ((k0_t26_loop i v1).OK) ∧
  (∀ k0_t26 : Fin (k0_t26_loop i v1).trips, 256 ∣ (k0_mult30 i v1 k0_t26).toNat) ∧
  (∀ k0_t26 : Fin (k0_t26_loop i v1).trips, ∀ a, (k0_off54 i v1 k0_t26) a + S1x1x256x128.size a ≤ S1x1x8192x128.size a) ∧
  (∀ k0_t26 : Fin (k0_t26_loop i v1).trips, ∀ a, (k0_off55 i v1 k0_t26) a + S1x1x128x256.size a ≤ S1x1x128x8192.size a) ∧
  ((k0_t27_loop i v1).OK) ∧
  (∀ k0_t27 : Fin (k0_t27_loop i v1).trips, 256 ∣ (k0_mult31 i v1 k0_t27).toNat) ∧
  (∀ k0_t27 : Fin (k0_t27_loop i v1).trips, ∀ a, (k0_off56 i v1 k0_t27) a + S1x1x256x128.size a ≤ S1x1x8192x128.size a) ∧
  (∀ k0_t27 : Fin (k0_t27_loop i v1).trips, ∀ a, (k0_off57 i v1 k0_t27) a + S1x1x128x256.size a ≤ S1x1x128x8192.size a) ∧
  ((k0_t28_loop i v1).OK) ∧
  (∀ k0_t28 : Fin (k0_t28_loop i v1).trips, 256 ∣ (k0_mult32 i v1 k0_t28).toNat) ∧
  (∀ k0_t28 : Fin (k0_t28_loop i v1).trips, ∀ a, (k0_off58 i v1 k0_t28) a + S1x1x256x128.size a ≤ S1x1x8192x128.size a) ∧
  (∀ k0_t28 : Fin (k0_t28_loop i v1).trips, ∀ a, (k0_off59 i v1 k0_t28) a + S1x1x128x256.size a ≤ S1x1x128x8192.size a) ∧
  ((k0_t29_loop i v1).OK) ∧
  (∀ k0_t29 : Fin (k0_t29_loop i v1).trips, 256 ∣ (k0_mult33 i v1 k0_t29).toNat) ∧
  (∀ k0_t29 : Fin (k0_t29_loop i v1).trips, ∀ a, (k0_off60 i v1 k0_t29) a + S1x1x256x128.size a ≤ S1x1x8192x128.size a) ∧
  (∀ k0_t29 : Fin (k0_t29_loop i v1).trips, ∀ a, (k0_off61 i v1 k0_t29) a + S1x1x128x256.size a ≤ S1x1x128x8192.size a) ∧
  ((k0_t30_loop i v1).OK) ∧
  (∀ k0_t30 : Fin (k0_t30_loop i v1).trips, 256 ∣ (k0_mult34 i v1 k0_t30).toNat) ∧
  (∀ k0_t30 : Fin (k0_t30_loop i v1).trips, ∀ a, (k0_off62 i v1 k0_t30) a + S1x1x256x128.size a ≤ S1x1x8192x128.size a) ∧
  (∀ k0_t30 : Fin (k0_t30_loop i v1).trips, ∀ a, (k0_off63 i v1 k0_t30) a + S1x1x128x256.size a ≤ S1x1x128x8192.size a) ∧
  ((k0_t31_loop i v1).OK) ∧
  (∀ k0_t31 : Fin (k0_t31_loop i v1).trips, 256 ∣ (k0_mult36 i v1 k0_t31).toNat) ∧
  (∀ k0_t31 : Fin (k0_t31_loop i v1).trips, ∀ a, (k0_off64 i v1 k0_t31) a + S1x1x256x128.size a ≤ S1x1x8192x128.size a) ∧
  (∀ k0_t31 : Fin (k0_t31_loop i v1).trips, ∀ a, (k0_off65 i v1 k0_t31) a + S1x1x128x256.size a ≤ S1x1x128x8192.size a) ∧
  ((k0_t32_loop i v1).OK) ∧
  (∀ k0_t32 : Fin (k0_t32_loop i v1).trips, 256 ∣ (k0_mult37 i v1 k0_t32).toNat) ∧
  (∀ k0_t32 : Fin (k0_t32_loop i v1).trips, ∀ a, (k0_off66 i v1 k0_t32) a + S1x1x256x128.size a ≤ S1x1x8192x128.size a) ∧
  (∀ k0_t32 : Fin (k0_t32_loop i v1).trips, ∀ a, (k0_off67 i v1 k0_t32) a + S1x1x128x256.size a ≤ S1x1x128x8192.size a)
def k0_chk1_4 (i : grid0.Coords) (v1 : BitVec 32) : Prop :=
  ((k0_t33_loop i v1).OK) ∧
  (∀ k0_t33 : Fin (k0_t33_loop i v1).trips, 256 ∣ (k0_mult38 i v1 k0_t33).toNat) ∧
  (∀ k0_t33 : Fin (k0_t33_loop i v1).trips, ∀ a, (k0_off68 i v1 k0_t33) a + S1x1x256x128.size a ≤ S1x1x8192x128.size a) ∧
  (∀ k0_t33 : Fin (k0_t33_loop i v1).trips, ∀ a, (k0_off69 i v1 k0_t33) a + S1x1x128x256.size a ≤ S1x1x128x8192.size a) ∧
  ((k0_t34_loop i v1).OK) ∧
  (∀ k0_t34 : Fin (k0_t34_loop i v1).trips, 256 ∣ (k0_mult39 i v1 k0_t34).toNat) ∧
  (∀ k0_t34 : Fin (k0_t34_loop i v1).trips, ∀ a, (k0_off70 i v1 k0_t34) a + S1x1x256x128.size a ≤ S1x1x8192x128.size a) ∧
  (∀ k0_t34 : Fin (k0_t34_loop i v1).trips, ∀ a, (k0_off71 i v1 k0_t34) a + S1x1x128x256.size a ≤ S1x1x128x8192.size a) ∧
  ((k0_t35_loop i v1).OK) ∧
  (∀ k0_t35 : Fin (k0_t35_loop i v1).trips, 256 ∣ (k0_mult40 i v1 k0_t35).toNat) ∧
  (∀ k0_t35 : Fin (k0_t35_loop i v1).trips, ∀ a, (k0_off72 i v1 k0_t35) a + S1x1x256x128.size a ≤ S1x1x8192x128.size a) ∧
  (∀ k0_t35 : Fin (k0_t35_loop i v1).trips, ∀ a, (k0_off73 i v1 k0_t35) a + S1x1x128x256.size a ≤ S1x1x128x8192.size a) ∧
  ((k0_t36_loop i v1).OK) ∧
  (∀ k0_t36 : Fin (k0_t36_loop i v1).trips, 256 ∣ (k0_mult41 i v1 k0_t36).toNat) ∧
  (∀ k0_t36 : Fin (k0_t36_loop i v1).trips, ∀ a, (k0_off74 i v1 k0_t36) a + S1x1x256x128.size a ≤ S1x1x8192x128.size a) ∧
  (∀ k0_t36 : Fin (k0_t36_loop i v1).trips, ∀ a, (k0_off75 i v1 k0_t36) a + S1x1x128x256.size a ≤ S1x1x128x8192.size a) ∧
  ((k0_t37_loop i v1).OK) ∧
  (∀ k0_t37 : Fin (k0_t37_loop i v1).trips, 256 ∣ (k0_mult43 i v1 k0_t37).toNat) ∧
  (∀ k0_t37 : Fin (k0_t37_loop i v1).trips, ∀ a, (k0_off76 i v1 k0_t37) a + S1x1x256x128.size a ≤ S1x1x8192x128.size a) ∧
  (∀ k0_t37 : Fin (k0_t37_loop i v1).trips, ∀ a, (k0_off77 i v1 k0_t37) a + S1x1x128x256.size a ≤ S1x1x128x8192.size a) ∧
  ((k0_t38_loop i v1).OK) ∧
  (∀ k0_t38 : Fin (k0_t38_loop i v1).trips, 256 ∣ (k0_mult44 i v1 k0_t38).toNat) ∧
  (∀ k0_t38 : Fin (k0_t38_loop i v1).trips, ∀ a, (k0_off78 i v1 k0_t38) a + S1x1x256x128.size a ≤ S1x1x8192x128.size a) ∧
  (∀ k0_t38 : Fin (k0_t38_loop i v1).trips, ∀ a, (k0_off79 i v1 k0_t38) a + S1x1x128x256.size a ≤ S1x1x128x8192.size a) ∧
  ((k0_t39_loop i v1).OK) ∧
  (∀ k0_t39 : Fin (k0_t39_loop i v1).trips, 256 ∣ (k0_mult45 i v1 k0_t39).toNat) ∧
  (∀ k0_t39 : Fin (k0_t39_loop i v1).trips, ∀ a, (k0_off80 i v1 k0_t39) a + S1x1x256x128.size a ≤ S1x1x8192x128.size a) ∧
  (∀ k0_t39 : Fin (k0_t39_loop i v1).trips, ∀ a, (k0_off81 i v1 k0_t39) a + S1x1x128x256.size a ≤ S1x1x128x8192.size a) ∧
  ((k0_t40_loop i v1).OK) ∧
  (∀ k0_t40 : Fin (k0_t40_loop i v1).trips, 256 ∣ (k0_mult46 i v1 k0_t40).toNat) ∧
  (∀ k0_t40 : Fin (k0_t40_loop i v1).trips, ∀ a, (k0_off82 i v1 k0_t40) a + S1x1x256x128.size a ≤ S1x1x8192x128.size a) ∧
  (∀ k0_t40 : Fin (k0_t40_loop i v1).trips, ∀ a, (k0_off83 i v1 k0_t40) a + S1x1x128x256.size a ≤ S1x1x128x8192.size a)
def k0_chk1_5 (i : grid0.Coords) (v1 : BitVec 32) : Prop :=
  ((k0_t41_loop i v1).OK) ∧
  (∀ k0_t41 : Fin (k0_t41_loop i v1).trips, 256 ∣ (k0_mult47 i v1 k0_t41).toNat) ∧
  (∀ k0_t41 : Fin (k0_t41_loop i v1).trips, ∀ a, (k0_off84 i v1 k0_t41) a + S1x1x256x128.size a ≤ S1x1x8192x128.size a) ∧
  (∀ k0_t41 : Fin (k0_t41_loop i v1).trips, ∀ a, (k0_off85 i v1 k0_t41) a + S1x1x128x256.size a ≤ S1x1x128x8192.size a) ∧
  ((k0_t42_loop i v1).OK) ∧
  (∀ k0_t42 : Fin (k0_t42_loop i v1).trips, 256 ∣ (k0_mult48 i v1 k0_t42).toNat) ∧
  (∀ k0_t42 : Fin (k0_t42_loop i v1).trips, ∀ a, (k0_off86 i v1 k0_t42) a + S1x1x256x128.size a ≤ S1x1x8192x128.size a) ∧
  (∀ k0_t42 : Fin (k0_t42_loop i v1).trips, ∀ a, (k0_off87 i v1 k0_t42) a + S1x1x128x256.size a ≤ S1x1x128x8192.size a)
def k0_chk1 (i : grid0.Coords) (v1 : BitVec 32) : Prop :=
  k0_chk1_0 i v1 ∧
  k0_chk1_1 i v1 ∧
  k0_chk1_2 i v1 ∧
  k0_chk1_3 i v1 ∧
  k0_chk1_4 i v1 ∧
  k0_chk1_5 i v1
theorem k0_t1_ok : ∀ (i : grid0.Coords) (v1 : BitVec 32) (k0_hw1 : k0_chk1 i v1), (k0_t1_loop i v1).OK := fun i v1 k0_hw1 => k0_hw1.1.1
theorem k0_mult1_dvd : ∀ (i : grid0.Coords) (v1 : BitVec 32) (k0_hw1 : k0_chk1 i v1) (k0_t1 : Fin (k0_t1_loop i v1).trips), 256 ∣ (k0_mult1 i v1 k0_t1).toNat := fun i v1 k0_hw1 k0_t1 => k0_hw1.1.2.1 k0_t1
theorem k0_off2_inb : ∀ (i : grid0.Coords) (v1 : BitVec 32) (k0_hw1 : k0_chk1 i v1) (k0_t1 : Fin (k0_t1_loop i v1).trips), ∀ a, (k0_off2 i v1 k0_t1) a + S1x1x256x128.size a ≤ S1x1x8192x128.size a := fun i v1 k0_hw1 k0_t1 => k0_hw1.1.2.2.1 k0_t1
theorem k0_off3_inb : ∀ (i : grid0.Coords) (v1 : BitVec 32) (k0_hw1 : k0_chk1 i v1) (k0_t1 : Fin (k0_t1_loop i v1).trips), ∀ a, (k0_off3 i v1 k0_t1) a + S1x1x128x256.size a ≤ S1x1x128x8192.size a := fun i v1 k0_hw1 k0_t1 => k0_hw1.1.2.2.2.1 k0_t1
theorem k0_t2_ok : ∀ (i : grid0.Coords) (v1 : BitVec 32) (k0_hw1 : k0_chk1 i v1), (k0_t2_loop i v1).OK := fun i v1 k0_hw1 => k0_hw1.1.2.2.2.2.1
theorem k0_mult2_dvd : ∀ (i : grid0.Coords) (v1 : BitVec 32) (k0_hw1 : k0_chk1 i v1) (k0_t2 : Fin (k0_t2_loop i v1).trips), 256 ∣ (k0_mult2 i v1 k0_t2).toNat := fun i v1 k0_hw1 k0_t2 => k0_hw1.1.2.2.2.2.2.1 k0_t2
theorem k0_off4_inb : ∀ (i : grid0.Coords) (v1 : BitVec 32) (k0_hw1 : k0_chk1 i v1) (k0_t2 : Fin (k0_t2_loop i v1).trips), ∀ a, (k0_off4 i v1 k0_t2) a + S1x1x256x128.size a ≤ S1x1x8192x128.size a := fun i v1 k0_hw1 k0_t2 => k0_hw1.1.2.2.2.2.2.2.1 k0_t2
theorem k0_off5_inb : ∀ (i : grid0.Coords) (v1 : BitVec 32) (k0_hw1 : k0_chk1 i v1) (k0_t2 : Fin (k0_t2_loop i v1).trips), ∀ a, (k0_off5 i v1 k0_t2) a + S1x1x128x256.size a ≤ S1x1x128x8192.size a := fun i v1 k0_hw1 k0_t2 => k0_hw1.1.2.2.2.2.2.2.2.1 k0_t2
theorem k0_t3_ok : ∀ (i : grid0.Coords) (v1 : BitVec 32) (k0_hw1 : k0_chk1 i v1), (k0_t3_loop i v1).OK := fun i v1 k0_hw1 => k0_hw1.1.2.2.2.2.2.2.2.2.1
theorem k0_mult3_dvd : ∀ (i : grid0.Coords) (v1 : BitVec 32) (k0_hw1 : k0_chk1 i v1) (k0_t3 : Fin (k0_t3_loop i v1).trips), 256 ∣ (k0_mult3 i v1 k0_t3).toNat := fun i v1 k0_hw1 k0_t3 => k0_hw1.1.2.2.2.2.2.2.2.2.2.1 k0_t3
theorem k0_off6_inb : ∀ (i : grid0.Coords) (v1 : BitVec 32) (k0_hw1 : k0_chk1 i v1) (k0_t3 : Fin (k0_t3_loop i v1).trips), ∀ a, (k0_off6 i v1 k0_t3) a + S1x1x256x128.size a ≤ S1x1x8192x128.size a := fun i v1 k0_hw1 k0_t3 => k0_hw1.1.2.2.2.2.2.2.2.2.2.2.1 k0_t3
theorem k0_off7_inb : ∀ (i : grid0.Coords) (v1 : BitVec 32) (k0_hw1 : k0_chk1 i v1) (k0_t3 : Fin (k0_t3_loop i v1).trips), ∀ a, (k0_off7 i v1 k0_t3) a + S1x1x128x256.size a ≤ S1x1x128x8192.size a := fun i v1 k0_hw1 k0_t3 => k0_hw1.1.2.2.2.2.2.2.2.2.2.2.2.1 k0_t3
theorem k0_t4_ok : ∀ (i : grid0.Coords) (v1 : BitVec 32) (k0_hw1 : k0_chk1 i v1), (k0_t4_loop i v1).OK := fun i v1 k0_hw1 => k0_hw1.1.2.2.2.2.2.2.2.2.2.2.2.2.1
theorem k0_mult4_dvd : ∀ (i : grid0.Coords) (v1 : BitVec 32) (k0_hw1 : k0_chk1 i v1) (k0_t4 : Fin (k0_t4_loop i v1).trips), 256 ∣ (k0_mult4 i v1 k0_t4).toNat := fun i v1 k0_hw1 k0_t4 => k0_hw1.1.2.2.2.2.2.2.2.2.2.2.2.2.2.1 k0_t4
theorem k0_off8_inb : ∀ (i : grid0.Coords) (v1 : BitVec 32) (k0_hw1 : k0_chk1 i v1) (k0_t4 : Fin (k0_t4_loop i v1).trips), ∀ a, (k0_off8 i v1 k0_t4) a + S1x1x256x128.size a ≤ S1x1x8192x128.size a := fun i v1 k0_hw1 k0_t4 => k0_hw1.1.2.2.2.2.2.2.2.2.2.2.2.2.2.2.1 k0_t4
theorem k0_off9_inb : ∀ (i : grid0.Coords) (v1 : BitVec 32) (k0_hw1 : k0_chk1 i v1) (k0_t4 : Fin (k0_t4_loop i v1).trips), ∀ a, (k0_off9 i v1 k0_t4) a + S1x1x128x256.size a ≤ S1x1x128x8192.size a := fun i v1 k0_hw1 k0_t4 => k0_hw1.1.2.2.2.2.2.2.2.2.2.2.2.2.2.2.2.1 k0_t4
theorem k0_t5_ok : ∀ (i : grid0.Coords) (v1 : BitVec 32) (k0_hw1 : k0_chk1 i v1), (k0_t5_loop i v1).OK := fun i v1 k0_hw1 => k0_hw1.1.2.2.2.2.2.2.2.2.2.2.2.2.2.2.2.2.1
theorem k0_mult5_dvd : ∀ (i : grid0.Coords) (v1 : BitVec 32) (k0_hw1 : k0_chk1 i v1) (k0_t5 : Fin (k0_t5_loop i v1).trips), 256 ∣ (k0_mult5 i v1 k0_t5).toNat := fun i v1 k0_hw1 k0_t5 => k0_hw1.1.2.2.2.2.2.2.2.2.2.2.2.2.2.2.2.2.2.1 k0_t5
theorem k0_off10_inb : ∀ (i : grid0.Coords) (v1 : BitVec 32) (k0_hw1 : k0_chk1 i v1) (k0_t5 : Fin (k0_t5_loop i v1).trips), ∀ a, (k0_off10 i v1 k0_t5) a + S1x1x256x128.size a ≤ S1x1x8192x128.size a := fun i v1 k0_hw1 k0_t5 => k0_hw1.1.2.2.2.2.2.2.2.2.2.2.2.2.2.2.2.2.2.2.1 k0_t5
theorem k0_off11_inb : ∀ (i : grid0.Coords) (v1 : BitVec 32) (k0_hw1 : k0_chk1 i v1) (k0_t5 : Fin (k0_t5_loop i v1).trips), ∀ a, (k0_off11 i v1 k0_t5) a + S1x1x128x256.size a ≤ S1x1x128x8192.size a := fun i v1 k0_hw1 k0_t5 => k0_hw1.1.2.2.2.2.2.2.2.2.2.2.2.2.2.2.2.2.2.2.2.1 k0_t5
theorem k0_t6_ok : ∀ (i : grid0.Coords) (v1 : BitVec 32) (k0_hw1 : k0_chk1 i v1), (k0_t6_loop i v1).OK := fun i v1 k0_hw1 => k0_hw1.1.2.2.2.2.2.2.2.2.2.2.2.2.2.2.2.2.2.2.2.2.1
theorem k0_mult6_dvd : ∀ (i : grid0.Coords) (v1 : BitVec 32) (k0_hw1 : k0_chk1 i v1) (k0_t6 : Fin (k0_t6_loop i v1).trips), 256 ∣ (k0_mult6 i v1 k0_t6).toNat := fun i v1 k0_hw1 k0_t6 => k0_hw1.1.2.2.2.2.2.2.2.2.2.2.2.2.2.2.2.2.2.2.2.2.2.1 k0_t6
theorem k0_off12_inb : ∀ (i : grid0.Coords) (v1 : BitVec 32) (k0_hw1 : k0_chk1 i v1) (k0_t6 : Fin (k0_t6_loop i v1).trips), ∀ a, (k0_off12 i v1 k0_t6) a + S1x1x256x128.size a ≤ S1x1x8192x128.size a := fun i v1 k0_hw1 k0_t6 => k0_hw1.1.2.2.2.2.2.2.2.2.2.2.2.2.2.2.2.2.2.2.2.2.2.2.1 k0_t6
theorem k0_off13_inb : ∀ (i : grid0.Coords) (v1 : BitVec 32) (k0_hw1 : k0_chk1 i v1) (k0_t6 : Fin (k0_t6_loop i v1).trips), ∀ a, (k0_off13 i v1 k0_t6) a + S1x1x128x256.size a ≤ S1x1x128x8192.size a := fun i v1 k0_hw1 k0_t6 => k0_hw1.1.2.2.2.2.2.2.2.2.2.2.2.2.2.2.2.2.2.2.2.2.2.2.2.1 k0_t6
theorem k0_t7_ok : ∀ (i : grid0.Coords) (v1 : BitVec 32) (k0_hw1 : k0_chk1 i v1), (k0_t7_loop i v1).OK := fun i v1 k0_hw1 => k0_hw1.1.2.2.2.2.2.2.2.2.2.2.2.2.2.2.2.2.2.2.2.2.2.2.2.2.1
theorem k0_mult8_dvd : ∀ (i : grid0.Coords) (v1 : BitVec 32) (k0_hw1 : k0_chk1 i v1) (k0_t7 : Fin (k0_t7_loop i v1).trips), 256 ∣ (k0_mult8 i v1 k0_t7).toNat := fun i v1 k0_hw1 k0_t7 => k0_hw1.1.2.2.2.2.2.2.2.2.2.2.2.2.2.2.2.2.2.2.2.2.2.2.2.2.2.1 k0_t7
theorem k0_off16_inb : ∀ (i : grid0.Coords) (v1 : BitVec 32) (k0_hw1 : k0_chk1 i v1) (k0_t7 : Fin (k0_t7_loop i v1).trips), ∀ a, (k0_off16 i v1 k0_t7) a + S1x1x256x128.size a ≤ S1x1x8192x128.size a := fun i v1 k0_hw1 k0_t7 => k0_hw1.1.2.2.2.2.2.2.2.2.2.2.2.2.2.2.2.2.2.2.2.2.2.2.2.2.2.2.1 k0_t7
theorem k0_off17_inb : ∀ (i : grid0.Coords) (v1 : BitVec 32) (k0_hw1 : k0_chk1 i v1) (k0_t7 : Fin (k0_t7_loop i v1).trips), ∀ a, (k0_off17 i v1 k0_t7) a + S1x1x128x256.size a ≤ S1x1x128x8192.size a := fun i v1 k0_hw1 k0_t7 => k0_hw1.1.2.2.2.2.2.2.2.2.2.2.2.2.2.2.2.2.2.2.2.2.2.2.2.2.2.2.2.1 k0_t7
theorem k0_t8_ok : ∀ (i : grid0.Coords) (v1 : BitVec 32) (k0_hw1 : k0_chk1 i v1), (k0_t8_loop i v1).OK := fun i v1 k0_hw1 => k0_hw1.1.2.2.2.2.2.2.2.2.2.2.2.2.2.2.2.2.2.2.2.2.2.2.2.2.2.2.2.2.1
theorem k0_mult9_dvd : ∀ (i : grid0.Coords) (v1 : BitVec 32) (k0_hw1 : k0_chk1 i v1) (k0_t8 : Fin (k0_t8_loop i v1).trips), 256 ∣ (k0_mult9 i v1 k0_t8).toNat := fun i v1 k0_hw1 k0_t8 => k0_hw1.1.2.2.2.2.2.2.2.2.2.2.2.2.2.2.2.2.2.2.2.2.2.2.2.2.2.2.2.2.2.1 k0_t8
theorem k0_off18_inb : ∀ (i : grid0.Coords) (v1 : BitVec 32) (k0_hw1 : k0_chk1 i v1) (k0_t8 : Fin (k0_t8_loop i v1).trips), ∀ a, (k0_off18 i v1 k0_t8) a + S1x1x256x128.size a ≤ S1x1x8192x128.size a := fun i v1 k0_hw1 k0_t8 => k0_hw1.1.2.2.2.2.2.2.2.2.2.2.2.2.2.2.2.2.2.2.2.2.2.2.2.2.2.2.2.2.2.2.1 k0_t8
theorem k0_off19_inb : ∀ (i : grid0.Coords) (v1 : BitVec 32) (k0_hw1 : k0_chk1 i v1) (k0_t8 : Fin (k0_t8_loop i v1).trips), ∀ a, (k0_off19 i v1 k0_t8) a + S1x1x128x256.size a ≤ S1x1x128x8192.size a := fun i v1 k0_hw1 k0_t8 => k0_hw1.1.2.2.2.2.2.2.2.2.2.2.2.2.2.2.2.2.2.2.2.2.2.2.2.2.2.2.2.2.2.2.2 k0_t8
theorem k0_t9_ok : ∀ (i : grid0.Coords) (v1 : BitVec 32) (k0_hw1 : k0_chk1 i v1), (k0_t9_loop i v1).OK := fun i v1 k0_hw1 => k0_hw1.2.1.1
theorem k0_mult10_dvd : ∀ (i : grid0.Coords) (v1 : BitVec 32) (k0_hw1 : k0_chk1 i v1) (k0_t9 : Fin (k0_t9_loop i v1).trips), 256 ∣ (k0_mult10 i v1 k0_t9).toNat := fun i v1 k0_hw1 k0_t9 => k0_hw1.2.1.2.1 k0_t9
theorem k0_off20_inb : ∀ (i : grid0.Coords) (v1 : BitVec 32) (k0_hw1 : k0_chk1 i v1) (k0_t9 : Fin (k0_t9_loop i v1).trips), ∀ a, (k0_off20 i v1 k0_t9) a + S1x1x256x128.size a ≤ S1x1x8192x128.size a := fun i v1 k0_hw1 k0_t9 => k0_hw1.2.1.2.2.1 k0_t9
theorem k0_off21_inb : ∀ (i : grid0.Coords) (v1 : BitVec 32) (k0_hw1 : k0_chk1 i v1) (k0_t9 : Fin (k0_t9_loop i v1).trips), ∀ a, (k0_off21 i v1 k0_t9) a + S1x1x128x256.size a ≤ S1x1x128x8192.size a := fun i v1 k0_hw1 k0_t9 => k0_hw1.2.1.2.2.2.1 k0_t9
theorem k0_t10_ok : ∀ (i : grid0.Coords) (v1 : BitVec 32) (k0_hw1 : k0_chk1 i v1), (k0_t10_loop i v1).OK := fun i v1 k0_hw1 => k0_hw1.2.1.2.2.2.2.1
theorem k0_mult11_dvd : ∀ (i : grid0.Coords) (v1 : BitVec 32) (k0_hw1 : k0_chk1 i v1) (k0_t10 : Fin (k0_t10_loop i v1).trips), 256 ∣ (k0_mult11 i v1 k0_t10).toNat := fun i v1 k0_hw1 k0_t10 => k0_hw1.2.1.2.2.2.2.2.1 k0_t10
theorem k0_off22_inb : ∀ (i : grid0.Coords) (v1 : BitVec 32) (k0_hw1 : k0_chk1 i v1) (k0_t10 : Fin (k0_t10_loop i v1).trips), ∀ a, (k0_off22 i v1 k0_t10) a + S1x1x256x128.size a ≤ S1x1x8192x128.size a := fun i v1 k0_hw1 k0_t10 => k0_hw1.2.1.2.2.2.2.2.2.1 k0_t10
theorem k0_off23_inb : ∀ (i : grid0.Coords) (v1 : BitVec 32) (k0_hw1 : k0_chk1 i v1) (k0_t10 : Fin (k0_t10_loop i v1).trips), ∀ a, (k0_off23 i v1 k0_t10) a + S1x1x128x256.size a ≤ S1x1x128x8192.size a := fun i v1 k0_hw1 k0_t10 => k0_hw1.2.1.2.2.2.2.2.2.2.1 k0_t10
theorem k0_t11_ok : ∀ (i : grid0.Coords) (v1 : BitVec 32) (k0_hw1 : k0_chk1 i v1), (k0_t11_loop i v1).OK := fun i v1 k0_hw1 => k0_hw1.2.1.2.2.2.2.2.2.2.2.1
theorem k0_mult12_dvd : ∀ (i : grid0.Coords) (v1 : BitVec 32) (k0_hw1 : k0_chk1 i v1) (k0_t11 : Fin (k0_t11_loop i v1).trips), 256 ∣ (k0_mult12 i v1 k0_t11).toNat := fun i v1 k0_hw1 k0_t11 => k0_hw1.2.1.2.2.2.2.2.2.2.2.2.1 k0_t11
theorem k0_off24_inb : ∀ (i : grid0.Coords) (v1 : BitVec 32) (k0_hw1 : k0_chk1 i v1) (k0_t11 : Fin (k0_t11_loop i v1).trips), ∀ a, (k0_off24 i v1 k0_t11) a + S1x1x256x128.size a ≤ S1x1x8192x128.size a := fun i v1 k0_hw1 k0_t11 => k0_hw1.2.1.2.2.2.2.2.2.2.2.2.2.1 k0_t11
theorem k0_off25_inb : ∀ (i : grid0.Coords) (v1 : BitVec 32) (k0_hw1 : k0_chk1 i v1) (k0_t11 : Fin (k0_t11_loop i v1).trips), ∀ a, (k0_off25 i v1 k0_t11) a + S1x1x128x256.size a ≤ S1x1x128x8192.size a := fun i v1 k0_hw1 k0_t11 => k0_hw1.2.1.2.2.2.2.2.2.2.2.2.2.2.1 k0_t11
theorem k0_t12_ok : ∀ (i : grid0.Coords) (v1 : BitVec 32) (k0_hw1 : k0_chk1 i v1), (k0_t12_loop i v1).OK := fun i v1 k0_hw1 => k0_hw1.2.1.2.2.2.2.2.2.2.2.2.2.2.2.1
theorem k0_mult13_dvd : ∀ (i : grid0.Coords) (v1 : BitVec 32) (k0_hw1 : k0_chk1 i v1) (k0_t12 : Fin (k0_t12_loop i v1).trips), 256 ∣ (k0_mult13 i v1 k0_t12).toNat := fun i v1 k0_hw1 k0_t12 => k0_hw1.2.1.2.2.2.2.2.2.2.2.2.2.2.2.2.1 k0_t12
theorem k0_off26_inb : ∀ (i : grid0.Coords) (v1 : BitVec 32) (k0_hw1 : k0_chk1 i v1) (k0_t12 : Fin (k0_t12_loop i v1).trips), ∀ a, (k0_off26 i v1 k0_t12) a + S1x1x256x128.size a ≤ S1x1x8192x128.size a := fun i v1 k0_hw1 k0_t12 => k0_hw1.2.1.2.2.2.2.2.2.2.2.2.2.2.2.2.2.1 k0_t12
theorem k0_off27_inb : ∀ (i : grid0.Coords) (v1 : BitVec 32) (k0_hw1 : k0_chk1 i v1) (k0_t12 : Fin (k0_t12_loop i v1).trips), ∀ a, (k0_off27 i v1 k0_t12) a + S1x1x128x256.size a ≤ S1x1x128x8192.size a := fun i v1 k0_hw1 k0_t12 => k0_hw1.2.1.2.2.2.2.2.2.2.2.2.2.2.2.2.2.2.1 k0_t12
theorem k0_t13_ok : ∀ (i : grid0.Coords) (v1 : BitVec 32) (k0_hw1 : k0_chk1 i v1), (k0_t13_loop i v1).OK := fun i v1 k0_hw1 => k0_hw1.2.1.2.2.2.2.2.2.2.2.2.2.2.2.2.2.2.2.1
theorem k0_mult15_dvd : ∀ (i : grid0.Coords) (v1 : BitVec 32) (k0_hw1 : k0_chk1 i v1) (k0_t13 : Fin (k0_t13_loop i v1).trips), 256 ∣ (k0_mult15 i v1 k0_t13).toNat := fun i v1 k0_hw1 k0_t13 => k0_hw1.2.1.2.2.2.2.2.2.2.2.2.2.2.2.2.2.2.2.2.1 k0_t13
theorem k0_off28_inb : ∀ (i : grid0.Coords) (v1 : BitVec 32) (k0_hw1 : k0_chk1 i v1) (k0_t13 : Fin (k0_t13_loop i v1).trips), ∀ a, (k0_off28 i v1 k0_t13) a + S1x1x256x128.size a ≤ S1x1x8192x128.size a := fun i v1 k0_hw1 k0_t13 => k0_hw1.2.1.2.2.2.2.2.2.2.2.2.2.2.2.2.2.2.2.2.2.1 k0_t13
theorem k0_off29_inb : ∀ (i : grid0.Coords) (v1 : BitVec 32) (k0_hw1 : k0_chk1 i v1) (k0_t13 : Fin (k0_t13_loop i v1).trips), ∀ a, (k0_off29 i v1 k0_t13) a + S1x1x128x256.size a ≤ S1x1x128x8192.size a := fun i v1 k0_hw1 k0_t13 => k0_hw1.2.1.2.2.2.2.2.2.2.2.2.2.2.2.2.2.2.2.2.2.2.1 k0_t13
theorem k0_t14_ok : ∀ (i : grid0.Coords) (v1 : BitVec 32) (k0_hw1 : k0_chk1 i v1), (k0_t14_loop i v1).OK := fun i v1 k0_hw1 => k0_hw1.2.1.2.2.2.2.2.2.2.2.2.2.2.2.2.2.2.2.2.2.2.2.1
theorem k0_mult16_dvd : ∀ (i : grid0.Coords) (v1 : BitVec 32) (k0_hw1 : k0_chk1 i v1) (k0_t14 : Fin (k0_t14_loop i v1).trips), 256 ∣ (k0_mult16 i v1 k0_t14).toNat := fun i v1 k0_hw1 k0_t14 => k0_hw1.2.1.2.2.2.2.2.2.2.2.2.2.2.2.2.2.2.2.2.2.2.2.2.1 k0_t14
theorem k0_off30_inb : ∀ (i : grid0.Coords) (v1 : BitVec 32) (k0_hw1 : k0_chk1 i v1) (k0_t14 : Fin (k0_t14_loop i v1).trips), ∀ a, (k0_off30 i v1 k0_t14) a + S1x1x256x128.size a ≤ S1x1x8192x128.size a := fun i v1 k0_hw1 k0_t14 => k0_hw1.2.1.2.2.2.2.2.2.2.2.2.2.2.2.2.2.2.2.2.2.2.2.2.2.1 k0_t14
theorem k0_off31_inb : ∀ (i : grid0.Coords) (v1 : BitVec 32) (k0_hw1 : k0_chk1 i v1) (k0_t14 : Fin (k0_t14_loop i v1).trips), ∀ a, (k0_off31 i v1 k0_t14) a + S1x1x128x256.size a ≤ S1x1x128x8192.size a := fun i v1 k0_hw1 k0_t14 => k0_hw1.2.1.2.2.2.2.2.2.2.2.2.2.2.2.2.2.2.2.2.2.2.2.2.2.2.1 k0_t14
theorem k0_t15_ok : ∀ (i : grid0.Coords) (v1 : BitVec 32) (k0_hw1 : k0_chk1 i v1), (k0_t15_loop i v1).OK := fun i v1 k0_hw1 => k0_hw1.2.1.2.2.2.2.2.2.2.2.2.2.2.2.2.2.2.2.2.2.2.2.2.2.2.2.1
theorem k0_mult17_dvd : ∀ (i : grid0.Coords) (v1 : BitVec 32) (k0_hw1 : k0_chk1 i v1) (k0_t15 : Fin (k0_t15_loop i v1).trips), 256 ∣ (k0_mult17 i v1 k0_t15).toNat := fun i v1 k0_hw1 k0_t15 => k0_hw1.2.1.2.2.2.2.2.2.2.2.2.2.2.2.2.2.2.2.2.2.2.2.2.2.2.2.2.1 k0_t15
theorem k0_off32_inb : ∀ (i : grid0.Coords) (v1 : BitVec 32) (k0_hw1 : k0_chk1 i v1) (k0_t15 : Fin (k0_t15_loop i v1).trips), ∀ a, (k0_off32 i v1 k0_t15) a + S1x1x256x128.size a ≤ S1x1x8192x128.size a := fun i v1 k0_hw1 k0_t15 => k0_hw1.2.1.2.2.2.2.2.2.2.2.2.2.2.2.2.2.2.2.2.2.2.2.2.2.2.2.2.2.1 k0_t15
theorem k0_off33_inb : ∀ (i : grid0.Coords) (v1 : BitVec 32) (k0_hw1 : k0_chk1 i v1) (k0_t15 : Fin (k0_t15_loop i v1).trips), ∀ a, (k0_off33 i v1 k0_t15) a + S1x1x128x256.size a ≤ S1x1x128x8192.size a := fun i v1 k0_hw1 k0_t15 => k0_hw1.2.1.2.2.2.2.2.2.2.2.2.2.2.2.2.2.2.2.2.2.2.2.2.2.2.2.2.2.2.1 k0_t15
theorem k0_t16_ok : ∀ (i : grid0.Coords) (v1 : BitVec 32) (k0_hw1 : k0_chk1 i v1), (k0_t16_loop i v1).OK := fun i v1 k0_hw1 => k0_hw1.2.1.2.2.2.2.2.2.2.2.2.2.2.2.2.2.2.2.2.2.2.2.2.2.2.2.2.2.2.2.1
theorem k0_mult18_dvd : ∀ (i : grid0.Coords) (v1 : BitVec 32) (k0_hw1 : k0_chk1 i v1) (k0_t16 : Fin (k0_t16_loop i v1).trips), 256 ∣ (k0_mult18 i v1 k0_t16).toNat := fun i v1 k0_hw1 k0_t16 => k0_hw1.2.1.2.2.2.2.2.2.2.2.2.2.2.2.2.2.2.2.2.2.2.2.2.2.2.2.2.2.2.2.2.1 k0_t16
theorem k0_off34_inb : ∀ (i : grid0.Coords) (v1 : BitVec 32) (k0_hw1 : k0_chk1 i v1) (k0_t16 : Fin (k0_t16_loop i v1).trips), ∀ a, (k0_off34 i v1 k0_t16) a + S1x1x256x128.size a ≤ S1x1x8192x128.size a := fun i v1 k0_hw1 k0_t16 => k0_hw1.2.1.2.2.2.2.2.2.2.2.2.2.2.2.2.2.2.2.2.2.2.2.2.2.2.2.2.2.2.2.2.2.1 k0_t16
theorem k0_off35_inb : ∀ (i : grid0.Coords) (v1 : BitVec 32) (k0_hw1 : k0_chk1 i v1) (k0_t16 : Fin (k0_t16_loop i v1).trips), ∀ a, (k0_off35 i v1 k0_t16) a + S1x1x128x256.size a ≤ S1x1x128x8192.size a := fun i v1 k0_hw1 k0_t16 => k0_hw1.2.1.2.2.2.2.2.2.2.2.2.2.2.2.2.2.2.2.2.2.2.2.2.2.2.2.2.2.2.2.2.2.2 k0_t16
theorem k0_t17_ok : ∀ (i : grid0.Coords) (v1 : BitVec 32) (k0_hw1 : k0_chk1 i v1), (k0_t17_loop i v1).OK := fun i v1 k0_hw1 => k0_hw1.2.2.1.1
theorem k0_mult19_dvd : ∀ (i : grid0.Coords) (v1 : BitVec 32) (k0_hw1 : k0_chk1 i v1) (k0_t17 : Fin (k0_t17_loop i v1).trips), 256 ∣ (k0_mult19 i v1 k0_t17).toNat := fun i v1 k0_hw1 k0_t17 => k0_hw1.2.2.1.2.1 k0_t17
theorem k0_off36_inb : ∀ (i : grid0.Coords) (v1 : BitVec 32) (k0_hw1 : k0_chk1 i v1) (k0_t17 : Fin (k0_t17_loop i v1).trips), ∀ a, (k0_off36 i v1 k0_t17) a + S1x1x256x128.size a ≤ S1x1x8192x128.size a := fun i v1 k0_hw1 k0_t17 => k0_hw1.2.2.1.2.2.1 k0_t17
theorem k0_off37_inb : ∀ (i : grid0.Coords) (v1 : BitVec 32) (k0_hw1 : k0_chk1 i v1) (k0_t17 : Fin (k0_t17_loop i v1).trips), ∀ a, (k0_off37 i v1 k0_t17) a + S1x1x128x256.size a ≤ S1x1x128x8192.size a := fun i v1 k0_hw1 k0_t17 => k0_hw1.2.2.1.2.2.2.1 k0_t17
theorem k0_t18_ok : ∀ (i : grid0.Coords) (v1 : BitVec 32) (k0_hw1 : k0_chk1 i v1), (k0_t18_loop i v1).OK := fun i v1 k0_hw1 => k0_hw1.2.2.1.2.2.2.2.1
theorem k0_mult20_dvd : ∀ (i : grid0.Coords) (v1 : BitVec 32) (k0_hw1 : k0_chk1 i v1) (k0_t18 : Fin (k0_t18_loop i v1).trips), 256 ∣ (k0_mult20 i v1 k0_t18).toNat := fun i v1 k0_hw1 k0_t18 => k0_hw1.2.2.1.2.2.2.2.2.1 k0_t18
theorem k0_off38_inb : ∀ (i : grid0.Coords) (v1 : BitVec 32) (k0_hw1 : k0_chk1 i v1) (k0_t18 : Fin (k0_t18_loop i v1).trips), ∀ a, (k0_off38 i v1 k0_t18) a + S1x1x256x128.size a ≤ S1x1x8192x128.size a := fun i v1 k0_hw1 k0_t18 => k0_hw1.2.2.1.2.2.2.2.2.2.1 k0_t18
theorem k0_off39_inb : ∀ (i : grid0.Coords) (v1 : BitVec 32) (k0_hw1 : k0_chk1 i v1) (k0_t18 : Fin (k0_t18_loop i v1).trips), ∀ a, (k0_off39 i v1 k0_t18) a + S1x1x128x256.size a ≤ S1x1x128x8192.size a := fun i v1 k0_hw1 k0_t18 => k0_hw1.2.2.1.2.2.2.2.2.2.2.1 k0_t18
theorem k0_t19_ok : ∀ (i : grid0.Coords) (v1 : BitVec 32) (k0_hw1 : k0_chk1 i v1), (k0_t19_loop i v1).OK := fun i v1 k0_hw1 => k0_hw1.2.2.1.2.2.2.2.2.2.2.2.1
theorem k0_mult22_dvd : ∀ (i : grid0.Coords) (v1 : BitVec 32) (k0_hw1 : k0_chk1 i v1) (k0_t19 : Fin (k0_t19_loop i v1).trips), 256 ∣ (k0_mult22 i v1 k0_t19).toNat := fun i v1 k0_hw1 k0_t19 => k0_hw1.2.2.1.2.2.2.2.2.2.2.2.2.1 k0_t19
theorem k0_off40_inb : ∀ (i : grid0.Coords) (v1 : BitVec 32) (k0_hw1 : k0_chk1 i v1) (k0_t19 : Fin (k0_t19_loop i v1).trips), ∀ a, (k0_off40 i v1 k0_t19) a + S1x1x256x128.size a ≤ S1x1x8192x128.size a := fun i v1 k0_hw1 k0_t19 => k0_hw1.2.2.1.2.2.2.2.2.2.2.2.2.2.1 k0_t19
theorem k0_off41_inb : ∀ (i : grid0.Coords) (v1 : BitVec 32) (k0_hw1 : k0_chk1 i v1) (k0_t19 : Fin (k0_t19_loop i v1).trips), ∀ a, (k0_off41 i v1 k0_t19) a + S1x1x128x256.size a ≤ S1x1x128x8192.size a := fun i v1 k0_hw1 k0_t19 => k0_hw1.2.2.1.2.2.2.2.2.2.2.2.2.2.2.1 k0_t19
theorem k0_t20_ok : ∀ (i : grid0.Coords) (v1 : BitVec 32) (k0_hw1 : k0_chk1 i v1), (k0_t20_loop i v1).OK := fun i v1 k0_hw1 => k0_hw1.2.2.1.2.2.2.2.2.2.2.2.2.2.2.2.1
theorem k0_mult23_dvd : ∀ (i : grid0.Coords) (v1 : BitVec 32) (k0_hw1 : k0_chk1 i v1) (k0_t20 : Fin (k0_t20_loop i v1).trips), 256 ∣ (k0_mult23 i v1 k0_t20).toNat := fun i v1 k0_hw1 k0_t20 => k0_hw1.2.2.1.2.2.2.2.2.2.2.2.2.2.2.2.2.1 k0_t20
theorem k0_off42_inb : ∀ (i : grid0.Coords) (v1 : BitVec 32) (k0_hw1 : k0_chk1 i v1) (k0_t20 : Fin (k0_t20_loop i v1).trips), ∀ a, (k0_off42 i v1 k0_t20) a + S1x1x256x128.size a ≤ S1x1x8192x128.size a := fun i v1 k0_hw1 k0_t20 => k0_hw1.2.2.1.2.2.2.2.2.2.2.2.2.2.2.2.2.2.1 k0_t20
theorem k0_off43_inb : ∀ (i : grid0.Coords) (v1 : BitVec 32) (k0_hw1 : k0_chk1 i v1) (k0_t20 : Fin (k0_t20_loop i v1).trips), ∀ a, (k0_off43 i v1 k0_t20) a + S1x1x128x256.size a ≤ S1x1x128x8192.size a := fun i v1 k0_hw1 k0_t20 => k0_hw1.2.2.1.2.2.2.2.2.2.2.2.2.2.2.2.2.2.2.1 k0_t20
theorem k0_t21_ok : ∀ (i : grid0.Coords) (v1 : BitVec 32) (k0_hw1 : k0_chk1 i v1), (k0_t21_loop i v1).OK := fun i v1 k0_hw1 => k0_hw1.2.2.1.2.2.2.2.2.2.2.2.2.2.2.2.2.2.2.2.1
theorem k0_mult24_dvd : ∀ (i : grid0.Coords) (v1 : BitVec 32) (k0_hw1 : k0_chk1 i v1) (k0_t21 : Fin (k0_t21_loop i v1).trips), 256 ∣ (k0_mult24 i v1 k0_t21).toNat := fun i v1 k0_hw1 k0_t21 => k0_hw1.2.2.1.2.2.2.2.2.2.2.2.2.2.2.2.2.2.2.2.2.1 k0_t21
theorem k0_off44_inb : ∀ (i : grid0.Coords) (v1 : BitVec 32) (k0_hw1 : k0_chk1 i v1) (k0_t21 : Fin (k0_t21_loop i v1).trips), ∀ a, (k0_off44 i v1 k0_t21) a + S1x1x256x128.size a ≤ S1x1x8192x128.size a := fun i v1 k0_hw1 k0_t21 => k0_hw1.2.2.1.2.2.2.2.2.2.2.2.2.2.2.2.2.2.2.2.2.2.1 k0_t21
theorem k0_off45_inb : ∀ (i : grid0.Coords) (v1 : BitVec 32) (k0_hw1 : k0_chk1 i v1) (k0_t21 : Fin (k0_t21_loop i v1).trips), ∀ a, (k0_off45 i v1 k0_t21) a + S1x1x128x256.size a ≤ S1x1x128x8192.size a := fun i v1 k0_hw1 k0_t21 => k0_hw1.2.2.1.2.2.2.2.2.2.2.2.2.2.2.2.2.2.2.2.2.2.2.1 k0_t21
theorem k0_t22_ok : ∀ (i : grid0.Coords) (v1 : BitVec 32) (k0_hw1 : k0_chk1 i v1), (k0_t22_loop i v1).OK := fun i v1 k0_hw1 => k0_hw1.2.2.1.2.2.2.2.2.2.2.2.2.2.2.2.2.2.2.2.2.2.2.2.1
theorem k0_mult25_dvd : ∀ (i : grid0.Coords) (v1 : BitVec 32) (k0_hw1 : k0_chk1 i v1) (k0_t22 : Fin (k0_t22_loop i v1).trips), 256 ∣ (k0_mult25 i v1 k0_t22).toNat := fun i v1 k0_hw1 k0_t22 => k0_hw1.2.2.1.2.2.2.2.2.2.2.2.2.2.2.2.2.2.2.2.2.2.2.2.2.1 k0_t22
theorem k0_off46_inb : ∀ (i : grid0.Coords) (v1 : BitVec 32) (k0_hw1 : k0_chk1 i v1) (k0_t22 : Fin (k0_t22_loop i v1).trips), ∀ a, (k0_off46 i v1 k0_t22) a + S1x1x256x128.size a ≤ S1x1x8192x128.size a := fun i v1 k0_hw1 k0_t22 => k0_hw1.2.2.1.2.2.2.2.2.2.2.2.2.2.2.2.2.2.2.2.2.2.2.2.2.2.1 k0_t22
theorem k0_off47_inb : ∀ (i : grid0.Coords) (v1 : BitVec 32) (k0_hw1 : k0_chk1 i v1) (k0_t22 : Fin (k0_t22_loop i v1).trips), ∀ a, (k0_off47 i v1 k0_t22) a + S1x1x128x256.size a ≤ S1x1x128x8192.size a := fun i v1 k0_hw1 k0_t22 => k0_hw1.2.2.1.2.2.2.2.2.2.2.2.2.2.2.2.2.2.2.2.2.2.2.2.2.2.2.1 k0_t22
theorem k0_t23_ok : ∀ (i : grid0.Coords) (v1 : BitVec 32) (k0_hw1 : k0_chk1 i v1), (k0_t23_loop i v1).OK := fun i v1 k0_hw1 => k0_hw1.2.2.1.2.2.2.2.2.2.2.2.2.2.2.2.2.2.2.2.2.2.2.2.2.2.2.2.1
theorem k0_mult26_dvd : ∀ (i : grid0.Coords) (v1 : BitVec 32) (k0_hw1 : k0_chk1 i v1) (k0_t23 : Fin (k0_t23_loop i v1).trips), 256 ∣ (k0_mult26 i v1 k0_t23).toNat := fun i v1 k0_hw1 k0_t23 => k0_hw1.2.2.1.2.2.2.2.2.2.2.2.2.2.2.2.2.2.2.2.2.2.2.2.2.2.2.2.2.1 k0_t23
theorem k0_off48_inb : ∀ (i : grid0.Coords) (v1 : BitVec 32) (k0_hw1 : k0_chk1 i v1) (k0_t23 : Fin (k0_t23_loop i v1).trips), ∀ a, (k0_off48 i v1 k0_t23) a + S1x1x256x128.size a ≤ S1x1x8192x128.size a := fun i v1 k0_hw1 k0_t23 => k0_hw1.2.2.1.2.2.2.2.2.2.2.2.2.2.2.2.2.2.2.2.2.2.2.2.2.2.2.2.2.2.1 k0_t23
theorem k0_off49_inb : ∀ (i : grid0.Coords) (v1 : BitVec 32) (k0_hw1 : k0_chk1 i v1) (k0_t23 : Fin (k0_t23_loop i v1).trips), ∀ a, (k0_off49 i v1 k0_t23) a + S1x1x128x256.size a ≤ S1x1x128x8192.size a := fun i v1 k0_hw1 k0_t23 => k0_hw1.2.2.1.2.2.2.2.2.2.2.2.2.2.2.2.2.2.2.2.2.2.2.2.2.2.2.2.2.2.2.1 k0_t23
theorem k0_t24_ok : ∀ (i : grid0.Coords) (v1 : BitVec 32) (k0_hw1 : k0_chk1 i v1), (k0_t24_loop i v1).OK := fun i v1 k0_hw1 => k0_hw1.2.2.1.2.2.2.2.2.2.2.2.2.2.2.2.2.2.2.2.2.2.2.2.2.2.2.2.2.2.2.2.1
theorem k0_mult27_dvd : ∀ (i : grid0.Coords) (v1 : BitVec 32) (k0_hw1 : k0_chk1 i v1) (k0_t24 : Fin (k0_t24_loop i v1).trips), 256 ∣ (k0_mult27 i v1 k0_t24).toNat := fun i v1 k0_hw1 k0_t24 => k0_hw1.2.2.1.2.2.2.2.2.2.2.2.2.2.2.2.2.2.2.2.2.2.2.2.2.2.2.2.2.2.2.2.2.1 k0_t24
theorem k0_off50_inb : ∀ (i : grid0.Coords) (v1 : BitVec 32) (k0_hw1 : k0_chk1 i v1) (k0_t24 : Fin (k0_t24_loop i v1).trips), ∀ a, (k0_off50 i v1 k0_t24) a + S1x1x256x128.size a ≤ S1x1x8192x128.size a := fun i v1 k0_hw1 k0_t24 => k0_hw1.2.2.1.2.2.2.2.2.2.2.2.2.2.2.2.2.2.2.2.2.2.2.2.2.2.2.2.2.2.2.2.2.2.1 k0_t24
theorem k0_off51_inb : ∀ (i : grid0.Coords) (v1 : BitVec 32) (k0_hw1 : k0_chk1 i v1) (k0_t24 : Fin (k0_t24_loop i v1).trips), ∀ a, (k0_off51 i v1 k0_t24) a + S1x1x128x256.size a ≤ S1x1x128x8192.size a := fun i v1 k0_hw1 k0_t24 => k0_hw1.2.2.1.2.2.2.2.2.2.2.2.2.2.2.2.2.2.2.2.2.2.2.2.2.2.2.2.2.2.2.2.2.2.2 k0_t24
theorem k0_t25_ok : ∀ (i : grid0.Coords) (v1 : BitVec 32) (k0_hw1 : k0_chk1 i v1), (k0_t25_loop i v1).OK := fun i v1 k0_hw1 => k0_hw1.2.2.2.1.1
theorem k0_mult29_dvd : ∀ (i : grid0.Coords) (v1 : BitVec 32) (k0_hw1 : k0_chk1 i v1) (k0_t25 : Fin (k0_t25_loop i v1).trips), 256 ∣ (k0_mult29 i v1 k0_t25).toNat := fun i v1 k0_hw1 k0_t25 => k0_hw1.2.2.2.1.2.1 k0_t25
theorem k0_off52_inb : ∀ (i : grid0.Coords) (v1 : BitVec 32) (k0_hw1 : k0_chk1 i v1) (k0_t25 : Fin (k0_t25_loop i v1).trips), ∀ a, (k0_off52 i v1 k0_t25) a + S1x1x256x128.size a ≤ S1x1x8192x128.size a := fun i v1 k0_hw1 k0_t25 => k0_hw1.2.2.2.1.2.2.1 k0_t25
theorem k0_off53_inb : ∀ (i : grid0.Coords) (v1 : BitVec 32) (k0_hw1 : k0_chk1 i v1) (k0_t25 : Fin (k0_t25_loop i v1).trips), ∀ a, (k0_off53 i v1 k0_t25) a + S1x1x128x256.size a ≤ S1x1x128x8192.size a := fun i v1 k0_hw1 k0_t25 => k0_hw1.2.2.2.1.2.2.2.1 k0_t25
theorem k0_t26_ok : ∀ (i : grid0.Coords) (v1 : BitVec 32) (k0_hw1 : k0_chk1 i v1), (k0_t26_loop i v1).OK := fun i v1 k0_hw1 => k0_hw1.2.2.2.1.2.2.2.2.1
theorem k0_mult30_dvd : ∀ (i : grid0.Coords) (v1 : BitVec 32) (k0_hw1 : k0_chk1 i v1) (k0_t26 : Fin (k0_t26_loop i v1).trips), 256 ∣ (k0_mult30 i v1 k0_t26).toNat := fun i v1 k0_hw1 k0_t26 => k0_hw1.2.2.2.1.2.2.2.2.2.1 k0_t26
theorem k0_off54_inb : ∀ (i : grid0.Coords) (v1 : BitVec 32) (k0_hw1 : k0_chk1 i v1) (k0_t26 : Fin (k0_t26_loop i v1).trips), ∀ a, (k0_off54 i v1 k0_t26) a + S1x1x256x128.size a ≤ S1x1x8192x128.size a := fun i v1 k0_hw1 k0_t26 => k0_hw1.2.2.2.1.2.2.2.2.2.2.1 k0_t26
theorem k0_off55_inb : ∀ (i : grid0.Coords) (v1 : BitVec 32) (k0_hw1 : k0_chk1 i v1) (k0_t26 : Fin (k0_t26_loop i v1).trips), ∀ a, (k0_off55 i v1 k0_t26) a + S1x1x128x256.size a ≤ S1x1x128x8192.size a := fun i v1 k0_hw1 k0_t26 => k0_hw1.2.2.2.1.2.2.2.2.2.2.2.1 k0_t26
theorem k0_t27_ok : ∀ (i : grid0.Coords) (v1 : BitVec 32) (k0_hw1 : k0_chk1 i v1), (k0_t27_loop i v1).OK := fun i v1 k0_hw1 => k0_hw1.2.2.2.1.2.2.2.2.2.2.2.2.1
theorem k0_mult31_dvd : ∀ (i : grid0.Coords) (v1 : BitVec 32) (k0_hw1 : k0_chk1 i v1) (k0_t27 : Fin (k0_t27_loop i v1).trips), 256 ∣ (k0_mult31 i v1 k0_t27).toNat := fun i v1 k0_hw1 k0_t27 => k0_hw1.2.2.2.1.2.2.2.2.2.2.2.2.2.1 k0_t27
theorem k0_off56_inb : ∀ (i : grid0.Coords) (v1 : BitVec 32) (k0_hw1 : k0_chk1 i v1) (k0_t27 : Fin (k0_t27_loop i v1).trips), ∀ a, (k0_off56 i v1 k0_t27) a + S1x1x256x128.size a ≤ S1x1x8192x128.size a := fun i v1 k0_hw1 k0_t27 => k0_hw1.2.2.2.1.2.2.2.2.2.2.2.2.2.2.1 k0_t27
theorem k0_off57_inb : ∀ (i : grid0.Coords) (v1 : BitVec 32) (k0_hw1 : k0_chk1 i v1) (k0_t27 : Fin (k0_t27_loop i v1).trips), ∀ a, (k0_off57 i v1 k0_t27) a + S1x1x128x256.size a ≤ S1x1x128x8192.size a := fun i v1 k0_hw1 k0_t27 => k0_hw1.2.2.2.1.2.2.2.2.2.2.2.2.2.2.2.1 k0_t27
theorem k0_t28_ok : ∀ (i : grid0.Coords) (v1 : BitVec 32) (k0_hw1 : k0_chk1 i v1), (k0_t28_loop i v1).OK := fun i v1 k0_hw1 => k0_hw1.2.2.2.1.2.2.2.2.2.2.2.2.2.2.2.2.1
theorem k0_mult32_dvd : ∀ (i : grid0.Coords) (v1 : BitVec 32) (k0_hw1 : k0_chk1 i v1) (k0_t28 : Fin (k0_t28_loop i v1).trips), 256 ∣ (k0_mult32 i v1 k0_t28).toNat := fun i v1 k0_hw1 k0_t28 => k0_hw1.2.2.2.1.2.2.2.2.2.2.2.2.2.2.2.2.2.1 k0_t28
theorem k0_off58_inb : ∀ (i : grid0.Coords) (v1 : BitVec 32) (k0_hw1 : k0_chk1 i v1) (k0_t28 : Fin (k0_t28_loop i v1).trips), ∀ a, (k0_off58 i v1 k0_t28) a + S1x1x256x128.size a ≤ S1x1x8192x128.size a := fun i v1 k0_hw1 k0_t28 => k0_hw1.2.2.2.1.2.2.2.2.2.2.2.2.2.2.2.2.2.2.1 k0_t28
theorem k0_off59_inb : ∀ (i : grid0.Coords) (v1 : BitVec 32) (k0_hw1 : k0_chk1 i v1) (k0_t28 : Fin (k0_t28_loop i v1).trips), ∀ a, (k0_off59 i v1 k0_t28) a + S1x1x128x256.size a ≤ S1x1x128x8192.size a := fun i v1 k0_hw1 k0_t28 => k0_hw1.2.2.2.1.2.2.2.2.2.2.2.2.2.2.2.2.2.2.2.1 k0_t28
theorem k0_t29_ok : ∀ (i : grid0.Coords) (v1 : BitVec 32) (k0_hw1 : k0_chk1 i v1), (k0_t29_loop i v1).OK := fun i v1 k0_hw1 => k0_hw1.2.2.2.1.2.2.2.2.2.2.2.2.2.2.2.2.2.2.2.2.1
theorem k0_mult33_dvd : ∀ (i : grid0.Coords) (v1 : BitVec 32) (k0_hw1 : k0_chk1 i v1) (k0_t29 : Fin (k0_t29_loop i v1).trips), 256 ∣ (k0_mult33 i v1 k0_t29).toNat := fun i v1 k0_hw1 k0_t29 => k0_hw1.2.2.2.1.2.2.2.2.2.2.2.2.2.2.2.2.2.2.2.2.2.1 k0_t29
theorem k0_off60_inb : ∀ (i : grid0.Coords) (v1 : BitVec 32) (k0_hw1 : k0_chk1 i v1) (k0_t29 : Fin (k0_t29_loop i v1).trips), ∀ a, (k0_off60 i v1 k0_t29) a + S1x1x256x128.size a ≤ S1x1x8192x128.size a := fun i v1 k0_hw1 k0_t29 => k0_hw1.2.2.2.1.2.2.2.2.2.2.2.2.2.2.2.2.2.2.2.2.2.2.1 k0_t29
theorem k0_off61_inb : ∀ (i : grid0.Coords) (v1 : BitVec 32) (k0_hw1 : k0_chk1 i v1) (k0_t29 : Fin (k0_t29_loop i v1).trips), ∀ a, (k0_off61 i v1 k0_t29) a + S1x1x128x256.size a ≤ S1x1x128x8192.size a := fun i v1 k0_hw1 k0_t29 => k0_hw1.2.2.2.1.2.2.2.2.2.2.2.2.2.2.2.2.2.2.2.2.2.2.2.1 k0_t29
theorem k0_t30_ok : ∀ (i : grid0.Coords) (v1 : BitVec 32) (k0_hw1 : k0_chk1 i v1), (k0_t30_loop i v1).OK := fun i v1 k0_hw1 => k0_hw1.2.2.2.1.2.2.2.2.2.2.2.2.2.2.2.2.2.2.2.2.2.2.2.2.1
theorem k0_mult34_dvd : ∀ (i : grid0.Coords) (v1 : BitVec 32) (k0_hw1 : k0_chk1 i v1) (k0_t30 : Fin (k0_t30_loop i v1).trips), 256 ∣ (k0_mult34 i v1 k0_t30).toNat := fun i v1 k0_hw1 k0_t30 => k0_hw1.2.2.2.1.2.2.2.2.2.2.2.2.2.2.2.2.2.2.2.2.2.2.2.2.2.1 k0_t30
theorem k0_off62_inb : ∀ (i : grid0.Coords) (v1 : BitVec 32) (k0_hw1 : k0_chk1 i v1) (k0_t30 : Fin (k0_t30_loop i v1).trips), ∀ a, (k0_off62 i v1 k0_t30) a + S1x1x256x128.size a ≤ S1x1x8192x128.size a := fun i v1 k0_hw1 k0_t30 => k0_hw1.2.2.2.1.2.2.2.2.2.2.2.2.2.2.2.2.2.2.2.2.2.2.2.2.2.2.1 k0_t30
theorem k0_off63_inb : ∀ (i : grid0.Coords) (v1 : BitVec 32) (k0_hw1 : k0_chk1 i v1) (k0_t30 : Fin (k0_t30_loop i v1).trips), ∀ a, (k0_off63 i v1 k0_t30) a + S1x1x128x256.size a ≤ S1x1x128x8192.size a := fun i v1 k0_hw1 k0_t30 => k0_hw1.2.2.2.1.2.2.2.2.2.2.2.2.2.2.2.2.2.2.2.2.2.2.2.2.2.2.2.1 k0_t30
theorem k0_t31_ok : ∀ (i : grid0.Coords) (v1 : BitVec 32) (k0_hw1 : k0_chk1 i v1), (k0_t31_loop i v1).OK := fun i v1 k0_hw1 => k0_hw1.2.2.2.1.2.2.2.2.2.2.2.2.2.2.2.2.2.2.2.2.2.2.2.2.2.2.2.2.1
theorem k0_mult36_dvd : ∀ (i : grid0.Coords) (v1 : BitVec 32) (k0_hw1 : k0_chk1 i v1) (k0_t31 : Fin (k0_t31_loop i v1).trips), 256 ∣ (k0_mult36 i v1 k0_t31).toNat := fun i v1 k0_hw1 k0_t31 => k0_hw1.2.2.2.1.2.2.2.2.2.2.2.2.2.2.2.2.2.2.2.2.2.2.2.2.2.2.2.2.2.1 k0_t31
theorem k0_off64_inb : ∀ (i : grid0.Coords) (v1 : BitVec 32) (k0_hw1 : k0_chk1 i v1) (k0_t31 : Fin (k0_t31_loop i v1).trips), ∀ a, (k0_off64 i v1 k0_t31) a + S1x1x256x128.size a ≤ S1x1x8192x128.size a := fun i v1 k0_hw1 k0_t31 => k0_hw1.2.2.2.1.2.2.2.2.2.2.2.2.2.2.2.2.2.2.2.2.2.2.2.2.2.2.2.2.2.2.1 k0_t31
theorem k0_off65_inb : ∀ (i : grid0.Coords) (v1 : BitVec 32) (k0_hw1 : k0_chk1 i v1) (k0_t31 : Fin (k0_t31_loop i v1).trips), ∀ a, (k0_off65 i v1 k0_t31) a + S1x1x128x256.size a ≤ S1x1x128x8192.size a := fun i v1 k0_hw1 k0_t31 => k0_hw1.2.2.2.1.2.2.2.2.2.2.2.2.2.2.2.2.2.2.2.2.2.2.2.2.2.2.2.2.2.2.2.1 k0_t31
theorem k0_t32_ok : ∀ (i : grid0.Coords) (v1 : BitVec 32) (k0_hw1 : k0_chk1 i v1), (k0_t32_loop i v1).OK := fun i v1 k0_hw1 => k0_hw1.2.2.2.1.2.2.2.2.2.2.2.2.2.2.2.2.2.2.2.2.2.2.2.2.2.2.2.2.2.2.2.2.1
theorem k0_mult37_dvd : ∀ (i : grid0.Coords) (v1 : BitVec 32) (k0_hw1 : k0_chk1 i v1) (k0_t32 : Fin (k0_t32_loop i v1).trips), 256 ∣ (k0_mult37 i v1 k0_t32).toNat := fun i v1 k0_hw1 k0_t32 => k0_hw1.2.2.2.1.2.2.2.2.2.2.2.2.2.2.2.2.2.2.2.2.2.2.2.2.2.2.2.2.2.2.2.2.2.1 k0_t32
theorem k0_off66_inb : ∀ (i : grid0.Coords) (v1 : BitVec 32) (k0_hw1 : k0_chk1 i v1) (k0_t32 : Fin (k0_t32_loop i v1).trips), ∀ a, (k0_off66 i v1 k0_t32) a + S1x1x256x128.size a ≤ S1x1x8192x128.size a := fun i v1 k0_hw1 k0_t32 => k0_hw1.2.2.2.1.2.2.2.2.2.2.2.2.2.2.2.2.2.2.2.2.2.2.2.2.2.2.2.2.2.2.2.2.2.2.1 k0_t32
theorem k0_off67_inb : ∀ (i : grid0.Coords) (v1 : BitVec 32) (k0_hw1 : k0_chk1 i v1) (k0_t32 : Fin (k0_t32_loop i v1).trips), ∀ a, (k0_off67 i v1 k0_t32) a + S1x1x128x256.size a ≤ S1x1x128x8192.size a := fun i v1 k0_hw1 k0_t32 => k0_hw1.2.2.2.1.2.2.2.2.2.2.2.2.2.2.2.2.2.2.2.2.2.2.2.2.2.2.2.2.2.2.2.2.2.2.2 k0_t32
theorem k0_t33_ok : ∀ (i : grid0.Coords) (v1 : BitVec 32) (k0_hw1 : k0_chk1 i v1), (k0_t33_loop i v1).OK := fun i v1 k0_hw1 => k0_hw1.2.2.2.2.1.1
theorem k0_mult38_dvd : ∀ (i : grid0.Coords) (v1 : BitVec 32) (k0_hw1 : k0_chk1 i v1) (k0_t33 : Fin (k0_t33_loop i v1).trips), 256 ∣ (k0_mult38 i v1 k0_t33).toNat := fun i v1 k0_hw1 k0_t33 => k0_hw1.2.2.2.2.1.2.1 k0_t33
theorem k0_off68_inb : ∀ (i : grid0.Coords) (v1 : BitVec 32) (k0_hw1 : k0_chk1 i v1) (k0_t33 : Fin (k0_t33_loop i v1).trips), ∀ a, (k0_off68 i v1 k0_t33) a + S1x1x256x128.size a ≤ S1x1x8192x128.size a := fun i v1 k0_hw1 k0_t33 => k0_hw1.2.2.2.2.1.2.2.1 k0_t33
theorem k0_off69_inb : ∀ (i : grid0.Coords) (v1 : BitVec 32) (k0_hw1 : k0_chk1 i v1) (k0_t33 : Fin (k0_t33_loop i v1).trips), ∀ a, (k0_off69 i v1 k0_t33) a + S1x1x128x256.size a ≤ S1x1x128x8192.size a := fun i v1 k0_hw1 k0_t33 => k0_hw1.2.2.2.2.1.2.2.2.1 k0_t33
theorem k0_t34_ok : ∀ (i : grid0.Coords) (v1 : BitVec 32) (k0_hw1 : k0_chk1 i v1), (k0_t34_loop i v1).OK := fun i v1 k0_hw1 => k0_hw1.2.2.2.2.1.2.2.2.2.1
theorem k0_mult39_dvd : ∀ (i : grid0.Coords) (v1 : BitVec 32) (k0_hw1 : k0_chk1 i v1) (k0_t34 : Fin (k0_t34_loop i v1).trips), 256 ∣ (k0_mult39 i v1 k0_t34).toNat := fun i v1 k0_hw1 k0_t34 => k0_hw1.2.2.2.2.1.2.2.2.2.2.1 k0_t34
theorem k0_off70_inb : ∀ (i : grid0.Coords) (v1 : BitVec 32) (k0_hw1 : k0_chk1 i v1) (k0_t34 : Fin (k0_t34_loop i v1).trips), ∀ a, (k0_off70 i v1 k0_t34) a + S1x1x256x128.size a ≤ S1x1x8192x128.size a := fun i v1 k0_hw1 k0_t34 => k0_hw1.2.2.2.2.1.2.2.2.2.2.2.1 k0_t34
theorem k0_off71_inb : ∀ (i : grid0.Coords) (v1 : BitVec 32) (k0_hw1 : k0_chk1 i v1) (k0_t34 : Fin (k0_t34_loop i v1).trips), ∀ a, (k0_off71 i v1 k0_t34) a + S1x1x128x256.size a ≤ S1x1x128x8192.size a := fun i v1 k0_hw1 k0_t34 => k0_hw1.2.2.2.2.1.2.2.2.2.2.2.2.1 k0_t34
theorem k0_t35_ok : ∀ (i : grid0.Coords) (v1 : BitVec 32) (k0_hw1 : k0_chk1 i v1), (k0_t35_loop i v1).OK := fun i v1 k0_hw1 => k0_hw1.2.2.2.2.1.2.2.2.2.2.2.2.2.1
theorem k0_mult40_dvd : ∀ (i : grid0.Coords) (v1 : BitVec 32) (k0_hw1 : k0_chk1 i v1) (k0_t35 : Fin (k0_t35_loop i v1).trips), 256 ∣ (k0_mult40 i v1 k0_t35).toNat := fun i v1 k0_hw1 k0_t35 => k0_hw1.2.2.2.2.1.2.2.2.2.2.2.2.2.2.1 k0_t35
theorem k0_off72_inb : ∀ (i : grid0.Coords) (v1 : BitVec 32) (k0_hw1 : k0_chk1 i v1) (k0_t35 : Fin (k0_t35_loop i v1).trips), ∀ a, (k0_off72 i v1 k0_t35) a + S1x1x256x128.size a ≤ S1x1x8192x128.size a := fun i v1 k0_hw1 k0_t35 => k0_hw1.2.2.2.2.1.2.2.2.2.2.2.2.2.2.2.1 k0_t35
theorem k0_off73_inb : ∀ (i : grid0.Coords) (v1 : BitVec 32) (k0_hw1 : k0_chk1 i v1) (k0_t35 : Fin (k0_t35_loop i v1).trips), ∀ a, (k0_off73 i v1 k0_t35) a + S1x1x128x256.size a ≤ S1x1x128x8192.size a := fun i v1 k0_hw1 k0_t35 => k0_hw1.2.2.2.2.1.2.2.2.2.2.2.2.2.2.2.2.1 k0_t35
theorem k0_t36_ok : ∀ (i : grid0.Coords) (v1 : BitVec 32) (k0_hw1 : k0_chk1 i v1), (k0_t36_loop i v1).OK := fun i v1 k0_hw1 => k0_hw1.2.2.2.2.1.2.2.2.2.2.2.2.2.2.2.2.2.1
theorem k0_mult41_dvd : ∀ (i : grid0.Coords) (v1 : BitVec 32) (k0_hw1 : k0_chk1 i v1) (k0_t36 : Fin (k0_t36_loop i v1).trips), 256 ∣ (k0_mult41 i v1 k0_t36).toNat := fun i v1 k0_hw1 k0_t36 => k0_hw1.2.2.2.2.1.2.2.2.2.2.2.2.2.2.2.2.2.2.1 k0_t36
theorem k0_off74_inb : ∀ (i : grid0.Coords) (v1 : BitVec 32) (k0_hw1 : k0_chk1 i v1) (k0_t36 : Fin (k0_t36_loop i v1).trips), ∀ a, (k0_off74 i v1 k0_t36) a + S1x1x256x128.size a ≤ S1x1x8192x128.size a := fun i v1 k0_hw1 k0_t36 => k0_hw1.2.2.2.2.1.2.2.2.2.2.2.2.2.2.2.2.2.2.2.1 k0_t36
theorem k0_off75_inb : ∀ (i : grid0.Coords) (v1 : BitVec 32) (k0_hw1 : k0_chk1 i v1) (k0_t36 : Fin (k0_t36_loop i v1).trips), ∀ a, (k0_off75 i v1 k0_t36) a + S1x1x128x256.size a ≤ S1x1x128x8192.size a := fun i v1 k0_hw1 k0_t36 => k0_hw1.2.2.2.2.1.2.2.2.2.2.2.2.2.2.2.2.2.2.2.2.1 k0_t36
theorem k0_t37_ok : ∀ (i : grid0.Coords) (v1 : BitVec 32) (k0_hw1 : k0_chk1 i v1), (k0_t37_loop i v1).OK := fun i v1 k0_hw1 => k0_hw1.2.2.2.2.1.2.2.2.2.2.2.2.2.2.2.2.2.2.2.2.2.1
theorem k0_mult43_dvd : ∀ (i : grid0.Coords) (v1 : BitVec 32) (k0_hw1 : k0_chk1 i v1) (k0_t37 : Fin (k0_t37_loop i v1).trips), 256 ∣ (k0_mult43 i v1 k0_t37).toNat := fun i v1 k0_hw1 k0_t37 => k0_hw1.2.2.2.2.1.2.2.2.2.2.2.2.2.2.2.2.2.2.2.2.2.2.1 k0_t37
theorem k0_off76_inb : ∀ (i : grid0.Coords) (v1 : BitVec 32) (k0_hw1 : k0_chk1 i v1) (k0_t37 : Fin (k0_t37_loop i v1).trips), ∀ a, (k0_off76 i v1 k0_t37) a + S1x1x256x128.size a ≤ S1x1x8192x128.size a := fun i v1 k0_hw1 k0_t37 => k0_hw1.2.2.2.2.1.2.2.2.2.2.2.2.2.2.2.2.2.2.2.2.2.2.2.1 k0_t37
theorem k0_off77_inb : ∀ (i : grid0.Coords) (v1 : BitVec 32) (k0_hw1 : k0_chk1 i v1) (k0_t37 : Fin (k0_t37_loop i v1).trips), ∀ a, (k0_off77 i v1 k0_t37) a + S1x1x128x256.size a ≤ S1x1x128x8192.size a := fun i v1 k0_hw1 k0_t37 => k0_hw1.2.2.2.2.1.2.2.2.2.2.2.2.2.2.2.2.2.2.2.2.2.2.2.2.1 k0_t37
theorem k0_t38_ok : ∀ (i : grid0.Coords) (v1 : BitVec 32) (k0_hw1 : k0_chk1 i v1), (k0_t38_loop i v1).OK := fun i v1 k0_hw1 => k0_hw1.2.2.2.2.1.2.2.2.2.2.2.2.2.2.2.2.2.2.2.2.2.2.2.2.2.1
theorem k0_mult44_dvd : ∀ (i : grid0.Coords) (v1 : BitVec 32) (k0_hw1 : k0_chk1 i v1) (k0_t38 : Fin (k0_t38_loop i v1).trips), 256 ∣ (k0_mult44 i v1 k0_t38).toNat := fun i v1 k0_hw1 k0_t38 => k0_hw1.2.2.2.2.1.2.2.2.2.2.2.2.2.2.2.2.2.2.2.2.2.2.2.2.2.2.1 k0_t38
theorem k0_off78_inb : ∀ (i : grid0.Coords) (v1 : BitVec 32) (k0_hw1 : k0_chk1 i v1) (k0_t38 : Fin (k0_t38_loop i v1).trips), ∀ a, (k0_off78 i v1 k0_t38) a + S1x1x256x128.size a ≤ S1x1x8192x128.size a := fun i v1 k0_hw1 k0_t38 => k0_hw1.2.2.2.2.1.2.2.2.2.2.2.2.2.2.2.2.2.2.2.2.2.2.2.2.2.2.2.1 k0_t38
theorem k0_off79_inb : ∀ (i : grid0.Coords) (v1 : BitVec 32) (k0_hw1 : k0_chk1 i v1) (k0_t38 : Fin (k0_t38_loop i v1).trips), ∀ a, (k0_off79 i v1 k0_t38) a + S1x1x128x256.size a ≤ S1x1x128x8192.size a := fun i v1 k0_hw1 k0_t38 => k0_hw1.2.2.2.2.1.2.2.2.2.2.2.2.2.2.2.2.2.2.2.2.2.2.2.2.2.2.2.2.1 k0_t38
theorem k0_t39_ok : ∀ (i : grid0.Coords) (v1 : BitVec 32) (k0_hw1 : k0_chk1 i v1), (k0_t39_loop i v1).OK := fun i v1 k0_hw1 => k0_hw1.2.2.2.2.1.2.2.2.2.2.2.2.2.2.2.2.2.2.2.2.2.2.2.2.2.2.2.2.2.1
theorem k0_mult45_dvd : ∀ (i : grid0.Coords) (v1 : BitVec 32) (k0_hw1 : k0_chk1 i v1) (k0_t39 : Fin (k0_t39_loop i v1).trips), 256 ∣ (k0_mult45 i v1 k0_t39).toNat := fun i v1 k0_hw1 k0_t39 => k0_hw1.2.2.2.2.1.2.2.2.2.2.2.2.2.2.2.2.2.2.2.2.2.2.2.2.2.2.2.2.2.2.1 k0_t39
theorem k0_off80_inb : ∀ (i : grid0.Coords) (v1 : BitVec 32) (k0_hw1 : k0_chk1 i v1) (k0_t39 : Fin (k0_t39_loop i v1).trips), ∀ a, (k0_off80 i v1 k0_t39) a + S1x1x256x128.size a ≤ S1x1x8192x128.size a := fun i v1 k0_hw1 k0_t39 => k0_hw1.2.2.2.2.1.2.2.2.2.2.2.2.2.2.2.2.2.2.2.2.2.2.2.2.2.2.2.2.2.2.2.1 k0_t39
theorem k0_off81_inb : ∀ (i : grid0.Coords) (v1 : BitVec 32) (k0_hw1 : k0_chk1 i v1) (k0_t39 : Fin (k0_t39_loop i v1).trips), ∀ a, (k0_off81 i v1 k0_t39) a + S1x1x128x256.size a ≤ S1x1x128x8192.size a := fun i v1 k0_hw1 k0_t39 => k0_hw1.2.2.2.2.1.2.2.2.2.2.2.2.2.2.2.2.2.2.2.2.2.2.2.2.2.2.2.2.2.2.2.2.1 k0_t39
theorem k0_t40_ok : ∀ (i : grid0.Coords) (v1 : BitVec 32) (k0_hw1 : k0_chk1 i v1), (k0_t40_loop i v1).OK := fun i v1 k0_hw1 => k0_hw1.2.2.2.2.1.2.2.2.2.2.2.2.2.2.2.2.2.2.2.2.2.2.2.2.2.2.2.2.2.2.2.2.2.1
theorem k0_mult46_dvd : ∀ (i : grid0.Coords) (v1 : BitVec 32) (k0_hw1 : k0_chk1 i v1) (k0_t40 : Fin (k0_t40_loop i v1).trips), 256 ∣ (k0_mult46 i v1 k0_t40).toNat := fun i v1 k0_hw1 k0_t40 => k0_hw1.2.2.2.2.1.2.2.2.2.2.2.2.2.2.2.2.2.2.2.2.2.2.2.2.2.2.2.2.2.2.2.2.2.2.1 k0_t40
theorem k0_off82_inb : ∀ (i : grid0.Coords) (v1 : BitVec 32) (k0_hw1 : k0_chk1 i v1) (k0_t40 : Fin (k0_t40_loop i v1).trips), ∀ a, (k0_off82 i v1 k0_t40) a + S1x1x256x128.size a ≤ S1x1x8192x128.size a := fun i v1 k0_hw1 k0_t40 => k0_hw1.2.2.2.2.1.2.2.2.2.2.2.2.2.2.2.2.2.2.2.2.2.2.2.2.2.2.2.2.2.2.2.2.2.2.2.1 k0_t40
theorem k0_off83_inb : ∀ (i : grid0.Coords) (v1 : BitVec 32) (k0_hw1 : k0_chk1 i v1) (k0_t40 : Fin (k0_t40_loop i v1).trips), ∀ a, (k0_off83 i v1 k0_t40) a + S1x1x128x256.size a ≤ S1x1x128x8192.size a := fun i v1 k0_hw1 k0_t40 => k0_hw1.2.2.2.2.1.2.2.2.2.2.2.2.2.2.2.2.2.2.2.2.2.2.2.2.2.2.2.2.2.2.2.2.2.2.2.2 k0_t40
theorem k0_t41_ok : ∀ (i : grid0.Coords) (v1 : BitVec 32) (k0_hw1 : k0_chk1 i v1), (k0_t41_loop i v1).OK := fun i v1 k0_hw1 => k0_hw1.2.2.2.2.2.1
theorem k0_mult47_dvd : ∀ (i : grid0.Coords) (v1 : BitVec 32) (k0_hw1 : k0_chk1 i v1) (k0_t41 : Fin (k0_t41_loop i v1).trips), 256 ∣ (k0_mult47 i v1 k0_t41).toNat := fun i v1 k0_hw1 k0_t41 => k0_hw1.2.2.2.2.2.2.1 k0_t41
theorem k0_off84_inb : ∀ (i : grid0.Coords) (v1 : BitVec 32) (k0_hw1 : k0_chk1 i v1) (k0_t41 : Fin (k0_t41_loop i v1).trips), ∀ a, (k0_off84 i v1 k0_t41) a + S1x1x256x128.size a ≤ S1x1x8192x128.size a := fun i v1 k0_hw1 k0_t41 => k0_hw1.2.2.2.2.2.2.2.1 k0_t41
theorem k0_off85_inb : ∀ (i : grid0.Coords) (v1 : BitVec 32) (k0_hw1 : k0_chk1 i v1) (k0_t41 : Fin (k0_t41_loop i v1).trips), ∀ a, (k0_off85 i v1 k0_t41) a + S1x1x128x256.size a ≤ S1x1x128x8192.size a := fun i v1 k0_hw1 k0_t41 => k0_hw1.2.2.2.2.2.2.2.2.1 k0_t41
theorem k0_t42_ok : ∀ (i : grid0.Coords) (v1 : BitVec 32) (k0_hw1 : k0_chk1 i v1), (k0_t42_loop i v1).OK := fun i v1 k0_hw1 => k0_hw1.2.2.2.2.2.2.2.2.2.1
theorem k0_mult48_dvd : ∀ (i : grid0.Coords) (v1 : BitVec 32) (k0_hw1 : k0_chk1 i v1) (k0_t42 : Fin (k0_t42_loop i v1).trips), 256 ∣ (k0_mult48 i v1 k0_t42).toNat := fun i v1 k0_hw1 k0_t42 => k0_hw1.2.2.2.2.2.2.2.2.2.2.1 k0_t42
theorem k0_off86_inb : ∀ (i : grid0.Coords) (v1 : BitVec 32) (k0_hw1 : k0_chk1 i v1) (k0_t42 : Fin (k0_t42_loop i v1).trips), ∀ a, (k0_off86 i v1 k0_t42) a + S1x1x256x128.size a ≤ S1x1x8192x128.size a := fun i v1 k0_hw1 k0_t42 => k0_hw1.2.2.2.2.2.2.2.2.2.2.2.1 k0_t42
theorem k0_off87_inb : ∀ (i : grid0.Coords) (v1 : BitVec 32) (k0_hw1 : k0_chk1 i v1) (k0_t42 : Fin (k0_t42_loop i v1).trips), ∀ a, (k0_off87 i v1 k0_t42) a + S1x1x128x256.size a ≤ S1x1x128x8192.size a := fun i v1 k0_hw1 k0_t42 => k0_hw1.2.2.2.2.2.2.2.2.2.2.2.2 k0_t42

def k0_mult49 (i : grid0.Coords) : BitVec 32 :=
  let arg2 : BitVec 32 := BitVec.ofNat 32 (i 2).val
  let c256_i32_475 : BitVec 32 := 256#32
  let v925 : BitVec 32 := Scalar.muli arg2 c256_i32_475
  v925
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x7x256x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x7x256x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x7x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x7x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x8192x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8192x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x128x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x256x896 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S3 : Shape := ⟨1, ![3]⟩
abbrev S3x8192x28x128 : Shape := ⟨4, ![3, 8192, 28, 128]⟩
abbrev S3x8192x28 : Shape := ⟨3, ![3, 8192, 28]⟩
abbrev S3x8192x4x128 : Shape := ⟨4, ![3, 8192, 4, 128]⟩
abbrev S3x8192x4 : Shape := ⟨3, ![3, 8192, 4]⟩
abbrev S3x1 : Shape := ⟨2, ![3, 1]⟩
abbrev S3x28 : Shape := ⟨2, ![3, 28]⟩
abbrev S84x1x1 : Shape := ⟨3, ![84, 1, 1]⟩
abbrev S3x28x8192x128 : Shape := ⟨4, ![3, 28, 8192, 128]⟩
abbrev S84x8192x128 : Shape := ⟨3, ![84, 8192, 128]⟩
abbrev S3x28x8192 : Shape := ⟨3, ![3, 28, 8192]⟩
abbrev S84x8192x1 : Shape := ⟨3, ![84, 8192, 1]⟩
abbrev S3x4x8192x128 : Shape := ⟨4, ![3, 4, 8192, 128]⟩
abbrev S3x4x1x8192x128 : Shape := ⟨5, ![3, 4, 1, 8192, 128]⟩
abbrev S3x4x7x8192x128 : Shape := ⟨5, ![3, 4, 7, 8192, 128]⟩
abbrev S3x4x8192 : Shape := ⟨3, ![3, 4, 8192]⟩
abbrev S3x4x1x8192 : Shape := ⟨4, ![3, 4, 1, 8192]⟩
abbrev S3x4x7x8192 : Shape := ⟨4, ![3, 4, 7, 8192]⟩
abbrev S84x1x8192 : Shape := ⟨3, ![84, 1, 8192]⟩
abbrev S3x8192x3584 : Shape := ⟨3, ![3, 8192, 3584]⟩
abbrev S84x8192x8192 : Shape := ⟨3, ![84, 8192, 8192]⟩
abbrev S84x8192 : Shape := ⟨2, ![84, 8192]⟩

abbrev nBuf : Space → Nat
  | .hbm => 51
  | .vmem => 12
  | .smem => 0
  | _ => 0

abbrev bufTy : (tb : Table) → Fin (tcTables nBuf tb) → BufTy
  | .hbm, ⟨0, _⟩ => ⟨S3, .i32⟩
  | .hbm, ⟨1, _⟩ => ⟨S3x8192x28x128, .f32⟩
  | .hbm, ⟨2, _⟩ => ⟨S3x8192x28, .f32⟩
  | .hbm, ⟨3, _⟩ => ⟨S3x8192x28x128, .f32⟩
  | .hbm, ⟨4, _⟩ => ⟨S3x8192x28, .f32⟩
  | .hbm, ⟨5, _⟩ => ⟨S3x8192x4x128, .f32⟩
  | .hbm, ⟨6, _⟩ => ⟨S3x8192x4, .f32⟩
  | .hbm, ⟨7, _⟩ => ⟨S3x8192x4x128, .f32⟩
  | .hbm, ⟨8, _⟩ => ⟨S3x8192x4, .f32⟩
  | .hbm, ⟨9, _⟩ => ⟨S3x8192x4x128, .bf16⟩
  | .hbm, ⟨10, _⟩ => ⟨S3x8192x4, .f32⟩
  | .hbm, ⟨11, _⟩ => ⟨S3x8192x28x128, .fp8e4m3⟩
  | .hbm, ⟨12, _⟩ => ⟨S3x8192x28x128, .fp8e4m3⟩
  | .hbm, ⟨13, _⟩ => ⟨S3x8192x4x128, .fp8e4m3⟩
  | .hbm, ⟨14, _⟩ => ⟨S3x8192x4x128, .fp8e4m3⟩
  | .hbm, ⟨15, _⟩ => ⟨S3x1, .i32⟩
  | .hbm, ⟨16, _⟩ => ⟨S3x28, .i32⟩
  | .hbm, ⟨17, _⟩ => ⟨S84x1x1, .i32⟩
  | .hbm, ⟨18, _⟩ => ⟨S3x28x8192x128, .fp8e4m3⟩
  | .hbm, ⟨19, _⟩ => ⟨S84x8192x128, .fp8e4m3⟩
  | .hbm, ⟨20, _⟩ => ⟨S3x28x8192x128, .fp8e4m3⟩
  | .hbm, ⟨21, _⟩ => ⟨S84x8192x128, .fp8e4m3⟩
  | .hbm, ⟨22, _⟩ => ⟨S3x28x8192, .f32⟩
  | .hbm, ⟨23, _⟩ => ⟨S84x8192x1, .f32⟩
  | .hbm, ⟨24, _⟩ => ⟨S3x28x8192, .f32⟩
  | .hbm, ⟨25, _⟩ => ⟨S84x8192x1, .f32⟩
  | .hbm, ⟨26, _⟩ => ⟨S3x4x8192x128, .fp8e4m3⟩
  | .hbm, ⟨27, _⟩ => ⟨S3x4x1x8192x128, .fp8e4m3⟩
  | .hbm, ⟨28, _⟩ => ⟨S3x4x7x8192x128, .fp8e4m3⟩
  | .hbm, ⟨29, _⟩ => ⟨S84x8192x128, .fp8e4m3⟩
  | .hbm, ⟨30, _⟩ => ⟨S3x4x8192x128, .fp8e4m3⟩
  | .hbm, ⟨31, _⟩ => ⟨S3x4x1x8192x128, .fp8e4m3⟩
  | .hbm, ⟨32, _⟩ => ⟨S3x4x7x8192x128, .fp8e4m3⟩
  | .hbm, ⟨33, _⟩ => ⟨S84x8192x128, .fp8e4m3⟩
  | .hbm, ⟨34, _⟩ => ⟨S3x4x8192, .f32⟩
  | .hbm, ⟨35, _⟩ => ⟨S3x4x1x8192, .f32⟩
  | .hbm, ⟨36, _⟩ => ⟨S3x4x7x8192, .f32⟩
  | .hbm, ⟨37, _⟩ => ⟨S84x1x8192, .f32⟩
  | .hbm, ⟨38, _⟩ => ⟨S3x4x8192, .f32⟩
  | .hbm, ⟨39, _⟩ => ⟨S3x4x1x8192, .f32⟩
  | .hbm, ⟨40, _⟩ => ⟨S3x4x7x8192, .f32⟩
  | .hbm, ⟨41, _⟩ => ⟨S84x1x8192, .f32⟩
  | .hbm, ⟨42, _⟩ => ⟨S3x4x8192x128, .bf16⟩
  | .hbm, ⟨43, _⟩ => ⟨S3x4x1x8192x128, .bf16⟩
  | .hbm, ⟨44, _⟩ => ⟨S3x4x7x8192x128, .bf16⟩
  | .hbm, ⟨45, _⟩ => ⟨S84x8192x128, .bf16⟩
  | .hbm, ⟨46, _⟩ => ⟨S3x4x8192, .f32⟩
  | .hbm, ⟨47, _⟩ => ⟨S3x4x1x8192, .f32⟩
  | .hbm, ⟨48, _⟩ => ⟨S3x4x7x8192, .f32⟩
  | .hbm, ⟨49, _⟩ => ⟨S84x1x8192, .f32⟩
  | .hbm, ⟨50, _⟩ => ⟨S3x8192x3584, .bf16⟩
  | .local _ .vmem, ⟨0, _⟩ => ⟨S84x1x1, .i32⟩
  | .local _ .vmem, ⟨1, _⟩ => ⟨S84x8192x128, .fp8e4m3⟩
  | .local _ .vmem, ⟨2, _⟩ => ⟨S84x8192x128, .fp8e4m3⟩
  | .local _ .vmem, ⟨3, _⟩ => ⟨S84x8192x1, .f32⟩
  | .local _ .vmem, ⟨4, _⟩ => ⟨S84x8192x1, .f32⟩
  | .local _ .vmem, ⟨5, _⟩ => ⟨S84x8192x128, .fp8e4m3⟩
  | .local _ .vmem, ⟨6, _⟩ => ⟨S84x8192x128, .fp8e4m3⟩
  | .local _ .vmem, ⟨7, _⟩ => ⟨S84x1x8192, .f32⟩
  | .local _ .vmem, ⟨8, _⟩ => ⟨S84x1x8192, .f32⟩
  | .local _ .vmem, ⟨9, _⟩ => ⟨S84x8192x128, .bf16⟩
  | .local _ .vmem, ⟨10, _⟩ => ⟨S84x1x8192, .f32⟩
  | .local _ .vmem, ⟨11, _⟩ => ⟨S3x8192x3584, .bf16⟩
  | _, _ => ⟨S3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "scale" => some (((4278775 / 33554432) * (Real.log 2) : ℝ) : EReal)
  | _ => none

abbrev grid0 : Pipeline.Grid := .none

abbrev stage0_0 : Fin 1 → Memref sig .tc .vmem S84x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S84x8192x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S84x8192x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S84x8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S84x8192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S84x8192x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S84x8192x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S84x1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S84x1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S84x8192x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S84x1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x8192x3584 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Words.lean ====
/-
  The words of the attention kernel's loop bounds. Query block `q` (0 … 31) meets the key blocks before `nl q w` wholly
  beyond the window `w` (the "leaky" loop), those from `nl q w` to `lo q w` partly (the "mixed" loop), and those from
  `lo q w` to `q` wholly within (the "normal" loop). Here: what these two words are as integers, and that every one of
  the loops is well formed and loads in range, whatever word `w` is.
-/
module

public import Idealize.ShloMosaic.Lib.Scf
public import Idealize.ShloMosaic.Lib.WordCmp

@[expose] public section

namespace Cert.Words

open Idealize.ShloMosaic Idealize.ShloMosaic.WordCmp

/-- Division by 256 rounding down, as the kernel spells it (the quotient rounded to zero, less one where the signs differ
    and there is a remainder). -/
def fdiv256 (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 256#32 0#32)) (Scalar.extui (Scalar.cmpi .slt 256#32 0#32))))
      (Scalar.cmpi .ne (Scalar.remsi x 256#32) 0#32))
    (Scalar.subi (Scalar.divsi x 256#32) 1#32) (Scalar.divsi x 256#32)

/-- The number of key blocks wholly beyond the window, clipped to `0 … q + 1`. -/
def nl (q w : BitVec 32) : BitVec 32 :=
  Scalar.minsi (Scalar.addi q 1#32) (Scalar.maxsi 0#32
    (Scalar.addi (fdiv256 (Scalar.subi (Scalar.subi (Scalar.muli q 256#32) 255#32) w)) 1#32))

/-- The first key block wholly within the window, clipped to `nl … q`. -/
def lo (q w : BitVec 32) : BitVec 32 :=
  Scalar.minsi q (Scalar.maxsi (nl q w)
    (Scalar.addi (fdiv256 (Scalar.subi (Scalar.subi (Scalar.addi (Scalar.muli q 256#32) 256#32) 1#32) w)) 1#32))

/-- The end of a loop from `a` to `b` by ones, as the compiler of the kernel's `fori_loop` spells it. -/
def up (a b : BitVec 32) : BitVec 32 := Scalar.addi a (Scalar.muli (Scalar.divsi (Scalar.subi b a) 1#32) 1#32)

/-- The end of the second, empty loop from `b` on, as spelled. -/
def rest (a b : BitVec 32) : BitVec 32 := Scalar.addi a (Scalar.subi b a)

theorem toInt_minsi (x y : BitVec 32) : (Scalar.minsi x y).toInt = min x.toInt y.toInt := by
  simp only [Scalar.minsi, IntOp.minsi, BitVec.slt]
  by_cases h : x.toInt < y.toInt
  · simp [h, min_eq_left h.le]
  · simp [h, min_eq_right (not_lt.mp h)]

theorem toInt_maxsi (x y : BitVec 32) : (Scalar.maxsi x y).toInt = max x.toInt y.toInt := by
  simp only [Scalar.maxsi, IntOp.maxsi, BitVec.slt]
  by_cases h : y.toInt < x.toInt
  · simp [h, max_eq_left h.le]
  · simp [h, max_eq_right (not_lt.mp h)]

theorem up_eq (a b : BitVec 32) : up a b = b := by
  have h1 : ∀ x : BitVec 32, Scalar.divsi x 1#32 = x := fun x => by
    have : ¬ IntOp.SDivCorner x 1#32 := by simp [IntOp.SDivCorner]
    simp [Scalar.divsi, IntOp.divsi, this, BitVec.sdiv_one]
  simp [up, h1, Scalar.addi, Scalar.muli, Scalar.subi, IntOp.addi, IntOp.muli, IntOp.subi]
  rw [BitVec.add_comm, BitVec.sub_add_cancel]

theorem rest_eq (a b : BitVec 32) : rest a b = b := by
  simp only [rest, Scalar.addi, Scalar.subi, IntOp.addi, IntOp.subi]
  rw [BitVec.add_comm, BitVec.sub_add_cancel]

theorem toInt_fdiv256 (x : BitVec 32) : (fdiv256 x).toInt = x.toInt / 256 := by
  have hc : ¬ IntOp.SDivCorner x 256#32 := by simp [IntOp.SDivCorner]
  have hb := BitVec.toInt_lt (x := x)
  have hb' := BitVec.le_toInt (x := x)
  have htd : 0 ≤ x.toInt ∧ x.toInt.tdiv 256 = x.toInt / 256 ∨ x.toInt < 0 ∧ x.toInt.tdiv 256 = -(-x.toInt / 256) := by
    rcases le_or_gt 0 x.toInt with h | h
    · exact Or.inl ⟨h, Int.tdiv_eq_ediv_of_nonneg h⟩
    · refine Or.inr ⟨h, ?_⟩
      rw [← Int.tdiv_eq_ediv_of_nonneg (by omega), Int.neg_tdiv, neg_neg]
  have htm : x.toInt.tmod 256 + 256 * x.toInt.tdiv 256 = x.toInt := Int.tmod_add_mul_tdiv _ _
  have hd : (x.sdiv 256#32).toInt = x.toInt.tdiv 256 := by
    rw [BitVec.toInt_sdiv]
    have : (256#32 : BitVec 32).toInt = 256 := by decide
    rw [this]
    exact Int.bmod_eq_of_le (by omega) (by omega)
  have hr : (x.srem 256#32).toInt = x.toInt.tmod 256 := by
    rw [BitVec.toInt_srem]; rfl
  have hone : (256#32 : BitVec 32).toInt = 256 := by decide
  have hz : (0#32 : BitVec 32).toInt = 0 := by decide
  have h1 : (1#32 : BitVec 32).toInt = 1 := by decide
  have hsel : (fdiv256 x) = if x.toInt < 0 ∧ x.toInt.tmod 256 ≠ 0 then x.sdiv 256#32 - 1#32 else
      if x.toInt = 0 ∧ x.toInt.tmod 256 ≠ 0 then x.sdiv 256#32 - 1#32 else x.sdiv 256#32 := by
    have hne : (x.srem 256#32 = 0#32) ↔ x.toInt.tmod 256 = 0 := by
      rw [← hr]; constructor
      · intro h; rw [h]; decide
      · intro h; exact BitVec.eq_of_toInt_eq (by rw [h]; decide)
    simp only [fdiv256, Scalar.select, Scalar.andi, Scalar.cmpi, Scalar.subi, Scalar.extui, Scalar.remsi, Scalar.divsi,
      IntOp.remsi, IntOp.divsi, hc, if_false, cmpi_sgt_eq, cmpi_slt_eq, cmpi_ne_eq, hone, hz, IntOp.andi, IntOp.subi]
    rcases lt_trichotomy x.toInt 0 with h | h | h
    · by_cases h2 : x.toInt.tmod 256 = 0
      · simp [h, h2, hne, not_lt.mpr h.le]
      · simp [h, h2, hne, not_lt.mpr h.le]
    · simp [h, hne]
    · by_cases h2 : x.toInt.tmod 256 = 0
      · simp [h, h2, hne, not_lt.mpr h.le]
      · simp [h, h2, hne, not_lt.mpr h.le, h.ne']
  have hs : (x.sdiv 256#32 - 1#32).toInt = x.toInt.tdiv 256 - 1 := by
    rw [BitVec.toInt_sub, hd, h1]
    exact Int.bmod_eq_of_le (by omega) (by omega)
  rw [hsel]
  split_ifs with ha hb2
  · rw [hs]
    generalize x.toInt.tmod 256 = r at *
    generalize x.toInt.tdiv 256 = d at *
    omega
  · rw [hs]
    generalize x.toInt.tmod 256 = r at *
    generalize x.toInt.tdiv 256 = d at *
    omega
  · rw [hd]
    generalize x.toInt.tmod 256 = r at *
    generalize x.toInt.tdiv 256 = d at *
    omega

theorem toInt_q {n : ℕ} (hn : n < 32) : (BitVec.ofNat 32 n).toInt = n := toInt_ofNat_of_lt (by omega)

theorem toInt_addi_one {n : ℕ} (hn : n < 32) : (Scalar.addi (BitVec.ofNat 32 n) 1#32).toInt = n + 1 := by
  have : Scalar.addi (BitVec.ofNat 32 n) 1#32 = BitVec.ofNat 32 (n + 1) := by
    simp [Scalar.addi, IntOp.addi, BitVec.ofNat_add]
  rw [this, toInt_ofNat_of_lt (by omega)]; push_cast; rfl

/-- The leaky loop ends between 0 and `q + 1`. -/
theorem nl_bounds {n : ℕ} (hn : n < 32) (w : BitVec 32) :
    0 ≤ (nl (BitVec.ofNat 32 n) w).toInt ∧ (nl (BitVec.ofNat 32 n) w).toInt ≤ n + 1 := by
  have hz : (0#32 : BitVec 32).toInt = 0 := by decide
  rw [nl, toInt_minsi, toInt_maxsi, toInt_addi_one hn, hz]
  omega

/-- The mixed loop ends between 0 and `q`. -/
theorem lo_bounds {n : ℕ} (hn : n < 32) (w : BitVec 32) :
    0 ≤ (lo (BitVec.ofNat 32 n) w).toInt ∧ (lo (BitVec.ofNat 32 n) w).toInt ≤ n := by
  have h := nl_bounds hn w
  rw [lo, toInt_minsi, toInt_maxsi, toInt_q hn]
  omega

/-- A loop by ones whose bounds are between 0 and 32 is well formed, its key blocks start at multiples of 256, and both
    loads of a trip lie inside their arrays. -/
theorem chk4 {lb ub : BitVec 32} (h0 : 0 ≤ lb.toInt) (h0' : lb.toInt ≤ 32) (h1 : ub.toInt ≤ 32) :
    Scf.OK lb ub 1#32 ∧
    (∀ k : Fin (Scf.trips lb ub 1#32), 256 ∣ (Scalar.muli (Scf.iv lb 1#32 k) 256#32).toNat) ∧
    (∀ k : Fin (Scf.trips lb ub 1#32), ∀ a, (![(0#32 : Index).toNat, (0#32 : Index).toNat,
        (Scalar.indexCast (Scalar.muli (Scf.iv lb 1#32 k) 256#32) : Index).toNat, (0#32 : Index).toNat] : Fin 4 → ℕ) a +
      (![1, 1, 256, 128] : Fin 4 → ℕ) a ≤ (![1, 1, 8192, 128] : Fin 4 → ℕ) a) ∧
    (∀ k : Fin (Scf.trips lb ub 1#32), ∀ a, (![(0#32 : Index).toNat, (0#32 : Index).toNat, (0#32 : Index).toNat,
        (Scalar.indexCast (Scalar.muli (Scf.iv lb 1#32 k) 256#32) : Index).toNat] : Fin 4 → ℕ) a +
      (![1, 1, 128, 256] : Fin 4 → ℕ) a ≤ (![1, 1, 128, 8192] : Fin 4 → ℕ) a) := by
  have h1' : (1#32 : BitVec 32).toInt = 1 := by decide
  have ok : Scf.OK lb ub 1#32 := by
    refine ⟨by decide, ?_⟩
    simp only [Scf.trips, h1']
    omega
  have key : ∀ k : Fin (Scf.trips lb ub 1#32), ∃ n : ℕ, n < 32 ∧
      (Scalar.muli (Scf.iv lb 1#32 k) 256#32).toNat = n * 256 := fun k => by
    have a := Scf.iv_lt_ub ok k.isLt
    have b := Scf.lb_le_iv ok k.isLt.le
    refine ⟨(Scf.iv lb 1#32 k).toNat, ?_, ?_⟩
    · have := BitVec.toInt_eq_toNat_cond (Scf.iv lb 1#32 k)
      split_ifs at this <;> omega
    · have c : (Scf.iv lb 1#32 k).toNat < 32 := by
        have := BitVec.toInt_eq_toNat_cond (Scf.iv lb 1#32 k)
        split_ifs at this <;> omega
      simp only [Scalar.muli, IntOp.muli, BitVec.toNat_mul]
      have : (256#32 : BitVec 32).toNat = 256 := by decide
      rw [this, Nat.mod_eq_of_lt (by omega)]
  have idx : ∀ x : BitVec 32, (Scalar.indexCast x : Index) = x := fun _ => rfl
  refine ⟨ok, fun k => ?_, fun k => ?_, fun k => ?_⟩
  · obtain ⟨n, -, h⟩ := key k
    rw [h]; exact ⟨n, by omega⟩
  · obtain ⟨n, hn, h⟩ := key k
    rw [idx, h]
    intro a; fin_cases a <;> simp <;> omega
  · obtain ⟨n, hn, h⟩ := key k
    rw [idx, h]
    intro a; fin_cases a <;> simp <;> omega

/-- `chk4` for a loop, block starts and load offsets known by what they are equal to. -/
theorem chkLoop {l : Scf.Loop 32} {lb ub : BitVec 32} (b : 0 ≤ lb.toInt ∧ lb.toInt ≤ 32 ∧ ub.toInt ≤ 32)
    (mult : Fin l.trips → BitVec 32) (off off' : Fin l.trips → Fin 4 → ℕ) (hl : l = ⟨lb, ub, 1#32⟩)
    (hm : ∀ k, mult k = Scalar.muli (Scf.iv lb 1#32 k) 256#32)
    (ho : ∀ k, off k = ![(0#32 : Index).toNat, (0#32 : Index).toNat,
      (Scalar.indexCast (Scalar.muli (Scf.iv lb 1#32 k) 256#32) : Index).toNat, (0#32 : Index).toNat])
    (ho' : ∀ k, off' k = ![(0#32 : Index).toNat, (0#32 : Index).toNat, (0#32 : Index).toNat,
      (Scalar.indexCast (Scalar.muli (Scf.iv lb 1#32 k) 256#32) : Index).toNat]) :
    l.OK ∧ (∀ k, 256 ∣ (mult k).toNat) ∧
    (∀ k, ∀ a, off k a + (![1, 1, 256, 128] : Fin 4 → ℕ) a ≤ (![1, 1, 8192, 128] : Fin 4 → ℕ) a) ∧
    (∀ k, ∀ a, off' k a + (![1, 1, 128, 256] : Fin 4 → ℕ) a ≤ (![1, 1, 128, 8192] : Fin 4 → ℕ) a) := by
  subst hl
  obtain ⟨h1, h2, h3, h4⟩ := chk4 b.1 b.2.1 b.2.2
  refine ⟨h1, fun k => ?_, fun k => ?_, fun k => ?_⟩
  · rw [hm]; exact h2 k
  · rw [ho]; exact h3 k
  · rw [ho']; exact h4 k

/-- The bounds of the six loops of a head lie between 0 and 32. -/
theorem bounds6 {n : ℕ} (hn : n < 32) (w : BitVec 32) :
    let q := BitVec.ofNat 32 n
    let ok := fun a b : BitVec 32 => 0 ≤ a.toInt ∧ a.toInt ≤ 32 ∧ b.toInt ≤ 32
    ok 0#32 (up 0#32 (nl q w)) ∧ ok (up 0#32 (nl q w)) (rest 0#32 (nl q w)) ∧
    ok (nl q w) (up (nl q w) (lo q w)) ∧ ok (up (nl q w) (lo q w)) (rest (nl q w) (lo q w)) ∧
    ok (lo q w) (up (lo q w) q) ∧ ok (up (lo q w) q) (rest (lo q w) q) := by
  have hz : (0#32 : BitVec 32).toInt = 0 := by decide
  have a := nl_bounds hn w
  have b := lo_bounds hn w
  have c := toInt_q hn
  simp only [up_eq, rest_eq]
  refine ⟨⟨?_, ?_, ?_⟩, ⟨?_, ?_, ?_⟩, ⟨?_, ?_, ?_⟩, ⟨?_, ?_, ?_⟩, ⟨?_, ?_, ?_⟩, ⟨?_, ?_, ?_⟩⟩ <;> omega

/-- Four facts put before the rest of a list of facts. -/
theorem and4 {a b c d e : Prop} (h : a ∧ b ∧ c ∧ d) (k : e) : a ∧ b ∧ c ∧ d ∧ e :=
  ⟨h.1, h.2.1, h.2.2.1, h.2.2.2, k⟩

end Cert.Words
-- ==== Proof.KernelChk.lean ====
/-
  The check the kernel makes of its window word, which its 42 loops need: it holds of every word. Each loop is one of the
  six of a head (its bounds named in `Words`); that its printed bounds, block starts and offsets are those is `rfl`.
-/
module

public import proofs.«01_k».proof.Proof.Words
public import proofs.«01_k».proof.Kernel

@[expose] public section

namespace Cert.Kernel

open Idealize.ShloMosaic Cert.Words

variable (i : grid0.Coords) (v1 : BitVec 32)

theorem chk1_0 : k0_chk1_0 i v1 := by
  have c1 := chkLoop (bounds6 (i 2).isLt v1).1 (k0_mult1 i v1) (k0_off2 i v1) (k0_off3 i v1)
    (by unfold k0_t1_loop; rfl) (fun k => by unfold k0_mult1; rfl)
    (fun k => by unfold k0_off2; rfl) (fun k => by unfold k0_off3; rfl)
  have c2 := chkLoop (bounds6 (i 2).isLt v1).2.1 (k0_mult2 i v1) (k0_off4 i v1) (k0_off5 i v1)
    (by unfold k0_t2_loop up nl fdiv256; rfl) (fun k => by unfold k0_mult2 up nl fdiv256; rfl)
    (fun k => by unfold k0_off4 up nl fdiv256; rfl) (fun k => by unfold k0_off5 up nl fdiv256; rfl)
  have c3 := chkLoop (bounds6 (i 2).isLt v1).2.2.1 (k0_mult3 i v1) (k0_off6 i v1) (k0_off7 i v1)
    (by unfold k0_t3_loop nl fdiv256; rfl) (fun k => by unfold k0_mult3 nl fdiv256; rfl)
    (fun k => by unfold k0_off6 nl fdiv256; rfl) (fun k => by unfold k0_off7 nl fdiv256; rfl)
  have c4 := chkLoop (bounds6 (i 2).isLt v1).2.2.2.1 (k0_mult4 i v1) (k0_off8 i v1) (k0_off9 i v1)
    (by unfold k0_t4_loop up lo nl fdiv256; rfl) (fun k => by unfold k0_mult4 up lo nl fdiv256; rfl)
    (fun k => by unfold k0_off8 up lo nl fdiv256; rfl) (fun k => by unfold k0_off9 up lo nl fdiv256; rfl)
  have c5 := chkLoop (bounds6 (i 2).isLt v1).2.2.2.2.1 (k0_mult5 i v1) (k0_off10 i v1) (k0_off11 i v1)
    (by unfold k0_t5_loop lo nl fdiv256; rfl) (fun k => by unfold k0_mult5 lo nl fdiv256; rfl)
    (fun k => by unfold k0_off10 lo nl fdiv256; rfl) (fun k => by unfold k0_off11 lo nl fdiv256; rfl)
  have c6 := chkLoop (bounds6 (i 2).isLt v1).2.2.2.2.2 (k0_mult6 i v1) (k0_off12 i v1) (k0_off13 i v1)
    (by unfold k0_t6_loop up lo nl fdiv256; rfl) (fun k => by unfold k0_mult6 up lo nl fdiv256; rfl)
    (fun k => by unfold k0_off12 up lo nl fdiv256; rfl) (fun k => by unfold k0_off13 up lo nl fdiv256; rfl)
  have c7 := chkLoop (bounds6 (i 2).isLt v1).1 (k0_mult8 i v1) (k0_off16 i v1) (k0_off17 i v1)
    (by unfold k0_t7_loop; rfl) (fun k => by unfold k0_mult8; rfl)
    (fun k => by unfold k0_off16; rfl) (fun k => by unfold k0_off17; rfl)
  have c8 := chkLoop (bounds6 (i 2).isLt v1).2.1 (k0_mult9 i v1) (k0_off18 i v1) (k0_off19 i v1)
    (by unfold k0_t8_loop up nl fdiv256; rfl) (fun k => by unfold k0_mult9 up nl fdiv256; rfl)
    (fun k => by unfold k0_off18 up nl fdiv256; rfl) (fun k => by unfold k0_off19 up nl fdiv256; rfl)
  exact and4 c1 (and4 c2 (and4 c3 (and4 c4 (and4 c5 (and4 c6 (and4 c7 c8))))))

theorem chk1_1 : k0_chk1_1 i v1 := by
  have c9 := chkLoop (bounds6 (i 2).isLt v1).2.2.1 (k0_mult10 i v1) (k0_off20 i v1) (k0_off21 i v1)
    (by unfold k0_t9_loop nl fdiv256; rfl) (fun k => by unfold k0_mult10 nl fdiv256; rfl)
    (fun k => by unfold k0_off20 nl fdiv256; rfl) (fun k => by unfold k0_off21 nl fdiv256; rfl)
  have c10 := chkLoop (bounds6 (i 2).isLt v1).2.2.2.1 (k0_mult11 i v1) (k0_off22 i v1) (k0_off23 i v1)
    (by unfold k0_t10_loop up lo nl fdiv256; rfl) (fun k => by unfold k0_mult11 up lo nl fdiv256; rfl)
    (fun k => by unfold k0_off22 up lo nl fdiv256; rfl) (fun k => by unfold k0_off23 up lo nl fdiv256; rfl)
  have c11 := chkLoop (bounds6 (i 2).isLt v1).2.2.2.2.1 (k0_mult12 i v1) (k0_off24 i v1) (k0_off25 i v1)
    (by unfold k0_t11_loop lo nl fdiv256; rfl) (fun k => by unfold k0_mult12 lo nl fdiv256; rfl)
    (fun k => by unfold k0_off24 lo nl fdiv256; rfl) (fun k => by unfold k0_off25 lo nl fdiv256; rfl)
  have c12 := chkLoop (bounds6 (i 2).isLt v1).2.2.2.2.2 (k0_mult13 i v1) (k0_off26 i v1) (k0_off27 i v1)
    (by unfold k0_t12_loop up lo nl fdiv256; rfl) (fun k => by unfold k0_mult13 up lo nl fdiv256; rfl)
    (fun k => by unfold k0_off26 up lo nl fdiv256; rfl) (fun k => by unfold k0_off27 up lo nl fdiv256; rfl)
  have c13 := chkLoop (bounds6 (i 2).isLt v1).1 (k0_mult15 i v1) (k0_off28 i v1) (k0_off29 i v1)
    (by unfold k0_t13_loop; rfl) (fun k => by unfold k0_mult15; rfl)
    (fun k => by unfold k0_off28; rfl) (fun k => by unfold k0_off29; rfl)
  have c14 := chkLoop (bounds6 (i 2).isLt v1).2.1 (k0_mult16 i v1) (k0_off30 i v1) (k0_off31 i v1)
    (by unfold k0_t14_loop up nl fdiv256; rfl) (fun k => by unfold k0_mult16 up nl fdiv256; rfl)
    (fun k => by unfold k0_off30 up nl fdiv256; rfl) (fun k => by unfold k0_off31 up nl fdiv256; rfl)
  have c15 := chkLoop (bounds6 (i 2).isLt v1).2.2.1 (k0_mult17 i v1) (k0_off32 i v1) (k0_off33 i v1)
    (by unfold k0_t15_loop nl fdiv256; rfl) (fun k => by unfold k0_mult17 nl fdiv256; rfl)
    (fun k => by unfold k0_off32 nl fdiv256; rfl) (fun k => by unfold k0_off33 nl fdiv256; rfl)
  have c16 := chkLoop (bounds6 (i 2).isLt v1).2.2.2.1 (k0_mult18 i v1) (k0_off34 i v1) (k0_off35 i v1)
    (by unfold k0_t16_loop up lo nl fdiv256; rfl) (fun k => by unfold k0_mult18 up lo nl fdiv256; rfl)
    (fun k => by unfold k0_off34 up lo nl fdiv256; rfl) (fun k => by unfold k0_off35 up lo nl fdiv256; rfl)
  exact and4 c9 (and4 c10 (and4 c11 (and4 c12 (and4 c13 (and4 c14 (and4 c15 c16))))))

theorem chk1_2 : k0_chk1_2 i v1 := by
  have c17 := chkLoop (bounds6 (i 2).isLt v1).2.2.2.2.1 (k0_mult19 i v1) (k0_off36 i v1) (k0_off37 i v1)
    (by unfold k0_t17_loop lo nl fdiv256; rfl) (fun k => by unfold k0_mult19 lo nl fdiv256; rfl)
    (fun k => by unfold k0_off36 lo nl fdiv256; rfl) (fun k => by unfold k0_off37 lo nl fdiv256; rfl)
  have c18 := chkLoop (bounds6 (i 2).isLt v1).2.2.2.2.2 (k0_mult20 i v1) (k0_off38 i v1) (k0_off39 i v1)
    (by unfold k0_t18_loop up lo nl fdiv256; rfl) (fun k => by unfold k0_mult20 up lo nl fdiv256; rfl)
    (fun k => by unfold k0_off38 up lo nl fdiv256; rfl) (fun k => by unfold k0_off39 up lo nl fdiv256; rfl)
  have c19 := chkLoop (bounds6 (i 2).isLt v1).1 (k0_mult22 i v1) (k0_off40 i v1) (k0_off41 i v1)
    (by unfold k0_t19_loop; rfl) (fun k => by unfold k0_mult22; rfl)
    (fun k => by unfold k0_off40; rfl) (fun k => by unfold k0_off41; rfl)
  have c20 := chkLoop (bounds6 (i 2).isLt v1).2.1 (k0_mult23 i v1) (k0_off42 i v1) (k0_off43 i v1)
    (by unfold k0_t20_loop up nl fdiv256; rfl) (fun k => by unfold k0_mult23 up nl fdiv256; rfl)
    (fun k => by unfold k0_off42 up nl fdiv256; rfl) (fun k => by unfold k0_off43 up nl fdiv256; rfl)
  have c21 := chkLoop (bounds6 (i 2).isLt v1).2.2.1 (k0_mult24 i v1) (k0_off44 i v1) (k0_off45 i v1)
    (by unfold k0_t21_loop nl fdiv256; rfl) (fun k => by unfold k0_mult24 nl fdiv256; rfl)
    (fun k => by unfold k0_off44 nl fdiv256; rfl) (fun k => by unfold k0_off45 nl fdiv256; rfl)
  have c22 := chkLoop (bounds6 (i 2).isLt v1).2.2.2.1 (k0_mult25 i v1) (k0_off46 i v1) (k0_off47 i v1)
    (by unfold k0_t22_loop up lo nl fdiv256; rfl) (fun k => by unfold k0_mult25 up lo nl fdiv256; rfl)
    (fun k => by unfold k0_off46 up lo nl fdiv256; rfl) (fun k => by unfold k0_off47 up lo nl fdiv256; rfl)
  have c23 := chkLoop (bounds6 (i 2).isLt v1).2.2.2.2.1 (k0_mult26 i v1) (k0_off48 i v1) (k0_off49 i v1)
    (by unfold k0_t23_loop lo nl fdiv256; rfl) (fun k => by unfold k0_mult26 lo nl fdiv256; rfl)
    (fun k => by unfold k0_off48 lo nl fdiv256; rfl) (fun k => by unfold k0_off49 lo nl fdiv256; rfl)
  have c24 := chkLoop (bounds6 (i 2).isLt v1).2.2.2.2.2 (k0_mult27 i v1) (k0_off50 i v1) (k0_off51 i v1)
    (by unfold k0_t24_loop up lo nl fdiv256; rfl) (fun k => by unfold k0_mult27 up lo nl fdiv256; rfl)
    (fun k => by unfold k0_off50 up lo nl fdiv256; rfl) (fun k => by unfold k0_off51 up lo nl fdiv256; rfl)
  exact and4 c17 (and4 c18 (and4 c19 (and4 c20 (and4 c21 (and4 c22 (and4 c23 c24))))))

theorem chk1_3 : k0_chk1_3 i v1 := by
  have c25 := chkLoop (bounds6 (i 2).isLt v1).1 (k0_mult29 i v1) (k0_off52 i v1) (k0_off53 i v1)
    (by unfold k0_t25_loop; rfl) (fun k => by unfold k0_mult29; rfl)
    (fun k => by unfold k0_off52; rfl) (fun k => by unfold k0_off53; rfl)
  have c26 := chkLoop (bounds6 (i 2).isLt v1).2.1 (k0_mult30 i v1) (k0_off54 i v1) (k0_off55 i v1)
    (by unfold k0_t26_loop up nl fdiv256; rfl) (fun k => by unfold k0_mult30 up nl fdiv256; rfl)
    (fun k => by unfold k0_off54 up nl fdiv256; rfl) (fun k => by unfold k0_off55 up nl fdiv256; rfl)
  have c27 := chkLoop (bounds6 (i 2).isLt v1).2.2.1 (k0_mult31 i v1) (k0_off56 i v1) (k0_off57 i v1)
    (by unfold k0_t27_loop nl fdiv256; rfl) (fun k => by unfold k0_mult31 nl fdiv256; rfl)
    (fun k => by unfold k0_off56 nl fdiv256; rfl) (fun k => by unfold k0_off57 nl fdiv256; rfl)
  have c28 := chkLoop (bounds6 (i 2).isLt v1).2.2.2.1 (k0_mult32 i v1) (k0_off58 i v1) (k0_off59 i v1)
    (by unfold k0_t28_loop up lo nl fdiv256; rfl) (fun k => by unfold k0_mult32 up lo nl fdiv256; rfl)
    (fun k => by unfold k0_off58 up lo nl fdiv256; rfl) (fun k => by unfold k0_off59 up lo nl fdiv256; rfl)
  have c29 := chkLoop (bounds6 (i 2).isLt v1).2.2.2.2.1 (k0_mult33 i v1) (k0_off60 i v1) (k0_off61 i v1)
    (by unfold k0_t29_loop lo nl fdiv256; rfl) (fun k => by unfold k0_mult33 lo nl fdiv256; rfl)
    (fun k => by unfold k0_off60 lo nl fdiv256; rfl) (fun k => by unfold k0_off61 lo nl fdiv256; rfl)
  have c30 := chkLoop (bounds6 (i 2).isLt v1).2.2.2.2.2 (k0_mult34 i v1) (k0_off62 i v1) (k0_off63 i v1)
    (by unfold k0_t30_loop up lo nl fdiv256; rfl) (fun k => by unfold k0_mult34 up lo nl fdiv256; rfl)
    (fun k => by unfold k0_off62 up lo nl fdiv256; rfl) (fun k => by unfold k0_off63 up lo nl fdiv256; rfl)
  have c31 := chkLoop (bounds6 (i 2).isLt v1).1 (k0_mult36 i v1) (k0_off64 i v1) (k0_off65 i v1)
    (by unfold k0_t31_loop; rfl) (fun k => by unfold k0_mult36; rfl)
    (fun k => by unfold k0_off64; rfl) (fun k => by unfold k0_off65; rfl)
  have c32 := chkLoop (bounds6 (i 2).isLt v1).2.1 (k0_mult37 i v1) (k0_off66 i v1) (k0_off67 i v1)
    (by unfold k0_t32_loop up nl fdiv256; rfl) (fun k => by unfold k0_mult37 up nl fdiv256; rfl)
    (fun k => by unfold k0_off66 up nl fdiv256; rfl) (fun k => by unfold k0_off67 up nl fdiv256; rfl)
  exact and4 c25 (and4 c26 (and4 c27 (and4 c28 (and4 c29 (and4 c30 (and4 c31 c32))))))

theorem chk1_4 : k0_chk1_4 i v1 := by
  have c33 := chkLoop (bounds6 (i 2).isLt v1).2.2.1 (k0_mult38 i v1) (k0_off68 i v1) (k0_off69 i v1)
    (by unfold k0_t33_loop nl fdiv256; rfl) (fun k => by unfold k0_mult38 nl fdiv256; rfl)
    (fun k => by unfold k0_off68 nl fdiv256; rfl) (fun k => by unfold k0_off69 nl fdiv256; rfl)
  have c34 := chkLoop (bounds6 (i 2).isLt v1).2.2.2.1 (k0_mult39 i v1) (k0_off70 i v1) (k0_off71 i v1)
    (by unfold k0_t34_loop up lo nl fdiv256; rfl) (fun k => by unfold k0_mult39 up lo nl fdiv256; rfl)
    (fun k => by unfold k0_off70 up lo nl fdiv256; rfl) (fun k => by unfold k0_off71 up lo nl fdiv256; rfl)
  have c35 := chkLoop (bounds6 (i 2).isLt v1).2.2.2.2.1 (k0_mult40 i v1) (k0_off72 i v1) (k0_off73 i v1)
    (by unfold k0_t35_loop lo nl fdiv256; rfl) (fun k => by unfold k0_mult40 lo nl fdiv256; rfl)
    (fun k => by unfold k0_off72 lo nl fdiv256; rfl) (fun k => by unfold k0_off73 lo nl fdiv256; rfl)
  have c36 := chkLoop (bounds6 (i 2).isLt v1).2.2.2.2.2 (k0_mult41 i v1) (k0_off74 i v1) (k0_off75 i v1)
    (by unfold k0_t36_loop up lo nl fdiv256; rfl) (fun k => by unfold k0_mult41 up lo nl fdiv256; rfl)
    (fun k => by unfold k0_off74 up lo nl fdiv256; rfl) (fun k => by unfold k0_off75 up lo nl fdiv256; rfl)
  have c37 := chkLoop (bounds6 (i 2).isLt v1).1 (k0_mult43 i v1) (k0_off76 i v1) (k0_off77 i v1)
    (by unfold k0_t37_loop; rfl) (fun k => by unfold k0_mult43; rfl)
    (fun k => by unfold k0_off76; rfl) (fun k => by unfold k0_off77; rfl)
  have c38 := chkLoop (bounds6 (i 2).isLt v1).2.1 (k0_mult44 i v1) (k0_off78 i v1) (k0_off79 i v1)
    (by unfold k0_t38_loop up nl fdiv256; rfl) (fun k => by unfold k0_mult44 up nl fdiv256; rfl)
    (fun k => by unfold k0_off78 up nl fdiv256; rfl) (fun k => by unfold k0_off79 up nl fdiv256; rfl)
  have c39 := chkLoop (bounds6 (i 2).isLt v1).2.2.1 (k0_mult45 i v1) (k0_off80 i v1) (k0_off81 i v1)
    (by unfold k0_t39_loop nl fdiv256; rfl) (fun k => by unfold k0_mult45 nl fdiv256; rfl)
    (fun k => by unfold k0_off80 nl fdiv256; rfl) (fun k => by unfold k0_off81 nl fdiv256; rfl)
  have c40 := chkLoop (bounds6 (i 2).isLt v1).2.2.2.1 (k0_mult46 i v1) (k0_off82 i v1) (k0_off83 i v1)
    (by unfold k0_t40_loop up lo nl fdiv256; rfl) (fun k => by unfold k0_mult46 up lo nl fdiv256; rfl)
    (fun k => by unfold k0_off82 up lo nl fdiv256; rfl) (fun k => by unfold k0_off83 up lo nl fdiv256; rfl)
  exact and4 c33 (and4 c34 (and4 c35 (and4 c36 (and4 c37 (and4 c38 (and4 c39 c40))))))

theorem chk1_5 : k0_chk1_5 i v1 := by
  have c41 := chkLoop (bounds6 (i 2).isLt v1).2.2.2.2.1 (k0_mult47 i v1) (k0_off84 i v1) (k0_off85 i v1)
    (by unfold k0_t41_loop lo nl fdiv256; rfl) (fun k => by unfold k0_mult47 lo nl fdiv256; rfl)
    (fun k => by unfold k0_off84 lo nl fdiv256; rfl) (fun k => by unfold k0_off85 lo nl fdiv256; rfl)
  have c42 := chkLoop (bounds6 (i 2).isLt v1).2.2.2.2.2 (k0_mult48 i v1) (k0_off86 i v1) (k0_off87 i v1)
    (by unfold k0_t42_loop up lo nl fdiv256; rfl) (fun k => by unfold k0_mult48 up lo nl fdiv256; rfl)
    (fun k => by unfold k0_off86 up lo nl fdiv256; rfl) (fun k => by unfold k0_off87 up lo nl fdiv256; rfl)
  exact and4 c41 c42

/-- Every loop of the kernel is well formed and loads in range, whatever the window word. -/
theorem k0_chk1_all : k0_chk1 i v1 :=
  ⟨chk1_0 i v1, chk1_1 i v1, chk1_2 i v1, chk1_3 i v1, chk1_4 i v1, chk1_5 i v1⟩

end Cert.Kernel
-- ==== Proof.KernelRun.lean ====
/-
  The run of the attention kernel's body on any whole staging buffers: it ends, leaves its inputs as they were, and leaves
  its output block with seven pieces written, one per head (the run finds what they hold).
-/
module

public import proofs.«01_k».proof.Proof.Gen.Kernel.Loops
public import proofs.«01_k».proof.Proof.Gen.Kernel.Frame
public import proofs.«01_k».proof.Proof.KernelChk

@[expose] public section

-- membership in a rectangle of production extents (`View.cover_of_tiled`): the elaborator's structural look
-- recurses once per coordinate of the long axes
set_option maxRecDepth 16384

noncomputable section

namespace Cert.Kernel

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- What the body's stores leave in the output's staging buffer, as pieces (last first), with the proof that the body runs
    to its continuation, the inputs kept, the output with these pieces written. -/
noncomputable def kernelRun (c : Dev nD) (i : grid0.Coords) (arg3 : Memref sig .tc .smem S3 .i32) (harg3 : arg3.IsWhole) (arg4 : Memref sig .tc .vmem S1x7x256x128 .fp8e4m3) (harg4 : arg4.IsWhole) (arg5 : Memref sig .tc .vmem S1x7x256x128 .fp8e4m3) (harg5 : arg5.IsWhole) (arg6 : Memref sig .tc .vmem S1x7x1x256 .f32) (harg6 : arg6.IsWhole) (arg7 : Memref sig .tc .vmem S1x7x1x256 .f32) (harg7 : arg7.IsWhole) (arg8 : Memref sig .tc .vmem S1x1x8192x128 .fp8e4m3) (harg8 : arg8.IsWhole) (arg9 : Memref sig .tc .vmem S1x1x8192x128 .fp8e4m3) (harg9 : arg9.IsWhole) (arg10 : Memref sig .tc .vmem S1x1x8192x128 .f32) (harg10 : arg10.IsWhole) (arg11 : Memref sig .tc .vmem S1x1x8192x128 .f32) (harg11 : arg11.IsWhole) (arg12 : Memref sig .tc .vmem S1x1x128x8192 .bf16) (harg12 : arg12.IsWhole) (arg13 : Memref sig .tc .vmem S1x256x896 .bf16) (harg13 : arg13.IsWhole)
    (x0 : Vec F S3 .i32) (x1 : Vec F S1x7x256x128 .fp8e4m3) (x2 : Vec F S1x7x256x128 .fp8e4m3) (x3 : Vec F S1x7x1x256 .f32) (x4 : Vec F S1x7x1x256 .f32) (x5 : Vec F S1x1x8192x128 .fp8e4m3) (x6 : Vec F S1x1x8192x128 .fp8e4m3) (x7 : Vec F S1x1x8192x128 .f32) (x8 : Vec F S1x1x8192x128 .f32) (x9 : Vec F S1x1x128x8192 .bf16) :
    { L10 : List (View.Piece (Elt F) S1x256x896 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10)) -∗ K ⟨⟩))
          ⊢ wp frame (wpE (defs₀ (F := F)) Variants.none c none) E (cc0_attn i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_attn_eq_skeleton]; unfold cc0_attn_skel
    simp only [k0_part68_eq_skeleton]; unfold k0_part68_skel
    simp only [k0_part43_eq_skeleton, k0_part44_eq_skeleton, k0_part45_eq_skeleton, k0_part46_eq_skeleton, k0_part47_eq_skeleton,
      k0_part48_eq_skeleton, k0_part49_eq_skeleton, k0_part50_eq_skeleton, k0_part51_eq_skeleton, k0_part52_eq_skeleton,
      k0_part53_eq_skeleton, k0_part54_eq_skeleton, k0_part55_eq_skeleton, k0_part56_eq_skeleton, k0_part57_eq_skeleton,
      k0_part58_eq_skeleton, k0_part59_eq_skeleton, k0_part60_eq_skeleton, k0_part61_eq_skeleton, k0_part62_eq_skeleton,
      k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := exact k0_chk1_all _ _)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    iexists _; iexact H10

end Cert.Kernel

end
-- ==== Proof.KernelFrame.lean ====
/-
  The frame of the attention kernel: from the run of its body at any point, the launch ends, leaves the arguments as they
  were and every semaphore at zero; what each output block then holds is `outsAt0`.
-/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- One staging buffer of output window 10, through which its contents are stated (`View.read_writes_of_cover`: the
    choice does not matter). -/
abbrev VO0_10 : View sig .tc .vmem S1x256x896 .bf16 := (Memref.whole cc0_stg10_0 : Memref sig .tc .vmem S1x256x896 .bf16).view
/-- Each window's current staging memref at point `t`, spelled as the pipeline passes it (`bodyAt0`), and its wholeness. -/
abbrev ms0_0 (t : Fin cfg0.N) : Memref sig .tc .smem S3 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7x256x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7x256x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x8192x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8192x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x8192x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x8192x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128x8192 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x896 .bf16 := win0_10.stage (cfg0.slots t 10)
abbrev hs0_10 (t : Fin cfg0.N) : (ms0_10 t).IsWhole := hstage0_10 ((cfg0.slots t 10).cast nbuf0_10)

/-- The run's pieces for output 10 tile its block (7 stores of `S1x256x128`, checked by the kernel's evaluation: Lib/Ring.lean `Piece.tiledL`, linear in the pieces, through a loop's `@[irreducible]` trip theorem too), so they cover it. -/
theorem cover0 (c : Dev nD) (i : grid0.Coords) (arg3 : Memref sig .tc .smem S3 .i32) (harg3 : arg3.IsWhole) (arg4 : Memref sig .tc .vmem S1x7x256x128 .fp8e4m3) (harg4 : arg4.IsWhole) (arg5 : Memref sig .tc .vmem S1x7x256x128 .fp8e4m3) (harg5 : arg5.IsWhole) (arg6 : Memref sig .tc .vmem S1x7x1x256 .f32) (harg6 : arg6.IsWhole) (arg7 : Memref sig .tc .vmem S1x7x1x256 .f32) (harg7 : arg7.IsWhole) (arg8 : Memref sig .tc .vmem S1x1x8192x128 .fp8e4m3) (harg8 : arg8.IsWhole) (arg9 : Memref sig .tc .vmem S1x1x8192x128 .fp8e4m3) (harg9 : arg9.IsWhole) (arg10 : Memref sig .tc .vmem S1x1x8192x128 .f32) (harg10 : arg10.IsWhole) (arg11 : Memref sig .tc .vmem S1x1x8192x128 .f32) (harg11 : arg11.IsWhole) (arg12 : Memref sig .tc .vmem S1x1x128x8192 .bf16) (harg12 : arg12.IsWhole) (arg13 : Memref sig .tc .vmem S1x256x896 .bf16) (harg13 : arg13.IsWhole)
    (x0 : Vec F S3 .i32) (x1 : Vec F S1x7x256x128 .fp8e4m3) (x2 : Vec F S1x7x256x128 .fp8e4m3) (x3 : Vec F S1x7x1x256 .f32) (x4 : Vec F S1x7x1x256 .f32) (x5 : Vec F S1x1x8192x128 .fp8e4m3) (x6 : Vec F S1x1x8192x128 .fp8e4m3) (x7 : Vec F S1x1x8192x128 .f32) (x8 : Vec F S1x1x8192x128 .f32) (x9 : Vec F S1x1x128x8192 .bf16) (y : S1x256x896.Idx) :
    ∃ pc ∈ (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1, y ∈ pc.1.set :=
  View.cover_of_tiledL (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1 S1x256x128.size (by sl_kernel_rfl) y

/-- What the run leaves in output 10's staging buffer: its pieces read back over junk. -/
def out0 (c : Dev nD) (i : grid0.Coords) (arg3 : Memref sig .tc .smem S3 .i32) (harg3 : arg3.IsWhole) (arg4 : Memref sig .tc .vmem S1x7x256x128 .fp8e4m3) (harg4 : arg4.IsWhole) (arg5 : Memref sig .tc .vmem S1x7x256x128 .fp8e4m3) (harg5 : arg5.IsWhole) (arg6 : Memref sig .tc .vmem S1x7x1x256 .f32) (harg6 : arg6.IsWhole) (arg7 : Memref sig .tc .vmem S1x7x1x256 .f32) (harg7 : arg7.IsWhole) (arg8 : Memref sig .tc .vmem S1x1x8192x128 .fp8e4m3) (harg8 : arg8.IsWhole) (arg9 : Memref sig .tc .vmem S1x1x8192x128 .fp8e4m3) (harg9 : arg9.IsWhole) (arg10 : Memref sig .tc .vmem S1x1x8192x128 .f32) (harg10 : arg10.IsWhole) (arg11 : Memref sig .tc .vmem S1x1x8192x128 .f32) (harg11 : arg11.IsWhole) (arg12 : Memref sig .tc .vmem S1x1x128x8192 .bf16) (harg12 : arg12.IsWhole) (arg13 : Memref sig .tc .vmem S1x256x896 .bf16) (harg13 : arg13.IsWhole)
    (x0 : Vec F S3 .i32) (x1 : Vec F S1x7x256x128 .fp8e4m3) (x2 : Vec F S1x7x256x128 .fp8e4m3) (x3 : Vec F S1x7x1x256 .f32) (x4 : Vec F S1x7x1x256 .f32) (x5 : Vec F S1x1x8192x128 .fp8e4m3) (x6 : Vec F S1x1x8192x128 .fp8e4m3) (x7 : Vec F S1x1x8192x128 .f32) (x8 : Vec F S1x1x8192x128 .f32) (x9 : Vec F S1x1x128x8192 .bf16) : Vec F S1x256x896 .bf16 :=
  VO0_10.read (Elt F) (VO0_10.writes (Elt F) VO0_10.junk (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1)

/-! ## What the outputs hold after each point -/

/-- What the outputs' staging buffers hold after the body at point `t`: the run's contents at
    the point's memrefs and input blocks. -/
def outsAt0 (c : Dev nD) (t : Fin cfg0.N) : Vec F S1x256x896 .bf16 :=
  out0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  unfold outsAt0
  unfold out0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover0 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: the arguments end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel

end
-- ==== Proof.KernelIdealChk.lean ====
/-
  The check the kernel makes of its window word, which its 42 loops need: it holds of every word. Each loop is one of the
  six of a head (its bounds named in `Words`); that its printed bounds, block starts and offsets are those is `rfl`.
-/
module

public import proofs.«01_k».proof.Proof.Words
public import proofs.«01_k».proof.KernelIdeal

@[expose] public section

namespace Cert.KernelIdeal

open Idealize.ShloMosaic Cert.Words

variable (i : grid0.Coords) (v1 : BitVec 32)

theorem chk1_0 : k0_chk1_0 i v1 := by
  have c1 := chkLoop (bounds6 (i 2).isLt v1).1 (k0_mult1 i v1) (k0_off2 i v1) (k0_off3 i v1)
    (by unfold k0_t1_loop; rfl) (fun k => by unfold k0_mult1; rfl)
    (fun k => by unfold k0_off2; rfl) (fun k => by unfold k0_off3; rfl)
  have c2 := chkLoop (bounds6 (i 2).isLt v1).2.1 (k0_mult2 i v1) (k0_off4 i v1) (k0_off5 i v1)
    (by unfold k0_t2_loop up nl fdiv256; rfl) (fun k => by unfold k0_mult2 up nl fdiv256; rfl)
    (fun k => by unfold k0_off4 up nl fdiv256; rfl) (fun k => by unfold k0_off5 up nl fdiv256; rfl)
  have c3 := chkLoop (bounds6 (i 2).isLt v1).2.2.1 (k0_mult3 i v1) (k0_off6 i v1) (k0_off7 i v1)
    (by unfold k0_t3_loop nl fdiv256; rfl) (fun k => by unfold k0_mult3 nl fdiv256; rfl)
    (fun k => by unfold k0_off6 nl fdiv256; rfl) (fun k => by unfold k0_off7 nl fdiv256; rfl)
  have c4 := chkLoop (bounds6 (i 2).isLt v1).2.2.2.1 (k0_mult4 i v1) (k0_off8 i v1) (k0_off9 i v1)
    (by unfold k0_t4_loop up lo nl fdiv256; rfl) (fun k => by unfold k0_mult4 up lo nl fdiv256; rfl)
    (fun k => by unfold k0_off8 up lo nl fdiv256; rfl) (fun k => by unfold k0_off9 up lo nl fdiv256; rfl)
  have c5 := chkLoop (bounds6 (i 2).isLt v1).2.2.2.2.1 (k0_mult5 i v1) (k0_off10 i v1) (k0_off11 i v1)
    (by unfold k0_t5_loop lo nl fdiv256; rfl) (fun k => by unfold k0_mult5 lo nl fdiv256; rfl)
    (fun k => by unfold k0_off10 lo nl fdiv256; rfl) (fun k => by unfold k0_off11 lo nl fdiv256; rfl)
  have c6 := chkLoop (bounds6 (i 2).isLt v1).2.2.2.2.2 (k0_mult6 i v1) (k0_off12 i v1) (k0_off13 i v1)
    (by unfold k0_t6_loop up lo nl fdiv256; rfl) (fun k => by unfold k0_mult6 up lo nl fdiv256; rfl)
    (fun k => by unfold k0_off12 up lo nl fdiv256; rfl) (fun k => by unfold k0_off13 up lo nl fdiv256; rfl)
  have c7 := chkLoop (bounds6 (i 2).isLt v1).1 (k0_mult8 i v1) (k0_off16 i v1) (k0_off17 i v1)
    (by unfold k0_t7_loop; rfl) (fun k => by unfold k0_mult8; rfl)
    (fun k => by unfold k0_off16; rfl) (fun k => by unfold k0_off17; rfl)
  have c8 := chkLoop (bounds6 (i 2).isLt v1).2.1 (k0_mult9 i v1) (k0_off18 i v1) (k0_off19 i v1)
    (by unfold k0_t8_loop up nl fdiv256; rfl) (fun k => by unfold k0_mult9 up nl fdiv256; rfl)
    (fun k => by unfold k0_off18 up nl fdiv256; rfl) (fun k => by unfold k0_off19 up nl fdiv256; rfl)
  exact and4 c1 (and4 c2 (and4 c3 (and4 c4 (and4 c5 (and4 c6 (and4 c7 c8))))))

theorem chk1_1 : k0_chk1_1 i v1 := by
  have c9 := chkLoop (bounds6 (i 2).isLt v1).2.2.1 (k0_mult10 i v1) (k0_off20 i v1) (k0_off21 i v1)
    (by unfold k0_t9_loop nl fdiv256; rfl) (fun k => by unfold k0_mult10 nl fdiv256; rfl)
    (fun k => by unfold k0_off20 nl fdiv256; rfl) (fun k => by unfold k0_off21 nl fdiv256; rfl)
  have c10 := chkLoop (bounds6 (i 2).isLt v1).2.2.2.1 (k0_mult11 i v1) (k0_off22 i v1) (k0_off23 i v1)
    (by unfold k0_t10_loop up lo nl fdiv256; rfl) (fun k => by unfold k0_mult11 up lo nl fdiv256; rfl)
    (fun k => by unfold k0_off22 up lo nl fdiv256; rfl) (fun k => by unfold k0_off23 up lo nl fdiv256; rfl)
  have c11 := chkLoop (bounds6 (i 2).isLt v1).2.2.2.2.1 (k0_mult12 i v1) (k0_off24 i v1) (k0_off25 i v1)
    (by unfold k0_t11_loop lo nl fdiv256; rfl) (fun k => by unfold k0_mult12 lo nl fdiv256; rfl)
    (fun k => by unfold k0_off24 lo nl fdiv256; rfl) (fun k => by unfold k0_off25 lo nl fdiv256; rfl)
  have c12 := chkLoop (bounds6 (i 2).isLt v1).2.2.2.2.2 (k0_mult13 i v1) (k0_off26 i v1) (k0_off27 i v1)
    (by unfold k0_t12_loop up lo nl fdiv256; rfl) (fun k => by unfold k0_mult13 up lo nl fdiv256; rfl)
    (fun k => by unfold k0_off26 up lo nl fdiv256; rfl) (fun k => by unfold k0_off27 up lo nl fdiv256; rfl)
  have c13 := chkLoop (bounds6 (i 2).isLt v1).1 (k0_mult15 i v1) (k0_off28 i v1) (k0_off29 i v1)
    (by unfold k0_t13_loop; rfl) (fun k => by unfold k0_mult15; rfl)
    (fun k => by unfold k0_off28; rfl) (fun k => by unfold k0_off29; rfl)
  have c14 := chkLoop (bounds6 (i 2).isLt v1).2.1 (k0_mult16 i v1) (k0_off30 i v1) (k0_off31 i v1)
    (by unfold k0_t14_loop up nl fdiv256; rfl) (fun k => by unfold k0_mult16 up nl fdiv256; rfl)
    (fun k => by unfold k0_off30 up nl fdiv256; rfl) (fun k => by unfold k0_off31 up nl fdiv256; rfl)
  have c15 := chkLoop (bounds6 (i 2).isLt v1).2.2.1 (k0_mult17 i v1) (k0_off32 i v1) (k0_off33 i v1)
    (by unfold k0_t15_loop nl fdiv256; rfl) (fun k => by unfold k0_mult17 nl fdiv256; rfl)
    (fun k => by unfold k0_off32 nl fdiv256; rfl) (fun k => by unfold k0_off33 nl fdiv256; rfl)
  have c16 := chkLoop (bounds6 (i 2).isLt v1).2.2.2.1 (k0_mult18 i v1) (k0_off34 i v1) (k0_off35 i v1)
    (by unfold k0_t16_loop up lo nl fdiv256; rfl) (fun k => by unfold k0_mult18 up lo nl fdiv256; rfl)
    (fun k => by unfold k0_off34 up lo nl fdiv256; rfl) (fun k => by unfold k0_off35 up lo nl fdiv256; rfl)
  exact and4 c9 (and4 c10 (and4 c11 (and4 c12 (and4 c13 (and4 c14 (and4 c15 c16))))))

theorem chk1_2 : k0_chk1_2 i v1 := by
  have c17 := chkLoop (bounds6 (i 2).isLt v1).2.2.2.2.1 (k0_mult19 i v1) (k0_off36 i v1) (k0_off37 i v1)
    (by unfold k0_t17_loop lo nl fdiv256; rfl) (fun k => by unfold k0_mult19 lo nl fdiv256; rfl)
    (fun k => by unfold k0_off36 lo nl fdiv256; rfl) (fun k => by unfold k0_off37 lo nl fdiv256; rfl)
  have c18 := chkLoop (bounds6 (i 2).isLt v1).2.2.2.2.2 (k0_mult20 i v1) (k0_off38 i v1) (k0_off39 i v1)
    (by unfold k0_t18_loop up lo nl fdiv256; rfl) (fun k => by unfold k0_mult20 up lo nl fdiv256; rfl)
    (fun k => by unfold k0_off38 up lo nl fdiv256; rfl) (fun k => by unfold k0_off39 up lo nl fdiv256; rfl)
  have c19 := chkLoop (bounds6 (i 2).isLt v1).1 (k0_mult22 i v1) (k0_off40 i v1) (k0_off41 i v1)
    (by unfold k0_t19_loop; rfl) (fun k => by unfold k0_mult22; rfl)
    (fun k => by unfold k0_off40; rfl) (fun k => by unfold k0_off41; rfl)
  have c20 := chkLoop (bounds6 (i 2).isLt v1).2.1 (k0_mult23 i v1) (k0_off42 i v1) (k0_off43 i v1)
    (by unfold k0_t20_loop up nl fdiv256; rfl) (fun k => by unfold k0_mult23 up nl fdiv256; rfl)
    (fun k => by unfold k0_off42 up nl fdiv256; rfl) (fun k => by unfold k0_off43 up nl fdiv256; rfl)
  have c21 := chkLoop (bounds6 (i 2).isLt v1).2.2.1 (k0_mult24 i v1) (k0_off44 i v1) (k0_off45 i v1)
    (by unfold k0_t21_loop nl fdiv256; rfl) (fun k => by unfold k0_mult24 nl fdiv256; rfl)
    (fun k => by unfold k0_off44 nl fdiv256; rfl) (fun k => by unfold k0_off45 nl fdiv256; rfl)
  have c22 := chkLoop (bounds6 (i 2).isLt v1).2.2.2.1 (k0_mult25 i v1) (k0_off46 i v1) (k0_off47 i v1)
    (by unfold k0_t22_loop up lo nl fdiv256; rfl) (fun k => by unfold k0_mult25 up lo nl fdiv256; rfl)
    (fun k => by unfold k0_off46 up lo nl fdiv256; rfl) (fun k => by unfold k0_off47 up lo nl fdiv256; rfl)
  have c23 := chkLoop (bounds6 (i 2).isLt v1).2.2.2.2.1 (k0_mult26 i v1) (k0_off48 i v1) (k0_off49 i v1)
    (by unfold k0_t23_loop lo nl fdiv256; rfl) (fun k => by unfold k0_mult26 lo nl fdiv256; rfl)
    (fun k => by unfold k0_off48 lo nl fdiv256; rfl) (fun k => by unfold k0_off49 lo nl fdiv256; rfl)
  have c24 := chkLoop (bounds6 (i 2).isLt v1).2.2.2.2.2 (k0_mult27 i v1) (k0_off50 i v1) (k0_off51 i v1)
    (by unfold k0_t24_loop up lo nl fdiv256; rfl) (fun k => by unfold k0_mult27 up lo nl fdiv256; rfl)
    (fun k => by unfold k0_off50 up lo nl fdiv256; rfl) (fun k => by unfold k0_off51 up lo nl fdiv256; rfl)
  exact and4 c17 (and4 c18 (and4 c19 (and4 c20 (and4 c21 (and4 c22 (and4 c23 c24))))))

theorem chk1_3 : k0_chk1_3 i v1 := by
  have c25 := chkLoop (bounds6 (i 2).isLt v1).1 (k0_mult29 i v1) (k0_off52 i v1) (k0_off53 i v1)
    (by unfold k0_t25_loop; rfl) (fun k => by unfold k0_mult29; rfl)
    (fun k => by unfold k0_off52; rfl) (fun k => by unfold k0_off53; rfl)
  have c26 := chkLoop (bounds6 (i 2).isLt v1).2.1 (k0_mult30 i v1) (k0_off54 i v1) (k0_off55 i v1)
    (by unfold k0_t26_loop up nl fdiv256; rfl) (fun k => by unfold k0_mult30 up nl fdiv256; rfl)
    (fun k => by unfold k0_off54 up nl fdiv256; rfl) (fun k => by unfold k0_off55 up nl fdiv256; rfl)
  have c27 := chkLoop (bounds6 (i 2).isLt v1).2.2.1 (k0_mult31 i v1) (k0_off56 i v1) (k0_off57 i v1)
    (by unfold k0_t27_loop nl fdiv256; rfl) (fun k => by unfold k0_mult31 nl fdiv256; rfl)
    (fun k => by unfold k0_off56 nl fdiv256; rfl) (fun k => by unfold k0_off57 nl fdiv256; rfl)
  have c28 := chkLoop (bounds6 (i 2).isLt v1).2.2.2.1 (k0_mult32 i v1) (k0_off58 i v1) (k0_off59 i v1)
    (by unfold k0_t28_loop up lo nl fdiv256; rfl) (fun k => by unfold k0_mult32 up lo nl fdiv256; rfl)
    (fun k => by unfold k0_off58 up lo nl fdiv256; rfl) (fun k => by unfold k0_off59 up lo nl fdiv256; rfl)
  have c29 := chkLoop (bounds6 (i 2).isLt v1).2.2.2.2.1 (k0_mult33 i v1) (k0_off60 i v1) (k0_off61 i v1)
    (by unfold k0_t29_loop lo nl fdiv256; rfl) (fun k => by unfold k0_mult33 lo nl fdiv256; rfl)
    (fun k => by unfold k0_off60 lo nl fdiv256; rfl) (fun k => by unfold k0_off61 lo nl fdiv256; rfl)
  have c30 := chkLoop (bounds6 (i 2).isLt v1).2.2.2.2.2 (k0_mult34 i v1) (k0_off62 i v1) (k0_off63 i v1)
    (by unfold k0_t30_loop up lo nl fdiv256; rfl) (fun k => by unfold k0_mult34 up lo nl fdiv256; rfl)
    (fun k => by unfold k0_off62 up lo nl fdiv256; rfl) (fun k => by unfold k0_off63 up lo nl fdiv256; rfl)
  have c31 := chkLoop (bounds6 (i 2).isLt v1).1 (k0_mult36 i v1) (k0_off64 i v1) (k0_off65 i v1)
    (by unfold k0_t31_loop; rfl) (fun k => by unfold k0_mult36; rfl)
    (fun k => by unfold k0_off64; rfl) (fun k => by unfold k0_off65; rfl)
  have c32 := chkLoop (bounds6 (i 2).isLt v1).2.1 (k0_mult37 i v1) (k0_off66 i v1) (k0_off67 i v1)
    (by unfold k0_t32_loop up nl fdiv256; rfl) (fun k => by unfold k0_mult37 up nl fdiv256; rfl)
    (fun k => by unfold k0_off66 up nl fdiv256; rfl) (fun k => by unfold k0_off67 up nl fdiv256; rfl)
  exact and4 c25 (and4 c26 (and4 c27 (and4 c28 (and4 c29 (and4 c30 (and4 c31 c32))))))

theorem chk1_4 : k0_chk1_4 i v1 := by
  have c33 := chkLoop (bounds6 (i 2).isLt v1).2.2.1 (k0_mult38 i v1) (k0_off68 i v1) (k0_off69 i v1)
    (by unfold k0_t33_loop nl fdiv256; rfl) (fun k => by unfold k0_mult38 nl fdiv256; rfl)
    (fun k => by unfold k0_off68 nl fdiv256; rfl) (fun k => by unfold k0_off69 nl fdiv256; rfl)
  have c34 := chkLoop (bounds6 (i 2).isLt v1).2.2.2.1 (k0_mult39 i v1) (k0_off70 i v1) (k0_off71 i v1)
    (by unfold k0_t34_loop up lo nl fdiv256; rfl) (fun k => by unfold k0_mult39 up lo nl fdiv256; rfl)
    (fun k => by unfold k0_off70 up lo nl fdiv256; rfl) (fun k => by unfold k0_off71 up lo nl fdiv256; rfl)
  have c35 := chkLoop (bounds6 (i 2).isLt v1).2.2.2.2.1 (k0_mult40 i v1) (k0_off72 i v1) (k0_off73 i v1)
    (by unfold k0_t35_loop lo nl fdiv256; rfl) (fun k => by unfold k0_mult40 lo nl fdiv256; rfl)
    (fun k => by unfold k0_off72 lo nl fdiv256; rfl) (fun k => by unfold k0_off73 lo nl fdiv256; rfl)
  have c36 := chkLoop (bounds6 (i 2).isLt v1).2.2.2.2.2 (k0_mult41 i v1) (k0_off74 i v1) (k0_off75 i v1)
    (by unfold k0_t36_loop up lo nl fdiv256; rfl) (fun k => by unfold k0_mult41 up lo nl fdiv256; rfl)
    (fun k => by unfold k0_off74 up lo nl fdiv256; rfl) (fun k => by unfold k0_off75 up lo nl fdiv256; rfl)
  have c37 := chkLoop (bounds6 (i 2).isLt v1).1 (k0_mult43 i v1) (k0_off76 i v1) (k0_off77 i v1)
    (by unfold k0_t37_loop; rfl) (fun k => by unfold k0_mult43; rfl)
    (fun k => by unfold k0_off76; rfl) (fun k => by unfold k0_off77; rfl)
  have c38 := chkLoop (bounds6 (i 2).isLt v1).2.1 (k0_mult44 i v1) (k0_off78 i v1) (k0_off79 i v1)
    (by unfold k0_t38_loop up nl fdiv256; rfl) (fun k => by unfold k0_mult44 up nl fdiv256; rfl)
    (fun k => by unfold k0_off78 up nl fdiv256; rfl) (fun k => by unfold k0_off79 up nl fdiv256; rfl)
  have c39 := chkLoop (bounds6 (i 2).isLt v1).2.2.1 (k0_mult45 i v1) (k0_off80 i v1) (k0_off81 i v1)
    (by unfold k0_t39_loop nl fdiv256; rfl) (fun k => by unfold k0_mult45 nl fdiv256; rfl)
    (fun k => by unfold k0_off80 nl fdiv256; rfl) (fun k => by unfold k0_off81 nl fdiv256; rfl)
  have c40 := chkLoop (bounds6 (i 2).isLt v1).2.2.2.1 (k0_mult46 i v1) (k0_off82 i v1) (k0_off83 i v1)
    (by unfold k0_t40_loop up lo nl fdiv256; rfl) (fun k => by unfold k0_mult46 up lo nl fdiv256; rfl)
    (fun k => by unfold k0_off82 up lo nl fdiv256; rfl) (fun k => by unfold k0_off83 up lo nl fdiv256; rfl)
  exact and4 c33 (and4 c34 (and4 c35 (and4 c36 (and4 c37 (and4 c38 (and4 c39 c40))))))

theorem chk1_5 : k0_chk1_5 i v1 := by
  have c41 := chkLoop (bounds6 (i 2).isLt v1).2.2.2.2.1 (k0_mult47 i v1) (k0_off84 i v1) (k0_off85 i v1)
    (by unfold k0_t41_loop lo nl fdiv256; rfl) (fun k => by unfold k0_mult47 lo nl fdiv256; rfl)
    (fun k => by unfold k0_off84 lo nl fdiv256; rfl) (fun k => by unfold k0_off85 lo nl fdiv256; rfl)
  have c42 := chkLoop (bounds6 (i 2).isLt v1).2.2.2.2.2 (k0_mult48 i v1) (k0_off86 i v1) (k0_off87 i v1)
    (by unfold k0_t42_loop up lo nl fdiv256; rfl) (fun k => by unfold k0_mult48 up lo nl fdiv256; rfl)
    (fun k => by unfold k0_off86 up lo nl fdiv256; rfl) (fun k => by unfold k0_off87 up lo nl fdiv256; rfl)
  exact and4 c41 c42

/-- Every loop of the kernel is well formed and loads in range, whatever the window word. -/
theorem k0_chk1_all : k0_chk1 i v1 :=
  ⟨chk1_0 i v1, chk1_1 i v1, chk1_2 i v1, chk1_3 i v1, chk1_4 i v1, chk1_5 i v1⟩

end Cert.KernelIdeal
-- ==== Proof.KernelIdealRun.lean ====
/-
  The run of the attention kernel's body on any whole staging buffers: it ends, leaves its inputs as they were, and leaves
  its output block with seven pieces written, one per head (the run finds what they hold).
-/
module

public import proofs.«01_k».proof.Proof.Gen.KernelIdeal.Loops
public import proofs.«01_k».proof.Proof.Gen.KernelIdeal.Frame
public import proofs.«01_k».proof.Proof.KernelIdealChk

@[expose] public section

-- membership in a rectangle of production extents (`View.cover_of_tiled`): the elaborator's structural look
-- recurses once per coordinate of the long axes
set_option maxRecDepth 16384

noncomputable section

namespace Cert.KernelIdeal

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 20000000 in
/-- What the body's stores leave in the output's staging buffer, as pieces (last first), with the proof that the body runs
    to its continuation, the inputs kept, the output with these pieces written. -/
noncomputable def kernelRun (c : Dev nD) (i : grid0.Coords) (arg3 : Memref sig .tc .smem S3 .i32) (harg3 : arg3.IsWhole) (arg4 : Memref sig .tc .vmem S1x7x256x128 .fp8e4m3) (harg4 : arg4.IsWhole) (arg5 : Memref sig .tc .vmem S1x7x256x128 .fp8e4m3) (harg5 : arg5.IsWhole) (arg6 : Memref sig .tc .vmem S1x7x1x256 .f32) (harg6 : arg6.IsWhole) (arg7 : Memref sig .tc .vmem S1x7x1x256 .f32) (harg7 : arg7.IsWhole) (arg8 : Memref sig .tc .vmem S1x1x8192x128 .fp8e4m3) (harg8 : arg8.IsWhole) (arg9 : Memref sig .tc .vmem S1x1x8192x128 .fp8e4m3) (harg9 : arg9.IsWhole) (arg10 : Memref sig .tc .vmem S1x1x8192x128 .f32) (harg10 : arg10.IsWhole) (arg11 : Memref sig .tc .vmem S1x1x8192x128 .f32) (harg11 : arg11.IsWhole) (arg12 : Memref sig .tc .vmem S1x1x128x8192 .bf16) (harg12 : arg12.IsWhole) (arg13 : Memref sig .tc .vmem S1x256x896 .bf16) (harg13 : arg13.IsWhole)
    (x0 : Vec F S3 .i32) (x1 : Vec F S1x7x256x128 .fp8e4m3) (x2 : Vec F S1x7x256x128 .fp8e4m3) (x3 : Vec F S1x7x1x256 .f32) (x4 : Vec F S1x7x1x256 .f32) (x5 : Vec F S1x1x8192x128 .fp8e4m3) (x6 : Vec F S1x1x8192x128 .fp8e4m3) (x7 : Vec F S1x1x8192x128 .f32) (x8 : Vec F S1x1x8192x128 .f32) (x9 : Vec F S1x1x128x8192 .bf16) :
    { L10 : List (View.Piece (Elt F) S1x256x896 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10)) -∗ K ⟨⟩))
          ⊢ wp frame (wpE (defs₀ (F := F)) Variants.none c none) E (cc0_attn i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_attn_eq_skeleton]; unfold cc0_attn_skel
    simp only [k0_part68_eq_skeleton]; unfold k0_part68_skel
    simp only [k0_part43_eq_skeleton, k0_part44_eq_skeleton, k0_part45_eq_skeleton, k0_part46_eq_skeleton, k0_part47_eq_skeleton,
      k0_part48_eq_skeleton, k0_part49_eq_skeleton, k0_part50_eq_skeleton, k0_part51_eq_skeleton, k0_part52_eq_skeleton,
      k0_part53_eq_skeleton, k0_part54_eq_skeleton, k0_part55_eq_skeleton, k0_part56_eq_skeleton, k0_part57_eq_skeleton,
      k0_part58_eq_skeleton, k0_part59_eq_skeleton, k0_part60_eq_skeleton, k0_part61_eq_skeleton, k0_part62_eq_skeleton,
      k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := exact k0_chk1_all _ _)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    iexists _; iexact H10

end Cert.KernelIdeal

end
-- ==== Proof.KernelIdealFrame.lean ====
/-
  The frame of the attention kernel: from the run of its body at any point, the launch ends, leaves the arguments as they
  were and every semaphore at zero; what each output block then holds is `outsAt0`.
-/
module

public import proofs.«01_k».proof.Proof.KernelIdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- One staging buffer of output window 10, through which its contents are stated (`View.read_writes_of_cover`: the
    choice does not matter). -/
abbrev VO0_10 : View sig .tc .vmem S1x256x896 .bf16 := (Memref.whole cc0_stg10_0 : Memref sig .tc .vmem S1x256x896 .bf16).view
/-- Each window's current staging memref at point `t`, spelled as the pipeline passes it (`bodyAt0`), and its wholeness. -/
abbrev ms0_0 (t : Fin cfg0.N) : Memref sig .tc .smem S3 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7x256x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7x256x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x8192x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8192x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x8192x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x8192x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128x8192 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x896 .bf16 := win0_10.stage (cfg0.slots t 10)
abbrev hs0_10 (t : Fin cfg0.N) : (ms0_10 t).IsWhole := hstage0_10 ((cfg0.slots t 10).cast nbuf0_10)

/-- The run's pieces for output 10 tile its block (7 stores of `S1x256x128`, checked by the kernel's evaluation: Lib/Ring.lean `Piece.tiledL`, linear in the pieces, through a loop's `@[irreducible]` trip theorem too), so they cover it. -/
theorem cover0 (c : Dev nD) (i : grid0.Coords) (arg3 : Memref sig .tc .smem S3 .i32) (harg3 : arg3.IsWhole) (arg4 : Memref sig .tc .vmem S1x7x256x128 .fp8e4m3) (harg4 : arg4.IsWhole) (arg5 : Memref sig .tc .vmem S1x7x256x128 .fp8e4m3) (harg5 : arg5.IsWhole) (arg6 : Memref sig .tc .vmem S1x7x1x256 .f32) (harg6 : arg6.IsWhole) (arg7 : Memref sig .tc .vmem S1x7x1x256 .f32) (harg7 : arg7.IsWhole) (arg8 : Memref sig .tc .vmem S1x1x8192x128 .fp8e4m3) (harg8 : arg8.IsWhole) (arg9 : Memref sig .tc .vmem S1x1x8192x128 .fp8e4m3) (harg9 : arg9.IsWhole) (arg10 : Memref sig .tc .vmem S1x1x8192x128 .f32) (harg10 : arg10.IsWhole) (arg11 : Memref sig .tc .vmem S1x1x8192x128 .f32) (harg11 : arg11.IsWhole) (arg12 : Memref sig .tc .vmem S1x1x128x8192 .bf16) (harg12 : arg12.IsWhole) (arg13 : Memref sig .tc .vmem S1x256x896 .bf16) (harg13 : arg13.IsWhole)
    (x0 : Vec F S3 .i32) (x1 : Vec F S1x7x256x128 .fp8e4m3) (x2 : Vec F S1x7x256x128 .fp8e4m3) (x3 : Vec F S1x7x1x256 .f32) (x4 : Vec F S1x7x1x256 .f32) (x5 : Vec F S1x1x8192x128 .fp8e4m3) (x6 : Vec F S1x1x8192x128 .fp8e4m3) (x7 : Vec F S1x1x8192x128 .f32) (x8 : Vec F S1x1x8192x128 .f32) (x9 : Vec F S1x1x128x8192 .bf16) (y : S1x256x896.Idx) :
    ∃ pc ∈ (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1, y ∈ pc.1.set :=
  View.cover_of_tiledL (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1 S1x256x128.size (by sl_kernel_rfl) y

/-- What the run leaves in output 10's staging buffer: its pieces read back over junk. -/
def out0 (c : Dev nD) (i : grid0.Coords) (arg3 : Memref sig .tc .smem S3 .i32) (harg3 : arg3.IsWhole) (arg4 : Memref sig .tc .vmem S1x7x256x128 .fp8e4m3) (harg4 : arg4.IsWhole) (arg5 : Memref sig .tc .vmem S1x7x256x128 .fp8e4m3) (harg5 : arg5.IsWhole) (arg6 : Memref sig .tc .vmem S1x7x1x256 .f32) (harg6 : arg6.IsWhole) (arg7 : Memref sig .tc .vmem S1x7x1x256 .f32) (harg7 : arg7.IsWhole) (arg8 : Memref sig .tc .vmem S1x1x8192x128 .fp8e4m3) (harg8 : arg8.IsWhole) (arg9 : Memref sig .tc .vmem S1x1x8192x128 .fp8e4m3) (harg9 : arg9.IsWhole) (arg10 : Memref sig .tc .vmem S1x1x8192x128 .f32) (harg10 : arg10.IsWhole) (arg11 : Memref sig .tc .vmem S1x1x8192x128 .f32) (harg11 : arg11.IsWhole) (arg12 : Memref sig .tc .vmem S1x1x128x8192 .bf16) (harg12 : arg12.IsWhole) (arg13 : Memref sig .tc .vmem S1x256x896 .bf16) (harg13 : arg13.IsWhole)
    (x0 : Vec F S3 .i32) (x1 : Vec F S1x7x256x128 .fp8e4m3) (x2 : Vec F S1x7x256x128 .fp8e4m3) (x3 : Vec F S1x7x1x256 .f32) (x4 : Vec F S1x7x1x256 .f32) (x5 : Vec F S1x1x8192x128 .fp8e4m3) (x6 : Vec F S1x1x8192x128 .fp8e4m3) (x7 : Vec F S1x1x8192x128 .f32) (x8 : Vec F S1x1x8192x128 .f32) (x9 : Vec F S1x1x128x8192 .bf16) : Vec F S1x256x896 .bf16 :=
  VO0_10.read (Elt F) (VO0_10.writes (Elt F) VO0_10.junk (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1)

/-! ## What the outputs hold after each point -/

/-- What the outputs' staging buffers hold after the body at point `t`: the run's contents at
    the point's memrefs and input blocks. -/
def outsAt0 (c : Dev nD) (t : Fin cfg0.N) : Vec F S1x256x896 .bf16 :=
  out0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  unfold outsAt0
  unfold out0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover0 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: the arguments end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal

end
-- ==== Proof.Bounds.lean ====
/-
  The loop bounds of the attention kernel as integers: for windows in range nothing wraps, every key block before `nl` lies
  wholly beyond the window, every one from `lo` to the query's block wholly within, and each loop's trips are the blocks
  between its two bounds, one after another.
-/
module

public import proofs.«01_k».proof.Proof.Words

@[expose] public section

namespace Cert.Words

open Idealize.ShloMosaic Idealize.ShloMosaic.WordCmp

variable {n : ℕ} {w : BitVec 32}

theorem toInt_mul256 {k : ℕ} (hk : k < 64) : (Scalar.muli (BitVec.ofNat 32 k) 256#32).toInt = 256 * k := by
  have : Scalar.muli (BitVec.ofNat 32 k) 256#32 = BitVec.ofNat 32 (k * 256) := by
    simp [Scalar.muli, IntOp.muli, BitVec.ofNat_mul]
  rw [this, toInt_ofNat_of_lt (by omega)]; push_cast; omega

theorem toInt_sub' {x y : BitVec 32} (h : -2147483648 ≤ x.toInt - y.toInt) (h' : x.toInt - y.toInt < 2147483648) :
    (Scalar.subi x y).toInt = x.toInt - y.toInt := by
  simp only [Scalar.subi, IntOp.subi]
  rw [BitVec.toInt_sub]
  exact Int.bmod_eq_of_le (by omega) (by omega)

theorem toInt_add' {x y : BitVec 32} (h : -2147483648 ≤ x.toInt + y.toInt) (h' : x.toInt + y.toInt < 2147483648) :
    (Scalar.addi x y).toInt = x.toInt + y.toInt := by
  simp only [Scalar.addi, IntOp.addi]
  rw [BitVec.toInt_add]
  exact Int.bmod_eq_of_le (by omega) (by omega)

/-- The number of leaky blocks, as an integer. -/
theorem nl_toInt (hn : n < 32) (hw : -255 < w.toInt ∧ w.toInt ≤ 2147483393) :
    (nl (BitVec.ofNat 32 n) w).toInt = min ((n : ℤ) + 1) (max 0 ((256 * n - 255 - w.toInt) / 256 + 1)) := by
  have h255 : (255#32 : BitVec 32).toInt = 255 := by decide
  have h1 : (1#32 : BitVec 32).toInt = 1 := by decide
  have hz : (0#32 : BitVec 32).toInt = 0 := by decide
  have hm := toInt_mul256 (k := n) (by omega)
  have ha : (Scalar.subi (Scalar.muli (BitVec.ofNat 32 n) 256#32) 255#32).toInt = 256 * n - 255 := by
    rw [toInt_sub' (by omega) (by omega), hm, h255]
  have hb : (Scalar.subi (Scalar.subi (Scalar.muli (BitVec.ofNat 32 n) 256#32) 255#32) w).toInt = 256 * n - 255 - w.toInt := by
    rw [toInt_sub' (by omega) (by omega), ha]
  have hf := toInt_fdiv256 (Scalar.subi (Scalar.subi (Scalar.muli (BitVec.ofNat 32 n) 256#32) 255#32) w)
  rw [hb] at hf
  rw [nl, toInt_minsi, toInt_maxsi, toInt_addi_one hn, hz, toInt_add' (by omega) (by omega), hf, h1]

/-- The first block wholly within the window, as an integer. -/
theorem lo_toInt (hn : n < 32) (hw : -255 < w.toInt ∧ w.toInt ≤ 2147483393) :
    (lo (BitVec.ofNat 32 n) w).toInt = min (n : ℤ) (max (nl (BitVec.ofNat 32 n) w).toInt ((256 * n + 255 - w.toInt) / 256 + 1)) := by
  have h256 : (256#32 : BitVec 32).toInt = 256 := by decide
  have h1 : (1#32 : BitVec 32).toInt = 1 := by decide
  have hm := toInt_mul256 (k := n) (by omega)
  have h0 : (Scalar.addi (Scalar.muli (BitVec.ofNat 32 n) 256#32) 256#32).toInt = 256 * n + 256 := by
    rw [toInt_add' (by omega) (by omega), hm, h256]
  have ha : (Scalar.subi (Scalar.addi (Scalar.muli (BitVec.ofNat 32 n) 256#32) 256#32) 1#32).toInt = 256 * n + 255 := by
    rw [toInt_sub' (by omega) (by omega), h0, h1]; omega
  have hb : (Scalar.subi (Scalar.subi (Scalar.addi (Scalar.muli (BitVec.ofNat 32 n) 256#32) 256#32) 1#32) w).toInt
      = 256 * n + 255 - w.toInt := by
    rw [toInt_sub' (by omega) (by omega), ha]
  have hf := toInt_fdiv256 (Scalar.subi (Scalar.subi (Scalar.addi (Scalar.muli (BitVec.ofNat 32 n) 256#32) 256#32) 1#32) w)
  rw [hb] at hf
  rw [lo, toInt_minsi, toInt_maxsi, toInt_q hn, toInt_add' (by omega) (by omega), hf, h1]

/-- The number of leaky blocks, and the first block wholly within the window. -/
def nlN (n : ℕ) (w : BitVec 32) : ℕ := (nl (BitVec.ofNat 32 n) w).toInt.toNat
@[inherit_doc nlN] def loN (n : ℕ) (w : BitVec 32) : ℕ := (lo (BitVec.ofNat 32 n) w).toInt.toNat

theorem nlN_cast (hn : n < 32) : ((nlN n w : ℕ) : ℤ) = (nl (BitVec.ofNat 32 n) w).toInt := Int.toNat_of_nonneg (nl_bounds hn w).1
theorem loN_cast (hn : n < 32) : ((loN n w : ℕ) : ℤ) = (lo (BitVec.ofNat 32 n) w).toInt := Int.toNat_of_nonneg (lo_bounds hn w).1

theorem order (hn : n < 32) (hw : -255 < w.toInt ∧ w.toInt ≤ 2147483393) : nlN n w ≤ loN n w ∧ loN n w ≤ n := by
  have h1 := nl_toInt hn hw
  have h2 := lo_toInt hn hw
  have h3 := nlN_cast (w := w) hn
  have h4 := loN_cast (w := w) hn
  omega

/-- Before `nl` every key is before every query, and beyond the window. -/
theorem leaky_dist (hn : n < 32) (hw : -255 < w.toInt ∧ w.toInt ≤ 2147483393) {j : ℕ} (hj : j < nlN n w) {r c : ℕ} (hr : r < 256) :
    ¬ 256 * n + c < 256 * j + r ∧ ¬ ((256 * n + c : ℕ) : ℤ) - (256 * j + r : ℕ) < w.toInt := by
  have h1 := nl_toInt hn hw
  have h3 := nlN_cast (w := w) hn
  omega

/-- From `lo` to the query's block every key is before every query, and within the window. -/
theorem normal_dist (hn : n < 32) (hw : -255 < w.toInt ∧ w.toInt ≤ 2147483393) {j : ℕ} (hj : loN n w ≤ j) (hj' : j < n) {r c : ℕ}
    (hr : r < 256) (hc : c < 256) :
    ¬ 256 * n + c < 256 * j + r ∧ ((256 * n + c : ℕ) : ℤ) - (256 * j + r : ℕ) < w.toInt := by
  have h1 := nl_toInt hn hw
  have h2 := lo_toInt hn hw
  have h4 := loN_cast (w := w) hn
  omega

/-- The trips of a loop by ones. -/
theorem trips_of {l : Scf.Loop 32} {lb ub : BitVec 32} (hl : l = ⟨lb, ub, 1#32⟩) {a b : ℕ} (ha : (a : ℤ) = lb.toInt)
    (hb : (b : ℤ) = ub.toInt) : l.trips = b - a := by
  subst hl
  have h1 : (1#32 : BitVec 32).toInt = 1 := by decide
  show Scf.trips lb ub 1#32 = b - a
  simp only [Scf.trips, h1]
  omega

/-- The loop variable at trip `k`, in a word's 256 rows each. -/
theorem iv_mul {lb : BitVec 32} {a k : ℕ} (ha : (a : ℤ) = lb.toInt) (hk : a + k < 64) :
    Scalar.muli (Scf.iv lb 1#32 k) 256#32 = BitVec.ofNat 32 (256 * (a + k)) := by
  have hlb : lb = BitVec.ofNat 32 a := by
    apply BitVec.eq_of_toInt_eq
    rw [toInt_ofNat_of_lt (by omega), ha]
  subst hlb
  simp only [Scf.iv, Scalar.muli, IntOp.muli]
  apply BitVec.eq_of_toNat_eq
  simp only [BitVec.toNat_mul, BitVec.toNat_add, BitVec.toNat_ofNat]
  omega

theorem off_rows {lb : BitVec 32} {a k : ℕ} (ha : (a : ℤ) = lb.toInt) (hk : a + k < 64) :
    (Scalar.indexCast (Scalar.muli (Scf.iv lb 1#32 k) 256#32) : Index).toNat = 256 * (a + k) := by
  rw [iv_mul ha hk]
  show (BitVec.ofNat 32 (256 * (a + k))).toNat = _
  rw [BitVec.toNat_ofNat]; omega

end Cert.Words

end
-- ==== Proof.Online.lean ====
/-
  The softmax accumulated block by block, over the extended reals: the running maximum of the scores and the weighted sum
  of their exponentials below it, how both pass from one block of keys to the next, and that the quotient of two such sums
  is the softmax-weighted sum.
-/
module

public import Idealize.ShloMosaic.PureOps.Ideal

@[expose] public section

noncomputable section

open scoped BigOperators

namespace Cert.Online

open Idealize.ShloMosaic Finset

/-- The largest of the first `n` scores, `-∞` of none. -/
def top (s : ℕ → EReal) (n : ℕ) : EReal := (range n).sup s

/-- The sum over the first `n` keys of `v`, weighted by `2` to the score less the largest score. -/
def wsum (s v : ℕ → EReal) (n : ℕ) : EReal := ∑ j ∈ range n, Ideal.exp2 (s j - top s n) * v j

theorem exp2_nonneg (x : EReal) : 0 ≤ Ideal.exp2 x := by
  induction x with
  | bot => exact le_rfl
  | coe r => rw [Ideal.exp2_coe]; exact_mod_cast (Real.rpow_pos_of_pos two_pos r).le
  | top => exact le_top

theorem bot_sub (x : EReal) : (⊥ : EReal) - x = ⊥ := by rw [sub_eq_add_neg, EReal.bot_add]

theorem exp2_sub_ne_top {a b : EReal} (hab : a ≤ b) (hb : b ≠ ⊤) : Ideal.exp2 (a - b) ≠ ⊤ := by
  induction a with
  | bot => rw [bot_sub]; exact EReal.zero_ne_top
  | top => exact absurd (top_le_iff.mp hab) hb
  | coe x =>
    induction b with
    | bot => exact absurd (le_bot_iff.mp hab) (EReal.coe_ne_bot _)
    | top => exact absurd rfl hb
    | coe y => rw [← EReal.coe_sub]; exact EReal.coe_ne_top _

/-- Weights below one maximum, rescaled, are weights below a later one. -/
theorem exp2_rescale {x a b : EReal} (hx : x ≤ a) (hab : a ≤ b) (hb : b ≠ ⊤) :
    Ideal.exp2 (x - a) * Ideal.exp2 (a - b) = Ideal.exp2 (x - b) := by
  induction x with
  | bot => rw [bot_sub, bot_sub, Ideal.exp2_bot, zero_mul]
  | top => exact absurd (top_le_iff.mp (hx.trans hab)) hb
  | coe x =>
    induction b with
    | bot => exact absurd (le_bot_iff.mp (hx.trans hab)) (EReal.coe_ne_bot _)
    | top => exact absurd rfl hb
    | coe b =>
      induction a with
      | bot => exact absurd (le_bot_iff.mp hx) (EReal.coe_ne_bot _)
      | top => exact absurd (top_le_iff.mp hab) hb
      | coe a =>
        rw [← EReal.coe_sub, ← EReal.coe_sub, ← EReal.coe_sub, Ideal.exp2_coe, Ideal.exp2_coe, Ideal.exp2_coe, ← EReal.coe_mul]
        congr 1
        show (2 : ℝ) ^ (x - a) * (2 : ℝ) ^ (a - b) = (2 : ℝ) ^ (x - b)
        rw [← Real.rpow_add two_pos]
        congr 1; ring

/-- A factor that is neither negative nor infinite passes into a sum. -/
theorem sum_mul {ι : Type*} (S : Finset ι) (f : ι → EReal) {a : EReal} (h0 : 0 ≤ a) (h1 : a ≠ ⊤) :
    (∑ i ∈ S, f i) * a = ∑ i ∈ S, f i * a := by
  classical
  induction S using Finset.induction_on with
  | empty => simp
  | insert i S hi ih => rw [sum_insert hi, sum_insert hi, EReal.right_distrib_of_nonneg_of_ne_top h0 h1, ih]

theorem top_add (s : ℕ → EReal) (n T : ℕ) : top s (n + T) = max (top s n) ((range T).sup fun r => s (n + r)) := by
  refine le_antisymm (Finset.sup_le fun j hj => ?_) (max_le (Finset.sup_mono (range_mono (Nat.le_add_right n T))) (Finset.sup_le fun r hr => ?_))
  · rcases lt_or_ge j n with h | h
    · exact le_max_of_le_left (Finset.le_sup (f := s) (mem_range.mpr h))
    · refine le_max_of_le_right ?_
      have hr : j - n ∈ range T := mem_range.mpr (by have := mem_range.mp hj; omega)
      have := Finset.le_sup (f := fun r => s (n + r)) hr
      simpa [Nat.add_sub_cancel' h] using this
  · exact Finset.le_sup (f := s) (mem_range.mpr (by have := mem_range.mp hr; omega))

theorem le_top_of_lt (s : ℕ → EReal) {j n : ℕ} (h : j < n) : s j ≤ top s n := Finset.le_sup (f := s) (mem_range.mpr h)

theorem top_ne_top {s : ℕ → EReal} {n : ℕ} (hs : ∀ j < n, s j ≠ ⊤) : top s n ≠ ⊤ := by
  have : top s n < ⊤ := (Finset.sup_lt_iff bot_lt_top).mpr fun j hj => lt_top_iff_ne_top.mpr (hs j (mem_range.mp hj))
  exact this.ne

/-- One block of keys: the sums so far, rescaled to the new maximum, and the block's own terms. -/
theorem wsum_add (s v : ℕ → EReal) (n T : ℕ) (hs : ∀ j < n + T, s j ≠ ⊤) :
    wsum s v (n + T) = wsum s v n * Ideal.exp2 (top s n - top s (n + T))
      + ∑ r ∈ range T, Ideal.exp2 (s (n + r) - top s (n + T)) * v (n + r) := by
  have hle : top s n ≤ top s (n + T) := by rw [top_add]; exact le_max_left _ _
  have ht := top_ne_top hs
  rw [wsum, sum_range_add, wsum, sum_mul _ _ (exp2_nonneg _) (exp2_sub_ne_top hle ht)]
  congr 1
  refine sum_congr rfl fun j hj => ?_
  rw [mul_right_comm, exp2_rescale (le_top_of_lt s (mem_range.mp hj)) hle ht]

/-- Masked keys after the `n`-th change neither the maximum … -/
theorem top_tail {s : ℕ → EReal} {n N : ℕ} (hn : n ≤ N) (h : ∀ j, n ≤ j → j < N → s j = ⊥) : top s N = top s n := by
  obtain ⟨T, rfl⟩ := Nat.exists_eq_add_of_le hn
  rw [top_add, max_eq_left]
  refine Finset.sup_le fun r hr => ?_
  rw [h (n + r) (Nat.le_add_right _ _) (by have := mem_range.mp hr; omega)]
  exact bot_le

/-- … nor the sums. -/
theorem wsum_tail {s : ℕ → EReal} (v : ℕ → EReal) {n N : ℕ} (hn : n ≤ N) (h : ∀ j, n ≤ j → j < N → s j = ⊥) :
    wsum s v N = wsum s v n := by
  have ht := top_tail hn h
  obtain ⟨T, rfl⟩ := Nat.exists_eq_add_of_le hn
  rw [wsum, ht, sum_range_add, wsum]
  refine (congrArg (_ + ·) (sum_eq_zero fun r hr => ?_)).trans (add_zero _)
  rw [h (n + r) (Nat.le_add_right _ _) (by have := mem_range.mp hr; omega), bot_sub, Ideal.exp2_bot, zero_mul]

/-- A positive real factor passes through a maximum. -/
theorem top_mul (s : ℕ → EReal) (n : ℕ) {c : ℝ} (hc : 0 < c) : top (fun j => s j * c) n = top s n * c := by
  induction n with
  | zero => show (⊥ : EReal) = ⊥ * _; rw [EReal.bot_mul_coe_of_pos hc]
  | succ n ih =>
    have hm : Monotone fun x : EReal => x * (c : EReal) := fun x y h => mul_le_mul_of_nonneg_right h (by exact_mod_cast hc.le)
    unfold top at ih ⊢
    rw [range_add_one, sup_insert, sup_insert, ih]
    exact (hm.map_max).symm

/-- `e` to scores in nats is `2` to scores in bits. -/
theorem exp_eq_exp2 {x y : EReal} (hxy : x ≤ y) (hy : y ≠ ⊤) :
    Ideal.exp (x * (Real.log 2 : ℝ) - y * (Real.log 2 : ℝ)) = Ideal.exp2 (x - y) := by
  have hl : 0 < Real.log 2 := Real.log_pos one_lt_two
  induction x with
  | bot => rw [EReal.bot_mul_coe_of_pos hl, bot_sub, bot_sub]; rfl
  | top => exact absurd (top_le_iff.mp hxy) hy
  | coe x =>
    induction y with
    | bot => exact absurd (le_bot_iff.mp hxy) (EReal.coe_ne_bot _)
    | top => exact absurd rfl hy
    | coe y =>
      rw [← EReal.coe_mul, ← EReal.coe_mul, ← EReal.coe_sub, ← EReal.coe_sub, Ideal.exp2_coe]
      show ((Real.exp _ : ℝ) : EReal) = _
      congr 1
      show _ = (2 : ℝ) ^ (x - y)
      rw [Real.rpow_def_of_pos two_pos]
      congr 1; ring

/-- The quotient of the accumulated sums is the sum of the values weighted by the softmax of the scores in nats. -/
theorem softmax (s vw vs : ℕ → EReal) (N : ℕ) (hs : ∀ j < N, s j ≠ ⊤) {i : ℕ} (hi : i < N) (hb : s i ≠ ⊥) :
    Ideal.div (wsum s (fun j => vw j * vs j) N) (wsum s (fun _ => 1) N)
      = ∑ j ∈ range N, Ideal.div (Ideal.exp (s j * (Real.log 2 : ℝ) - top (fun j => s j * (Real.log 2 : ℝ)) N))
          (∑ k ∈ range N, Ideal.exp (s k * (Real.log 2 : ℝ) - top (fun j => s j * (Real.log 2 : ℝ)) N)) * vs j * vw j := by
  have ht := top_ne_top hs
  have he : ∀ j ∈ range N, Ideal.exp (s j * (Real.log 2 : ℝ) - top (fun j => s j * (Real.log 2 : ℝ)) N) = Ideal.exp2 (s j - top s N) :=
    fun j hj => by
      rw [top_mul s N (Real.log_pos one_lt_two), exp_eq_exp2 (le_top_of_lt s (mem_range.mp hj)) ht]
  have hL : (∑ k ∈ range N, Ideal.exp (s k * (Real.log 2 : ℝ) - top (fun j => s j * (Real.log 2 : ℝ)) N)) = wsum s (fun _ => 1) N := by
    rw [wsum]; exact sum_congr rfl fun j hj => by rw [he j hj, mul_one]
  rw [hL]
  have hpos : 0 < wsum s (fun _ => 1) N := by
    refine lt_of_lt_of_le ?_ (single_le_sum (f := fun j => Ideal.exp2 (s j - top s N) * 1)
      (fun j _ => by rw [mul_one]; exact exp2_nonneg _) (mem_range.mpr hi))
    rw [mul_one]
    have hle := le_top_of_lt s hi
    generalize top s N = b at *
    generalize s i = a at *
    induction a with
    | bot => exact absurd rfl hb
    | top => exact absurd (top_le_iff.mp hle) ht
    | coe x =>
      induction b with
      | bot => exact absurd (le_bot_iff.mp hle) (EReal.coe_ne_bot _)
      | top => exact absurd rfl ht
      | coe y => rw [← EReal.coe_sub, Ideal.exp2_coe]; exact_mod_cast Real.rpow_pos_of_pos two_pos _
  have hne : wsum s (fun _ => 1) N ≠ ⊤ := by
    have hall : ∀ S : Finset ℕ, S ⊆ range N → (∑ j ∈ S, Ideal.exp2 (s j - top s N) * 1) ≠ ⊤ := by
      intro S
      induction S using Finset.induction_on with
      | empty => intro _; rw [sum_empty]; exact EReal.zero_ne_top
      | insert j S hj ih =>
        intro h
        rw [sum_insert hj, mul_one]
        exact EReal.add_ne_top (exp2_sub_ne_top (le_top_of_lt s (mem_range.mp (h (mem_insert_self j S)))) ht)
          (ih fun k hk => h (mem_insert_of_mem hk))
    exact hall _ (Finset.Subset.refl _)
  generalize wsum s (fun _ => 1) N = L at hpos hne ⊢
  induction L with
  | bot => exact absurd hpos (not_lt_bot)
  | top => exact absurd rfl hne
  | coe r =>
    have hr : 0 < r := by exact_mod_cast hpos
    rw [Ideal.div_coe hr.ne', wsum, sum_mul _ _ (by exact_mod_cast (one_div_pos.mpr hr).le) (EReal.coe_ne_top _)]
    refine sum_congr rfl fun j hj => ?_
    rw [he j hj, Ideal.div_coe hr.ne']
    simp only [mul_assoc, mul_comm, mul_left_comm]

end Cert.Online

end
-- ==== Proof.Tile.lean ====
/-
  One tile of the attention kernel: the scores of 256 keys against 256 queries, and the step by which a tile's scores and
  values enter the running maximum, sum of weights and weighted sum of values — read element by element, and carried
  through a loop over tiles.
-/
module

public import proofs.«01_k».proof.Proof.Gen.KernelIdeal.Skeleton
public import proofs.«01_k».proof.Proof.Online
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Cert.KernelIdeal

open Idealize.ShloMosaic Idealize.ShloMosaic.ValueIdx Cert.KernelIdeal.Gen Cert.Online
open scoped BigOperators

/-- What a loop over tiles carries: per query the running maximum, the sum of the weights and the weighted sum of the values. -/
abbrev St := FVec Ideal S1x256 .f32 × FVec Ideal S1x256 .f32 × FVec Ideal S128x256 .f32

/-- The scores of a tile but for the query's scale. -/
def preScore (k q : Vec Ideal S1x1x256x128 .fp8e4m3) (ks : Vec Ideal S1x1x256x128 .f32) : FVec Ideal S256x256 .f32 :=
  mulf (matmul (φ₁ := .fp8e4m3) (φ₂ := .fp8e4m3) dot_S256x128_S256x128_S256x256_1_1_0_0_n_n none (shapeCast S256x128 k shapeCasts_S1x1x256x128_S256x128)
      (shapeCast S256x128 q shapeCasts_S1x1x256x128_S256x128) (constant S256x256 .f32 0x00000000#32))
    (concatenate S256x256 1 [⟨S256x128, shapeCast S256x128 ks shapeCasts_S1x1x256x128_S256x128⟩,
      ⟨S256x128, shapeCast S256x128 ks shapeCasts_S1x1x256x128_S256x128⟩] concatenates_S256x128_S256x128_S256x256_d1)

/-- The scores of a tile. -/
def scoreVec (k q : Vec Ideal S1x1x256x128 .fp8e4m3) (ks : Vec Ideal S1x1x256x128 .f32) (qs : Vec Ideal S1x1x1x256 .f32) :
    FVec Ideal S256x256 .f32 :=
  mulf (preScore k q ks) (broadcastTo S256x256 (shapeCast S1x256 qs shapeCasts_S1x1x1x256_S1x256) broadcasts_S1x256_S256x256)

/-- The running maximum after a tile. -/
def stepMax (sc : FVec Ideal S256x256 .f32) (mx : FVec Ideal S1x256 .f32) : FVec Ideal S1x256 .f32 :=
  maximumf mx (shapeCast S1x256 (multiReduction .maximumf [0] S256 sc 0xFF800000#32 reduces_S256x256_S256 (.inl rfl) rfl)
    shapeCasts_S256_S1x256)

/-- What the sums so far are rescaled by. -/
def stepScale (sc : FVec Ideal S256x256 .f32) (mx : FVec Ideal S1x256 .f32) : FVec Ideal S1x256 .f32 := exp2 (subf mx (stepMax sc mx))

/-- The tile's weights. -/
def stepWeights (sc : FVec Ideal S256x256 .f32) (mx : FVec Ideal S1x256 .f32) : FVec Ideal S256x256 .f32 :=
  exp2 (subf sc (broadcastTo S256x256 (stepMax sc mx) broadcasts_S1x256_S256x256))

/-- One tile of scores `sc` and values `vt`. -/
def tileStep (sc : FVec Ideal S256x256 .f32) (vt : Vec Ideal S1x1x128x256 .bf16) (st : St) : St :=
  ⟨stepMax sc st.1,
   addf (mulf st.2.1 (stepScale sc st.1)) (shapeCast S1x256
     (multiReduction .add [0] S256 (stepWeights sc st.1) 0x00000000#32 reduces_S256x256_S256 (.inl rfl) rfl) shapeCasts_S256_S1x256),
   addf (mulf st.2.2 (broadcastTo S128x256 (stepScale sc st.1) broadcasts_S1x256_S128x256))
     (matmul (φ₁ := .bf16) (φ₂ := .bf16) dot_S128x256_S256x256_S128x256_1_0_0_1_n_n none (shapeCast S128x256 vt shapeCasts_S1x1x128x256_S128x256)
       (truncf .bf16 (stepWeights sc st.1) bitsLt_bf16_f32) (constant S128x256 .f32 0x00000000#32))⟩

theorem cast_11ab {α : Type} {a b : ℕ} (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem zero_word : Ideal.ofBits .f32 0x00000000#32 = 0 := by
  simp [Ideal.ofBits, Ideal.ieee]

theorem preScore_apply (k q : Vec Ideal S1x1x256x128 .fp8e4m3) (ks : Vec Ideal S1x1x256x128 .f32) (r c : Fin 256) :
    preScore k q ks (ix2 r c) = (∑ d : Fin 128, k (ix4 (0 : Fin 1) (0 : Fin 1) r d) * q (ix4 (0 : Fin 1) (0 : Fin 1) c d))
      * ks (ix4 (0 : Fin 1) (0 : Fin 1) r (⟨c.val % 128, Nat.mod_lt _ (by norm_num)⟩ : Fin 128)) := by
  unfold preScore
  rw [mulf_apply]
  congr 1
  · refine (Ideal.matmul_transposedRhs_apply (M := 256) (K := 128) (N := 256) none _ _ _ r c).trans ?_
    rw [constant_apply, zero_word, zero_add]
    exact Finset.sum_congr rfl fun d _ => by rw [cast_11ab, cast_11ab]
  · by_cases hc : c.val < 128
    · rw [concatenate_pair_apply_left (t := S256x256) (s₁ := S256x128) (s₂ := S256x128) 1 _ _ _ (ix2 r c) rfl
        (ix2 r (⟨c.val % 128, Nat.mod_lt _ (by norm_num)⟩ : Fin 128)) (fun b => by
          match b with
          | ⟨0, _⟩ => rfl
          | ⟨1, _⟩ => exact Nat.mod_eq_of_lt hc)]
      exact cast_11ab _ _ _ _
    · have hcl := c.isLt
      rw [concatenate_pair_apply_right (t := S256x256) (s₁ := S256x128) (s₂ := S256x128) 1 _ _ _ (ix2 r c) rfl rfl
        (ix2 r (⟨c.val % 128, Nat.mod_lt _ (by norm_num)⟩ : Fin 128)) (fun b hb => by
          match b with
          | ⟨0, _⟩ => rfl
          | ⟨1, _⟩ => exact absurd rfl hb) (by show c.val % 128 + 128 = c.val; omega)]
      exact cast_11ab _ _ _ _

theorem qscale_apply (qs : Vec Ideal S1x1x1x256 .f32) (r c : Fin 256) :
    broadcastTo S256x256 (shapeCast S1x256 qs shapeCasts_S1x1x1x256_S1x256) broadcasts_S1x256_S256x256 (ix2 r c)
      = qs (ix4 (0 : Fin 1) (0 : Fin 1) (0 : Fin 1) c) := by
  refine (broadcastTo_1b_ab_apply _ _ r c).trans ?_
  exact cast_11ab _ _ _ _

/-- The score of key `r` and query `c`: the product of the code vectors, times the key's scale, times the query's. -/
theorem scoreVec_apply (k q : Vec Ideal S1x1x256x128 .fp8e4m3) (ks : Vec Ideal S1x1x256x128 .f32) (qs : Vec Ideal S1x1x1x256 .f32) (r c : Fin 256) :
    scoreVec k q ks qs (ix2 r c) = (∑ d : Fin 128, k (ix4 (0 : Fin 1) (0 : Fin 1) r d) * q (ix4 (0 : Fin 1) (0 : Fin 1) c d))
      * ks (ix4 (0 : Fin 1) (0 : Fin 1) r (⟨c.val % 128, Nat.mod_lt _ (by norm_num)⟩ : Fin 128)) * qs (ix4 (0 : Fin 1) (0 : Fin 1) (0 : Fin 1) c) := by
  unfold scoreVec
  rw [mulf_apply, preScore_apply, qscale_apply]

theorem neg_inf_word : Ideal.ofBits .f32 0xFF800000#32 = ⊥ := by
  simp [Ideal.ofBits, Ideal.ieee]

theorem fold_max_bot {ι : Type*} (S : Finset ι) (f : ι → EReal) : S.fold max (⊥ : EReal) f = S.sup f := rfl

theorem lift_col {R C : ℕ} (h : (⟨2, ![R, C]⟩ : Shape).Reduces [0] ⟨1, ![C]⟩) (c : Fin C) (r : Fin R) : h.lift (ix1 c) r = ix2 r c := by
  funext a; apply Fin.ext
  match a with
  | ⟨0, _⟩ => rfl
  | ⟨1, _⟩ => rfl

theorem col_max {R C : ℕ} (x : FVec Ideal ⟨2, ![R, C]⟩ .f32) (h : (⟨2, ![R, C]⟩ : Shape).Reduces [0] ⟨1, ![C]⟩)
    (hφ : FKind.Formats .f32) (ha : (0xFF800000#32 : BitVec 32) = FKind.maximumf.neutral .f32 hφ) (c : Fin C) :
    multiReduction .maximumf [0] ⟨1, ![C]⟩ x 0xFF800000#32 h hφ ha (ix1 c) = (Finset.univ : Finset (Fin R)).sup fun r => x (ix2 r c) := by
  refine (Ideal.multiReduction_maximumf_single x _ h hφ ha (ix1 c)).trans ?_
  refine (congrArg (fun b : EReal => Finset.fold max b _ _) neg_inf_word).trans ?_
  exact Finset.sup_congr rfl fun r _ => congrArg x (lift_col h c r)

theorem col_sum {R C : ℕ} (x : FVec Ideal ⟨2, ![R, C]⟩ .f32) (h : (⟨2, ![R, C]⟩ : Shape).Reduces [0] ⟨1, ![C]⟩)
    (hφ : FKind.Formats .f32) (ha : (0x00000000#32 : BitVec 32) = FKind.add.neutral .f32 hφ) (c : Fin C) :
    multiReduction .add [0] ⟨1, ![C]⟩ x 0x00000000#32 h hφ ha (ix1 c) = ∑ r : Fin R, x (ix2 r c) := by
  refine (Ideal.multiReduction_add_single x _ h hφ ha (ix1 c)).trans ?_
  exact Finset.sum_congr rfl fun r _ => congrArg x (lift_col h c r)

theorem sup_univ_eq (f : ℕ → EReal) (n : ℕ) : (Finset.univ : Finset (Fin n)).sup (fun r => f r.val) = (Finset.range n).sup f := by
  apply le_antisymm
  · exact Finset.sup_le fun r _ => Finset.le_sup (f := f) (Finset.mem_range.mpr r.isLt)
  · exact Finset.sup_le fun j hj => Finset.le_sup (f := fun r : Fin n => f r.val) (Finset.mem_univ ⟨j, Finset.mem_range.mp hj⟩)

theorem stepMax_apply (sc : FVec Ideal S256x256 .f32) (mx : FVec Ideal S1x256 .f32) (c : Fin 256) :
    stepMax sc mx (ix2 (0 : Fin 1) c) = max (mx (ix2 (0 : Fin 1) c)) ((Finset.univ : Finset (Fin 256)).sup fun r => sc (ix2 r c)) := by
  unfold stepMax
  rw [maximumf_apply]
  refine congrArg (max _) ?_
  refine (shapeCast_a_1a_apply _ _ _ c).trans ?_
  exact col_max (R := 256) (C := 256) _ _ _ _ c

theorem stepScale_apply (sc : FVec Ideal S256x256 .f32) (mx : FVec Ideal S1x256 .f32) (c : Fin 256) :
    stepScale sc mx (ix2 (0 : Fin 1) c) = Ideal.exp2 (mx (ix2 (0 : Fin 1) c) - stepMax sc mx (ix2 (0 : Fin 1) c)) := rfl

theorem stepWeights_apply (sc : FVec Ideal S256x256 .f32) (mx : FVec Ideal S1x256 .f32) (r c : Fin 256) :
    stepWeights sc mx (ix2 r c) = Ideal.exp2 (sc (ix2 r c) - stepMax sc mx (ix2 (0 : Fin 1) c)) :=
  congrArg (fun y => Ideal.exp2 (sc (ix2 r c) - y)) (broadcastTo_1b_ab_apply _ _ r c)

/-- The carried state is that of the first `n` keys, per query `c` of scores `s c` and per value column `d` of values `v d`. -/
def Good (st : St) (s : Fin 256 → ℕ → EReal) (v : Fin 128 → ℕ → EReal) (n : ℕ) : Prop :=
  ∀ c : Fin 256, st.1 (ix2 (0 : Fin 1) c) = top (s c) n ∧ st.2.1 (ix2 (0 : Fin 1) c) = wsum (s c) (fun _ => 1) n
    ∧ ∀ d : Fin 128, st.2.2 (ix2 d c) = wsum (s c) (v d) n

theorem good_congr {st : St} {s : Fin 256 → ℕ → EReal} {v : Fin 128 → ℕ → EReal} {n n' : ℕ} (h : Good st s v n) (e : n = n') :
    Good st s v n' := e ▸ h

/-- One tile more. -/
theorem tileStep_good {st : St} {s : Fin 256 → ℕ → EReal} {v : Fin 128 → ℕ → EReal} {n : ℕ} (h : Good st s v n)
    (hs : ∀ c, ∀ j < n + 256, s c j ≠ ⊤) {sc : FVec Ideal S256x256 .f32} {vt : Vec Ideal S1x1x128x256 .bf16}
    (hsc : ∀ r c : Fin 256, sc (ix2 r c) = s c (n + r.val))
    (hv : ∀ (d : Fin 128) (r : Fin 256), vt (ix4 (0 : Fin 1) (0 : Fin 1) d r) = v d (n + r.val)) :
    Good (tileStep sc vt st) s v (n + 256) := by
  intro c
  obtain ⟨h1, h2, h3⟩ := h c
  have hm : stepMax sc st.1 (ix2 (0 : Fin 1) c) = top (s c) (n + 256) := by
    rw [stepMax_apply, top_add, h1, ← sup_univ_eq]
    congr 1
    exact Finset.sup_congr rfl fun r _ => hsc r c
  refine ⟨hm, ?_, fun d => ?_⟩
  · show addf _ _ _ = _
    rw [addf_apply, mulf_apply, stepScale_apply, h1, h2, hm, wsum_add _ _ n 256 (hs c)]
    congr 1
    refine (shapeCast_a_1a_apply _ _ _ c).trans ?_
    refine (col_sum (R := 256) (C := 256) _ _ _ _ c).trans ?_
    rw [Finset.sum_range]
    refine Finset.sum_congr rfl fun r _ => ?_
    rw [stepWeights_apply, hm, hsc, mul_one]
  · show addf _ _ _ = _
    rw [addf_apply, mulf_apply, h3 d, wsum_add _ _ n 256 (hs c)]
    congr 1
    · congr 1
      refine (broadcastTo_1b_ab_apply _ _ d c).trans ?_
      rw [stepScale_apply, h1, hm]
    · refine (Ideal.matmul_plain_apply (M := 128) (K := 256) (N := 256) none _ _ _ d c).trans ?_
      rw [constant_apply, zero_word, zero_add, Finset.sum_range]
      refine Finset.sum_congr rfl fun r _ => ?_
      rw [cast_11ab, hv, truncf_apply, stepWeights_apply, hm, hsc, mul_comm]

/-- A loop over tiles, from key block `lb` on. -/
theorem loop_good {s : Fin 256 → ℕ → EReal} {v : Fin 128 → ℕ → EReal} {lb : ℕ} (stf : ℕ → St) (T : ℕ)
    (h0 : Good (stf 0) s v (256 * lb)) (hs : ∀ c j, s c j ≠ ⊤)
    (hstep : ∀ k < T, ∃ sc vt, stf (k + 1) = tileStep sc vt (stf k) ∧ (∀ r c : Fin 256, sc (ix2 r c) = s c (256 * (lb + k) + r.val))
      ∧ ∀ (d : Fin 128) (r : Fin 256), vt (ix4 (0 : Fin 1) (0 : Fin 1) d r) = v d (256 * (lb + k) + r.val)) :
    Good (stf T) s v (256 * (lb + T)) := by
  induction T with
  | zero => exact h0
  | succ T ih =>
    obtain ⟨sc, vt, e, h1, h2⟩ := hstep T (Nat.lt_succ_self T)
    rw [e]
    exact good_congr (tileStep_good (ih fun k hk => hstep k (Nat.lt_succ_of_lt hk)) (fun c j _ => hs c j) h1 h2) (by ring)

end Cert.KernelIdeal

end
-- ==== Proof.Spec.lean ====
/-
  What both programs compute, as a function of the argument arrays alone: per batch, head and query the scores of the
  keys, and their softmax-weighted average of the values.
-/
module

public import proofs.«01_k».proof.Proof.Online
public import Idealize.ShloMosaic.Lib.ValueIdx
public import Idealize.ShloMosaic.PureOps.Ideal.Laws
public import Mathlib.Tactic.NormNum

@[expose] public section

noncomputable section

namespace Cert.Attn

open Idealize.ShloMosaic Idealize.ShloMosaic.ValueIdx Cert.Online
open scoped BigOperators

/-- The eleven argument arrays. -/
structure Args where
  w : (⟨1, ![3]⟩ : Shape).Idx → BitVec 32
  q1c : (⟨4, ![3, 8192, 28, 128]⟩ : Shape).Idx → EReal
  q1s : (⟨3, ![3, 8192, 28]⟩ : Shape).Idx → EReal
  q2c : (⟨4, ![3, 8192, 28, 128]⟩ : Shape).Idx → EReal
  q2s : (⟨3, ![3, 8192, 28]⟩ : Shape).Idx → EReal
  k1c : (⟨4, ![3, 8192, 4, 128]⟩ : Shape).Idx → EReal
  k1s : (⟨3, ![3, 8192, 4]⟩ : Shape).Idx → EReal
  k2c : (⟨4, ![3, 8192, 4, 128]⟩ : Shape).Idx → EReal
  k2s : (⟨3, ![3, 8192, 4]⟩ : Shape).Idx → EReal
  vw : (⟨4, ![3, 8192, 4, 128]⟩ : Shape).Idx → EReal
  vs : (⟨3, ![3, 8192, 4]⟩ : Shape).Idx → EReal

/-- A value that is a real number. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type*} (S : Finset ι) (f : ι → EReal) (h : ∀ i ∈ S, IsReal (f i)) : IsReal (∑ i ∈ S, f i) := by
  classical
  induction S using Finset.induction_on with
  | empty => exact ⟨0, by simp⟩
  | insert a S ha ih =>
    rw [Finset.sum_insert ha]
    exact (h a (Finset.mem_insert_self a S)).add (ih fun i hi => h i (Finset.mem_insert_of_mem hi))

theorem IsReal.ne_top {x : EReal} (h : IsReal x) : x ≠ ⊤ := by obtain ⟨a, rfl⟩ := h; exact EReal.coe_ne_top a
theorem IsReal.ne_bot {x : EReal} (h : IsReal x) : x ≠ ⊥ := by obtain ⟨a, rfl⟩ := h; exact EReal.coe_ne_bot a

/-- The codes and scales of queries and keys are real numbers. -/
structure Args.Real (A : Args) : Prop where
  q1c : ∀ i, IsReal (A.q1c i)
  q1s : ∀ i, IsReal (A.q1s i)
  q2c : ∀ i, IsReal (A.q2c i)
  q2s : ∀ i, IsReal (A.q2s i)
  k1c : ∀ i, IsReal (A.k1c i)
  k1s : ∀ i, IsReal (A.k1s i)
  k2c : ∀ i, IsReal (A.k2c i)
  k2s : ∀ i, IsReal (A.k2s i)

/-- The window of every batch is in the range in which the kernel's bounds do not wrap. -/
def Args.InRange (A : Args) : Prop := ∀ b, -255 < (A.w b).toInt ∧ (A.w b).toInt ≤ 2147483393

/-- The number by which the kernel scales the keys. -/
def unit : ℝ := 4278775 / 33554432

/-- The group of a query head. -/
def grp (h : Fin 28) : Fin 4 := ⟨h.val / 7, by have := h.isLt; omega⟩

/-- A key index taken into range. -/
def key (j : ℕ) : Fin 8192 := ⟨j % 8192, Nat.mod_lt _ (by norm_num)⟩

theorem key_val (j : Fin 8192) : key j.val = j := Fin.ext (Nat.mod_eq_of_lt j.isLt)
theorem key_of_lt {j : ℕ} (h : j < 8192) : key j = ⟨j, h⟩ := Fin.ext (Nat.mod_eq_of_lt h)

/-- A score in the kernel's units, of one of the two sets of codes. -/
def raw (qc : (⟨4, ![3, 8192, 28, 128]⟩ : Shape).Idx → EReal) (qs : (⟨3, ![3, 8192, 28]⟩ : Shape).Idx → EReal)
    (kc : (⟨4, ![3, 8192, 4, 128]⟩ : Shape).Idx → EReal) (ks : (⟨3, ![3, 8192, 4]⟩ : Shape).Idx → EReal)
    (b : Fin 3) (h : Fin 28) (q j : Fin 8192) : EReal :=
  (∑ d : Fin 128, kc (ix4 b j (grp h) d) * qc (ix4 b q h d)) * (ks (ix3 b j (grp h)) * (unit : EReal)) * qs (ix3 b q h)

/-- The score of key `j`: minus infinity after the query, the first codes within the window, the second before it. -/
def score (A : Args) (b : Fin 3) (h : Fin 28) (q : Fin 8192) (j : ℕ) : EReal :=
  if q.val < j then ⊥
  else if (q.val : ℤ) - j < (A.w (ix1 b)).toInt then raw A.q1c A.q1s A.k1c A.k1s b h q (key j)
  else raw A.q2c A.q2s A.k2c A.k2s b h q (key j)

/-- The value of key `j` in coordinate `d`. -/
def value (A : Args) (b : Fin 3) (h : Fin 28) (d : Fin 128) (j : ℕ) : EReal :=
  A.vw (ix4 b (key j) (grp h) d) * A.vs (ix3 b (key j) (grp h))

/-- The result. -/
def out (A : Args) (b : Fin 3) (h : Fin 28) (q : Fin 8192) (d : Fin 128) : EReal :=
  Ideal.div (wsum (score A b h q) (value A b h d) 8192) (wsum (score A b h q) (fun _ => 1) 8192)

theorem raw_real (qc qs kc ks) (hqc : ∀ i, IsReal (qc i)) (hqs : ∀ i, IsReal (qs i)) (hkc : ∀ i, IsReal (kc i))
    (hks : ∀ i, IsReal (ks i)) (b : Fin 3) (h : Fin 28) (q j : Fin 8192) : IsReal (raw qc qs kc ks b h q j) :=
  ((IsReal.sum _ _ fun _ _ => (hkc _).mul (hqc _)).mul ((hks _).mul ⟨unit, rfl⟩)).mul (hqs _)

theorem raw1_real {A : Args} (hA : A.Real) (b : Fin 3) (h : Fin 28) (q j : Fin 8192) :
    IsReal (raw A.q1c A.q1s A.k1c A.k1s b h q j) := raw_real _ _ _ _ hA.q1c hA.q1s hA.k1c hA.k1s b h q j
theorem raw2_real {A : Args} (hA : A.Real) (b : Fin 3) (h : Fin 28) (q j : Fin 8192) :
    IsReal (raw A.q2c A.q2s A.k2c A.k2s b h q j) := raw_real _ _ _ _ hA.q2c hA.q2s hA.k2c hA.k2s b h q j

theorem score_ne_top {A : Args} (hA : A.Real) (b : Fin 3) (h : Fin 28) (q : Fin 8192) (j : ℕ) : score A b h q j ≠ ⊤ := by
  unfold score
  split
  · exact bot_ne_top
  split
  · exact (raw1_real hA b h q _).ne_top
  · exact (raw2_real hA b h q _).ne_top

theorem score_self_ne_bot {A : Args} (hA : A.Real) (b : Fin 3) (h : Fin 28) (q : Fin 8192) : score A b h q q.val ≠ ⊥ := by
  unfold score
  rw [if_neg (lt_irrefl _)]
  split
  · exact (raw1_real hA b h q _).ne_bot
  · exact (raw2_real hA b h q _).ne_bot

/-- The keys past `n`, all after the query, do not enter the result. -/
theorem out_eq_of_le (A : Args) (b : Fin 3) (h : Fin 28) (q : Fin 8192) (d : Fin 128) {n : ℕ} (hq : q.val < n) (hn : n ≤ 8192) :
    out A b h q d = Ideal.div (wsum (score A b h q) (value A b h d) n) (wsum (score A b h q) (fun _ => 1) n) := by
  have hb : ∀ j, n ≤ j → j < 8192 → score A b h q j = ⊥ := fun j hj _ => if_pos (lt_of_lt_of_le hq hj)
  unfold out
  rw [wsum_tail _ hn hb, wsum_tail _ hn hb]

/-- The result as the plain softmax average, in natural-exponential units. -/
theorem out_eq_softmax {A : Args} (hA : A.Real) (b : Fin 3) (h : Fin 28) (q : Fin 8192) (d : Fin 128) (t : ℕ → EReal)
    (ht : ∀ j < 8192, t j = score A b h q j * (Real.log 2 : ℝ)) :
    out A b h q d = ∑ j ∈ Finset.range 8192, Ideal.div (Ideal.exp (t j - top t 8192))
      (∑ k ∈ Finset.range 8192, Ideal.exp (t k - top t 8192)) * A.vs (ix3 b (key j) (grp h)) * A.vw (ix4 b (key j) (grp h) d) := by
  have hs := softmax (score A b h q) (fun j => A.vw (ix4 b (key j) (grp h) d)) (fun j => A.vs (ix3 b (key j) (grp h))) 8192
    (fun j _ => score_ne_top hA b h q j) q.isLt (score_self_ne_bot hA b h q)
  refine Eq.trans ?_ (hs.trans ?_)
  · rfl
  have htop : top t 8192 = top (fun j => score A b h q j * (Real.log 2 : ℝ)) 8192 :=
    Finset.sup_congr rfl fun j hj => ht j (Finset.mem_range.mp hj)
  have hden : (∑ k ∈ Finset.range 8192, Ideal.exp (t k - top t 8192))
      = ∑ k ∈ Finset.range 8192, Ideal.exp (score A b h q k * (Real.log 2 : ℝ) - top (fun j => score A b h q j * (Real.log 2 : ℝ)) 8192) :=
    Finset.sum_congr rfl fun k hk => by rw [htop, ht k (Finset.mem_range.mp hk)]
  refine Finset.sum_congr rfl fun j hj => ?_
  rw [hden, htop, ht j (Finset.mem_range.mp hj)]

/-- The reference's form of a score: its scale is the kernel's times the logarithm of two. -/
theorem raw_mul_log (qc : (⟨4, ![3, 8192, 28, 128]⟩ : Shape).Idx → EReal) (qs : (⟨3, ![3, 8192, 28]⟩ : Shape).Idx → EReal)
    (kc : (⟨4, ![3, 8192, 4, 128]⟩ : Shape).Idx → EReal) (ks : (⟨3, ![3, 8192, 4]⟩ : Shape).Idx → EReal)
    (b : Fin 3) (h : Fin 28) (q j : Fin 8192) :
    (∑ d : Fin 128, qc (ix4 b q h d) * kc (ix4 b j (grp h) d)) * qs (ix3 b q h) * ks (ix3 b j (grp h)) * ((unit * Real.log 2 : ℝ) : EReal)
      = raw qc qs kc ks b h q j * (Real.log 2 : ℝ) := by
  unfold raw
  rw [EReal.coe_mul, Finset.sum_congr rfl fun d _ => mul_comm (qc (ix4 b q h d)) (kc (ix4 b j (grp h) d))]
  ac_rfl

end Cert.Attn

end
-- ==== Proof.Layout.lean ====
/-
  Layout operations, row reductions and batched products read at an index, for any extents.
-/
module

public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.WordCmp

@[expose] public section

noncomputable section

namespace Cert.Layout

open Idealize.ShloMosaic Idealize.ShloMosaic.ValueIdx
open scoped BigOperators

variable {α : Type}

theorem zero_word : Ideal.ofBits .f32 0x00000000#32 = 0 := by
  simp [Ideal.ofBits, Ideal.ieee]

theorem neg_inf_word : Ideal.ofBits .f32 0xFF800000#32 = ⊥ := by
  simp [Ideal.ofBits, Ideal.ieee]

theorem cast_self {s : Shape} (x : s.Idx → α) (h : s.ShapeCasts s) (i : s.Idx) : shapeCast s x h i = x i :=
  shapeCast_apply x h i i rfl

theorem bcast_a11 {a b c : ℕ} (x : (⟨3, ![a, 1, 1]⟩ : Shape).Idx → α) (h : (⟨3, ![a, 1, 1]⟩ : Shape).Broadcasts ⟨3, ![a, b, c]⟩)
    (i : Fin a) (j : Fin b) (k : Fin c) : broadcastTo ⟨3, ![a, b, c]⟩ x h (ix3 i j k) = x (ix3 i (0 : Fin 1) (0 : Fin 1)) :=
  broadcastTo_apply x h _ _ fun p => by
    match p with
    | ⟨0, _⟩ =>
      show i.val = if a = 1 then 0 else i.val
      split
      · have := i.isLt; omega
      · rfl
    | ⟨1, _⟩ => rfl
    | ⟨2, _⟩ => rfl

theorem bcast_ab1 {a b c : ℕ} (x : (⟨3, ![a, b, 1]⟩ : Shape).Idx → α) (h : (⟨3, ![a, b, 1]⟩ : Shape).Broadcasts ⟨3, ![a, b, c]⟩)
    (i : Fin a) (j : Fin b) (k : Fin c) : broadcastTo ⟨3, ![a, b, c]⟩ x h (ix3 i j k) = x (ix3 i j (0 : Fin 1)) :=
  broadcastTo_apply x h _ _ fun p => by
    match p with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl

theorem bcast_a1c {a b c : ℕ} (x : (⟨3, ![a, 1, c]⟩ : Shape).Idx → α) (h : (⟨3, ![a, 1, c]⟩ : Shape).Broadcasts ⟨3, ![a, b, c]⟩)
    (i : Fin a) (j : Fin b) (k : Fin c) : broadcastTo ⟨3, ![a, b, c]⟩ x h (ix3 i j k) = x (ix3 i (0 : Fin 1) k) :=
  broadcastTo_apply x h _ _ fun p => by
    match p with
    | ⟨0, _⟩ =>
      show i.val = if a = 1 then 0 else i.val
      split
      · have := i.isLt; omega
      · rfl
    | ⟨1, _⟩ => rfl
    | ⟨2, _⟩ =>
      show k.val = if c = 1 then 0 else k.val
      split
      · have := k.isLt; omega
      · rfl

theorem cast_ab_ab1 {a b : ℕ} (x : (⟨2, ![a, b]⟩ : Shape).Idx → α) (h : (⟨2, ![a, b]⟩ : Shape).ShapeCasts ⟨3, ![a, b, 1]⟩)
    (i : Fin a) (j : Fin b) (k : Fin 1) : shapeCast ⟨3, ![a, b, 1]⟩ x h (ix3 i j k) = x (ix2 i j) :=
  shapeCast_apply x h _ _ (by
    rw [Shape.rowMajor_val_two, Shape.rowMajor_val_three]
    show i.val * b + j.val = (i.val * b + j.val) * 1 + k.val
    have := k.isLt; omega)

theorem lift_last {a b c : ℕ} (h : (⟨3, ![a, b, c]⟩ : Shape).Reduces [2] ⟨2, ![a, b]⟩) (i : Fin a) (j : Fin b) (k : Fin c) :
    h.lift (ix2 i j) k = ix3 i j k := by
  funext p; apply Fin.ext
  match p with
  | ⟨0, _⟩ => rfl
  | ⟨1, _⟩ => rfl
  | ⟨2, _⟩ => rfl

/-- The maximum of a row, spread over the row. -/
theorem row_max {a b c : ℕ} (x : FVec Ideal ⟨3, ![a, b, c]⟩ .f32) (h : (⟨3, ![a, b, c]⟩ : Shape).Reduces [2] ⟨2, ![a, b]⟩)
    (hφ : FKind.Formats .f32) (ha : (0xFF800000#32 : BitVec 32) = FKind.maximumf.neutral .f32 hφ)
    (h1 : (⟨2, ![a, b]⟩ : Shape).ShapeCasts ⟨3, ![a, b, 1]⟩) (h2 : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ (multiReduction .maximumf [2] ⟨2, ![a, b]⟩ x 0xFF800000#32 h hφ ha) h1) h2 (ix3 i j k)
      = (Finset.univ : Finset (Fin c)).sup fun k => x (ix3 i j k) := by
  refine (bcast_ab1 _ h2 i j k).trans ((cast_ab_ab1 _ h1 i j 0).trans ?_)
  refine (Ideal.multiReduction_maximumf_single x _ h hφ ha (ix2 i j)).trans ?_
  refine (congrArg (fun b : EReal => Finset.fold max b _ _) neg_inf_word).trans ?_
  exact Finset.sup_congr rfl fun r _ => congrArg x (lift_last h i j r)

/-- The sum of a row, spread over the row. -/
theorem row_sum {a b c : ℕ} (x : FVec Ideal ⟨3, ![a, b, c]⟩ .f32) (h : (⟨3, ![a, b, c]⟩ : Shape).Reduces [2] ⟨2, ![a, b]⟩)
    (hφ : FKind.Formats .f32) (ha : (0x00000000#32 : BitVec 32) = FKind.add.neutral .f32 hφ)
    (h1 : (⟨2, ![a, b]⟩ : Shape).ShapeCasts ⟨3, ![a, b, 1]⟩) (h2 : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ (multiReduction .add [2] ⟨2, ![a, b]⟩ x 0x00000000#32 h hφ ha) h1) h2 (ix3 i j k)
      = ∑ k : Fin c, x (ix3 i j k) := by
  refine (bcast_ab1 _ h2 i j k).trans ((cast_ab_ab1 _ h1 i j 0).trans ?_)
  refine (Ideal.multiReduction_add_single x _ h hφ ha (ix2 i j)).trans ?_
  exact Finset.sum_congr rfl fun r _ => congrArg x (lift_last h i j r)

/-- The dimension numbers of `[B,M,K] × [B,N,K]ᵀ`. -/
abbrev dotT (B M N K : ℕ) (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := wf

theorem dotT_apply {B M N K : ℕ} {φ₁ φ₂ : FTy} (wf) (lhs : FVec Ideal ⟨3, ![B, M, K]⟩ φ₁) (rhs : FVec Ideal ⟨3, ![B, N, K]⟩ φ₂)
    (acc : FVec Ideal ⟨3, ![B, M, N]⟩ .f32) (b : Fin B) (i : Fin M) (j : Fin N) :
    matmul (dotT B M N K wf) none lhs rhs acc (ix3 b i j) = acc (ix3 b i j) + ∑ k : Fin K, lhs (ix3 b i k) * rhs (ix3 b j k) := by
  refine (Ideal.matmul_apply (dotT B M N K wf) none lhs rhs acc _).trans ?_
  rw [← Equiv.sum_comp (contrEquiv1 (dotT B M N K wf) K rfl rfl).symm]
  refine congrArg (acc (ix3 b i j) + ·) (Finset.sum_congr rfl fun k _ => ?_)
  have hk := contrEquiv1_symm_val (dotT B M N K wf) K rfl rfl k
  have el : (dotT B M N K wf).lhsIdx (ix3 b i j) ((contrEquiv1 (dotT B M N K wf) K rfl rfl).symm k) = ix3 b i k := by
    funext a; apply Fin.ext
    match a with
    | ⟨0, _⟩ => rfl
    | ⟨1, _⟩ => rfl
    | ⟨2, _⟩ => exact hk
  have er : (dotT B M N K wf).rhsIdx (ix3 b i j) ((contrEquiv1 (dotT B M N K wf) K rfl rfl).symm k) = ix3 b j k := by
    funext a; apply Fin.ext
    match a with
    | ⟨0, _⟩ => rfl
    | ⟨1, _⟩ => rfl
    | ⟨2, _⟩ => exact hk
  rw [el, er]

/-- The dimension numbers of `[B,M,K] × [B,K,N]`. -/
abbrev dotP (B M N K : ℕ) (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

theorem dotP_apply {B M N K : ℕ} {φ₁ φ₂ : FTy} (wf) (lhs : FVec Ideal ⟨3, ![B, M, K]⟩ φ₁) (rhs : FVec Ideal ⟨3, ![B, K, N]⟩ φ₂)
    (acc : FVec Ideal ⟨3, ![B, M, N]⟩ .f32) (b : Fin B) (i : Fin M) (j : Fin N) :
    matmul (dotP B M N K wf) none lhs rhs acc (ix3 b i j) = acc (ix3 b i j) + ∑ k : Fin K, lhs (ix3 b i k) * rhs (ix3 b k j) := by
  refine (Ideal.matmul_apply (dotP B M N K wf) none lhs rhs acc _).trans ?_
  rw [← Equiv.sum_comp (contrEquiv1 (dotP B M N K wf) K rfl rfl).symm]
  refine congrArg (acc (ix3 b i j) + ·) (Finset.sum_congr rfl fun k _ => ?_)
  have hk := contrEquiv1_symm_val (dotP B M N K wf) K rfl rfl k
  have el : (dotP B M N K wf).lhsIdx (ix3 b i j) ((contrEquiv1 (dotP B M N K wf) K rfl rfl).symm k) = ix3 b i k := by
    funext a; apply Fin.ext
    match a with
    | ⟨0, _⟩ => rfl
    | ⟨1, _⟩ => rfl
    | ⟨2, _⟩ => exact hk
  have er : (dotP B M N K wf).rhsIdx (ix3 b i j) ((contrEquiv1 (dotP B M N K wf) K rfl rfl).symm k) = ix3 b k j := by
    funext a; apply Fin.ext
    match a with
    | ⟨0, _⟩ => rfl
    | ⟨1, _⟩ => exact hk
    | ⟨2, _⟩ => rfl
  rw [el, er]

/-! ## The mask -/

/-- The two nested selections of the mask, by the signed distance. -/
theorem mask_select {α : Type} (x w : BitVec 32) (a b c : α) :
    Scalar.select (IntOp.cmpi .slt x 0#32) a (Scalar.select (IntOp.cmpi .slt x w) b c)
      = if x.toInt < 0 then a else if x.toInt < w.toInt then b else c := by
  rw [WordCmp.cmpi_slt_eq, WordCmp.cmpi_slt_eq, BitVec.toInt_zero]
  by_cases h0 : x.toInt < 0
  · rw [if_pos h0, decide_eq_true h0]; exact select_one _ _
  · rw [if_neg h0, decide_eq_false h0]
    refine (select_zero _ _).trans ?_
    by_cases h1 : x.toInt < w.toInt
    · rw [if_pos h1, decide_eq_true h1]; exact select_one _ _
    · rw [if_neg h1, decide_eq_false h1]; exact select_zero _ _

theorem toInt_index {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- The signed distance of two positions does not wrap. -/
theorem toInt_dist {i j : ℕ} (hi : i < 2 ^ 30) (hj : j < 2 ^ 30) :
    (BitVec.ofNat 32 i - BitVec.ofNat 32 j).toInt = (i : ℤ) - j := by
  rw [BitVec.toInt_sub, toInt_index (by omega), toInt_index (by omega)]
  apply Int.bmod_eq_of_le <;> omega

/-! ## Splitting and joining the leading axes -/

theorem cast_abc_3 {p h g m k : ℕ} (x : (⟨4, ![p, h, m, k]⟩ : Shape).Idx → α) (w : (⟨4, ![p, h, m, k]⟩ : Shape).ShapeCasts ⟨3, ![g, m, k]⟩)
    (b : Fin p) (c : Fin h) (f : Fin g) (hf : f.val = b.val * h + c.val) (i : Fin m) (j : Fin k) :
    shapeCast ⟨3, ![g, m, k]⟩ x w (ix3 f i j) = x (ix4 b c i j) :=
  shapeCast_apply x w _ _ (by
    rw [Shape.rowMajor_val_four, Shape.rowMajor_val_three]
    show ((b.val * h + c.val) * m + i.val) * k + j.val = (f.val * m + i.val) * k + j.val
    rw [hf])

theorem cast_3_abc {p h g m k : ℕ} (x : (⟨3, ![g, m, k]⟩ : Shape).Idx → α) (w : (⟨3, ![g, m, k]⟩ : Shape).ShapeCasts ⟨4, ![p, h, m, k]⟩)
    (b : Fin p) (c : Fin h) (f : Fin g) (hf : f.val = b.val * h + c.val) (i : Fin m) (j : Fin k) :
    shapeCast ⟨4, ![p, h, m, k]⟩ x w (ix4 b c i j) = x (ix3 f i j) :=
  shapeCast_apply x w _ _ (by
    rw [Shape.rowMajor_val_four, Shape.rowMajor_val_three]
    show (f.val * m + i.val) * k + j.val = ((b.val * h + c.val) * m + i.val) * k + j.val
    rw [hf])

theorem cast_last {p h g m k : ℕ} (x : (⟨4, ![p, m, h, k]⟩ : Shape).Idx → α) (w : (⟨4, ![p, m, h, k]⟩ : Shape).ShapeCasts ⟨3, ![p, m, g]⟩)
    (b : Fin p) (i : Fin m) (c : Fin h) (j : Fin k) (f : Fin g) (hf : f.val = c.val * k + j.val) (hg : g = h * k) :
    shapeCast ⟨3, ![p, m, g]⟩ x w (ix3 b i f) = x (ix4 b i c j) :=
  shapeCast_apply x w _ _ (by
    rw [Shape.rowMajor_val_four, Shape.rowMajor_val_three]
    show ((b.val * m + i.val) * h + c.val) * k + j.val = (b.val * m + i.val) * g + f.val
    rw [hf, hg]; ring)

theorem cast_abm_g1m {p h g m : ℕ} (x : (⟨3, ![p, h, m]⟩ : Shape).Idx → α) (w : (⟨3, ![p, h, m]⟩ : Shape).ShapeCasts ⟨3, ![g, m, 1]⟩)
    (b : Fin p) (c : Fin h) (f : Fin g) (hf : f.val = b.val * h + c.val) (i : Fin m) (u : Fin 1) :
    shapeCast ⟨3, ![g, m, 1]⟩ x w (ix3 f i u) = x (ix3 b c i) :=
  shapeCast_apply x w _ _ (by
    rw [Shape.rowMajor_val_three, Shape.rowMajor_val_three]
    show (b.val * h + c.val) * m + i.val = (f.val * m + i.val) * 1 + u.val
    rw [hf]; have := u.isLt; omega)

theorem cast_5_3 {p g r f m k : ℕ} (x : (⟨5, ![p, g, r, m, k]⟩ : Shape).Idx → α) (w : (⟨5, ![p, g, r, m, k]⟩ : Shape).ShapeCasts ⟨3, ![f, m, k]⟩)
    (b : Fin p) (c : Fin g) (d : Fin r) (e : Fin f) (hf : e.val = (b.val * g + c.val) * r + d.val) (i : Fin m) (j : Fin k) :
    shapeCast ⟨3, ![f, m, k]⟩ x w (ix3 e i j) = x (ix5 b c d i j) :=
  shapeCast_apply x w _ _ (by
    rw [Shape.rowMajor_val_five, Shape.rowMajor_val_three]
    show (((b.val * g + c.val) * r + d.val) * m + i.val) * k + j.val = (e.val * m + i.val) * k + j.val
    rw [hf])

theorem cast_4_31 {p g r f m : ℕ} (x : (⟨4, ![p, g, r, m]⟩ : Shape).Idx → α) (w : (⟨4, ![p, g, r, m]⟩ : Shape).ShapeCasts ⟨3, ![f, 1, m]⟩)
    (b : Fin p) (c : Fin g) (d : Fin r) (e : Fin f) (hf : e.val = (b.val * g + c.val) * r + d.val) (i : Fin m) (u : Fin 1) :
    shapeCast ⟨3, ![f, 1, m]⟩ x w (ix3 e u i) = x (ix4 b c d i) :=
  shapeCast_apply x w _ _ (by
    rw [Shape.rowMajor_val_four, Shape.rowMajor_val_three]
    show ((b.val * g + c.val) * r + d.val) * m + i.val = (e.val * 1 + u.val) * m + i.val
    have := u.isLt
    rw [hf, show u.val = 0 by omega]; ring)

theorem transpose_0213 {a b c d : ℕ} (x : (⟨4, ![a, b, c, d]⟩ : Shape).Idx → α)
    (h : (⟨4, ![a, b, c, d]⟩ : Shape).Transposes [0, 2, 1, 3] ⟨4, ![a, c, b, d]⟩) (i : Fin a) (j : Fin c) (k : Fin b) (l : Fin d) :
    transpose ⟨4, ![a, c, b, d]⟩ [0, 2, 1, 3] x h (ix4 i j k l) = x (ix4 i k j l) :=
  transpose_apply _ x h _ _ fun p => by
    match p with
    | ⟨0, _⟩ => rfl
    | ⟨1, _⟩ => rfl
    | ⟨2, _⟩ => rfl
    | ⟨3, _⟩ => rfl

theorem transpose_021 {a b c : ℕ} (x : (⟨3, ![a, b, c]⟩ : Shape).Idx → α)
    (h : (⟨3, ![a, b, c]⟩ : Shape).Transposes [0, 2, 1] ⟨3, ![a, c, b]⟩) (i : Fin a) (j : Fin c) (k : Fin b) :
    transpose ⟨3, ![a, c, b]⟩ [0, 2, 1] x h (ix3 i j k) = x (ix3 i k j) :=
  transpose_apply _ x h _ _ fun p => by
    match p with
    | ⟨0, _⟩ => rfl
    | ⟨1, _⟩ => rfl
    | ⟨2, _⟩ => rfl

theorem ite_val {n : ℕ} (i : Fin n) : i.val = if n = 1 then 0 else i.val := by
  split
  · have := i.isLt; omega
  · rfl

/-- A member of each group repeated over the group. -/
theorem repeat_5 {p g r m k : ℕ} (x : (⟨4, ![p, g, m, k]⟩ : Shape).Idx → α)
    (h1 : (⟨4, ![p, g, m, k]⟩ : Shape).BroadcastsInDim ⟨5, ![p, g, 1, m, k]⟩ ![0, 1, 3, 4])
    (h2 : (⟨5, ![p, g, 1, m, k]⟩ : Shape).BroadcastsInDim ⟨5, ![p, g, r, m, k]⟩ ![0, 1, 2, 3, 4])
    (b : Fin p) (c : Fin g) (d : Fin r) (i : Fin m) (j : Fin k) :
    broadcastInDim ⟨5, ![p, g, r, m, k]⟩ ![0, 1, 2, 3, 4] h2 (broadcastInDim ⟨5, ![p, g, 1, m, k]⟩ ![0, 1, 3, 4] h1 x) (ix5 b c d i j)
      = x (ix4 b c i j) := by
  refine (broadcastInDim_apply _ h2 _ _ (ix5 b c (0 : Fin 1) i j) fun a => ?_).trans
    (broadcastInDim_apply _ h1 x _ (ix4 b c i j) fun a => ?_)
  · match a with
    | ⟨0, _⟩ => exact ite_val b
    | ⟨1, _⟩ => exact ite_val c
    | ⟨2, _⟩ => rfl
    | ⟨3, _⟩ => exact ite_val i
    | ⟨4, _⟩ => exact ite_val j
  · match a with
    | ⟨0, _⟩ => exact ite_val b
    | ⟨1, _⟩ => exact ite_val c
    | ⟨2, _⟩ => exact ite_val i
    | ⟨3, _⟩ => exact ite_val j

theorem repeat_4 {p g r m : ℕ} (x : (⟨3, ![p, g, m]⟩ : Shape).Idx → α)
    (h1 : (⟨3, ![p, g, m]⟩ : Shape).BroadcastsInDim ⟨4, ![p, g, 1, m]⟩ ![0, 1, 3])
    (h2 : (⟨4, ![p, g, 1, m]⟩ : Shape).BroadcastsInDim ⟨4, ![p, g, r, m]⟩ ![0, 1, 2, 3])
    (b : Fin p) (c : Fin g) (d : Fin r) (i : Fin m) :
    broadcastInDim ⟨4, ![p, g, r, m]⟩ ![0, 1, 2, 3] h2 (broadcastInDim ⟨4, ![p, g, 1, m]⟩ ![0, 1, 3] h1 x) (ix4 b c d i)
      = x (ix3 b c i) := by
  refine (broadcastInDim_apply _ h2 _ _ (ix4 b c (0 : Fin 1) i) fun a => ?_).trans
    (broadcastInDim_apply _ h1 x _ (ix3 b c i) fun a => ?_)
  · match a with
    | ⟨0, _⟩ => exact ite_val b
    | ⟨1, _⟩ => exact ite_val c
    | ⟨2, _⟩ => rfl
    | ⟨3, _⟩ => exact ite_val i
  · match a with
    | ⟨0, _⟩ => exact ite_val b
    | ⟨1, _⟩ => exact ite_val c
    | ⟨2, _⟩ => exact ite_val i

end Cert.Layout

end
-- ==== Proof.Head.lean ====
/-
  One head of the attention kernel at one grid point, from what its windows hold: the scores it should accumulate, and what
  each of its loops and its last tile add to the accumulated state.
-/
module

public import proofs.«01_k».proof.Proof.Bounds
public import proofs.«01_k».proof.Proof.Tile
public import proofs.«01_k».proof.Proof.Spec
public import proofs.«01_k».proof.Proof.Layout
public import Idealize.ShloMosaic.Lib.WholeRead

@[expose] public section

noncomputable section

namespace Cert.KernelIdeal

open Idealize.ShloMosaic Idealize.ShloMosaic.ValueIdx Cert.KernelIdeal.Gen Cert.Online Cert.Words Cert.Attn
open scoped BigOperators

/-- A grid point, the window's word, and what the nine vector windows hold. -/
structure Win where
  i : grid0.Coords
  w : BitVec 32
  x1 : Vec Ideal S1x7x256x128 .fp8e4m3
  x2 : Vec Ideal S1x7x256x128 .fp8e4m3
  x3 : Vec Ideal S1x7x1x256 .f32
  x4 : Vec Ideal S1x7x1x256 .f32
  x5 : Vec Ideal S1x1x8192x128 .fp8e4m3
  x6 : Vec Ideal S1x1x8192x128 .fp8e4m3
  x7 : Vec Ideal S1x1x8192x128 .f32
  x8 : Vec Ideal S1x1x8192x128 .f32
  x9 : Vec Ideal S1x1x128x8192 .bf16

namespace Win

/-- The query block. -/
def n (W : Win) : ℕ := (W.i 2).val

theorem n_lt (W : Win) : W.n < 32 := (W.i 2).isLt

/-- The score of query `c` and key `j` from one set of codes and scales. -/
def sc (q : Vec Ideal S1x7x256x128 .fp8e4m3) (qs : Vec Ideal S1x7x1x256 .f32) (k : Vec Ideal S1x1x8192x128 .fp8e4m3)
    (ks : Vec Ideal S1x1x8192x128 .f32) (h : Fin 7) (c : Fin 256) (j : Fin 8192) : EReal :=
  (∑ d : Fin 128, k (ix4 (0 : Fin 1) (0 : Fin 1) j d) * q (ix4 (0 : Fin 1) h c d))
    * ks (ix4 (0 : Fin 1) (0 : Fin 1) j (⟨c.val % 128, Nat.mod_lt _ (by norm_num)⟩ : Fin 128)) * qs (ix4 (0 : Fin 1) h (0 : Fin 1) c)

/-- The score of head `h`, query `c` of the block, and key `j`. -/
def score (W : Win) (h : Fin 7) (c : Fin 256) (j : ℕ) : EReal :=
  if 256 * W.n + c.val < j then ⊥
  else if ((256 * W.n + c.val : ℕ) : ℤ) - (j : ℕ) < W.w.toInt then sc W.x1 W.x3 W.x5 W.x7 h c (key j)
  else sc W.x2 W.x4 W.x6 W.x8 h c (key j)

/-- The value of key `j` in coordinate `d`. -/
def val (W : Win) (d : Fin 128) (j : ℕ) : EReal := W.x9 (ix4 (0 : Fin 1) (0 : Fin 1) d (key j))

/-- The window is in range, and no score is plus infinity. -/
structure OK (W : Win) : Prop where
  range : -255 < W.w.toInt ∧ W.w.toInt ≤ 2147483393
  top : ∀ h c j, W.score h c j ≠ ⊤

/-- What head `h` gives query `c` in coordinate `d`. -/
def quot (W : Win) (h : Fin 7) (c : Fin 256) (d : Fin 128) : EReal :=
  Ideal.div (wsum (W.score h c) (W.val d) (256 * (W.n + 1))) (wsum (W.score h c) (fun _ => 1) (256 * (W.n + 1)))

end Win

/-! ## Loads -/

section Loads

variable {o : ℕ}

theorem read_rows {e : EltTy} {a : Memref sig .tc .vmem S1x1x8192x128 e} (h : a.IsWhole) (x : Vec Ideal S1x1x8192x128 e)
    {off : Fin 4 → ℕ} (inb : ∀ b, off b + S1x1x256x128.size b ≤ S1x1x8192x128.size b) (hoff : off = ![0, 0, o, 0])
    (r : Fin 256) (d : Fin 128) :
    View.readAt (Elt Ideal) a.view (Rect.unit (s := S1x1x8192x128) off S1x1x256x128.size inb).toLoadRect (h.unread x)
      (ix4 (0 : Fin 1) (0 : Fin 1) r d) = x (ix4 (0 : Fin 1) (0 : Fin 1) (key (o + r.val)) d) := by
  subst hoff
  have ho : o + 256 ≤ 8192 := inb 2
  have hr := r.isLt
  refine (h.readAt_unread _ _ _).trans (congrArg x ?_)
  funext b; apply Fin.ext
  match b with
  | ⟨0, _⟩ => rfl
  | ⟨1, _⟩ => rfl
  | ⟨2, _⟩ =>
    show o + 1 * r.val = (o + r.val) % 8192
    omega
  | ⟨3, _⟩ =>
    show 0 + 1 * d.val = d.val
    omega

theorem read_cols {a : Memref sig .tc .vmem S1x1x128x8192 .bf16} (h : a.IsWhole) (x : Vec Ideal S1x1x128x8192 .bf16)
    {off : Fin 4 → ℕ} (inb : ∀ b, off b + S1x1x128x256.size b ≤ S1x1x128x8192.size b) (hoff : off = ![0, 0, 0, o])
    (d : Fin 128) (r : Fin 256) :
    View.readAt (Elt Ideal) a.view (Rect.unit (s := S1x1x128x8192) off S1x1x128x256.size inb).toLoadRect (h.unread x)
      (ix4 (0 : Fin 1) (0 : Fin 1) d r) = x (ix4 (0 : Fin 1) (0 : Fin 1) d (key (o + r.val))) := by
  subst hoff
  have ho : o + 256 ≤ 8192 := inb 3
  have hr := r.isLt
  refine (h.readAt_unread _ _ _).trans (congrArg x ?_)
  funext b; apply Fin.ext
  match b with
  | ⟨0, _⟩ => rfl
  | ⟨1, _⟩ => rfl
  | ⟨2, _⟩ =>
    show 0 + 1 * d.val = d.val
    omega
  | ⟨3, _⟩ =>
    show o + 1 * r.val = (o + r.val) % 8192
    omega

theorem read_q {a : Memref sig .tc .vmem S1x7x256x128 .fp8e4m3} (h : a.IsWhole) (x : Vec Ideal S1x7x256x128 .fp8e4m3) (g : Fin 7)
    {off : Fin 4 → ℕ} (inb : ∀ b, off b + S1x1x256x128.size b ≤ S1x7x256x128.size b) (hoff : off = ![0, g.val, 0, 0])
    (c : Fin 256) (d : Fin 128) :
    View.readAt (Elt Ideal) a.view (Rect.unit (s := S1x7x256x128) off S1x1x256x128.size inb).toLoadRect (h.unread x)
      (ix4 (0 : Fin 1) (0 : Fin 1) c d) = x (ix4 (0 : Fin 1) g c d) := by
  subst hoff
  refine (h.readAt_unread _ _ _).trans (congrArg x ?_)
  funext b; apply Fin.ext
  match b with
  | ⟨0, _⟩ => rfl
  | ⟨1, _⟩ => show g.val + 1 * 0 = g.val; omega
  | ⟨2, _⟩ => show 0 + 1 * c.val = c.val; omega
  | ⟨3, _⟩ => show 0 + 1 * d.val = d.val; omega

theorem read_qs {a : Memref sig .tc .vmem S1x7x1x256 .f32} (h : a.IsWhole) (x : Vec Ideal S1x7x1x256 .f32) (g : Fin 7)
    {off : Fin 4 → ℕ} (inb : ∀ b, off b + S1x1x1x256.size b ≤ S1x7x1x256.size b) (hoff : off = ![0, g.val, 0, 0]) (c : Fin 256) :
    View.readAt (Elt Ideal) a.view (Rect.unit (s := S1x7x1x256) off S1x1x1x256.size inb).toLoadRect (h.unread x)
      (ix4 (0 : Fin 1) (0 : Fin 1) (0 : Fin 1) c) = x (ix4 (0 : Fin 1) g (0 : Fin 1) c) := by
  subst hoff
  refine (h.readAt_unread _ _ _).trans (congrArg x ?_)
  funext b; apply Fin.ext
  match b with
  | ⟨0, _⟩ => rfl
  | ⟨1, _⟩ => show g.val + 1 * 0 = g.val; omega
  | ⟨2, _⟩ => rfl
  | ⟨3, _⟩ => show 0 + 1 * c.val = c.val; omega

/-- A tile's scores from the loaded codes and scales. -/
theorem read_score {a8 : Memref sig .tc .vmem S1x1x8192x128 .fp8e4m3} {h8 : a8.IsWhole} {a4 : Memref sig .tc .vmem S1x7x256x128 .fp8e4m3}
    {h4 : a4.IsWhole} {a10 : Memref sig .tc .vmem S1x1x8192x128 .f32} {h10 : a10.IsWhole} {a6 : Memref sig .tc .vmem S1x7x1x256 .f32}
    {h6 : a6.IsWhole} {x1 : Vec Ideal S1x7x256x128 .fp8e4m3} {x3 : Vec Ideal S1x7x1x256 .f32} {x5 : Vec Ideal S1x1x8192x128 .fp8e4m3}
    {x7 : Vec Ideal S1x1x8192x128 .f32} (g : Fin 7) {off offq offs : Fin 4 → ℕ}
    {inb : ∀ b, off b + S1x1x256x128.size b ≤ S1x1x8192x128.size b} {inb' : ∀ b, off b + S1x1x256x128.size b ≤ S1x1x8192x128.size b}
    {inbq : ∀ b, offq b + S1x1x256x128.size b ≤ S1x7x256x128.size b} {inbs : ∀ b, offs b + S1x1x1x256.size b ≤ S1x7x1x256.size b}
    (hoff : off = ![0, 0, o, 0]) (hq : offq = ![0, g.val, 0, 0]) (hs : offs = ![0, g.val, 0, 0]) (r c : Fin 256) :
    scoreVec (View.readAt (Elt Ideal) a8.view (Rect.unit (s := S1x1x8192x128) off S1x1x256x128.size inb).toLoadRect (h8.unread x5))
      (View.readAt (Elt Ideal) a4.view (Rect.unit (s := S1x7x256x128) offq S1x1x256x128.size inbq).toLoadRect (h4.unread x1))
      (View.readAt (Elt Ideal) a10.view (Rect.unit (s := S1x1x8192x128) off S1x1x256x128.size inb').toLoadRect (h10.unread x7))
      (View.readAt (Elt Ideal) a6.view (Rect.unit (s := S1x7x1x256) offs S1x1x1x256.size inbs).toLoadRect (h6.unread x3)) (ix2 r c)
    = Win.sc x1 x3 x5 x7 g c (key (o + r.val)) := by
  refine (scoreVec_apply _ _ _ _ r c).trans ?_
  unfold Win.sc
  refine congr (congrArg _ (congr (congrArg _ (Finset.sum_congr rfl fun d _ => congr (congrArg _ ?_) ?_)) ?_)) ?_
  · exact read_rows h8 x5 inb hoff r d
  · exact read_q h4 x1 g inbq hq c d
  · exact read_rows h10 x7 inb' hoff r _
  · exact read_qs h6 x3 g inbs hs c

end Loads

/-! ## The mixed tiles -/

/-- The scores of a tile that the diagonal or the window crosses, as the kernel prints them. -/
def mixVec (w v2 v998 : BitVec 32) (s1 s2 : FVec Ideal S256x256 .f32) : FVec Ideal S256x256 .f32 :=
  select (cmpi .slt (subi (addi (broadcast S256x256 (Scalar.subi v2 v998)) (iota .tc S256x256 32 [1] iota_S256x256_d1_w32))
      (iota .tc S256x256 32 [0] iota_S256x256_d0_w32)) (broadcast S256x256 0#32))
    (broadcast S256x256 (Named.named (F := Ideal) κ "mask" (φ := .f32) 0xF149F2CA#32))
    (select (cmpi .slt (subi (addi (broadcast S256x256 (Scalar.subi v2 v998)) (iota .tc S256x256 32 [1] iota_S256x256_d1_w32))
      (iota .tc S256x256 32 [0] iota_S256x256_d0_w32)) (broadcast S256x256 w)) s1 s2)

theorem mask_eq : (Named.named (F := Ideal) κ "mask" (φ := .f32) 0xF149F2CA#32 : EReal) = ⊥ := rfl

theorem mixVec_apply (w : BitVec 32) {v2 v998 : BitVec 32} {i j : ℕ} (hv : v2 = BitVec.ofNat 32 i) (hj : v998 = BitVec.ofNat 32 j)
    (hi' : i < 2 ^ 29) (hj' : j < 2 ^ 29) (s1 s2 : FVec Ideal S256x256 .f32) (r c : Fin 256) :
    mixVec w v2 v998 s1 s2 (ix2 r c) = if i + c.val < j + r.val then ⊥
      else if ((i + c.val : ℕ) : ℤ) - (j + r.val : ℕ) < w.toInt then s1 (ix2 r c) else s2 (ix2 r c) := by
  subst hv hj
  have hc := c.isLt
  have hr := r.isLt
  have i1 : iota .tc S256x256 32 [1] iota_S256x256_d1_w32 (ix2 r c) = BitVec.ofNat 32 c.val :=
    congrArg (BitVec.ofNat 32) (show 0 * 256 + c.val = c.val by omega)
  have i0 : iota .tc S256x256 32 [0] iota_S256x256_d0_w32 (ix2 r c) = BitVec.ofNat 32 r.val :=
    congrArg (BitVec.ofNat 32) (show 0 * 256 + r.val = r.val by omega)
  have hw : (subi (addi (broadcast S256x256 (Scalar.subi (BitVec.ofNat 32 i) (BitVec.ofNat 32 j)))
      (iota .tc S256x256 32 [1] iota_S256x256_d1_w32)) (iota .tc S256x256 32 [0] iota_S256x256_d0_w32) (ix2 r c))
      = BitVec.ofNat 32 (i + c.val) - BitVec.ofNat 32 (j + r.val) := by
    refine (congr (congrArg (fun a b : BitVec 32 => (BitVec.ofNat 32 i - BitVec.ofNat 32 j + a) - b) i1) i0).trans ?_
    rw [BitVec.ofNat_add, BitVec.ofNat_add]
    generalize BitVec.ofNat 32 i = a
    generalize BitVec.ofNat 32 j = b
    generalize BitVec.ofNat 32 c.val = p
    generalize BitVec.ofNat 32 r.val = q
    rw [BitVec.sub_eq_add_neg, BitVec.sub_eq_add_neg, BitVec.sub_eq_add_neg, BitVec.neg_add, BitVec.sub_eq_add_neg]
    ac_rfl
  have hd := (congrArg BitVec.toInt hw).trans (Layout.toInt_dist (i := i + c.val) (j := j + r.val) (by omega) (by omega))
  unfold mixVec
  refine (select_apply _ _ _ _).trans ((congrArg (Scalar.select _ _) (select_apply _ _ _ _)).trans ?_)
  refine (Layout.mask_select _ _ _ _ _).trans ?_
  refine (congrArg (fun z : ℤ => if z < 0 then _ else if z < _ then s1 (ix2 r c) else s2 (ix2 r c)) hd).trans ?_
  by_cases h : i + c.val < j + r.val
  · rw [if_pos h, if_pos (by omega)]
    exact (broadcast_apply _ _).trans mask_eq
  · rw [if_neg h, if_neg (by omega)]
    rfl

/-! ## The loops -/

section Steps

variable (W : Win) (g : Fin 7)

/-- The scores and values a tile must give to be block `j` of head `g`. -/
def IsTile (j : ℕ) (sc : FVec Ideal S256x256 .f32) (vt : Vec Ideal S1x1x128x256 .bf16) : Prop :=
  (∀ r c : Fin 256, sc (ix2 r c) = W.score g c (256 * j + r.val))
    ∧ ∀ (d : Fin 128) (r : Fin 256), vt (ix4 (0 : Fin 1) (0 : Fin 1) d r) = W.val d (256 * j + r.val)

theorem step_intro {P : FVec Ideal S256x256 .f32 → Vec Ideal S1x1x128x256 .bf16 → Prop} {a b st : St} (sc) (vt) (h1 : a = b)
    (h2 : b = tileStep sc vt st) (h3 : P sc vt) : ∃ sc vt, a = tileStep sc vt st ∧ P sc vt :=
  ⟨sc, vt, h1.trans h2, h3⟩

theorem good_eta {x : St} {s v n} (h : Good x s v n) : Good (x.1, x.2.1, x.2.2) s v n := h

/-- The six loops and the last tile start here. -/
theorem start_good (a b : Vec Ideal S1x256 .f32) (d : Vec Ideal S128x256 .f32) (ha : ∀ c, a (ix2 (0 : Fin 1) c) = ⊥)
    (hb : ∀ c, b (ix2 (0 : Fin 1) c) = 0) (hd : ∀ x c, d (ix2 x c) = 0) : Good (a, b, d) (W.score g) W.val (256 * 0) :=
  fun c => ⟨(ha c).trans rfl, (hb c).trans rfl, fun x => (hd x c).trans rfl⟩

/-- A loop over the blocks from `a` to `b`. -/
theorem loop_of {a b : ℕ} {lb ub : BitVec 32} {l : Scf.Loop 32} (hW : W.OK) (hl : l = ⟨lb, ub, 1#32⟩) (ha : (a : ℤ) = lb.toInt)
    (hb : (b : ℤ) = ub.toInt) (hab : a ≤ b) (stf : ℕ → St) (h0 : Good (stf 0) (W.score g) W.val (256 * a))
    (hstep : ∀ k : Fin l.trips, a + k.val < b → ∃ sc vt, stf (k.val + 1) = tileStep sc vt (stf k.val) ∧ IsTile W g (a + k.val) sc vt) :
    Good (stf l.trips) (W.score g) W.val (256 * b) := by
  have ht := trips_of hl ha hb
  have h := loop_good (lb := a) stf l.trips h0 (fun c j => hW.top g c j) (fun k hk => by
    obtain ⟨sc, vt, h1, h2, h3⟩ := hstep ⟨k, hk⟩ (by have : k < l.trips := hk; show a + k < b; omega)
    exact ⟨sc, vt, h1, h2, h3⟩)
  exact good_congr h (by omega)

theorem leaky_loop {l : Scf.Loop 32} (hW : W.OK)
    (hl : l = ⟨0#32, up 0#32 (nl (BitVec.ofNat 32 (W.i 2).val) W.w), 1#32⟩) (stf : ℕ → St)
    {x : St} (hx : stf 0 = x) (h0 : Good x (W.score g) W.val (256 * 0))
    (hstep : ∀ k : Fin l.trips, 0 + k.val < nlN W.n W.w →
      ∃ sc vt, stf (k.val + 1) = tileStep sc vt (stf k.val) ∧ IsTile W g (0 + k.val) sc vt) :
    Good (stf l.trips) (W.score g) W.val (256 * nlN W.n W.w) :=
  loop_of W g hW hl (a := 0) (by decide) (by rw [up_eq]; exact nlN_cast W.n_lt) (Nat.zero_le _) stf (hx ▸ h0) hstep

theorem mixed_loop {l : Scf.Loop 32} (hW : W.OK)
    (hl : l = ⟨nl (BitVec.ofNat 32 (W.i 2).val) W.w, up (nl (BitVec.ofNat 32 (W.i 2).val) W.w) (lo (BitVec.ofNat 32 (W.i 2).val) W.w), 1#32⟩)
    (stf : ℕ → St) {x : St} (hx : stf 0 = (x.1, x.2.1, x.2.2)) (h0 : Good x (W.score g) W.val (256 * nlN W.n W.w))
    (hstep : ∀ k : Fin l.trips, nlN W.n W.w + k.val < loN W.n W.w →
      ∃ sc vt, stf (k.val + 1) = tileStep sc vt (stf k.val) ∧ IsTile W g (nlN W.n W.w + k.val) sc vt) :
    Good (stf l.trips) (W.score g) W.val (256 * loN W.n W.w) :=
  loop_of W g hW hl (nlN_cast W.n_lt) (by rw [up_eq]; exact loN_cast W.n_lt) (order W.n_lt hW.range).1 stf (hx ▸ good_eta h0) hstep

theorem normal_loop {l : Scf.Loop 32} (hW : W.OK)
    (hl : l = ⟨lo (BitVec.ofNat 32 (W.i 2).val) W.w, up (lo (BitVec.ofNat 32 (W.i 2).val) W.w) (BitVec.ofNat 32 (W.i 2).val), 1#32⟩)
    (stf : ℕ → St) {x : St} (hx : stf 0 = (x.1, x.2.1, x.2.2)) (h0 : Good x (W.score g) W.val (256 * loN W.n W.w))
    (hstep : ∀ k : Fin l.trips, loN W.n W.w + k.val < W.n →
      ∃ sc vt, stf (k.val + 1) = tileStep sc vt (stf k.val) ∧ IsTile W g (loN W.n W.w + k.val) sc vt) :
    Good (stf l.trips) (W.score g) W.val (256 * W.n) :=
  loop_of W g hW hl (loN_cast W.n_lt) (by rw [up_eq]; exact (toInt_q W.n_lt).symm) (order W.n_lt hW.range).2 stf (hx ▸ good_eta h0) hstep

/-- The second loop of each pair makes no trip. -/
theorem rest_loop {l : Scf.Loop 32} {a b : BitVec 32} (hl : l = ⟨up a b, rest a b, 1#32⟩) (stf : ℕ → St) {s v n} {x : St}
    (hx : stf 0 = (x.1, x.2.1, x.2.2)) (h0 : Good x s v n) : Good (stf l.trips) s v n := by
  have : l.trips = 0 := by
    subst hl
    show Scf.trips (up a b) (rest a b) 1#32 = 0
    rw [up_eq, rest_eq]
    simp [Scf.trips]
  rw [this, hx]; exact h0

theorem rest_leaky {l : Scf.Loop 32} (hl : l = ⟨up 0#32 (nl (BitVec.ofNat 32 (W.i 2).val) W.w),
    rest 0#32 (nl (BitVec.ofNat 32 (W.i 2).val) W.w), 1#32⟩) (stf : ℕ → St) {s v n} {x : St}
    (hx : stf 0 = (x.1, x.2.1, x.2.2)) (h0 : Good x s v n) : Good (stf l.trips) s v n := rest_loop hl stf hx h0

theorem rest_mixed {l : Scf.Loop 32} (hl : l = ⟨up (nl (BitVec.ofNat 32 (W.i 2).val) W.w) (lo (BitVec.ofNat 32 (W.i 2).val) W.w),
    rest (nl (BitVec.ofNat 32 (W.i 2).val) W.w) (lo (BitVec.ofNat 32 (W.i 2).val) W.w), 1#32⟩) (stf : ℕ → St) {s v n} {x : St}
    (hx : stf 0 = (x.1, x.2.1, x.2.2)) (h0 : Good x s v n) : Good (stf l.trips) s v n := rest_loop hl stf hx h0

theorem rest_normal {l : Scf.Loop 32} (hl : l = ⟨up (lo (BitVec.ofNat 32 (W.i 2).val) W.w) (BitVec.ofNat 32 (W.i 2).val),
    rest (lo (BitVec.ofNat 32 (W.i 2).val) W.w) (BitVec.ofNat 32 (W.i 2).val), 1#32⟩) (stf : ℕ → St) {s v n} {x : St}
    (hx : stf 0 = (x.1, x.2.1, x.2.2)) (h0 : Good x s v n) : Good (stf l.trips) s v n := rest_loop hl stf hx h0

end Steps

/-! ## What a loaded tile is -/

section Tiles

variable {W : Win} {a4 a5 : Memref sig .tc .vmem S1x7x256x128 .fp8e4m3} {h4 : a4.IsWhole} {h5 : a5.IsWhole}
  {a6 a7 : Memref sig .tc .vmem S1x7x1x256 .f32} {h6 : a6.IsWhole} {h7 : a7.IsWhole}
  {a8 a9 : Memref sig .tc .vmem S1x1x8192x128 .fp8e4m3} {h8 : a8.IsWhole} {h9 : a9.IsWhole}
  {a10 a11 : Memref sig .tc .vmem S1x1x8192x128 .f32} {h10 : a10.IsWhole} {h11 : a11.IsWhole}
  {a12 : Memref sig .tc .vmem S1x1x128x8192 .bf16} {h12 : a12.IsWhole} (g : Fin 7)
  {off offq offs offv : Fin 4 → ℕ}
  {inb inb' inb2 inb2' : ∀ b, off b + S1x1x256x128.size b ≤ S1x1x8192x128.size b}
  {inbq inbq' : ∀ b, offq b + S1x1x256x128.size b ≤ S1x7x256x128.size b} {inbs inbs' : ∀ b, offs b + S1x1x1x256.size b ≤ S1x7x1x256.size b}
  {inbv : ∀ b, offv b + S1x1x128x256.size b ≤ S1x1x128x8192.size b}

/-- The row offset of a trip's block, as spelled. -/
def rowsAt (lb : BitVec 32) (k : ℕ) : Fin 4 → ℕ :=
  ![(0#32 : Index).toNat, (0#32 : Index).toNat, (Scalar.indexCast (Scalar.muli (Scf.iv lb 1#32 k) 256#32) : Index).toNat, (0#32 : Index).toNat]
@[inherit_doc rowsAt] def colsAt (lb : BitVec 32) (k : ℕ) : Fin 4 → ℕ :=
  ![(0#32 : Index).toNat, (0#32 : Index).toNat, (0#32 : Index).toNat, (Scalar.indexCast (Scalar.muli (Scf.iv lb 1#32 k) 256#32) : Index).toNat]

theorem rowsAt_eq {lb : BitVec 32} {a k : ℕ} (ha : (a : ℤ) = lb.toInt) (hk : a + k < 32) : rowsAt lb k = ![0, 0, 256 * (a + k), 0] := by
  unfold rowsAt; rw [off_rows ha (by omega)]; rfl
theorem colsAt_eq {lb : BitVec 32} {a k : ℕ} (ha : (a : ℤ) = lb.toInt) (hk : a + k < 32) : colsAt lb k = ![0, 0, 0, 256 * (a + k)] := by
  unfold colsAt; rw [off_rows ha (by omega)]; rfl

theorem mul_word {n : ℕ} : Scalar.muli (BitVec.ofNat 32 n) 256#32 = BitVec.ofNat 32 (256 * n) := by
  show BitVec.ofNat 32 n * 256#32 = _
  rw [Nat.mul_comm, BitVec.ofNat_mul]

theorem mul_off {n : ℕ} (hn : n < 32) : (Scalar.indexCast (Scalar.muli (BitVec.ofNat 32 n) 256#32) : Index).toNat = 256 * n := by
  rw [mul_word]; show (BitVec.ofNat 32 (256 * n)).toNat = _
  rw [BitVec.toNat_ofNat]; omega

theorem rows_last (i : grid0.Coords) : k0_off14 i = ![0, 0, 256 * (i 2).val, 0] := by
  refine (show k0_off14 i = ![0, 0, (Scalar.indexCast (Scalar.muli (BitVec.ofNat 32 (i 2).val) 256#32) : Index).toNat, 0] from rfl).trans ?_
  rw [mul_off (i 2).isLt]

theorem cols_last (i : grid0.Coords) : k0_off15 i = ![0, 0, 0, 256 * (i 2).val] := by
  refine (show k0_off15 i = ![0, 0, 0, (Scalar.indexCast (Scalar.muli (BitVec.ofNat 32 (i 2).val) 256#32) : Index).toNat] from rfl).trans ?_
  rw [mul_off (i 2).isLt]

theorem leaky_tile (hW : W.OK) {k : ℕ} (hk : 0 + k < nlN W.n W.w) (hoff : off = rowsAt 0#32 k) (hv : offv = colsAt 0#32 k)
    (hq : offq = ![0, g.val, 0, 0]) (hs : offs = ![0, g.val, 0, 0]) :
    IsTile W g (0 + k)
      (scoreVec (View.readAt (Elt Ideal) a9.view (Rect.unit (s := S1x1x8192x128) off S1x1x256x128.size inb).toLoadRect (h9.unread W.x6))
        (View.readAt (Elt Ideal) a5.view (Rect.unit (s := S1x7x256x128) offq S1x1x256x128.size inbq).toLoadRect (h5.unread W.x2))
        (View.readAt (Elt Ideal) a11.view (Rect.unit (s := S1x1x8192x128) off S1x1x256x128.size inb').toLoadRect (h11.unread W.x8))
        (View.readAt (Elt Ideal) a7.view (Rect.unit (s := S1x7x1x256) offs S1x1x1x256.size inbs).toLoadRect (h7.unread W.x4)))
      (View.readAt (Elt Ideal) a12.view (Rect.unit (s := S1x1x128x8192) offv S1x1x128x256.size inbv).toLoadRect (h12.unread W.x9)) := by
  have hn := W.n_lt
  have ho := order hn hW.range
  have hz : ((0 : ℕ) : ℤ) = (0#32 : BitVec 32).toInt := by decide
  rw [rowsAt_eq hz (by omega)] at hoff
  rw [colsAt_eq hz (by omega)] at hv
  refine ⟨fun r c => ?_, fun d r => read_cols h12 _ inbv hv d r⟩
  refine (read_score g hoff hq hs r c).trans ?_
  have hd := leaky_dist (c := c.val) hn hW.range hk r.isLt
  unfold Win.score
  rw [if_neg hd.1, if_neg hd.2]

theorem normal_tile (hW : W.OK) {k : ℕ} (hk : loN W.n W.w + k < W.n) (hoff : off = rowsAt (lo (BitVec.ofNat 32 (W.i 2).val) W.w) k)
    (hv : offv = colsAt (lo (BitVec.ofNat 32 (W.i 2).val) W.w) k) (hq : offq = ![0, g.val, 0, 0]) (hs : offs = ![0, g.val, 0, 0]) :
    IsTile W g (loN W.n W.w + k)
      (scoreVec (View.readAt (Elt Ideal) a8.view (Rect.unit (s := S1x1x8192x128) off S1x1x256x128.size inb).toLoadRect (h8.unread W.x5))
        (View.readAt (Elt Ideal) a4.view (Rect.unit (s := S1x7x256x128) offq S1x1x256x128.size inbq).toLoadRect (h4.unread W.x1))
        (View.readAt (Elt Ideal) a10.view (Rect.unit (s := S1x1x8192x128) off S1x1x256x128.size inb').toLoadRect (h10.unread W.x7))
        (View.readAt (Elt Ideal) a6.view (Rect.unit (s := S1x7x1x256) offs S1x1x1x256.size inbs).toLoadRect (h6.unread W.x3)))
      (View.readAt (Elt Ideal) a12.view (Rect.unit (s := S1x1x128x8192) offv S1x1x128x256.size inbv).toLoadRect (h12.unread W.x9)) := by
  have hn := W.n_lt
  have hz : ((loN W.n W.w : ℕ) : ℤ) = (lo (BitVec.ofNat 32 (W.i 2).val) W.w).toInt := loN_cast hn
  rw [rowsAt_eq hz (by omega)] at hoff
  rw [colsAt_eq hz (by omega)] at hv
  refine ⟨fun r c => ?_, fun d r => read_cols h12 _ inbv hv d r⟩
  refine (read_score g hoff hq hs r c).trans ?_
  have hd := normal_dist hn hW.range (Nat.le_add_right _ k) hk r.isLt c.isLt
  unfold Win.score
  rw [if_neg hd.1, if_pos hd.2]

/-- A tile of block `j` with both kinds of score and the mask. -/
theorem mixed_tile {j : ℕ} (hj : j < 32) {v2 v998 : BitVec 32} (h2 : v2 = Scalar.muli (BitVec.ofNat 32 (W.i 2).val) 256#32)
    (h998 : v998 = BitVec.ofNat 32 (256 * j)) (hoff : off = ![0, 0, 256 * j, 0]) (hv : offv = ![0, 0, 0, 256 * j])
    (hq : offq = ![0, g.val, 0, 0]) (hs : offs = ![0, g.val, 0, 0]) :
    IsTile W g j
      (mixVec W.w v2 v998
        (scoreVec (View.readAt (Elt Ideal) a8.view (Rect.unit (s := S1x1x8192x128) off S1x1x256x128.size inb).toLoadRect (h8.unread W.x5))
          (View.readAt (Elt Ideal) a4.view (Rect.unit (s := S1x7x256x128) offq S1x1x256x128.size inbq).toLoadRect (h4.unread W.x1))
          (View.readAt (Elt Ideal) a10.view (Rect.unit (s := S1x1x8192x128) off S1x1x256x128.size inb').toLoadRect (h10.unread W.x7))
          (View.readAt (Elt Ideal) a6.view (Rect.unit (s := S1x7x1x256) offs S1x1x1x256.size inbs).toLoadRect (h6.unread W.x3)))
        (scoreVec (View.readAt (Elt Ideal) a9.view (Rect.unit (s := S1x1x8192x128) off S1x1x256x128.size inb2).toLoadRect (h9.unread W.x6))
          (View.readAt (Elt Ideal) a5.view (Rect.unit (s := S1x7x256x128) offq S1x1x256x128.size inbq').toLoadRect (h5.unread W.x2))
          (View.readAt (Elt Ideal) a11.view (Rect.unit (s := S1x1x8192x128) off S1x1x256x128.size inb2').toLoadRect (h11.unread W.x8))
          (View.readAt (Elt Ideal) a7.view (Rect.unit (s := S1x7x1x256) offs S1x1x1x256.size inbs').toLoadRect (h7.unread W.x4))))
      (View.readAt (Elt Ideal) a12.view (Rect.unit (s := S1x1x128x8192) offv S1x1x128x256.size inbv).toLoadRect (h12.unread W.x9)) := by
  have hn := W.n_lt
  refine ⟨fun r c => ?_, fun d r => read_cols h12 _ inbv hv d r⟩
  have h2' : v2 = BitVec.ofNat 32 (256 * W.n) := by
    rw [h2]; show BitVec.ofNat 32 W.n * 256#32 = _
    rw [Nat.mul_comm, BitVec.ofNat_mul]
  refine (mixVec_apply W.w h2' h998 (by omega) (by omega) _ _ r c).trans ?_
  rw [read_score g hoff hq hs r c, read_score g hoff hq hs r c]
  rfl

theorem mixed_tile_loop (hW : W.OK) {k : ℕ} (hk : nlN W.n W.w + k < loN W.n W.w) {v2 v28 : BitVec 32}
    (h2 : v2 = Scalar.muli (BitVec.ofNat 32 (W.i 2).val) 256#32)
    (h28 : v28 = nl (BitVec.ofNat 32 (W.i 2).val) W.w) (hoff : off = rowsAt (nl (BitVec.ofNat 32 (W.i 2).val) W.w) k)
    (hv : offv = colsAt (nl (BitVec.ofNat 32 (W.i 2).val) W.w) k)
    (hq : offq = ![0, g.val, 0, 0]) (hs : offs = ![0, g.val, 0, 0]) :
    IsTile W g (nlN W.n W.w + k)
      (mixVec W.w v2 (Scalar.muli (Scf.iv v28 1#32 k) 256#32)
        (scoreVec (View.readAt (Elt Ideal) a8.view (Rect.unit (s := S1x1x8192x128) off S1x1x256x128.size inb).toLoadRect (h8.unread W.x5))
          (View.readAt (Elt Ideal) a4.view (Rect.unit (s := S1x7x256x128) offq S1x1x256x128.size inbq).toLoadRect (h4.unread W.x1))
          (View.readAt (Elt Ideal) a10.view (Rect.unit (s := S1x1x8192x128) off S1x1x256x128.size inb').toLoadRect (h10.unread W.x7))
          (View.readAt (Elt Ideal) a6.view (Rect.unit (s := S1x7x1x256) offs S1x1x1x256.size inbs).toLoadRect (h6.unread W.x3)))
        (scoreVec (View.readAt (Elt Ideal) a9.view (Rect.unit (s := S1x1x8192x128) off S1x1x256x128.size inb2).toLoadRect (h9.unread W.x6))
          (View.readAt (Elt Ideal) a5.view (Rect.unit (s := S1x7x256x128) offq S1x1x256x128.size inbq').toLoadRect (h5.unread W.x2))
          (View.readAt (Elt Ideal) a11.view (Rect.unit (s := S1x1x8192x128) off S1x1x256x128.size inb2').toLoadRect (h11.unread W.x8))
          (View.readAt (Elt Ideal) a7.view (Rect.unit (s := S1x7x1x256) offs S1x1x1x256.size inbs').toLoadRect (h7.unread W.x4))))
      (View.readAt (Elt Ideal) a12.view (Rect.unit (s := S1x1x128x8192) offv S1x1x128x256.size inbv).toLoadRect (h12.unread W.x9)) := by
  have hn := W.n_lt
  have ho := order hn hW.range
  have hz : ((nlN W.n W.w : ℕ) : ℤ) = (nl (BitVec.ofNat 32 (W.i 2).val) W.w).toInt := nlN_cast hn
  rw [rowsAt_eq hz (by omega)] at hoff
  rw [colsAt_eq hz (by omega)] at hv
  subst h28
  exact mixed_tile g (by omega) h2 (iv_mul hz (by omega)) hoff hv hq hs

end Tiles

/-! ## The last tile -/

/-- What is stored for a head: the weighted values over the weights, transposed and converted. -/
def lastOut (st : St) : FVec Ideal S1x256x128 .bf16 :=
  shapeCast S1x256x128 (truncf .bf16 (transpose S256x128 [1, 0] (divf st.2.2 (broadcastTo S128x256 st.2.1 broadcasts_S1x256_S128x256))
    transposes_S128x256_p1_0_S256x128) bitsLt_bf16_f32) shapeCasts_S256x128_S1x256x128

theorem lastOut_apply (st : St) (c : Fin 256) (d : Fin 128) :
    lastOut st (ix3 (0 : Fin 1) c d) = Ideal.div (st.2.2 (ix2 d c)) (st.2.1 (ix2 (0 : Fin 1) c)) := by
  unfold lastOut
  refine (shapeCast_apply (s := S256x128) (t := S1x256x128) _ _ _ (ix2 c d) (by
    rw [Shape.rowMajor_val_three, Shape.rowMajor_val_two]
    show c.val * 128 + d.val = (0 * 256 + c.val) * 128 + d.val
    omega)).trans ?_
  refine (truncf_apply (φ := .f32) (ψ := .bf16) _ bitsLt_bf16_f32 _).trans ?_
  refine (transpose_apply (s := S128x256) (t := S256x128) [1, 0] _ _ (ix2 c d) (ix2 d c) (fun a => by
    match a with
    | ⟨0, _⟩ => rfl
    | ⟨1, _⟩ => rfl)).trans ?_
  refine (divf_apply _ _ _).trans ?_
  exact congrArg (Ideal.div _) (broadcastTo_1b_ab_apply _ _ d c)

/-- The last tile and the quotient. -/
theorem last_good (W : Win) (hW : W.OK) (g : Fin 7) {st : St} {sc vt} (h : Good st (W.score g) W.val (256 * W.n)) (ht : IsTile W g W.n sc vt)
    (c : Fin 256) (d : Fin 128) : lastOut (tileStep sc vt st) (ix3 (0 : Fin 1) c d) = W.quot g c d := by
  have h' := good_congr (tileStep_good h (fun c j _ => hW.top g c j) ht.1 ht.2) (show 256 * W.n + 256 = 256 * (W.n + 1) by omega) c
  rw [lastOut_apply, h'.2.1, h'.2.2 d]
  rfl

/-- A stored payload is head `g`'s: its last tile is the query's block, onto the state accumulated over the blocks before. -/
def IsHead (W : Win) (g : Fin 7) (P : Vec Ideal S1x256x128 .bf16) : Prop :=
  ∃ sc vt st, P = lastOut (tileStep sc vt st) ∧ IsTile W g W.n sc vt ∧ Good st (W.score g) W.val (256 * W.n)

theorem head_intro {W : Win} {g : Fin 7} {P : Vec Ideal S1x256x128 .bf16} (sc vt st) (h1 : P = lastOut (tileStep sc vt st))
    (h2 : IsTile W g W.n sc vt) (h3 : Good st (W.score g) W.val (256 * W.n)) : IsHead W g P := ⟨sc, vt, st, h1, h2, h3⟩

theorem IsHead.apply {W : Win} {g : Fin 7} {P : Vec Ideal S1x256x128 .bf16} (h : IsHead W g P) (hW : W.OK) (c : Fin 256) (d : Fin 128) :
    P (ix3 (0 : Fin 1) c d) = W.quot g c d := by
  obtain ⟨sc, vt, st, rfl, ht, hg⟩ := h
  exact last_good W hW g hg ht c d

end Cert.KernelIdeal

end
-- ==== Proof.Heads.lean ====
module
public import proofs.«01_k».proof.Proof.KernelIdealRun
public import proofs.«01_k».proof.Proof.Head
@[expose] public section
set_option maxRecDepth 16384
noncomputable section
/-! The seven heads of a grid point: what each stores is its six loops over the blocks before the query's and the last tile.
Each loop's state after a trip is `tileStep` of the tile it loaded (`step_intro`); the loops then chain by `Head.lean`. -/

namespace Cert.KernelIdeal
open Idealize.ShloMosaic Idealize.ShloMosaic.TcCoe Idealize.ShloMosaic.ValueIdx Cert.KernelIdeal.Gen Cert.Online Cert.Words Cert.Attn
open Idealize.SL Idealize.SL.RA Idealize.SL.Sem

variable (c : Dev nD) (i : grid0.Coords) (arg3 : Memref sig .tc .smem S3 .i32) (harg3 : arg3.IsWhole)
  (arg4 : Memref sig .tc .vmem S1x7x256x128 .fp8e4m3) (harg4 : arg4.IsWhole) (arg5 : Memref sig .tc .vmem S1x7x256x128 .fp8e4m3) (harg5 : arg5.IsWhole)
  (arg6 : Memref sig .tc .vmem S1x7x1x256 .f32) (harg6 : arg6.IsWhole) (arg7 : Memref sig .tc .vmem S1x7x1x256 .f32) (harg7 : arg7.IsWhole)
  (arg8 : Memref sig .tc .vmem S1x1x8192x128 .fp8e4m3) (harg8 : arg8.IsWhole) (arg9 : Memref sig .tc .vmem S1x1x8192x128 .fp8e4m3) (harg9 : arg9.IsWhole)
  (arg10 : Memref sig .tc .vmem S1x1x8192x128 .f32) (harg10 : arg10.IsWhole) (arg11 : Memref sig .tc .vmem S1x1x8192x128 .f32) (harg11 : arg11.IsWhole)
  (arg12 : Memref sig .tc .vmem S1x1x128x8192 .bf16) (harg12 : arg12.IsWhole) (arg13 : Memref sig .tc .vmem S1x256x896 .bf16) (harg13 : arg13.IsWhole)
  (x0 : Vec Ideal S3 .i32) (x1 x2 : Vec Ideal S1x7x256x128 .fp8e4m3) (x3 x4 : Vec Ideal S1x7x1x256 .f32) (x5 x6 : Vec Ideal S1x1x8192x128 .fp8e4m3)
  (x7 x8 : Vec Ideal S1x1x8192x128 .f32) (x9 : Vec Ideal S1x1x128x8192 .bf16)

/-- The windows at a grid point. -/
abbrev win : Win := ⟨i, kernelRun.sl.r (F := Ideal) c i arg3 harg3 x0, x1, x2, x3, x4, x5, x6, x7, x8, x9⟩

attribute [local irreducible] st_k0_t1 st_k0_t2 st_k0_t3 st_k0_t4 st_k0_t5 st_k0_t6 in
set_option maxHeartbeats 2000000 in
/-- Head 0 of the group. -/
theorem head0 (hW : (win c i arg3 harg3 x0 x1 x2 x3 x4 x5 x6 x7 x8 x9).OK) : ∃ P, (kernelRun (F := Ideal) c i arg3 harg3 arg4 harg4 arg5 harg5 arg6 harg6 arg7 harg7 arg8 harg8 arg9 harg9 arg10 harg10
      arg11 harg11 arg12 harg12 arg13 harg13 x0 x1 x2 x3 x4 x5 x6 x7 x8 x9).1[6]? = some ⟨Rect.unit ![0, 0, 0] S1x256x128.size inb_S1x256x896_S1x256x128_0_0_0, P⟩
    ∧ IsHead (win c i arg3 harg3 x0 x1 x2 x3 x4 x5 x6 x7 x8 x9) 0 P := by
  unfold kernelRun
  refine ⟨_, rfl, ?_⟩
  apply head_intro (mixVec _ _ _ (scoreVec _ _ _ _) (scoreVec _ _ _ _)) _ (_, _, _) ?e ?t ?g
  case e => rfl
  case t =>
    apply mixed_tile 0 (Win.n_lt _)
    case h2 => rfl
    case h998 => exact mul_word
    case hoff => exact rows_last _
    case hv => exact cols_last _
    all_goals rfl
  case g =>
    refine good_eta ?_
    refine rest_normal (win c i arg3 harg3 x0 x1 x2 x3 x4 x5 x6 x7 x8 x9) (l := k0_t6_loop i (kernelRun.sl.r c i arg3 harg3 x0)) (by unfold k0_t6_loop up rest lo nl fdiv256; rfl) _ (by exact st_k0_t6_zero ..) ?_
    refine normal_loop (win c i arg3 harg3 x0 x1 x2 x3 x4 x5 x6 x7 x8 x9) 0 (l := k0_t5_loop i (kernelRun.sl.r c i arg3 harg3 x0)) hW (by unfold k0_t5_loop up lo nl fdiv256; rfl) _ (by exact st_k0_t5_zero ..) ?_ ?s
    case s =>
      intro k hk
      apply step_intro (scoreVec _ _ _ _) _ (st_k0_t5_succ (k := k) ..) ?e ?f
      case e => unfold tripR_k0_t5 trip_k0_t5; rfl
      case f => exact normal_tile 0 hW hk (by unfold k0_off10 lo nl fdiv256; rfl) (by unfold k0_off11 lo nl fdiv256; rfl) rfl rfl
    refine rest_mixed (win c i arg3 harg3 x0 x1 x2 x3 x4 x5 x6 x7 x8 x9) (l := k0_t4_loop i (kernelRun.sl.r c i arg3 harg3 x0)) (by unfold k0_t4_loop up rest lo nl fdiv256; rfl) _ (by exact st_k0_t4_zero ..) ?_
    refine mixed_loop (win c i arg3 harg3 x0 x1 x2 x3 x4 x5 x6 x7 x8 x9) 0 (l := k0_t3_loop i (kernelRun.sl.r c i arg3 harg3 x0)) hW (by unfold k0_t3_loop up lo nl fdiv256; rfl) _ (by exact st_k0_t3_zero ..) ?_ ?s
    case s =>
      intro k hk
      apply step_intro (mixVec _ _ _ (scoreVec _ _ _ _) (scoreVec _ _ _ _)) _ (st_k0_t3_succ (k := k) ..) ?e ?f
      case e => unfold tripR_k0_t3 trip_k0_t3; rfl
      case f => exact mixed_tile_loop 0 hW hk rfl (by unfold nl fdiv256; rfl) (by unfold k0_off6 nl fdiv256; rfl) (by unfold k0_off7 nl fdiv256; rfl) rfl rfl
    refine rest_leaky (win c i arg3 harg3 x0 x1 x2 x3 x4 x5 x6 x7 x8 x9) (l := k0_t2_loop i (kernelRun.sl.r c i arg3 harg3 x0)) (by unfold k0_t2_loop up rest nl fdiv256; rfl) _ (by exact st_k0_t2_zero ..) ?_
    refine leaky_loop (win c i arg3 harg3 x0 x1 x2 x3 x4 x5 x6 x7 x8 x9) 0 (l := k0_t1_loop i (kernelRun.sl.r c i arg3 harg3 x0)) hW (by unfold k0_t1_loop up nl fdiv256; rfl) _ (by exact st_k0_t1_zero ..) ?_ ?s
    case s =>
      intro k hk
      apply step_intro (scoreVec _ _ _ _) _ (st_k0_t1_succ (k := k) ..) ?e ?f
      case e => unfold tripR_k0_t1 trip_k0_t1; rfl
      case f => exact leaky_tile 0 hW hk (by unfold k0_off2; rfl) (by unfold k0_off3; rfl) rfl rfl
    exact start_good (win c i arg3 harg3 x0 x1 x2 x3 x4 x5 x6 x7 x8 x9) 0 _ _ _ (fun c => rfl) (fun c => zero_word) (fun x c => zero_word)

attribute [local irreducible] st_k0_t7 st_k0_t8 st_k0_t9 st_k0_t10 st_k0_t11 st_k0_t12 in
set_option maxHeartbeats 2000000 in
/-- Head 1 of the group. -/
theorem head1 (hW : (win c i arg3 harg3 x0 x1 x2 x3 x4 x5 x6 x7 x8 x9).OK) : ∃ P, (kernelRun (F := Ideal) c i arg3 harg3 arg4 harg4 arg5 harg5 arg6 harg6 arg7 harg7 arg8 harg8 arg9 harg9 arg10 harg10
      arg11 harg11 arg12 harg12 arg13 harg13 x0 x1 x2 x3 x4 x5 x6 x7 x8 x9).1[5]? = some ⟨Rect.unit ![0, 0, 128] S1x256x128.size inb_S1x256x896_S1x256x128_0_0_128, P⟩
    ∧ IsHead (win c i arg3 harg3 x0 x1 x2 x3 x4 x5 x6 x7 x8 x9) 1 P := by
  unfold kernelRun
  refine ⟨_, rfl, ?_⟩
  apply head_intro (mixVec _ _ _ (scoreVec _ _ _ _) (scoreVec _ _ _ _)) _ (_, _, _) ?e ?t ?g
  case e => rfl
  case t =>
    apply mixed_tile 1 (Win.n_lt _)
    case h2 => rfl
    case h998 => exact mul_word
    case hoff => exact rows_last _
    case hv => exact cols_last _
    all_goals rfl
  case g =>
    refine good_eta ?_
    refine rest_normal (win c i arg3 harg3 x0 x1 x2 x3 x4 x5 x6 x7 x8 x9) (l := k0_t12_loop i (kernelRun.sl.r c i arg3 harg3 x0)) (by unfold k0_t12_loop up rest lo nl fdiv256; rfl) _ (by exact st_k0_t12_zero ..) ?_
    refine normal_loop (win c i arg3 harg3 x0 x1 x2 x3 x4 x5 x6 x7 x8 x9) 1 (l := k0_t11_loop i (kernelRun.sl.r c i arg3 harg3 x0)) hW (by unfold k0_t11_loop up lo nl fdiv256; rfl) _ (by exact st_k0_t11_zero ..) ?_ ?s
    case s =>
      intro k hk
      apply step_intro (scoreVec _ _ _ _) _ (st_k0_t11_succ (k := k) ..) ?e ?f
      case e => unfold tripR_k0_t11 trip_k0_t11; rfl
      case f => exact normal_tile 1 hW hk (by unfold k0_off24 lo nl fdiv256; rfl) (by unfold k0_off25 lo nl fdiv256; rfl) rfl rfl
    refine rest_mixed (win c i arg3 harg3 x0 x1 x2 x3 x4 x5 x6 x7 x8 x9) (l := k0_t10_loop i (kernelRun.sl.r c i arg3 harg3 x0)) (by unfold k0_t10_loop up rest lo nl fdiv256; rfl) _ (by exact st_k0_t10_zero ..) ?_
    refine mixed_loop (win c i arg3 harg3 x0 x1 x2 x3 x4 x5 x6 x7 x8 x9) 1 (l := k0_t9_loop i (kernelRun.sl.r c i arg3 harg3 x0)) hW (by unfold k0_t9_loop up lo nl fdiv256; rfl) _ (by exact st_k0_t9_zero ..) ?_ ?s
    case s =>
      intro k hk
      apply step_intro (mixVec _ _ _ (scoreVec _ _ _ _) (scoreVec _ _ _ _)) _ (st_k0_t9_succ (k := k) ..) ?e ?f
      case e => unfold tripR_k0_t9 trip_k0_t9; rfl
      case f => exact mixed_tile_loop 1 hW hk rfl (by unfold nl fdiv256; rfl) (by unfold k0_off20 nl fdiv256; rfl) (by unfold k0_off21 nl fdiv256; rfl) rfl rfl
    refine rest_leaky (win c i arg3 harg3 x0 x1 x2 x3 x4 x5 x6 x7 x8 x9) (l := k0_t8_loop i (kernelRun.sl.r c i arg3 harg3 x0)) (by unfold k0_t8_loop up rest nl fdiv256; rfl) _ (by exact st_k0_t8_zero ..) ?_
    refine leaky_loop (win c i arg3 harg3 x0 x1 x2 x3 x4 x5 x6 x7 x8 x9) 1 (l := k0_t7_loop i (kernelRun.sl.r c i arg3 harg3 x0)) hW (by unfold k0_t7_loop up nl fdiv256; rfl) _ (by exact st_k0_t7_zero ..) ?_ ?s
    case s =>
      intro k hk
      apply step_intro (scoreVec _ _ _ _) _ (st_k0_t7_succ (k := k) ..) ?e ?f
      case e => unfold tripR_k0_t7 trip_k0_t7; rfl
      case f => exact leaky_tile 1 hW hk (by unfold k0_off16; rfl) (by unfold k0_off17; rfl) rfl rfl
    exact start_good (win c i arg3 harg3 x0 x1 x2 x3 x4 x5 x6 x7 x8 x9) 1 _ _ _ (fun c => rfl) (fun c => zero_word) (fun x c => zero_word)

attribute [local irreducible] st_k0_t13 st_k0_t14 st_k0_t15 st_k0_t16 st_k0_t17 st_k0_t18 in
set_option maxHeartbeats 2000000 in
/-- Head 2 of the group. -/
theorem head2 (hW : (win c i arg3 harg3 x0 x1 x2 x3 x4 x5 x6 x7 x8 x9).OK) : ∃ P, (kernelRun (F := Ideal) c i arg3 harg3 arg4 harg4 arg5 harg5 arg6 harg6 arg7 harg7 arg8 harg8 arg9 harg9 arg10 harg10
      arg11 harg11 arg12 harg12 arg13 harg13 x0 x1 x2 x3 x4 x5 x6 x7 x8 x9).1[4]? = some ⟨Rect.unit ![0, 0, 256] S1x256x128.size inb_S1x256x896_S1x256x128_0_0_256, P⟩
    ∧ IsHead (win c i arg3 harg3 x0 x1 x2 x3 x4 x5 x6 x7 x8 x9) 2 P := by
  unfold kernelRun
  refine ⟨_, rfl, ?_⟩
  apply head_intro (mixVec _ _ _ (scoreVec _ _ _ _) (scoreVec _ _ _ _)) _ (_, _, _) ?e ?t ?g
  case e => rfl
  case t =>
    apply mixed_tile 2 (Win.n_lt _)
    case h2 => rfl
    case h998 => exact mul_word
    case hoff => exact rows_last _
    case hv => exact cols_last _
    all_goals rfl
  case g =>
    refine good_eta ?_
    refine rest_normal (win c i arg3 harg3 x0 x1 x2 x3 x4 x5 x6 x7 x8 x9) (l := k0_t18_loop i (kernelRun.sl.r c i arg3 harg3 x0)) (by unfold k0_t18_loop up rest lo nl fdiv256; rfl) _ (by exact st_k0_t18_zero ..) ?_
    refine normal_loop (win c i arg3 harg3 x0 x1 x2 x3 x4 x5 x6 x7 x8 x9) 2 (l := k0_t17_loop i (kernelRun.sl.r c i arg3 harg3 x0)) hW (by unfold k0_t17_loop up lo nl fdiv256; rfl) _ (by exact st_k0_t17_zero ..) ?_ ?s
    case s =>
      intro k hk
      apply step_intro (scoreVec _ _ _ _) _ (st_k0_t17_succ (k := k) ..) ?e ?f
      case e => unfold tripR_k0_t17 trip_k0_t17; rfl
      case f => exact normal_tile 2 hW hk (by unfold k0_off36 lo nl fdiv256; rfl) (by unfold k0_off37 lo nl fdiv256; rfl) rfl rfl
    refine rest_mixed (win c i arg3 harg3 x0 x1 x2 x3 x4 x5 x6 x7 x8 x9) (l := k0_t16_loop i (kernelRun.sl.r c i arg3 harg3 x0)) (by unfold k0_t16_loop up rest lo nl fdiv256; rfl) _ (by exact st_k0_t16_zero ..) ?_
    refine mixed_loop (win c i arg3 harg3 x0 x1 x2 x3 x4 x5 x6 x7 x8 x9) 2 (l := k0_t15_loop i (kernelRun.sl.r c i arg3 harg3 x0)) hW (by unfold k0_t15_loop up lo nl fdiv256; rfl) _ (by exact st_k0_t15_zero ..) ?_ ?s
    case s =>
      intro k hk
      apply step_intro (mixVec _ _ _ (scoreVec _ _ _ _) (scoreVec _ _ _ _)) _ (st_k0_t15_succ (k := k) ..) ?e ?f
      case e => unfold tripR_k0_t15 trip_k0_t15; rfl
      case f => exact mixed_tile_loop 2 hW hk rfl (by unfold nl fdiv256; rfl) (by unfold k0_off32 nl fdiv256; rfl) (by unfold k0_off33 nl fdiv256; rfl) rfl rfl
    refine rest_leaky (win c i arg3 harg3 x0 x1 x2 x3 x4 x5 x6 x7 x8 x9) (l := k0_t14_loop i (kernelRun.sl.r c i arg3 harg3 x0)) (by unfold k0_t14_loop up rest nl fdiv256; rfl) _ (by exact st_k0_t14_zero ..) ?_
    refine leaky_loop (win c i arg3 harg3 x0 x1 x2 x3 x4 x5 x6 x7 x8 x9) 2 (l := k0_t13_loop i (kernelRun.sl.r c i arg3 harg3 x0)) hW (by unfold k0_t13_loop up nl fdiv256; rfl) _ (by exact st_k0_t13_zero ..) ?_ ?s
    case s =>
      intro k hk
      apply step_intro (scoreVec _ _ _ _) _ (st_k0_t13_succ (k := k) ..) ?e ?f
      case e => unfold tripR_k0_t13 trip_k0_t13; rfl
      case f => exact leaky_tile 2 hW hk (by unfold k0_off28; rfl) (by unfold k0_off29; rfl) rfl rfl
    exact start_good (win c i arg3 harg3 x0 x1 x2 x3 x4 x5 x6 x7 x8 x9) 2 _ _ _ (fun c => rfl) (fun c => zero_word) (fun x c => zero_word)

attribute [local irreducible] st_k0_t19 st_k0_t20 st_k0_t21 st_k0_t22 st_k0_t23 st_k0_t24 in
set_option maxHeartbeats 2000000 in
/-- Head 3 of the group. -/
theorem head3 (hW : (win c i arg3 harg3 x0 x1 x2 x3 x4 x5 x6 x7 x8 x9).OK) : ∃ P, (kernelRun (F := Ideal) c i arg3 harg3 arg4 harg4 arg5 harg5 arg6 harg6 arg7 harg7 arg8 harg8 arg9 harg9 arg10 harg10
      arg11 harg11 arg12 harg12 arg13 harg13 x0 x1 x2 x3 x4 x5 x6 x7 x8 x9).1[3]? = some ⟨Rect.unit ![0, 0, 384] S1x256x128.size inb_S1x256x896_S1x256x128_0_0_384, P⟩
    ∧ IsHead (win c i arg3 harg3 x0 x1 x2 x3 x4 x5 x6 x7 x8 x9) 3 P := by
  unfold kernelRun
  refine ⟨_, rfl, ?_⟩
  apply head_intro (mixVec _ _ _ (scoreVec _ _ _ _) (scoreVec _ _ _ _)) _ (_, _, _) ?e ?t ?g
  case e => unfold k0_pay278 kernelRun.sl.r_30 kernelRun.sl.r_28 kernelRun.sl.r_29 k0_pay274 k0_pay275 k0_pay276 k0_pay277 kernelRun.sl.r_27 k0_pay273; rfl
  case t =>
    apply mixed_tile 3 (Win.n_lt _)
    case h2 => rfl
    case h998 => exact mul_word
    case hoff => exact rows_last _
    case hv => exact cols_last _
    all_goals rfl
  case g =>
    refine good_eta ?_
    refine rest_normal (win c i arg3 harg3 x0 x1 x2 x3 x4 x5 x6 x7 x8 x9) (l := k0_t24_loop i (kernelRun.sl.r c i arg3 harg3 x0)) (by unfold k0_t24_loop up rest lo nl fdiv256; rfl) _ (by exact st_k0_t24_zero ..) ?_
    refine normal_loop (win c i arg3 harg3 x0 x1 x2 x3 x4 x5 x6 x7 x8 x9) 3 (l := k0_t23_loop i (kernelRun.sl.r c i arg3 harg3 x0)) hW (by unfold k0_t23_loop up lo nl fdiv256; rfl) _ (by exact st_k0_t23_zero ..) ?_ ?s
    case s =>
      intro k hk
      apply step_intro (scoreVec _ _ _ _) _ (st_k0_t23_succ (k := k) ..) ?e ?f
      case e => unfold tripR_k0_t23 trip_k0_t23; rfl
      case f => exact normal_tile 3 hW hk (by unfold k0_off48 lo nl fdiv256; rfl) (by unfold k0_off49 lo nl fdiv256; rfl) rfl rfl
    refine rest_mixed (win c i arg3 harg3 x0 x1 x2 x3 x4 x5 x6 x7 x8 x9) (l := k0_t22_loop i (kernelRun.sl.r c i arg3 harg3 x0)) (by unfold k0_t22_loop up rest lo nl fdiv256; rfl) _ (by exact st_k0_t22_zero ..) ?_
    refine mixed_loop (win c i arg3 harg3 x0 x1 x2 x3 x4 x5 x6 x7 x8 x9) 3 (l := k0_t21_loop i (kernelRun.sl.r c i arg3 harg3 x0)) hW (by unfold k0_t21_loop up lo nl fdiv256; rfl) _ (by exact st_k0_t21_zero ..) ?_ ?s
    case s =>
      intro k hk
      apply step_intro (mixVec _ _ _ (scoreVec _ _ _ _) (scoreVec _ _ _ _)) _ (st_k0_t21_succ (k := k) ..) ?e ?f
      case e => unfold tripR_k0_t21 trip_k0_t21; rfl
      case f => exact mixed_tile_loop 3 hW hk rfl (by unfold nl fdiv256; rfl) (by unfold k0_off44 nl fdiv256; rfl) (by unfold k0_off45 nl fdiv256; rfl) rfl rfl
    refine rest_leaky (win c i arg3 harg3 x0 x1 x2 x3 x4 x5 x6 x7 x8 x9) (l := k0_t20_loop i (kernelRun.sl.r c i arg3 harg3 x0)) (by unfold k0_t20_loop up rest nl fdiv256; rfl) _ (by exact st_k0_t20_zero ..) ?_
    refine leaky_loop (win c i arg3 harg3 x0 x1 x2 x3 x4 x5 x6 x7 x8 x9) 3 (l := k0_t19_loop i (kernelRun.sl.r c i arg3 harg3 x0)) hW (by unfold k0_t19_loop up nl fdiv256; rfl) _ (by exact st_k0_t19_zero ..) ?_ ?s
    case s =>
      intro k hk
      apply step_intro (scoreVec _ _ _ _) _ (st_k0_t19_succ (k := k) ..) ?e ?f
      case e => unfold tripR_k0_t19 trip_k0_t19; rfl
      case f => exact leaky_tile 3 hW hk (by unfold k0_off40; rfl) (by unfold k0_off41; rfl) rfl rfl
    exact start_good (win c i arg3 harg3 x0 x1 x2 x3 x4 x5 x6 x7 x8 x9) 3 _ _ _ (fun c => rfl) (fun c => zero_word) (fun x c => zero_word)

attribute [local irreducible] st_k0_t25 st_k0_t26 st_k0_t27 st_k0_t28 st_k0_t29 st_k0_t30 in
set_option maxHeartbeats 2000000 in
/-- Head 4 of the group. -/
theorem head4 (hW : (win c i arg3 harg3 x0 x1 x2 x3 x4 x5 x6 x7 x8 x9).OK) : ∃ P, (kernelRun (F := Ideal) c i arg3 harg3 arg4 harg4 arg5 harg5 arg6 harg6 arg7 harg7 arg8 harg8 arg9 harg9 arg10 harg10
      arg11 harg11 arg12 harg12 arg13 harg13 x0 x1 x2 x3 x4 x5 x6 x7 x8 x9).1[2]? = some ⟨Rect.unit ![0, 0, 512] S1x256x128.size inb_S1x256x896_S1x256x128_0_0_512, P⟩
    ∧ IsHead (win c i arg3 harg3 x0 x1 x2 x3 x4 x5 x6 x7 x8 x9) 4 P := by
  unfold kernelRun
  refine ⟨_, rfl, ?_⟩
  apply head_intro (mixVec _ _ _ (scoreVec _ _ _ _) (scoreVec _ _ _ _)) _ (_, _, _) ?e ?t ?g
  case e => unfold k0_pay301 kernelRun.sl.r_36 kernelRun.sl.r_37 kernelRun.sl.r_38 k0_pay300 k0_pay298 k0_pay299 k0_pay297 k0_pay296 kernelRun.sl.r_34 kernelRun.sl.r_35 k0_pay294 k0_pay295; rfl
  case t =>
    apply mixed_tile 4 (Win.n_lt _)
    case h2 => rfl
    case h998 => exact mul_word
    case hoff => exact rows_last _
    case hv => exact cols_last _
    all_goals rfl
  case g =>
    refine good_eta ?_
    refine rest_normal (win c i arg3 harg3 x0 x1 x2 x3 x4 x5 x6 x7 x8 x9) (l := k0_t30_loop i (kernelRun.sl.r c i arg3 harg3 x0)) (by unfold k0_t30_loop up rest lo nl fdiv256; rfl) _ (by exact st_k0_t30_zero ..) ?_
    refine normal_loop (win c i arg3 harg3 x0 x1 x2 x3 x4 x5 x6 x7 x8 x9) 4 (l := k0_t29_loop i (kernelRun.sl.r c i arg3 harg3 x0)) hW (by unfold k0_t29_loop up lo nl fdiv256; rfl) _ (by exact st_k0_t29_zero ..) ?_ ?s
    case s =>
      intro k hk
      apply step_intro (scoreVec _ _ _ _) _ (st_k0_t29_succ (k := k) ..) ?e ?f
      case e => unfold tripR_k0_t29 trip_k0_t29; rfl
      case f => exact normal_tile 4 hW hk (by unfold k0_off60 lo nl fdiv256; rfl) (by unfold k0_off61 lo nl fdiv256; rfl) rfl rfl
    refine rest_mixed (win c i arg3 harg3 x0 x1 x2 x3 x4 x5 x6 x7 x8 x9) (l := k0_t28_loop i (kernelRun.sl.r c i arg3 harg3 x0)) (by unfold k0_t28_loop up rest lo nl fdiv256; rfl) _ (by exact st_k0_t28_zero ..) ?_
    refine mixed_loop (win c i arg3 harg3 x0 x1 x2 x3 x4 x5 x6 x7 x8 x9) 4 (l := k0_t27_loop i (kernelRun.sl.r c i arg3 harg3 x0)) hW (by unfold k0_t27_loop up lo nl fdiv256; rfl) _ (by exact st_k0_t27_zero ..) ?_ ?s
    case s =>
      intro k hk
      apply step_intro (mixVec _ _ _ (scoreVec _ _ _ _) (scoreVec _ _ _ _)) _ (st_k0_t27_succ (k := k) ..) ?e ?f
      case e => unfold tripR_k0_t27 trip_k0_t27; rfl
      case f => exact mixed_tile_loop 4 hW hk rfl (by unfold nl fdiv256; rfl) (by unfold k0_off56 nl fdiv256; rfl) (by unfold k0_off57 nl fdiv256; rfl) rfl rfl
    refine rest_leaky (win c i arg3 harg3 x0 x1 x2 x3 x4 x5 x6 x7 x8 x9) (l := k0_t26_loop i (kernelRun.sl.r c i arg3 harg3 x0)) (by unfold k0_t26_loop up rest nl fdiv256; rfl) _ (by exact st_k0_t26_zero ..) ?_
    refine leaky_loop (win c i arg3 harg3 x0 x1 x2 x3 x4 x5 x6 x7 x8 x9) 4 (l := k0_t25_loop i (kernelRun.sl.r c i arg3 harg3 x0)) hW (by unfold k0_t25_loop up nl fdiv256; rfl) _ (by exact st_k0_t25_zero ..) ?_ ?s
    case s =>
      intro k hk
      apply step_intro (scoreVec _ _ _ _) _ (st_k0_t25_succ (k := k) ..) ?e ?f
      case e => unfold tripR_k0_t25 trip_k0_t25; rfl
      case f => exact leaky_tile 4 hW hk (by unfold k0_off52; rfl) (by unfold k0_off53; rfl) rfl rfl
    exact start_good (win c i arg3 harg3 x0 x1 x2 x3 x4 x5 x6 x7 x8 x9) 4 _ _ _ (fun c => rfl) (fun c => zero_word) (fun x c => zero_word)

attribute [local irreducible] st_k0_t31 st_k0_t32 st_k0_t33 st_k0_t34 st_k0_t35 st_k0_t36 in
set_option maxHeartbeats 2000000 in
/-- Head 5 of the group. -/
theorem head5 (hW : (win c i arg3 harg3 x0 x1 x2 x3 x4 x5 x6 x7 x8 x9).OK) : ∃ P, (kernelRun (F := Ideal) c i arg3 harg3 arg4 harg4 arg5 harg5 arg6 harg6 arg7 harg7 arg8 harg8 arg9 harg9 arg10 harg10
      arg11 harg11 arg12 harg12 arg13 harg13 x0 x1 x2 x3 x4 x5 x6 x7 x8 x9).1[1]? = some ⟨Rect.unit ![0, 0, 640] S1x256x128.size inb_S1x256x896_S1x256x128_0_0_640, P⟩
    ∧ IsHead (win c i arg3 harg3 x0 x1 x2 x3 x4 x5 x6 x7 x8 x9) 5 P := by
  unfold kernelRun
  refine ⟨_, rfl, ?_⟩
  apply head_intro (mixVec _ _ _ (scoreVec _ _ _ _) (scoreVec _ _ _ _)) _ (_, _, _) ?e ?t ?g
  case e => unfold k0_pay321 kernelRun.sl.r_48 k0_pay320 kernelRun.sl.r_45 kernelRun.sl.r_46 kernelRun.sl.r_47 k0_pay317 k0_pay318 k0_pay319; rfl
  case t =>
    apply mixed_tile 5 (Win.n_lt _)
    case h2 => rfl
    case h998 => exact mul_word
    case hoff => exact rows_last _
    case hv => exact cols_last _
    all_goals rfl
  case g =>
    refine good_eta ?_
    refine rest_normal (win c i arg3 harg3 x0 x1 x2 x3 x4 x5 x6 x7 x8 x9) (l := k0_t36_loop i (kernelRun.sl.r c i arg3 harg3 x0)) (by unfold k0_t36_loop up rest lo nl fdiv256; rfl) _ (by exact st_k0_t36_zero ..) ?_
    refine normal_loop (win c i arg3 harg3 x0 x1 x2 x3 x4 x5 x6 x7 x8 x9) 5 (l := k0_t35_loop i (kernelRun.sl.r c i arg3 harg3 x0)) hW (by unfold k0_t35_loop up lo nl fdiv256; rfl) _ (by exact st_k0_t35_zero ..) ?_ ?s
    case s =>
      intro k hk
      apply step_intro (scoreVec _ _ _ _) _ (st_k0_t35_succ (k := k) ..) ?e ?f
      case e => unfold tripR_k0_t35 trip_k0_t35; rfl
      case f => exact normal_tile 5 hW hk (by unfold k0_off72 lo nl fdiv256; rfl) (by unfold k0_off73 lo nl fdiv256; rfl) rfl rfl
    refine rest_mixed (win c i arg3 harg3 x0 x1 x2 x3 x4 x5 x6 x7 x8 x9) (l := k0_t34_loop i (kernelRun.sl.r c i arg3 harg3 x0)) (by unfold k0_t34_loop up rest lo nl fdiv256; rfl) _ (by exact st_k0_t34_zero ..) ?_
    refine mixed_loop (win c i arg3 harg3 x0 x1 x2 x3 x4 x5 x6 x7 x8 x9) 5 (l := k0_t33_loop i (kernelRun.sl.r c i arg3 harg3 x0)) hW (by unfold k0_t33_loop up lo nl fdiv256; rfl) _ (by exact st_k0_t33_zero ..) ?_ ?s
    case s =>
      intro k hk
      apply step_intro (mixVec _ _ _ (scoreVec _ _ _ _) (scoreVec _ _ _ _)) _ (st_k0_t33_succ (k := k) ..) ?e ?f
      case e => unfold tripR_k0_t33 trip_k0_t33; rfl
      case f => exact mixed_tile_loop 5 hW hk rfl (by unfold nl fdiv256; rfl) (by unfold k0_off68 nl fdiv256; rfl) (by unfold k0_off69 nl fdiv256; rfl) rfl rfl
    refine rest_leaky (win c i arg3 harg3 x0 x1 x2 x3 x4 x5 x6 x7 x8 x9) (l := k0_t32_loop i (kernelRun.sl.r c i arg3 harg3 x0)) (by unfold k0_t32_loop up rest nl fdiv256; rfl) _ (by exact st_k0_t32_zero ..) ?_
    refine leaky_loop (win c i arg3 harg3 x0 x1 x2 x3 x4 x5 x6 x7 x8 x9) 5 (l := k0_t31_loop i (kernelRun.sl.r c i arg3 harg3 x0)) hW (by unfold k0_t31_loop up nl fdiv256; rfl) _ (by exact st_k0_t31_zero ..) ?_ ?s
    case s =>
      intro k hk
      apply step_intro (scoreVec _ _ _ _) _ (st_k0_t31_succ (k := k) ..) ?e ?f
      case e => unfold tripR_k0_t31 trip_k0_t31; rfl
      case f => exact leaky_tile 5 hW hk (by unfold k0_off64; rfl) (by unfold k0_off65; rfl) rfl rfl
    exact start_good (win c i arg3 harg3 x0 x1 x2 x3 x4 x5 x6 x7 x8 x9) 5 _ _ _ (fun c => rfl) (fun c => zero_word) (fun x c => zero_word)

attribute [local irreducible] st_k0_t37 st_k0_t38 st_k0_t39 st_k0_t40 st_k0_t41 st_k0_t42 in
set_option maxHeartbeats 2000000 in
/-- Head 6 of the group. -/
theorem head6 (hW : (win c i arg3 harg3 x0 x1 x2 x3 x4 x5 x6 x7 x8 x9).OK) : ∃ P, (kernelRun (F := Ideal) c i arg3 harg3 arg4 harg4 arg5 harg5 arg6 harg6 arg7 harg7 arg8 harg8 arg9 harg9 arg10 harg10
      arg11 harg11 arg12 harg12 arg13 harg13 x0 x1 x2 x3 x4 x5 x6 x7 x8 x9).1[0]? = some ⟨Rect.unit ![0, 0, 768] S1x256x128.size inb_S1x256x896_S1x256x128_0_0_768, P⟩
    ∧ IsHead (win c i arg3 harg3 x0 x1 x2 x3 x4 x5 x6 x7 x8 x9) 6 P := by
  unfold kernelRun
  refine ⟨_, rfl, ?_⟩
  apply head_intro (mixVec _ _ _ (scoreVec _ _ _ _) (scoreVec _ _ _ _)) _ (_, _, _) ?e ?t ?g
  case e => unfold k0_pay1 k0_pay343 kernelRun.sl.r_54 kernelRun.sl.r_55 kernelRun.sl.r_56 kernelRun.sl.r_57 k0_pay338 k0_pay339 k0_pay341 k0_pay342 kernelRun.sl.r_52 kernelRun.sl.r_53 k0_pay337; rfl
  case t =>
    apply mixed_tile 6 (Win.n_lt _)
    case h2 => rfl
    case h998 => exact mul_word
    case hoff => exact rows_last _
    case hv => exact cols_last _
    all_goals rfl
  case g =>
    refine good_eta ?_
    refine rest_normal (win c i arg3 harg3 x0 x1 x2 x3 x4 x5 x6 x7 x8 x9) (l := k0_t42_loop i (kernelRun.sl.r c i arg3 harg3 x0)) (by unfold k0_t42_loop up rest lo nl fdiv256; rfl) _ (by exact st_k0_t42_zero ..) ?_
    refine normal_loop (win c i arg3 harg3 x0 x1 x2 x3 x4 x5 x6 x7 x8 x9) 6 (l := k0_t41_loop i (kernelRun.sl.r c i arg3 harg3 x0)) hW (by unfold k0_t41_loop up lo nl fdiv256; rfl) _ (by exact st_k0_t41_zero ..) ?_ ?s
    case s =>
      intro k hk
      apply step_intro (scoreVec _ _ _ _) _ (st_k0_t41_succ (k := k) ..) ?e ?f
      case e => unfold tripR_k0_t41 trip_k0_t41; rfl
      case f => exact normal_tile 6 hW hk (by unfold k0_off84 lo nl fdiv256; rfl) (by unfold k0_off85 lo nl fdiv256; rfl) rfl rfl
    refine rest_mixed (win c i arg3 harg3 x0 x1 x2 x3 x4 x5 x6 x7 x8 x9) (l := k0_t40_loop i (kernelRun.sl.r c i arg3 harg3 x0)) (by unfold k0_t40_loop up rest lo nl fdiv256; rfl) _ (by exact st_k0_t40_zero ..) ?_
    refine mixed_loop (win c i arg3 harg3 x0 x1 x2 x3 x4 x5 x6 x7 x8 x9) 6 (l := k0_t39_loop i (kernelRun.sl.r c i arg3 harg3 x0)) hW (by unfold k0_t39_loop up lo nl fdiv256; rfl) _ (by exact st_k0_t39_zero ..) ?_ ?s
    case s =>
      intro k hk
      apply step_intro (mixVec _ _ _ (scoreVec _ _ _ _) (scoreVec _ _ _ _)) _ (st_k0_t39_succ (k := k) ..) ?e ?f
      case e => unfold tripR_k0_t39 trip_k0_t39; rfl
      case f => exact mixed_tile_loop 6 hW hk rfl (by unfold nl fdiv256; rfl) (by unfold k0_off80 nl fdiv256; rfl) (by unfold k0_off81 nl fdiv256; rfl) rfl rfl
    refine rest_leaky (win c i arg3 harg3 x0 x1 x2 x3 x4 x5 x6 x7 x8 x9) (l := k0_t38_loop i (kernelRun.sl.r c i arg3 harg3 x0)) (by unfold k0_t38_loop up rest nl fdiv256; rfl) _ (by exact st_k0_t38_zero ..) ?_
    refine leaky_loop (win c i arg3 harg3 x0 x1 x2 x3 x4 x5 x6 x7 x8 x9) 6 (l := k0_t37_loop i (kernelRun.sl.r c i arg3 harg3 x0)) hW (by unfold k0_t37_loop up nl fdiv256; rfl) _ (by exact st_k0_t37_zero ..) ?_ ?s
    case s =>
      intro k hk
      apply step_intro (scoreVec _ _ _ _) _ (st_k0_t37_succ (k := k) ..) ?e ?f
      case e => unfold tripR_k0_t37 trip_k0_t37; rfl
      case f => exact leaky_tile 6 hW hk (by unfold k0_off76; rfl) (by unfold k0_off77; rfl) rfl rfl
    exact start_good (win c i arg3 harg3 x0 x1 x2 x3 x4 x5 x6 x7 x8 x9) 6 _ _ _ (fun c => rfl) (fun c => zero_word) (fun x c => zero_word)

end Cert.KernelIdeal

end
-- ==== Proof.PreFacts.lean ====
module
public import proofs.«01_k».proof.Defs
public import proofs.«01_k».proof.Proof.Gen.KernelIdeal
public import proofs.«01_k».proof.Proof.Gen.Pre_finite_in_range
public import proofs.«01_k».proof.Proof.Spec
public import Idealize.ShloMosaic.Lib.ReduceAll
@[expose] public section
noncomputable section

/-! What the precondition says: every code and scale of the queries and keys is a real number, every window is in range. -/

namespace Cert.PreFacts
open Idealize.ShloMosaic Idealize.ShloMosaic.TcCoe Cert.Attn Cert.Pre_finite_in_range

instance : Subsingleton S_.Idx := ⟨fun a b => funext fun k => k.elim0⟩

theorem inf_word : Ideal.ofBits .f32 0x7F800000#32 = ⊤ := by
  simp [Ideal.ofBits, Ideal.ieee]

theorem isReal_of_abs_lt {x : EReal} (h : max x (-x) < ⊤) : IsReal x := by
  have h1 : x ≠ ⊤ := fun e => by simp [e] at h
  have h2 : x ≠ ⊥ := fun e => by simp [e] at h
  exact ⟨x.toReal, (EReal.coe_toReal h1 h2).symm⟩

theorem ofBool_one {b : Bool} (h : BitVec.ofBool b = 1#1) : b = true := by
  revert h; cases b <;> decide

/-- `jnp.all (jnp.abs x < inf)` is true of arrays of real numbers only. -/
theorem real_of_all {s : Shape} (x : FVec Ideal s .f32) (hb : S_.BroadcastsInDim s (![] : Fin 0 → Fin s.rank)) {axes : List (Fin s.rank)}
    (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : IsReal (x i) := by
  have h := Host.reduce_andi_all _ _ hr hu j e i
  have h' : BitVec.ofBool (decide (max (x i) (-(x i)) < Ideal.ofBits .f32 0x7F800000#32)) = 1#1 := h
  rw [inf_word] at h'
  exact isReal_of_abs_lt (of_decide_eq_true (ofBool_one h'))

theorem range_of_all (x : IVec S3 32) (hb : S_.BroadcastsInDim S3 (![] : Fin 0 → Fin S3.rank)) {axes : List (Fin S3.rank)}
    (hr : S3.ReducesTo axes S_) (hu : 0 < S_.numel) (j : S_.Idx)
    (e : Host.reduce IntOp.andi (andi (cmpi .sgt x (broadcastInDim S3 ![] hb (constantI S_ 32 4294967041#32)))
        (cmpi .sle x (broadcastInDim S3 ![] hb (constantI S_ 32 2147483393#32)))) (constantI S_ 1 1#1) hr hu j = 1#1) (i : S3.Idx) :
    -255 < (x i).toInt ∧ (x i).toInt ≤ 2147483393 := by
  have h := Host.reduce_andi_all _ _ hr hu j e i
  have h' : IntOp.andi (BitVec.ofBool ((4294967041#32 : BitVec 32).slt (x i))) (BitVec.ofBool ((x i).sle 2147483393#32)) = 1#1 := h
  obtain ⟨h1, h2⟩ := IntOp.andi_eq_one.1 h'
  have h1 := ofBool_one h1
  have h2 := ofBool_one h2
  simp only [BitVec.slt, BitVec.sle, decide_eq_true_eq] at h1 h2
  have c1 : (4294967041#32 : BitVec 32).toInt = -255 := by decide
  have c2 : (2147483393#32 : BitVec 32).toInt = 2147483393 := by decide
  rw [c1] at h1
  rw [c2] at h2
  exact ⟨h1, h2⟩

theorem and_split {x y : IVec S_ 1} {j : S_.Idx} (h : andi x y j = 1#1) : x j = 1#1 ∧ y j = 1#1 := IntOp.andi_eq_one.1 h

/-- The argument arrays of the kernel as launched. -/
def args (m : (ℓ : Loc Cert.KernelIdeal.nD Cert.KernelIdeal.τ Cert.KernelIdeal.sig) → Buf (Elt Ideal) ℓ) (c : Dev Cert.KernelIdeal.nD) : Args where
  w := m ((c : Thread Cert.KernelIdeal.nD Cert.KernelIdeal.τ).loc Cert.KernelIdeal.main_arg0)
  q1c := m ((c : Thread Cert.KernelIdeal.nD Cert.KernelIdeal.τ).loc Cert.KernelIdeal.main_arg1)
  q1s := m ((c : Thread Cert.KernelIdeal.nD Cert.KernelIdeal.τ).loc Cert.KernelIdeal.main_arg2)
  q2c := m ((c : Thread Cert.KernelIdeal.nD Cert.KernelIdeal.τ).loc Cert.KernelIdeal.main_arg3)
  q2s := m ((c : Thread Cert.KernelIdeal.nD Cert.KernelIdeal.τ).loc Cert.KernelIdeal.main_arg4)
  k1c := m ((c : Thread Cert.KernelIdeal.nD Cert.KernelIdeal.τ).loc Cert.KernelIdeal.main_arg5)
  k1s := m ((c : Thread Cert.KernelIdeal.nD Cert.KernelIdeal.τ).loc Cert.KernelIdeal.main_arg6)
  k2c := m ((c : Thread Cert.KernelIdeal.nD Cert.KernelIdeal.τ).loc Cert.KernelIdeal.main_arg7)
  k2s := m ((c : Thread Cert.KernelIdeal.nD Cert.KernelIdeal.τ).loc Cert.KernelIdeal.main_arg8)
  vw := m ((c : Thread Cert.KernelIdeal.nD Cert.KernelIdeal.τ).loc Cert.KernelIdeal.main_arg9)
  vs := m ((c : Thread Cert.KernelIdeal.nD Cert.KernelIdeal.τ).loc Cert.KernelIdeal.main_arg10)

theorem facts_of_pre (m : (ℓ : Loc Cert.KernelIdeal.nD Cert.KernelIdeal.τ Cert.KernelIdeal.sig) → Buf (Elt Ideal) ℓ)
    (h : Cert.Pre_KernelIdeal_finite_in_range m) (c : Dev Cert.KernelIdeal.nD) : (args m c).Real ∧ (args m c).InRange := by
  have e := congrFun (h c) (fun k => k.elim0)
  unfold fn fn_part1 fn_part2 at e
  obtain ⟨e, h8⟩ := and_split e
  obtain ⟨e, h7⟩ := and_split e
  obtain ⟨e, h6⟩ := and_split e
  obtain ⟨e, h5⟩ := and_split e
  obtain ⟨e, h4⟩ := and_split e
  obtain ⟨e, h3⟩ := and_split e
  obtain ⟨e, h2⟩ := and_split e
  obtain ⟨h0, h1⟩ := and_split e
  exact ⟨⟨fun i => real_of_all _ _ _ _ _ h1 i, fun i => real_of_all _ _ _ _ _ h2 i, fun i => real_of_all _ _ _ _ _ h3 i,
    fun i => real_of_all _ _ _ _ _ h4 i, fun i => real_of_all _ _ _ _ _ h5 i, fun i => real_of_all _ _ _ _ _ h6 i,
    fun i => real_of_all _ _ _ _ _ h7 i, fun i => real_of_all _ _ _ _ _ h8 i⟩, fun b => range_of_all _ _ _ _ _ h0 b⟩

end Cert.PreFacts

end
-- ==== Proof.KernelHost.lean ====
/-
  The kernel's operands: what its host prefix makes of the argument arrays, and the block of each a grid point finds.
-/
module

public import proofs.«01_k».proof.Proof.KernelIdealFrame
public import proofs.«01_k».proof.Proof.Heads
public import proofs.«01_k».proof.Proof.PreFacts
public import proofs.«01_k».proof.Proof.Layout
public import Idealize.ShloMosaic.Lib.StableHlo.Run

@[expose] public section

set_option maxRecDepth 16384

noncomputable section

namespace Cert.Layout

open Idealize.ShloMosaic Idealize.ShloMosaic.ValueIdx

variable {α : Type}

theorem transpose_0231 {a b c d : ℕ} (x : (⟨4, ![a, b, c, d]⟩ : Shape).Idx → α)
    (h : (⟨4, ![a, b, c, d]⟩ : Shape).Transposes [0, 2, 3, 1] ⟨4, ![a, c, d, b]⟩) (i : Fin a) (j : Fin c) (k : Fin d) (l : Fin b) :
    transpose ⟨4, ![a, c, d, b]⟩ [0, 2, 3, 1] x h (ix4 i j k l) = x (ix4 i l j k) :=
  transpose_apply _ x h _ _ fun p => by
    match p with
    | ⟨0, _⟩ => rfl
    | ⟨1, _⟩ => rfl
    | ⟨2, _⟩ => rfl
    | ⟨3, _⟩ => rfl

/-- One row put before the last axis. -/
theorem row_before_last {a b k : ℕ} (x : (⟨3, ![a, b, k]⟩ : Shape).Idx → α)
    (h : (⟨3, ![a, b, k]⟩ : Shape).BroadcastsInDim ⟨4, ![a, b, 1, k]⟩ ![0, 1, 3]) (i : Fin a) (j : Fin b) (l : Fin k) :
    broadcastInDim ⟨4, ![a, b, 1, k]⟩ ![0, 1, 3] h x (ix4 i j (0 : Fin 1) l) = x (ix3 i j l) :=
  broadcastInDim_apply _ h x _ (ix3 i j l) fun p => by
    match p with
    | ⟨0, _⟩ => exact ite_val i
    | ⟨1, _⟩ => exact ite_val j
    | ⟨2, _⟩ => exact ite_val l

/-- Every entry repeated along a new last axis. -/
theorem along_last {a b n k : ℕ} (x : (⟨3, ![a, b, n]⟩ : Shape).Idx → α)
    (h1 : (⟨3, ![a, b, n]⟩ : Shape).BroadcastsInDim ⟨4, ![a, b, n, 1]⟩ ![0, 1, 2])
    (h2 : (⟨4, ![a, b, n, 1]⟩ : Shape).BroadcastsInDim ⟨4, ![a, b, n, k]⟩ ![0, 1, 2, 3]) (i : Fin a) (j : Fin b) (r : Fin n) (l : Fin k) :
    broadcastInDim ⟨4, ![a, b, n, k]⟩ ![0, 1, 2, 3] h2 (broadcastInDim ⟨4, ![a, b, n, 1]⟩ ![0, 1, 2] h1 x) (ix4 i j r l)
      = x (ix3 i j r) := by
  refine (broadcastInDim_apply _ h2 _ _ (ix4 i j r (0 : Fin 1)) fun p => ?_).trans
    (broadcastInDim_apply _ h1 x _ (ix3 i j r) fun p => ?_)
  · match p with
    | ⟨0, _⟩ => exact ite_val i
    | ⟨1, _⟩ => exact ite_val j
    | ⟨2, _⟩ => exact ite_val r
    | ⟨3, _⟩ => rfl
  · match p with
    | ⟨0, _⟩ => exact ite_val i
    | ⟨1, _⟩ => exact ite_val j
    | ⟨2, _⟩ => exact ite_val r

end Cert.Layout

namespace Cert.KernelIdeal

open Idealize.ShloMosaic Idealize.ShloMosaic.TcCoe Idealize.ShloMosaic.ValueIdx Cert.KernelIdeal.Gen Cert.Layout Cert.Attn Cert.PreFacts
open scoped BigOperators

variable (m : (ℓ : Loc nD τ sig) → Buf (Elt Ideal) ℓ) (c : Dev nD)

/-! ## The host prefix -/

theorem V_v9 : V m c main_v9 = transpose S3x28x8192x128 [0, 2, 1, 3] (args m c).q1c
    transposes_S3x8192x28x128_S3x28x8192x128_0_2_1_3 := by
  show StableHlo.after hostOps0 _ (Proc.devRef .tc main_v9) = _
  after_results
  rfl

theorem V_v10 : V m c main_v10 = transpose S3x28x8192x128 [0, 2, 1, 3] (args m c).q2c
    transposes_S3x8192x28x128_S3x28x8192x128_0_2_1_3 := by
  show StableHlo.after hostOps0 _ (Proc.devRef .tc main_v10) = _
  after_results
  rfl

theorem V_v12 : V m c main_v12 = broadcastInDim S3x28x1x8192 ![0, 1, 3] bcast_S3x28x8192_S3x28x1x8192_0_1_3
    (transpose S3x28x8192 [0, 2, 1] (args m c).q1s transposes_S3x8192x28_S3x28x8192_0_2_1) := by
  show StableHlo.after hostOps0 _ (Proc.devRef .tc main_v12) = _
  after_results
  rfl

theorem V_v14 : V m c main_v14 = broadcastInDim S3x28x1x8192 ![0, 1, 3] bcast_S3x28x8192_S3x28x1x8192_0_1_3
    (transpose S3x28x8192 [0, 2, 1] (args m c).q2s transposes_S3x8192x28_S3x28x8192_0_2_1) := by
  show StableHlo.after hostOps0 _ (Proc.devRef .tc main_v14) = _
  after_results
  rfl

theorem V_v15 : V m c main_v15 = transpose S3x4x8192x128 [0, 2, 1, 3] (args m c).k1c
    transposes_S3x8192x4x128_S3x4x8192x128_0_2_1_3 := by
  show StableHlo.after hostOps0 _ (Proc.devRef .tc main_v15) = _
  after_results
  rfl

theorem V_v16 : V m c main_v16 = transpose S3x4x8192x128 [0, 2, 1, 3] (args m c).k2c
    transposes_S3x8192x4x128_S3x4x8192x128_0_2_1_3 := by
  show StableHlo.after hostOps0 _ (Proc.devRef .tc main_v16) = _
  after_results
  rfl

/-- A key scale in the kernel's units, along the rows of a tile. -/
def kscale (x : FVec Ideal S3x8192x4 .f32) : FVec Ideal S3x4x8192x128 .f32 :=
  broadcastInDim S3x4x8192x128 ![0, 1, 2, 3] bcast_S3x4x8192x1_S3x4x8192x128_0_1_2_3
    (broadcastInDim S3x4x8192x1 ![0, 1, 2] bcast_S3x4x8192_S3x4x8192x1_0_1_2
      (mulf (transpose S3x4x8192 [0, 2, 1] x transposes_S3x8192x4_S3x4x8192_0_2_1)
        (broadcastInDim S3x4x8192 ![] bcast_S_S3x4x8192 (constant S_ .f32 0x3E0293EE#32))))

theorem V_v21 : V m c main_v21 = kscale (args m c).k1s := by
  show StableHlo.after hostOps0 _ (Proc.devRef .tc main_v21) = _
  after_results
  rfl

theorem V_v26 : V m c main_v26 = kscale (args m c).k2s := by
  show StableHlo.after hostOps0 _ (Proc.devRef .tc main_v26) = _
  after_results
  rfl

theorem V_v8 : V m c main_v8 = transpose S3x4x128x8192 [0, 2, 3, 1]
    (mulf (F := Ideal) (φ := .f32) (args m c).vw (broadcastInDim S3x8192x4x128 ![0, 1, 2, 3] bcast_S3x8192x4x1_S3x8192x4x128_0_1_2_3
      (broadcastInDim S3x8192x4x1 ![0, 1, 2] bcast_S3x8192x4_S3x8192x4x1_0_1_2 (args m c).vs)))
    transposes_S3x8192x4x128_S3x4x128x8192_0_2_3_1 := by
  show StableHlo.after hostOps0 _ (Proc.devRef .tc main_v8) = _
  after_results
  rfl

theorem unit_word : Ideal.ofBits .f32 0x3E0293EE#32 = (unit : EReal) := by
  simp [Ideal.ofBits, Ideal.ieee, unit]
  rw [← EReal.coe_mul]
  norm_num

/-! ## The operands at an index -/

theorem qcodes_at (x : FVec Ideal S3x8192x28x128 .f32) (b : Fin 3) (h : Fin 28) (i : Fin 8192) (d : Fin 128) :
    transpose S3x28x8192x128 [0, 2, 1, 3] x transposes_S3x8192x28x128_S3x28x8192x128_0_2_1_3 (ix4 b h i d) = x (ix4 b i h d) :=
  transpose_0213 x _ b h i d

theorem qscales_at (x : FVec Ideal S3x8192x28 .f32) (b : Fin 3) (h : Fin 28) (i : Fin 8192) :
    broadcastInDim S3x28x1x8192 ![0, 1, 3] bcast_S3x28x8192_S3x28x1x8192_0_1_3
      (transpose S3x28x8192 [0, 2, 1] x transposes_S3x8192x28_S3x28x8192_0_2_1) (ix4 b h (0 : Fin 1) i) = x (ix3 b i h) :=
  (row_before_last _ _ b h i).trans (transpose_021 x _ b h i)

theorem kcodes_at (x : FVec Ideal S3x8192x4x128 .f32) (b : Fin 3) (g : Fin 4) (j : Fin 8192) (d : Fin 128) :
    transpose S3x4x8192x128 [0, 2, 1, 3] x transposes_S3x8192x4x128_S3x4x8192x128_0_2_1_3 (ix4 b g j d) = x (ix4 b j g d) :=
  transpose_0213 x _ b g j d

theorem kscale_at (x : FVec Ideal S3x8192x4 .f32) (b : Fin 3) (g : Fin 4) (j : Fin 8192) (d : Fin 128) :
    kscale x (ix4 b g j d) = x (ix3 b j g) * (unit : EReal) := by
  refine (along_last _ _ _ b g j d).trans ?_
  exact congrArg₂ (fun u v : EReal => u * v) (transpose_021 x _ b g j) unit_word

theorem values_at (x : FVec Ideal S3x8192x4x128 .f32) (s : FVec Ideal S3x8192x4 .f32) (b : Fin 3) (g : Fin 4) (d : Fin 128) (j : Fin 8192) :
    transpose S3x4x128x8192 [0, 2, 3, 1]
      (mulf x (broadcastInDim S3x8192x4x128 ![0, 1, 2, 3] bcast_S3x8192x4x1_S3x8192x4x128_0_1_2_3
        (broadcastInDim S3x8192x4x1 ![0, 1, 2] bcast_S3x8192x4_S3x8192x4x1_0_1_2 s)))
      transposes_S3x8192x4x128_S3x4x128x8192_0_2_3_1 (ix4 b g d j) = x (ix4 b j g d) * s (ix3 b j g) := by
  refine (transpose_0231 _ _ b g d j).trans ?_
  exact congrArg (fun u : EReal => x (ix4 b j g d) * u) (along_last _ _ _ b j g d)

/-! ## A grid point's place -/

/-- Batch, group and query block of a grid point. -/
def ptB (t : Fin cfg0.N) : Fin 3 := grid0.coords t 0
def ptG (t : Fin cfg0.N) : Fin 4 := grid0.coords t 1
def ptQ (t : Fin cfg0.N) : Fin 32 := grid0.coords t 2

/-- Head `h` of group `g`. -/
def headOf (g : Fin 4) (h : Fin 7) : Fin 28 := ⟨7 * g.val + h.val, by have := g.isLt; have := h.isLt; omega⟩

/-- Query `r` of block `n`. -/
def queryOf (n : Fin 32) (r : Fin 256) : Fin 8192 := ⟨256 * n.val + r.val, by have := n.isLt; have := r.isLt; omega⟩

theorem grp_headOf (g : Fin 4) (h : Fin 7) : grp (headOf g h) = g := Fin.ext (by
  show (7 * g.val + h.val) / 7 = g.val
  have := h.isLt; omega)

theorem small_word {n k : ℕ} (h : n < k) (hk : k ≤ 4294967296) : (BitVec.ofNat 32 n).toNat = n := by
  rw [BitVec.toNat_ofNat]; exact Nat.mod_eq_of_lt (by omega)

theorem wordB (t : Fin cfg0.N) : (BitVec.ofNat 32 (grid0.coords t 0).val).toNat = (ptB t).val := small_word (ptB t).isLt (by norm_num)
theorem wordG (t : Fin cfg0.N) : (BitVec.ofNat 32 (grid0.coords t 1).val).toNat = (ptG t).val := small_word (ptG t).isLt (by norm_num)
theorem wordQ (t : Fin cfg0.N) : (BitVec.ofNat 32 (grid0.coords t 2).val).toNat = (ptQ t).val := small_word (ptQ t).isLt (by norm_num)

/-! ## The blocks -/

theorem iblk_1 (t : Fin cfg0.N) (h : Fin 7) (r : Fin 256) (d : Fin 128) :
    (iblk m c 1 t : Vec Ideal S1x7x256x128 .fp8e4m3) (ix4 (0 : Fin 1) h r d)
      = (V m c main_v9 : Vec Ideal S3x28x8192x128 .fp8e4m3) (ix4 (ptB t) (headOf (ptG t) h) (queryOf (ptQ t) r) d) := by
  unfold iblk
  rw [View.read_apply]
  refine congrArg (V m c main_v9 : Vec Ideal S3x28x8192x128 .fp8e4m3) (funext fun a => Fin.ext ?_)
  match a with
  | ⟨0, _⟩ => show (BitVec.ofNat 32 (grid0.coords t 0).val).toNat * 1 + 1 * 0 = (ptB t).val; rw [wordB]; omega
  | ⟨1, _⟩ => show (BitVec.ofNat 32 (grid0.coords t 1).val).toNat * 7 + 1 * h.val = 7 * (ptG t).val + h.val; rw [wordG]; omega
  | ⟨2, _⟩ => show (BitVec.ofNat 32 (grid0.coords t 2).val).toNat * 256 + 1 * r.val = 256 * (ptQ t).val + r.val; rw [wordQ]; omega
  | ⟨3, _⟩ => show 0 * 128 + 1 * d.val = d.val; omega

theorem iblk_2 (t : Fin cfg0.N) (h : Fin 7) (r : Fin 256) (d : Fin 128) :
    (iblk m c 2 t : Vec Ideal S1x7x256x128 .fp8e4m3) (ix4 (0 : Fin 1) h r d)
      = (V m c main_v10 : Vec Ideal S3x28x8192x128 .fp8e4m3) (ix4 (ptB t) (headOf (ptG t) h) (queryOf (ptQ t) r) d) := by
  unfold iblk
  rw [View.read_apply]
  refine congrArg (V m c main_v10 : Vec Ideal S3x28x8192x128 .fp8e4m3) (funext fun a => Fin.ext ?_)
  match a with
  | ⟨0, _⟩ => show (BitVec.ofNat 32 (grid0.coords t 0).val).toNat * 1 + 1 * 0 = (ptB t).val; rw [wordB]; omega
  | ⟨1, _⟩ => show (BitVec.ofNat 32 (grid0.coords t 1).val).toNat * 7 + 1 * h.val = 7 * (ptG t).val + h.val; rw [wordG]; omega
  | ⟨2, _⟩ => show (BitVec.ofNat 32 (grid0.coords t 2).val).toNat * 256 + 1 * r.val = 256 * (ptQ t).val + r.val; rw [wordQ]; omega
  | ⟨3, _⟩ => show 0 * 128 + 1 * d.val = d.val; omega

theorem iblk_3 (t : Fin cfg0.N) (h : Fin 7) (r : Fin 256) :
    (iblk m c 3 t : Vec Ideal S1x7x1x256 .f32) (ix4 (0 : Fin 1) h (0 : Fin 1) r)
      = (V m c main_v12 : Vec Ideal S3x28x1x8192 .f32) (ix4 (ptB t) (headOf (ptG t) h) (0 : Fin 1) (queryOf (ptQ t) r)) := by
  unfold iblk
  rw [View.read_apply]
  refine congrArg (V m c main_v12 : Vec Ideal S3x28x1x8192 .f32) (funext fun a => Fin.ext ?_)
  match a with
  | ⟨0, _⟩ => show (BitVec.ofNat 32 (grid0.coords t 0).val).toNat * 1 + 1 * 0 = (ptB t).val; rw [wordB]; omega
  | ⟨1, _⟩ => show (BitVec.ofNat 32 (grid0.coords t 1).val).toNat * 7 + 1 * h.val = 7 * (ptG t).val + h.val; rw [wordG]; omega
  | ⟨2, _⟩ => show 0 * 1 + 1 * 0 = 0; omega
  | ⟨3, _⟩ => show (BitVec.ofNat 32 (grid0.coords t 2).val).toNat * 256 + 1 * r.val = 256 * (ptQ t).val + r.val; rw [wordQ]; omega

theorem iblk_4 (t : Fin cfg0.N) (h : Fin 7) (r : Fin 256) :
    (iblk m c 4 t : Vec Ideal S1x7x1x256 .f32) (ix4 (0 : Fin 1) h (0 : Fin 1) r)
      = (V m c main_v14 : Vec Ideal S3x28x1x8192 .f32) (ix4 (ptB t) (headOf (ptG t) h) (0 : Fin 1) (queryOf (ptQ t) r)) := by
  unfold iblk
  rw [View.read_apply]
  refine congrArg (V m c main_v14 : Vec Ideal S3x28x1x8192 .f32) (funext fun a => Fin.ext ?_)
  match a with
  | ⟨0, _⟩ => show (BitVec.ofNat 32 (grid0.coords t 0).val).toNat * 1 + 1 * 0 = (ptB t).val; rw [wordB]; omega
  | ⟨1, _⟩ => show (BitVec.ofNat 32 (grid0.coords t 1).val).toNat * 7 + 1 * h.val = 7 * (ptG t).val + h.val; rw [wordG]; omega
  | ⟨2, _⟩ => show 0 * 1 + 1 * 0 = 0; omega
  | ⟨3, _⟩ => show (BitVec.ofNat 32 (grid0.coords t 2).val).toNat * 256 + 1 * r.val = 256 * (ptQ t).val + r.val; rw [wordQ]; omega

theorem iblk_5 (t : Fin cfg0.N) (j : Fin 8192) (d : Fin 128) :
    (iblk m c 5 t : Vec Ideal S1x1x8192x128 .fp8e4m3) (ix4 (0 : Fin 1) (0 : Fin 1) j d)
      = (V m c main_v15 : Vec Ideal S3x4x8192x128 .fp8e4m3) (ix4 (ptB t) (ptG t) j d) := by
  unfold iblk
  rw [View.read_apply]
  refine congrArg (V m c main_v15 : Vec Ideal S3x4x8192x128 .fp8e4m3) (funext fun a => Fin.ext ?_)
  match a with
  | ⟨0, _⟩ => show (BitVec.ofNat 32 (grid0.coords t 0).val).toNat * 1 + 1 * 0 = (ptB t).val; rw [wordB]; omega
  | ⟨1, _⟩ => show (BitVec.ofNat 32 (grid0.coords t 1).val).toNat * 1 + 1 * 0 = (ptG t).val; rw [wordG]; omega
  | ⟨2, _⟩ => show 0 * 8192 + 1 * j.val = j.val; omega
  | ⟨3, _⟩ => show 0 * 128 + 1 * d.val = d.val; omega

theorem iblk_6 (t : Fin cfg0.N) (j : Fin 8192) (d : Fin 128) :
    (iblk m c 6 t : Vec Ideal S1x1x8192x128 .fp8e4m3) (ix4 (0 : Fin 1) (0 : Fin 1) j d)
      = (V m c main_v16 : Vec Ideal S3x4x8192x128 .fp8e4m3) (ix4 (ptB t) (ptG t) j d) := by
  unfold iblk
  rw [View.read_apply]
  refine congrArg (V m c main_v16 : Vec Ideal S3x4x8192x128 .fp8e4m3) (funext fun a => Fin.ext ?_)
  match a with
  | ⟨0, _⟩ => show (BitVec.ofNat 32 (grid0.coords t 0).val).toNat * 1 + 1 * 0 = (ptB t).val; rw [wordB]; omega
  | ⟨1, _⟩ => show (BitVec.ofNat 32 (grid0.coords t 1).val).toNat * 1 + 1 * 0 = (ptG t).val; rw [wordG]; omega
  | ⟨2, _⟩ => show 0 * 8192 + 1 * j.val = j.val; omega
  | ⟨3, _⟩ => show 0 * 128 + 1 * d.val = d.val; omega

theorem iblk_7 (t : Fin cfg0.N) (j : Fin 8192) (d : Fin 128) :
    (iblk m c 7 t : Vec Ideal S1x1x8192x128 .f32) (ix4 (0 : Fin 1) (0 : Fin 1) j d)
      = (V m c main_v21 : Vec Ideal S3x4x8192x128 .f32) (ix4 (ptB t) (ptG t) j d) := by
  unfold iblk
  rw [View.read_apply]
  refine congrArg (V m c main_v21 : Vec Ideal S3x4x8192x128 .f32) (funext fun a => Fin.ext ?_)
  match a with
  | ⟨0, _⟩ => show (BitVec.ofNat 32 (grid0.coords t 0).val).toNat * 1 + 1 * 0 = (ptB t).val; rw [wordB]; omega
  | ⟨1, _⟩ => show (BitVec.ofNat 32 (grid0.coords t 1).val).toNat * 1 + 1 * 0 = (ptG t).val; rw [wordG]; omega
  | ⟨2, _⟩ => show 0 * 8192 + 1 * j.val = j.val; omega
  | ⟨3, _⟩ => show 0 * 128 + 1 * d.val = d.val; omega

theorem iblk_8 (t : Fin cfg0.N) (j : Fin 8192) (d : Fin 128) :
    (iblk m c 8 t : Vec Ideal S1x1x8192x128 .f32) (ix4 (0 : Fin 1) (0 : Fin 1) j d)
      = (V m c main_v26 : Vec Ideal S3x4x8192x128 .f32) (ix4 (ptB t) (ptG t) j d) := by
  unfold iblk
  rw [View.read_apply]
  refine congrArg (V m c main_v26 : Vec Ideal S3x4x8192x128 .f32) (funext fun a => Fin.ext ?_)
  match a with
  | ⟨0, _⟩ => show (BitVec.ofNat 32 (grid0.coords t 0).val).toNat * 1 + 1 * 0 = (ptB t).val; rw [wordB]; omega
  | ⟨1, _⟩ => show (BitVec.ofNat 32 (grid0.coords t 1).val).toNat * 1 + 1 * 0 = (ptG t).val; rw [wordG]; omega
  | ⟨2, _⟩ => show 0 * 8192 + 1 * j.val = j.val; omega
  | ⟨3, _⟩ => show 0 * 128 + 1 * d.val = d.val; omega

theorem iblk_9 (t : Fin cfg0.N) (d : Fin 128) (j : Fin 8192) :
    (iblk m c 9 t : Vec Ideal S1x1x128x8192 .bf16) (ix4 (0 : Fin 1) (0 : Fin 1) d j)
      = (V m c main_v8 : Vec Ideal S3x4x128x8192 .bf16) (ix4 (ptB t) (ptG t) d j) := by
  unfold iblk
  rw [View.read_apply]
  refine congrArg (V m c main_v8 : Vec Ideal S3x4x128x8192 .bf16) (funext fun a => Fin.ext ?_)
  match a with
  | ⟨0, _⟩ => show (BitVec.ofNat 32 (grid0.coords t 0).val).toNat * 1 + 1 * 0 = (ptB t).val; rw [wordB]; omega
  | ⟨1, _⟩ => show (BitVec.ofNat 32 (grid0.coords t 1).val).toNat * 1 + 1 * 0 = (ptG t).val; rw [wordG]; omega
  | ⟨2, _⟩ => show 0 * 128 + 1 * d.val = d.val; omega
  | ⟨3, _⟩ => show 0 * 8192 + 1 * j.val = j.val; omega

theorem iblk_0 (t : Fin cfg0.N) (b : Fin 3) :
    (iblk m c 0 t : Vec Ideal S3 .i32) (ix1 b) = (V m c main_arg0 : Vec Ideal S3 .i32) (ix1 b) := by
  unfold iblk
  rw [View.read_apply]
  refine congrArg (V m c main_arg0 : Vec Ideal S3 .i32) (funext fun a => Fin.ext ?_)
  match a with
  | ⟨0, _⟩ => show 0 * 3 + 1 * b.val = b.val; omega

/-- The window the kernel loads is the batch's. -/
theorem word_eq (i : grid0.Coords) (arg3 : Memref sig .tc .smem S3 .i32) (harg3 : arg3.IsWhole) (x0 : Vec Ideal S3 .i32) :
    kernelRun.sl.r (F := Ideal) c i arg3 harg3 x0 = x0 (ix1 (i 0 : Fin 3)) := by
  unfold kernelRun.sl.r
  rw [harg3.readAt_unread]
  refine congrArg x0 (funext fun a => Fin.ext ?_)
  match a with
  | ⟨0, _⟩ =>
    show (BitVec.ofNat 32 (i 0).val).toNat + 1 * 0 = (i 0).val
    rw [small_word (i 0).isLt (by decide)]
    omega

/-! ## A grid point's operands -/

/-- What the point's windows hold. -/
abbrev ptWin (t : Fin cfg0.N) : Win :=
  win c (grid0.coords t) (ms0_0 t) (hs0_0 t) (iblk m c 0 t) (iblk m c 1 t) (iblk m c 2 t) (iblk m c 3 t) (iblk m c 4 t)
    (iblk m c 5 t) (iblk m c 6 t) (iblk m c 7 t) (iblk m c 8 t) (iblk m c 9 t)

theorem pt_word (t : Fin cfg0.N) : (ptWin m c t).w = (args m c).w (ix1 (ptB t)) :=
  (word_eq c _ _ _ _).trans ((iblk_0 m c t (ptB t)).trans (congrFun (V_main_arg0 m c) _))

theorem raw_eq {qc : FVec Ideal S3x8192x28x128 .f32} {qs : FVec Ideal S3x8192x28 .f32} {kc : FVec Ideal S3x8192x4x128 .f32}
    {ks : FVec Ideal S3x8192x4 .f32} {q : Vec Ideal S1x7x256x128 .fp8e4m3} {s : Vec Ideal S1x7x1x256 .f32}
    {k : Vec Ideal S1x1x8192x128 .fp8e4m3} {z : Vec Ideal S1x1x8192x128 .f32} {b : Fin 3} {g : Fin 4} {n : Fin 32}
    (hq : ∀ h r d, q (ix4 (0 : Fin 1) h r d) = qc (ix4 b (queryOf n r) (headOf g h) d))
    (hs : ∀ h r, s (ix4 (0 : Fin 1) h (0 : Fin 1) r) = qs (ix3 b (queryOf n r) (headOf g h)))
    (hk : ∀ j d, k (ix4 (0 : Fin 1) (0 : Fin 1) j d) = kc (ix4 b j g d))
    (hz : ∀ j d, z (ix4 (0 : Fin 1) (0 : Fin 1) j d) = ks (ix3 b j g) * (unit : EReal))
    (h : Fin 7) (r : Fin 256) (j : Fin 8192) :
    Win.sc q s k z h r j = raw qc qs kc ks b (headOf g h) (queryOf n r) j := by
  unfold Win.sc raw
  rw [grp_headOf, hz, hs]
  exact congrArg (fun u : EReal => u * (ks (ix3 b j g) * (unit : EReal)) * qs (ix3 b (queryOf n r) (headOf g h)))
    (Finset.sum_congr rfl fun d _ => by rw [hq, hk])

theorem sc_1 (t : Fin cfg0.N) (h : Fin 7) (r : Fin 256) (j : Fin 8192) :
    Win.sc (iblk m c 1 t) (iblk m c 3 t) (iblk m c 5 t) (iblk m c 7 t) h r j
      = raw (args m c).q1c (args m c).q1s (args m c).k1c (args m c).k1s (ptB t) (headOf (ptG t) h) (queryOf (ptQ t) r) j :=
  raw_eq (fun h r d => (iblk_1 m c t h r d).trans ((congrFun (V_v9 m c) _).trans (qcodes_at _ _ _ _ _)))
    (fun h r => (iblk_3 m c t h r).trans ((congrFun (V_v12 m c) _).trans (qscales_at _ _ _ _)))
    (fun j d => (iblk_5 m c t j d).trans ((congrFun (V_v15 m c) _).trans (kcodes_at _ _ _ _ _)))
    (fun j d => (iblk_7 m c t j d).trans ((congrFun (V_v21 m c) _).trans (kscale_at _ _ _ _ _))) h r j

theorem sc_2 (t : Fin cfg0.N) (h : Fin 7) (r : Fin 256) (j : Fin 8192) :
    Win.sc (iblk m c 2 t) (iblk m c 4 t) (iblk m c 6 t) (iblk m c 8 t) h r j
      = raw (args m c).q2c (args m c).q2s (args m c).k2c (args m c).k2s (ptB t) (headOf (ptG t) h) (queryOf (ptQ t) r) j :=
  raw_eq (fun h r d => (iblk_2 m c t h r d).trans ((congrFun (V_v10 m c) _).trans (qcodes_at _ _ _ _ _)))
    (fun h r => (iblk_4 m c t h r).trans ((congrFun (V_v14 m c) _).trans (qscales_at _ _ _ _)))
    (fun j d => (iblk_6 m c t j d).trans ((congrFun (V_v16 m c) _).trans (kcodes_at _ _ _ _ _)))
    (fun j d => (iblk_8 m c t j d).trans ((congrFun (V_v26 m c) _).trans (kscale_at _ _ _ _ _))) h r j

theorem pt_score (t : Fin cfg0.N) (h : Fin 7) (r : Fin 256) :
    (ptWin m c t).score h r = score (args m c) (ptB t) (headOf (ptG t) h) (queryOf (ptQ t) r) := by
  funext j
  unfold Win.score score
  rw [pt_word, sc_1, sc_2]
  rfl

theorem pt_val (t : Fin cfg0.N) (h : Fin 7) (d : Fin 128) :
    (ptWin m c t).val d = value (args m c) (ptB t) (headOf (ptG t) h) d := by
  funext j
  unfold Win.val value
  rw [grp_headOf]
  exact (iblk_9 m c t d (key j)).trans ((congrFun (V_v8 m c) _).trans (values_at _ _ _ _ _ _))

variable {m c}

theorem pt_ok (hA : (args m c).Real) (hw : (args m c).InRange) (t : Fin cfg0.N) : (ptWin m c t).OK where
  range := by rw [pt_word]; exact hw _
  top h r j := by rw [pt_score]; exact score_ne_top hA _ _ _ _

theorem pt_quot (t : Fin cfg0.N) (h : Fin 7) (r : Fin 256) (d : Fin 128) :
    (ptWin m c t).quot h r d = out (args m c) (ptB t) (headOf (ptG t) h) (queryOf (ptQ t) r) d := by
  unfold Win.quot
  rw [pt_score, pt_val m c t h d]
  refine (out_eq_of_le _ _ _ _ _ ?_ ?_).symm
  · show 256 * (ptQ t).val + r.val < 256 * ((ptQ t).val + 1)
    have := r.isLt; omega
  · show 256 * ((ptQ t).val + 1) ≤ 8192
    have := (ptQ t).isLt; omega

end Cert.KernelIdeal

end
-- ==== Proof.KernelArray.lean ====
/-
  The kernel's result array: the seven heads a grid point stores side by side, and the blocks the grid points write.
-/
module

public import proofs.«01_k».proof.Proof.KernelHost
public import Idealize.ShloMosaic.Lib.Pipeline.Value
public import Idealize.ShloMosaic.Lib.Pipeline.Covers

@[expose] public section

set_option maxRecDepth 16384

noncomputable section

namespace Cert.KernelIdeal

open Idealize.ShloMosaic Idealize.ShloMosaic.TcCoe Idealize.ShloMosaic.ValueIdx Cert.KernelIdeal.Gen Cert.Attn Cert.PreFacts
open Idealize.SL.Sem
open Idealize.ShloMosaic.Pipeline (Dat)

/-! ## One grid point's block -/

/-- Where head `g` of a group goes: its 128 columns. -/
def headRect (g : Fin 7) : Rect S1x256x896 :=
  Rect.unit ![0, 0, 128 * g.val] S1x256x128.size fun a => by
    have := g.isLt
    match a with
    | ⟨0, _⟩ => show 0 + 1 ≤ 1; omega
    | ⟨1, _⟩ => show 0 + 256 ≤ 256; omega
    | ⟨2, _⟩ => show 128 * g.val + 128 ≤ 896; omega

/-- Column `d` of head `g`. -/
def colOf (g : Fin 7) (d : Fin 128) : Fin 896 := ⟨128 * g.val + d.val, by have := g.isLt; have := d.isLt; omega⟩

theorem headRect_emb (g : Fin 7) (r : Fin 256) (d : Fin 128) :
    (headRect g).emb (ix3 (0 : Fin 1) r d : S1x256x128.Idx) = (ix3 (0 : Fin 1) r (colOf g d) : S1x256x896.Idx) := by
  funext a
  apply Fin.ext
  match a with
  | ⟨0, _⟩ => rfl
  | ⟨1, _⟩ => show 0 + 1 * r.val = r.val; omega
  | ⟨2, _⟩ => show 128 * g.val + 1 * d.val = 128 * g.val + d.val; omega

/-- An index is in one head's columns only. -/
theorem headRect_only {g k : Fin 7} {r : Fin 256} {d : Fin 128}
    (h : (ix3 (0 : Fin 1) r (colOf g d) : S1x256x896.Idx) ∈ (headRect k).set) : k = g := by
  rw [← Rect.map_emb_univ] at h
  obtain ⟨y, -, e⟩ := Finset.mem_map.mp h
  have e2 : 128 * k.val + 1 * (y 2).val = 128 * g.val + d.val := congrArg (fun z : S1x256x896.Idx => (z 2).val) e
  have hy : (y 2).val < 128 := (y 2).isLt
  have hd := d.isLt
  exact Fin.ext (by omega)

/-- Seven stores, one per head, are read back head by head. -/
theorem read_heads (f : VO0_10.ty.Contents (Elt Ideal)) (L : List (View.Piece (Elt Ideal) S1x256x896 .bf16)) (hlen : L.length = 7)
    (P : Fin 7 → Vec Ideal S1x256x128 .bf16) (hL : ∀ g : Fin 7, L[6 - g.val]? = some ⟨headRect g, P g⟩) (g : Fin 7) (r : Fin 256) (d : Fin 128) :
    VO0_10.read (Elt Ideal) (VO0_10.writes (Elt Ideal) f L) (ix3 (0 : Fin 1) r (colOf g d)) = P g (ix3 (0 : Fin 1) r d) := by
  have h := View.read_writes_of_unique VO0_10 f (⟨headRect g, P g⟩ : View.Piece (Elt Ideal) S1x256x896 .bf16) (ix3 (0 : Fin 1) r d : S1x256x128.Idx) L
    (List.mem_of_getElem? (hL g)) (fun q hq hm => by
      obtain ⟨k, hk, rfl⟩ := List.mem_iff_getElem.mp hq
      have hk7 : k < 7 := hlen ▸ hk
      have e := hL ⟨6 - k, by omega⟩
      have hi : 6 - (6 - k) = k := by omega
      rw [show (6 - ((⟨6 - k, by omega⟩ : Fin 7)).val) = k from hi, List.getElem?_eq_getElem hk] at e
      have e := Option.some.inj e
      rw [e] at hm ⊢
      have hm : (headRect g).emb (ix3 (0 : Fin 1) r d : S1x256x128.Idx) ∈ (headRect ⟨6 - k, by omega⟩).set := hm
      rw [headRect_emb] at hm
      rw [headRect_only hm])
  rw [headRect_emb] at h
  exact h

section Block

variable (c : Dev nD) (i : grid0.Coords) (arg3 : Memref sig .tc .smem S3 .i32) (harg3 : arg3.IsWhole)
  (arg4 : Memref sig .tc .vmem S1x7x256x128 .fp8e4m3) (harg4 : arg4.IsWhole) (arg5 : Memref sig .tc .vmem S1x7x256x128 .fp8e4m3) (harg5 : arg5.IsWhole)
  (arg6 : Memref sig .tc .vmem S1x7x1x256 .f32) (harg6 : arg6.IsWhole) (arg7 : Memref sig .tc .vmem S1x7x1x256 .f32) (harg7 : arg7.IsWhole)
  (arg8 : Memref sig .tc .vmem S1x1x8192x128 .fp8e4m3) (harg8 : arg8.IsWhole) (arg9 : Memref sig .tc .vmem S1x1x8192x128 .fp8e4m3) (harg9 : arg9.IsWhole)
  (arg10 : Memref sig .tc .vmem S1x1x8192x128 .f32) (harg10 : arg10.IsWhole) (arg11 : Memref sig .tc .vmem S1x1x8192x128 .f32) (harg11 : arg11.IsWhole)
  (arg12 : Memref sig .tc .vmem S1x1x128x8192 .bf16) (harg12 : arg12.IsWhole) (arg13 : Memref sig .tc .vmem S1x256x896 .bf16) (harg13 : arg13.IsWhole)
  (x0 : Vec Ideal S3 .i32) (x1 x2 : Vec Ideal S1x7x256x128 .fp8e4m3) (x3 x4 : Vec Ideal S1x7x1x256 .f32) (x5 x6 : Vec Ideal S1x1x8192x128 .fp8e4m3)
  (x7 x8 : Vec Ideal S1x1x8192x128 .f32) (x9 : Vec Ideal S1x1x128x8192 .bf16)

theorem stores_length : (kernelRun (F := Ideal) c i arg3 harg3 arg4 harg4 arg5 harg5 arg6 harg6 arg7 harg7 arg8 harg8 arg9 harg9 arg10 harg10
    arg11 harg11 arg12 harg12 arg13 harg13 x0 x1 x2 x3 x4 x5 x6 x7 x8 x9).1.length = 7 := by
  unfold kernelRun
  rfl

/-- Every head's store. -/
theorem stores (hW : (win c i arg3 harg3 x0 x1 x2 x3 x4 x5 x6 x7 x8 x9).OK) (g : Fin 7) :
    ∃ P : Vec Ideal S1x256x128 .bf16, (kernelRun (F := Ideal) c i arg3 harg3 arg4 harg4 arg5 harg5 arg6 harg6 arg7 harg7 arg8 harg8 arg9 harg9 arg10 harg10
      arg11 harg11 arg12 harg12 arg13 harg13 x0 x1 x2 x3 x4 x5 x6 x7 x8 x9).1[6 - g.val]? = some ⟨headRect g, P⟩
    ∧ IsHead (win c i arg3 harg3 x0 x1 x2 x3 x4 x5 x6 x7 x8 x9) g P :=
  match g with
  | ⟨0, _⟩ => head0 c i arg3 harg3 arg4 harg4 arg5 harg5 arg6 harg6 arg7 harg7 arg8 harg8 arg9 harg9 arg10 harg10 arg11 harg11 arg12 harg12 arg13 harg13 x0 x1 x2 x3 x4 x5 x6 x7 x8 x9 hW
  | ⟨1, _⟩ => head1 c i arg3 harg3 arg4 harg4 arg5 harg5 arg6 harg6 arg7 harg7 arg8 harg8 arg9 harg9 arg10 harg10 arg11 harg11 arg12 harg12 arg13 harg13 x0 x1 x2 x3 x4 x5 x6 x7 x8 x9 hW
  | ⟨2, _⟩ => head2 c i arg3 harg3 arg4 harg4 arg5 harg5 arg6 harg6 arg7 harg7 arg8 harg8 arg9 harg9 arg10 harg10 arg11 harg11 arg12 harg12 arg13 harg13 x0 x1 x2 x3 x4 x5 x6 x7 x8 x9 hW
  | ⟨3, _⟩ => head3 c i arg3 harg3 arg4 harg4 arg5 harg5 arg6 harg6 arg7 harg7 arg8 harg8 arg9 harg9 arg10 harg10 arg11 harg11 arg12 harg12 arg13 harg13 x0 x1 x2 x3 x4 x5 x6 x7 x8 x9 hW
  | ⟨4, _⟩ => head4 c i arg3 harg3 arg4 harg4 arg5 harg5 arg6 harg6 arg7 harg7 arg8 harg8 arg9 harg9 arg10 harg10 arg11 harg11 arg12 harg12 arg13 harg13 x0 x1 x2 x3 x4 x5 x6 x7 x8 x9 hW
  | ⟨5, _⟩ => head5 c i arg3 harg3 arg4 harg4 arg5 harg5 arg6 harg6 arg7 harg7 arg8 harg8 arg9 harg9 arg10 harg10 arg11 harg11 arg12 harg12 arg13 harg13 x0 x1 x2 x3 x4 x5 x6 x7 x8 x9 hW
  | ⟨6, _⟩ => head6 c i arg3 harg3 arg4 harg4 arg5 harg5 arg6 harg6 arg7 harg7 arg8 harg8 arg9 harg9 arg10 harg10 arg11 harg11 arg12 harg12 arg13 harg13 x0 x1 x2 x3 x4 x5 x6 x7 x8 x9 hW

theorem out0_at (hW : (win c i arg3 harg3 x0 x1 x2 x3 x4 x5 x6 x7 x8 x9).OK) (g : Fin 7) (r : Fin 256) (d : Fin 128) :
    out0 (F := Ideal) c i arg3 harg3 arg4 harg4 arg5 harg5 arg6 harg6 arg7 harg7 arg8 harg8 arg9 harg9 arg10 harg10
      arg11 harg11 arg12 harg12 arg13 harg13 x0 x1 x2 x3 x4 x5 x6 x7 x8 x9 (ix3 (0 : Fin 1) r (colOf g d))
      = (win c i arg3 harg3 x0 x1 x2 x3 x4 x5 x6 x7 x8 x9).quot g r d := by
  choose P hP hH using stores c i arg3 harg3 arg4 harg4 arg5 harg5 arg6 harg6 arg7 harg7 arg8 harg8 arg9 harg9 arg10 harg10
    arg11 harg11 arg12 harg12 arg13 harg13 x0 x1 x2 x3 x4 x5 x6 x7 x8 x9 hW
  unfold out0
  exact (read_heads _ _ (stores_length c i arg3 harg3 arg4 harg4 arg5 harg5 arg6 harg6 arg7 harg7 arg8 harg8 arg9 harg9 arg10 harg10
    arg11 harg11 arg12 harg12 arg13 harg13 x0 x1 x2 x3 x4 x5 x6 x7 x8 x9) P hP g r d).trans ((hH g).apply hW r d)

end Block

/-! ## The array -/

variable (m : (ℓ : Loc nD τ sig) → Buf (Elt Ideal) ℓ) (ρ : Dev nD → PrngReg)

theorem flushed10 (c : Dev nD) (t : Fin cfg0.N) :
    (dats m 0 c).flushed 10 t = (cfg0.win 10).cut (grid0.coords t) (outsAt0 m c t) := by
  show (cfg0.win 10).cut (grid0.coords t) ((dats m 0 c).after 10 t) = _
  rw [after0_10]

theorem coords_inj {t t' : Fin cfg0.N} (h0 : ptB t = ptB t') (h1 : ptG t = ptG t') (h2 : ptQ t = ptQ t') : t = t' := by
  have e0 : t.val / 128 % 3 = t'.val / 128 % 3 := congrArg Fin.val h0
  have e1 : t.val / 32 % 4 = t'.val / 32 % 4 := congrArg Fin.val h1
  have e2 : t.val / 1 % 32 = t'.val / 1 % 32 := congrArg Fin.val h2
  have b : t.val < 384 := t.isLt
  have b' : t'.val < 384 := t'.isLt
  exact Fin.ext (by omega)

/-- Distinct grid points write distinct blocks. -/
theorem idx_inj10 (t t' : Fin cfg0.N) (h : win0_10.index t = win0_10.index t') : t = t' := by
  have e0 : (BitVec.ofNat 32 (grid0.coords t 0).val).toNat = (BitVec.ofNat 32 (grid0.coords t' 0).val).toNat := congrFun h (0 : Fin 3)
  have e1 : (BitVec.ofNat 32 (grid0.coords t 1).val).toNat = (BitVec.ofNat 32 (grid0.coords t' 1).val).toNat := congrFun h (2 : Fin 3)
  have e2 : (BitVec.ofNat 32 (grid0.coords t 2).val).toNat = (BitVec.ofNat 32 (grid0.coords t' 2).val).toNat := congrFun h (1 : Fin 3)
  rw [wordB, wordB] at e0
  rw [wordG, wordG] at e1
  rw [wordQ, wordQ] at e2
  exact coords_inj (Fin.ext e0) (Fin.ext e1) (Fin.ext e2)

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

theorem blocks10 (c : Dev nD) (t : Fin cfg0.N) :
    ((cfg0.win 10).blk t).view.read (Elt Ideal) ((dats m 0 c).arrAt 10 cfg0.N) = (dats m 0 c).flushed 10 t :=
  (dats m 0 c).read_blk_arrAt_eq_flushed 10 disjoint10 cfg0.N t t.isLt (Gen.flush0_10 t)

/-- Column `d` of head `h` in the result. -/
def resCol (h : Fin 28) (d : Fin 128) : Fin 3584 := ⟨128 * h.val + d.val, by have := h.isLt; have := d.isLt; omega⟩

theorem arr_at (c : Dev nD) (t : Fin cfg0.N) (g : Fin 7) (r : Fin 256) (d : Fin 128) :
    ((dats m 0 c).arrAt 10 cfg0.N : Vec Ideal S3x8192x3584 .bf16) (ix3 (ptB t) (queryOf (ptQ t) r) (resCol (headOf (ptG t) g) d))
      = outsAt0 m c t (ix3 (0 : Fin 1) r (colOf g d)) := by
  have h := congrFun ((blocks10 m c t).trans (flushed10 m c t)) (ix3 (0 : Fin 1) r (colOf g d) : S1x256x896.Idx)
  rw [View.read_apply] at h
  refine Eq.trans (congrArg ((dats m 0 c).arrAt 10 cfg0.N : Vec Ideal S3x8192x3584 .bf16) (funext fun a => Fin.ext ?_)) h
  match a with
  | ⟨0, _⟩ => show (ptB t).val = (BitVec.ofNat 32 (grid0.coords t 0).val).toNat * 1 + 1 * 0; rw [wordB]; omega
  | ⟨1, _⟩ => show 256 * (ptQ t).val + r.val = (BitVec.ofNat 32 (grid0.coords t 2).val).toNat * 256 + 1 * r.val; rw [wordQ]; omega
  | ⟨2, _⟩ =>
    show 128 * (7 * (ptG t).val + g.val) + d.val = (BitVec.ofNat 32 (grid0.coords t 1).val).toNat * 896 + 1 * (128 * g.val + d.val)
    rw [wordG]; omega

theorem outsAt0_at {c : Dev nD} (hA : (args m c).Real) (hw : (args m c).InRange) (t : Fin cfg0.N) (g : Fin 7) (r : Fin 256) (d : Fin 128) :
    outsAt0 m c t (ix3 (0 : Fin 1) r (colOf g d)) = out (args m c) (ptB t) (headOf (ptG t) g) (queryOf (ptQ t) r) d := by
  unfold outsAt0
  exact (out0_at _ _ _ _ _ _ _ _ _ _ _ _ _ _ _ _ _ _ _ _ _ _ _ _ _ _ _ _ _ _ _ _ _ _ (pt_ok hA hw t) g r d).trans (pt_quot t g r d)

/-- The kernel's result at every index. -/
theorem result_eq {c : Dev nD} (hA : (args m c).Real) (hw : (args m c).InRange) (b : Fin 3) (h : Fin 28) (q : Fin 8192) (d : Fin 128) :
    ((dats m 0 c).arrAt 10 cfg0.N : Vec Ideal S3x8192x3584 .bf16) (ix3 b q (resCol h d)) = out (args m c) b h q d := by
  have hq := q.isLt
  have hh := h.isLt
  obtain ⟨t, ht⟩ := Pipeline.Grid.coords_surjective grid0 (fun a => match a with
    | ⟨0, _⟩ => (b : Fin 3)
    | ⟨1, _⟩ => (⟨h.val / 7, by omega⟩ : Fin 4)
    | ⟨2, _⟩ => (⟨q.val / 256, by omega⟩ : Fin 32))
  have tB : ptB t = b := congrFun ht 0
  have tG : ptG t = ⟨h.val / 7, by omega⟩ := congrFun ht 1
  have tQ : ptQ t = ⟨q.val / 256, by omega⟩ := congrFun ht 2
  have e := (arr_at m c t ⟨h.val % 7, Nat.mod_lt _ (by norm_num)⟩ ⟨q.val % 256, Nat.mod_lt _ (by norm_num)⟩ d).trans (outsAt0_at m hA hw t _ _ d)
  have eh : headOf (ptG t) ⟨h.val % 7, Nat.mod_lt _ (by norm_num)⟩ = h := by
    rw [tG]; exact Fin.ext (by show 7 * (h.val / 7) + h.val % 7 = h.val; omega)
  have eq : queryOf (ptQ t) ⟨q.val % 256, Nat.mod_lt _ (by norm_num)⟩ = q := by
    rw [tQ]; exact Fin.ext (by show 256 * (q.val / 256) + q.val % 256 = q.val; omega)
  rw [eh, eq, tB] at e
  exact e

/-- The run, with the result array named. -/
theorem run_array : θ_run defs (onTc (τ := τ) (main (F := Ideal))) ⟨m, fun _ => 0, ρ⟩ (fun r => ∀ c : Dev nD,
      r.2.mem ((c.tc : Thread nD τ).loc main_v27) = (dats m 0 c).arrAt 10 cfg0.N) :=
  (θ_run defs _ _).mono (fun _ h c => (h c).1 10) (run_main m ρ)

end Cert.KernelIdeal

end
-- ==== Proof.RefValue.lean ====
/-
  The reference's kernel body read at an index: the scores, the mask, the softmax along the keys and the product with the
  values, over the blocks it loads.
-/
module

public import proofs.«01_k».proof.Proof.Gen.ReferenceIdeal.Skeleton
public import proofs.«01_k».proof.Proof.Layout
public import proofs.«01_k».proof.Proof.Spec

@[expose] public section

noncomputable section

namespace Cert.ReferenceIdeal

open Idealize.ShloMosaic Idealize.ShloMosaic.ValueIdx Cert.ReferenceIdeal.Gen Cert.Layout Cert.Attn
open scoped BigOperators

theorem scale_eq : (Named.named (F := Ideal) κ "scale" (φ := .f32) 0x3DB504F3#32 : EReal) = ((unit * Real.log 2 : ℝ) : EReal) := rfl

theorem pay2_apply (q k : Vec Ideal S84x8192x128 .fp8e4m3) (qs : Vec Ideal S84x8192x1 .f32) (ks : Vec Ideal S84x1x8192 .f32)
    (g : Fin 84) (i j : Fin 8192) :
    k0_pay2 (F := Ideal) q k qs ks (ix3 g i j) = (∑ d : Fin 128, q (ix3 g i d) * k (ix3 g j d)) * qs (ix3 g i (0 : Fin 1))
      * ks (ix3 g (0 : Fin 1) j) * ((unit * Real.log 2 : ℝ) : EReal) := by
  unfold k0_pay2
  refine (mulf_apply _ _ _).trans (congr (congrArg _ ((mulf_apply _ _ _).trans (congr (congrArg _ ((mulf_apply _ _ _).trans
    (congr (congrArg _ ?_) ?_))) ?_))) ?_)
  · refine (dotT_apply (B := 84) (M := 8192) (N := 8192) (K := 128) _ _ _ _ g i j).trans ?_
    refine (congrArg (· + _) ((constant_apply _ _).trans zero_word)).trans ((zero_add _).trans ?_)
    exact Finset.sum_congr rfl fun d _ => congr (congrArg _ (cast_self _ _ _)) (cast_self _ _ _)
  · exact (bcast_ab1 _ _ g i j).trans (cast_self _ _ _)
  · exact (bcast_a1c _ _ g i j).trans (cast_self _ _ _)
  · exact (broadcast_apply _ _).trans scale_eq

theorem pay3_apply (q k : Vec Ideal S84x8192x128 .fp8e4m3) (qs : Vec Ideal S84x8192x1 .f32) (ks : Vec Ideal S84x1x8192 .f32)
    (g : Fin 84) (i j : Fin 8192) :
    k0_pay3 (F := Ideal) q k qs ks (ix3 g i j) = (∑ d : Fin 128, q (ix3 g i d) * k (ix3 g j d)) * qs (ix3 g i (0 : Fin 1))
      * ks (ix3 g (0 : Fin 1) j) * ((unit * Real.log 2 : ℝ) : EReal) :=
  pay2_apply q k qs ks g i j

/-- The masked scores, as the body prints them. -/
def masked (s1 s2 : FVec Ideal S84x8192x8192 .f32) (p r : IVec S84x8192x8192 32) (w : Vec Ideal S84x1x1 .i32) : FVec Ideal S84x8192x8192 .f32 :=
  select (cmpi .slt (subi p r) (broadcast S84x8192x8192 0#32)) (broadcast S84x8192x8192 (Scalar.ofBits (F := Ideal) .f32 0xFF800000#32))
    (select (cmpi .slt (subi p r) (broadcastTo S84x8192x8192 (shapeCast S84x1x1 w shapeCasts_S84x1x1_S84x1x1) broadcasts_S84x1x1_S84x8192x8192)) s1 s2)

theorem masked_apply (s1 s2 : FVec Ideal S84x8192x8192 .f32) (w : Vec Ideal S84x1x1 .i32) (g : Fin 84) (i j : Fin 8192) :
    masked s1 s2 (iota .tc S84x8192x8192 32 [1] iota_S84x8192x8192_d1_w32) (iota .tc S84x8192x8192 32 [2] iota_S84x8192x8192_d2_w32) w (ix3 g i j)
      = if i.val < j.val then ⊥ else if (i.val : ℤ) - j.val < BitVec.toInt (w (ix3 g (0 : Fin 1) (0 : Fin 1)))
        then s1 (ix3 g i j) else s2 (ix3 g i j) := by
  have hi : iota .tc S84x8192x8192 32 [1] iota_S84x8192x8192_d1_w32 (ix3 g i j) = BitVec.ofNat 32 i.val :=
    congrArg (BitVec.ofNat 32) (show 0 * 8192 + i.val = i.val by omega)
  have hj : iota .tc S84x8192x8192 32 [2] iota_S84x8192x8192_d2_w32 (ix3 g i j) = BitVec.ofNat 32 j.val :=
    congrArg (BitVec.ofNat 32) (show 0 * 8192 + j.val = j.val by omega)
  have hd : (subi (iota .tc S84x8192x8192 32 [1] iota_S84x8192x8192_d1_w32) (iota .tc S84x8192x8192 32 [2] iota_S84x8192x8192_d2_w32) (ix3 g i j)).toInt
      = (i.val : ℤ) - j.val :=
    (congrArg BitVec.toInt (congr (congrArg (fun a b : BitVec 32 => a - b) hi) hj)).trans
      (toInt_dist (by have := i.isLt; omega) (by have := j.isLt; omega))
  have hw : broadcastTo S84x8192x8192 (shapeCast S84x1x1 w shapeCasts_S84x1x1_S84x1x1) broadcasts_S84x1x1_S84x8192x8192 (ix3 g i j)
      = w (ix3 g (0 : Fin 1) (0 : Fin 1)) := (bcast_a11 _ _ g i j).trans (cast_self _ _ _)
  unfold masked
  refine (select_apply _ _ _ _).trans ((congrArg (Scalar.select _ _) (select_apply _ _ _ _)).trans ?_)
  refine (mask_select _ _ _ _ _).trans ?_
  refine (congrArg (fun z : ℤ => if z < 0 then _ else if z < _ then s1 (ix3 g i j) else s2 (ix3 g i j)) hd).trans ?_
  refine (congrArg (fun v : BitVec 32 => if (i.val : ℤ) - j.val < 0 then _ else if (i.val : ℤ) - j.val < v.toInt then s1 (ix3 g i j) else s2 (ix3 g i j)) hw).trans ?_
  by_cases h : i.val < j.val
  · rw [if_pos h, if_pos (by omega)]
    exact (broadcast_apply _ _).trans neg_inf_word
  · rw [if_neg h, if_neg (by omega)]

/-- The exponentials of the masked scores. -/
def weights (x : FVec Ideal S84x8192x8192 .f32) : FVec Ideal S84x8192x8192 .f32 :=
  exp (subf x (broadcastTo S84x8192x8192 (shapeCast S84x8192x1 (multiReduction .maximumf [2] S84x8192 x 0xFF800000#32
    reduces_S84x8192x8192_S84x8192 (.inl rfl) rfl) shapeCasts_S84x8192_S84x8192x1) broadcasts_S84x8192x1_S84x8192x8192))

theorem weights_apply (x : FVec Ideal S84x8192x8192 .f32) (g : Fin 84) (i j : Fin 8192) :
    weights x (ix3 g i j) = Ideal.exp (x (ix3 g i j) - (Finset.univ : Finset (Fin 8192)).sup fun k => x (ix3 g i k)) :=
  congrArg (fun y : EReal => Ideal.exp (x (ix3 g i j) - y)) (row_max x _ _ _ _ _ g i j)

/-- The normalised weights times the values' scales. -/
def probs (x : FVec Ideal S84x8192x8192 .f32) (vs : Vec Ideal S84x1x8192 .f32) : FVec Ideal S84x8192x8192 .f32 :=
  mulf (divf (weights x) (broadcastTo S84x8192x8192 (shapeCast S84x8192x1 (multiReduction .add [2] S84x8192 (weights x) 0x00000000#32
      reduces_S84x8192x8192_S84x8192 (.inl rfl) rfl) shapeCasts_S84x8192_S84x8192x1) broadcasts_S84x8192x1_S84x8192x8192))
    (broadcastTo S84x8192x8192 (shapeCast S84x1x8192 vs shapeCasts_S84x1x8192_S84x1x8192) broadcasts_S84x1x8192_S84x8192x8192)

theorem probs_apply (x : FVec Ideal S84x8192x8192 .f32) (vs : Vec Ideal S84x1x8192 .f32) (g : Fin 84) (i j : Fin 8192) :
    probs x vs (ix3 g i j) = Ideal.div (weights x (ix3 g i j)) (∑ k : Fin 8192, weights x (ix3 g i k)) * vs (ix3 g (0 : Fin 1) j) := by
  unfold probs
  refine (mulf_apply _ _ _).trans (congr (congrArg _ ((divf_apply _ _ _).trans (congrArg _ (row_sum (weights x) _ _ _ _ _ g i j)))) ?_)
  exact (bcast_a1c _ _ g i j).trans (cast_self _ _ _)

/-- The body's result at batch `b`, query `q` and coordinate `d` of head `h`. -/
theorem pay1_apply (s1 s2 : FVec Ideal S84x8192x8192 .f32) (p r : IVec S84x8192x8192 32) (w : Vec Ideal S84x1x1 .i32)
    (vs : Vec Ideal S84x1x8192 .f32) (vw : Vec Ideal S84x8192x128 .bf16) (b : Fin 3) (h : Fin 28) (g : Fin 84) (hg : g.val = b.val * 28 + h.val)
    (q : Fin 8192) (d : Fin 128) (e : Fin 3584) (he : e.val = h.val * 128 + d.val) :
    k0_pay1 (F := Ideal) s1 s2 p r w vs vw (ix3 b q e) = ∑ j : Fin 8192, probs (masked s1 s2 p r w) vs (ix3 g q j) * vw (ix3 g j d) := by
  unfold k0_pay1
  refine (cast_last (p := 3) (m := 8192) (h := 28) (k := 128) _ _ b q h d e he rfl).trans ?_
  refine (transpose_0213 (a := 3) (b := 28) (c := 8192) (d := 128) _ _ b q h d).trans ?_
  refine (cast_3_abc (p := 3) (h := 28) (m := 8192) (k := 128) _ _ b h g hg q d).trans ?_
  refine (truncf_apply (φ := .f32) (ψ := .bf16) _ bitsLt_bf16_f32 _).trans ?_
  refine (dotP_apply (B := 84) (M := 8192) (N := 128) (K := 8192) _ _ _ _ g q d).trans ?_
  refine (congrArg (· + _) ((constant_apply _ _).trans zero_word)).trans ((zero_add _).trans ?_)
  exact Finset.sum_congr rfl fun j _ => congr (congrArg _ (truncf_apply (φ := .f32) (ψ := .bf16) _ bitsLt_bf16_f32 _)) (cast_self _ _ _)

end Cert.ReferenceIdeal

end
-- ==== Proof.RefHost.lean ====
/-
  The reference's operands read at an index: its host prefix reorders the argument arrays head by head.
-/
module

public import proofs.«01_k».proof.Proof.Gen.ReferenceIdeal.Value
public import proofs.«01_k».proof.Proof.RefValue
public import Idealize.ShloMosaic.Lib.StableHlo.Run

@[expose] public section

noncomputable section

namespace Cert.ReferenceIdeal

open Idealize.ShloMosaic Idealize.ShloMosaic.TcCoe Idealize.ShloMosaic.ValueIdx Cert.ReferenceIdeal.Gen Cert.Layout Cert.Attn
open scoped BigOperators

variable (m : (ℓ : Loc nD τ sig) → Buf (Elt Ideal) ℓ) (c : Dev nD)

/-- The argument arrays as launched. -/
def args : Args where
  w := m ((c : Thread nD τ).loc main_arg0)
  q1c := m ((c : Thread nD τ).loc main_arg1)
  q1s := m ((c : Thread nD τ).loc main_arg2)
  q2c := m ((c : Thread nD τ).loc main_arg3)
  q2s := m ((c : Thread nD τ).loc main_arg4)
  k1c := m ((c : Thread nD τ).loc main_arg5)
  k1s := m ((c : Thread nD τ).loc main_arg6)
  k2c := m ((c : Thread nD τ).loc main_arg7)
  k2s := m ((c : Thread nD τ).loc main_arg8)
  vw := m ((c : Thread nD τ).loc main_arg9)
  vs := m ((c : Thread nD τ).loc main_arg10)

/-- The flat index of head `h` of batch `b`. -/
def row (b : Fin 3) (h : Fin 28) : Fin 84 := ⟨b.val * 28 + h.val, by have := b.isLt; have := h.isLt; omega⟩

/-- A head's place in its group. -/
def mem (h : Fin 28) : Fin 7 := ⟨h.val % 7, Nat.mod_lt _ (by norm_num)⟩

theorem row_split (b : Fin 3) (h : Fin 28) : (row b h).val = (b.val * 4 + (grp h).val) * 7 + (mem h).val := by
  show b.val * 28 + h.val = (b.val * 4 + h.val / 7) * 7 + h.val % 7
  omega

theorem V_v6 : V m c main_v6 = shapeCast S84x1x1 (broadcastInDim S3x28 ![0, 1] bcast_S3x1_S3x28_0_1
    (broadcastInDim S3x1 ![0] bcast_S3_S3x1_0 (args m c).w)) shapeCasts_S3x28_S84x1x1 := by
  show StableHlo.after hostOps0 _ (Proc.devRef .tc main_v6) = _
  after_results
  rfl

theorem V_v8 : V m c main_v8 = shapeCast S84x8192x128 (transpose S3x28x8192x128 [0, 2, 1, 3]
    (args m c).q1c transposes_S3x8192x28x128_S3x28x8192x128_0_2_1_3) shapeCasts_S3x28x8192x128_S84x8192x128 := by
  show StableHlo.after hostOps0 _ (Proc.devRef .tc main_v8) = _
  after_results
  rfl

theorem V_v10 : V m c main_v10 = shapeCast S84x8192x128 (transpose S3x28x8192x128 [0, 2, 1, 3]
    (args m c).q2c transposes_S3x8192x28x128_S3x28x8192x128_0_2_1_3) shapeCasts_S3x28x8192x128_S84x8192x128 := by
  show StableHlo.after hostOps0 _ (Proc.devRef .tc main_v10) = _
  after_results
  rfl

theorem V_v12 : V m c main_v12 = shapeCast S84x8192x1 (transpose S3x28x8192 [0, 2, 1]
    (args m c).q1s transposes_S3x8192x28_S3x28x8192_0_2_1) shapeCasts_S3x28x8192_S84x8192x1 := by
  show StableHlo.after hostOps0 _ (Proc.devRef .tc main_v12) = _
  after_results
  rfl

theorem V_v14 : V m c main_v14 = shapeCast S84x8192x1 (transpose S3x28x8192 [0, 2, 1]
    (args m c).q2s transposes_S3x8192x28_S3x28x8192_0_2_1) shapeCasts_S3x28x8192_S84x8192x1 := by
  show StableHlo.after hostOps0 _ (Proc.devRef .tc main_v14) = _
  after_results
  rfl

theorem V_v18 : V m c main_v18 = shapeCast S84x8192x128 (broadcastInDim S3x4x7x8192x128 ![0, 1, 2, 3, 4] bcast_S3x4x1x8192x128_S3x4x7x8192x128_0_1_2_3_4
    (broadcastInDim S3x4x1x8192x128 ![0, 1, 3, 4] bcast_S3x4x8192x128_S3x4x1x8192x128_0_1_3_4 (transpose S3x4x8192x128 [0, 2, 1, 3]
    (args m c).k1c transposes_S3x8192x4x128_S3x4x8192x128_0_2_1_3))) shapeCasts_S3x4x7x8192x128_S84x8192x128 := by
  show StableHlo.after hostOps0 _ (Proc.devRef .tc main_v18) = _
  after_results
  rfl

theorem V_v22 : V m c main_v22 = shapeCast S84x8192x128 (broadcastInDim S3x4x7x8192x128 ![0, 1, 2, 3, 4] bcast_S3x4x1x8192x128_S3x4x7x8192x128_0_1_2_3_4
    (broadcastInDim S3x4x1x8192x128 ![0, 1, 3, 4] bcast_S3x4x8192x128_S3x4x1x8192x128_0_1_3_4 (transpose S3x4x8192x128 [0, 2, 1, 3]
    (args m c).k2c transposes_S3x8192x4x128_S3x4x8192x128_0_2_1_3))) shapeCasts_S3x4x7x8192x128_S84x8192x128 := by
  show StableHlo.after hostOps0 _ (Proc.devRef .tc main_v22) = _
  after_results
  rfl

theorem V_v26 : V m c main_v26 = shapeCast S84x1x8192 (broadcastInDim S3x4x7x8192 ![0, 1, 2, 3] bcast_S3x4x1x8192_S3x4x7x8192_0_1_2_3
    (broadcastInDim S3x4x1x8192 ![0, 1, 3] bcast_S3x4x8192_S3x4x1x8192_0_1_3 (transpose S3x4x8192 [0, 2, 1]
    (args m c).k1s transposes_S3x8192x4_S3x4x8192_0_2_1))) shapeCasts_S3x4x7x8192_S84x1x8192 := by
  show StableHlo.after hostOps0 _ (Proc.devRef .tc main_v26) = _
  after_results
  rfl

theorem V_v30 : V m c main_v30 = shapeCast S84x1x8192 (broadcastInDim S3x4x7x8192 ![0, 1, 2, 3] bcast_S3x4x1x8192_S3x4x7x8192_0_1_2_3
    (broadcastInDim S3x4x1x8192 ![0, 1, 3] bcast_S3x4x8192_S3x4x1x8192_0_1_3 (transpose S3x4x8192 [0, 2, 1]
    (args m c).k2s transposes_S3x8192x4_S3x4x8192_0_2_1))) shapeCasts_S3x4x7x8192_S84x1x8192 := by
  show StableHlo.after hostOps0 _ (Proc.devRef .tc main_v30) = _
  after_results
  rfl

theorem V_v34 : V m c main_v34 = shapeCast S84x8192x128 (broadcastInDim S3x4x7x8192x128 ![0, 1, 2, 3, 4] bcast_S3x4x1x8192x128_S3x4x7x8192x128_0_1_2_3_4
    (broadcastInDim S3x4x1x8192x128 ![0, 1, 3, 4] bcast_S3x4x8192x128_S3x4x1x8192x128_0_1_3_4 (transpose S3x4x8192x128 [0, 2, 1, 3]
    (args m c).vw transposes_S3x8192x4x128_S3x4x8192x128_0_2_1_3))) shapeCasts_S3x4x7x8192x128_S84x8192x128 := by
  show StableHlo.after hostOps0 _ (Proc.devRef .tc main_v34) = _
  after_results
  rfl

theorem V_v38 : V m c main_v38 = shapeCast S84x1x8192 (broadcastInDim S3x4x7x8192 ![0, 1, 2, 3] bcast_S3x4x1x8192_S3x4x7x8192_0_1_2_3
    (broadcastInDim S3x4x1x8192 ![0, 1, 3] bcast_S3x4x8192_S3x4x1x8192_0_1_3 (transpose S3x4x8192 [0, 2, 1]
    (args m c).vs transposes_S3x8192x4_S3x4x8192_0_2_1))) shapeCasts_S3x4x7x8192_S84x1x8192 := by
  show StableHlo.after hostOps0 _ (Proc.devRef .tc main_v38) = _
  after_results
  rfl

theorem sup_fin (f : ℕ → EReal) (n : ℕ) : (Finset.univ : Finset (Fin n)).sup (fun r => f r.val) = Online.top f n := by
  apply le_antisymm
  · exact Finset.sup_le fun r _ => Finset.le_sup (f := f) (Finset.mem_range.mpr r.isLt)
  · exact Finset.sup_le fun j hj => Finset.le_sup (f := fun r : Fin n => f r.val) (Finset.mem_univ ⟨j, Finset.mem_range.mp hj⟩)

/-! ## The operands at an index -/

theorem window_at (x : IVec S3 32) (b : Fin 3) (h : Fin 28) :
    shapeCast S84x1x1 (broadcastInDim S3x28 ![0, 1] bcast_S3x1_S3x28_0_1 (broadcastInDim S3x1 ![0] bcast_S3_S3x1_0 x))
      shapeCasts_S3x28_S84x1x1 (ix3 (row b h) (0 : Fin 1) (0 : Fin 1)) = x (ix1 b) := by
  refine (shapeCast_apply _ _ _ (ix2 b h) ?_).trans ?_
  · rw [Shape.rowMajor_val_two, Shape.rowMajor_val_three]
    show b.val * 28 + h.val = ((b.val * 28 + h.val) * 1 + 0) * 1 + 0
    omega
  refine (broadcastInDim_apply _ _ _ _ (ix2 b (0 : Fin 1)) fun a => ?_).trans (broadcastInDim_apply _ _ x _ (ix1 b) fun a => ?_)
  · match a with
    | ⟨0, _⟩ => rfl
    | ⟨1, _⟩ => rfl
  · match a with
    | ⟨0, _⟩ => rfl

theorem qcodes_at (x : FVec Ideal S3x8192x28x128 .fp8e4m3) (b : Fin 3) (h : Fin 28) (i : Fin 8192) (d : Fin 128) :
    shapeCast S84x8192x128 (transpose S3x28x8192x128 [0, 2, 1, 3] x transposes_S3x8192x28x128_S3x28x8192x128_0_2_1_3)
      shapeCasts_S3x28x8192x128_S84x8192x128 (ix3 (row b h) i d) = x (ix4 b i h d) :=
  (cast_abc_3 (p := 3) (h := 28) (m := 8192) (k := 128) _ _ b h (row b h) rfl i d).trans
    (transpose_0213 (a := 3) (b := 8192) (c := 28) (d := 128) x _ b h i d)

theorem qscales_at (x : FVec Ideal S3x8192x28 .f32) (b : Fin 3) (h : Fin 28) (i : Fin 8192) :
    shapeCast S84x8192x1 (transpose S3x28x8192 [0, 2, 1] x transposes_S3x8192x28_S3x28x8192_0_2_1)
      shapeCasts_S3x28x8192_S84x8192x1 (ix3 (row b h) i (0 : Fin 1)) = x (ix3 b i h) :=
  (cast_abm_g1m (p := 3) (h := 28) (m := 8192) _ _ b h (row b h) rfl i 0).trans
    (transpose_021 (a := 3) (b := 8192) (c := 28) x _ b h i)

theorem kcodes_at (x : S3x8192x4x128.Idx → EReal) (b : Fin 3) (h : Fin 28) (j : Fin 8192) (d : Fin 128) :
    shapeCast S84x8192x128 (broadcastInDim S3x4x7x8192x128 ![0, 1, 2, 3, 4] bcast_S3x4x1x8192x128_S3x4x7x8192x128_0_1_2_3_4
      (broadcastInDim S3x4x1x8192x128 ![0, 1, 3, 4] bcast_S3x4x8192x128_S3x4x1x8192x128_0_1_3_4 (transpose S3x4x8192x128 [0, 2, 1, 3]
      x transposes_S3x8192x4x128_S3x4x8192x128_0_2_1_3))) shapeCasts_S3x4x7x8192x128_S84x8192x128 (ix3 (row b h) j d)
      = x (ix4 b j (grp h) d) :=
  (cast_5_3 (p := 3) (g := 4) (r := 7) (m := 8192) (k := 128) _ _ b (grp h) (mem h) (row b h) (row_split b h) j d).trans
    ((repeat_5 (p := 3) (g := 4) (r := 7) (m := 8192) (k := 128) _ _ _ b (grp h) (mem h) j d).trans
      (transpose_0213 (a := 3) (b := 8192) (c := 4) (d := 128) x _ b (grp h) j d))

theorem kscales_at (x : S3x8192x4.Idx → EReal) (b : Fin 3) (h : Fin 28) (j : Fin 8192) :
    shapeCast S84x1x8192 (broadcastInDim S3x4x7x8192 ![0, 1, 2, 3] bcast_S3x4x1x8192_S3x4x7x8192_0_1_2_3
      (broadcastInDim S3x4x1x8192 ![0, 1, 3] bcast_S3x4x8192_S3x4x1x8192_0_1_3 (transpose S3x4x8192 [0, 2, 1]
      x transposes_S3x8192x4_S3x4x8192_0_2_1))) shapeCasts_S3x4x7x8192_S84x1x8192 (ix3 (row b h) (0 : Fin 1) j)
      = x (ix3 b j (grp h)) :=
  (cast_4_31 (p := 3) (g := 4) (r := 7) (m := 8192) _ _ b (grp h) (mem h) (row b h) (row_split b h) j 0).trans
    ((repeat_4 (p := 3) (g := 4) (r := 7) (m := 8192) _ _ _ b (grp h) (mem h) j).trans
      (transpose_021 (a := 3) (b := 8192) (c := 4) x _ b (grp h) j))

/-! ## The one grid point loads the operands whole -/

theorem iblk_0 (t : Fin cfg0.N) : iblk m c 0 t = V m c main_v6 :=
  Memref.read_access_unit_zero (Elt Ideal) main_v6 (funext fun _ => Nat.zero_mul _) _ _

theorem iblk_1 (t : Fin cfg0.N) : iblk m c 1 t = V m c main_v8 :=
  Memref.read_access_unit_zero (Elt Ideal) main_v8 (funext fun _ => Nat.zero_mul _) _ _

theorem iblk_2 (t : Fin cfg0.N) : iblk m c 2 t = V m c main_v10 :=
  Memref.read_access_unit_zero (Elt Ideal) main_v10 (funext fun _ => Nat.zero_mul _) _ _

theorem iblk_3 (t : Fin cfg0.N) : iblk m c 3 t = V m c main_v12 :=
  Memref.read_access_unit_zero (Elt Ideal) main_v12 (funext fun _ => Nat.zero_mul _) _ _

theorem iblk_4 (t : Fin cfg0.N) : iblk m c 4 t = V m c main_v14 :=
  Memref.read_access_unit_zero (Elt Ideal) main_v14 (funext fun _ => Nat.zero_mul _) _ _

theorem iblk_5 (t : Fin cfg0.N) : iblk m c 5 t = V m c main_v18 :=
  Memref.read_access_unit_zero (Elt Ideal) main_v18 (funext fun _ => Nat.zero_mul _) _ _

theorem iblk_6 (t : Fin cfg0.N) : iblk m c 6 t = V m c main_v22 :=
  Memref.read_access_unit_zero (Elt Ideal) main_v22 (funext fun _ => Nat.zero_mul _) _ _

theorem iblk_7 (t : Fin cfg0.N) : iblk m c 7 t = V m c main_v26 :=
  Memref.read_access_unit_zero (Elt Ideal) main_v26 (funext fun _ => Nat.zero_mul _) _ _

theorem iblk_8 (t : Fin cfg0.N) : iblk m c 8 t = V m c main_v30 :=
  Memref.read_access_unit_zero (Elt Ideal) main_v30 (funext fun _ => Nat.zero_mul _) _ _

theorem iblk_9 (t : Fin cfg0.N) : iblk m c 9 t = V m c main_v34 :=
  Memref.read_access_unit_zero (Elt Ideal) main_v34 (funext fun _ => Nat.zero_mul _) _ _

theorem iblk_10 (t : Fin cfg0.N) : iblk m c 10 t = V m c main_v38 :=
  Memref.read_access_unit_zero (Elt Ideal) main_v38 (funext fun _ => Nat.zero_mul _) _ _

/-- The result array is what the one grid point leaves. -/
theorem arr_eq (t : Fin cfg0.N) : (dats m 0 c).arrAt 11 cfg0.N = out0_11 (iblk m c 0 t) (iblk m c 1 t) (iblk m c 2 t) (iblk m c 3 t) (iblk m c 4 t)
    (iblk m c 5 t) (iblk m c 6 t) (iblk m c 7 t) (iblk m c 8 t) (iblk m c 9 t) (iblk m c 10 t) := by
  have h := Value.blocks11 m c t (Gen.flush0_11 t)
  rw [Value.flushed11] at h
  exact (Memref.read_access_unit_zero (Elt Ideal) main_v39 (funext fun _ => Nat.zero_mul _) _ _).symm.trans h

theorem hz3 : (![0, 0, 0] : Fin 3 → ℕ) = fun _ => 0 := by decide

theorem ld_0 {e : EltTy} (x : Vec Ideal S84x8192x128 e) : View.ld x r0_0 = x := View.ld_unit_zero hz3 _ x
theorem ld_1 {e : EltTy} (x : Vec Ideal S84x8192x1 e) : View.ld x r0_1 = x := View.ld_unit_zero hz3 _ x
theorem ld_2 {e : EltTy} (x : Vec Ideal S84x1x8192 e) : View.ld x r0_2 = x := View.ld_unit_zero hz3 _ x
theorem ld_3 {e : EltTy} (x : Vec Ideal S84x1x1 e) : View.ld x r0_3 = x := View.ld_unit_zero hz3 _ x

/-- The body's payload over the operands as the host prefix leaves them. -/
theorem arr_eq_payload (t : Fin cfg0.N) : (dats m 0 c).arrAt 11 cfg0.N = k0_pay1
    (k0_pay2 (V m c main_v8) (V m c main_v18) (V m c main_v12) (V m c main_v26))
    (k0_pay3 (V m c main_v10) (V m c main_v22) (V m c main_v14) (V m c main_v30))
    (iota .tc S84x8192x8192 32 [1] iota_S84x8192x8192_d1_w32) (iota .tc S84x8192x8192 32 [2] iota_S84x8192x8192_d2_w32)
    (V m c main_v6) (V m c main_v38) (V m c main_v34) := by
  rw [arr_eq m c t, iblk_0, iblk_1, iblk_2, iblk_3, iblk_4, iblk_5, iblk_6, iblk_7, iblk_8, iblk_9, iblk_10]
  unfold out0_11
  refine (View.canon_cons_unit_zero hz3 _ _ []).trans ?_
  simp only [ld_0, ld_1, ld_2, ld_3]

/-- A masked score of the reference is the kernel's, in natural-exponential units. -/
theorem masked_eq (b : Fin 3) (h : Fin 28) (q j : Fin 8192) :
    masked (k0_pay2 (V m c main_v8) (V m c main_v18) (V m c main_v12) (V m c main_v26))
      (k0_pay3 (V m c main_v10) (V m c main_v22) (V m c main_v14) (V m c main_v30))
      (iota .tc S84x8192x8192 32 [1] iota_S84x8192x8192_d1_w32) (iota .tc S84x8192x8192 32 [2] iota_S84x8192x8192_d2_w32)
      (V m c main_v6) (ix3 (row b h) q j) = score (args m c) b h q j.val * (Real.log 2 : ℝ) := by
  refine (masked_apply _ _ _ (row b h) q j).trans ?_
  have hw : V m c main_v6 (ix3 (row b h) (0 : Fin 1) (0 : Fin 1)) = (args m c).w (ix1 b) :=
    (congrFun (V_v6 m c) _).trans (window_at _ b h)
  rw [hw]
  unfold score
  rw [key_val]
  by_cases h0 : q.val < j.val
  · rw [if_pos h0, if_pos h0]
    exact (EReal.bot_mul_coe_of_pos (Real.log_pos one_lt_two)).symm
  rw [if_neg h0, if_neg h0]
  by_cases h1 : (q.val : ℤ) - j.val < ((args m c).w (ix1 b)).toInt
  · rw [if_pos h1, if_pos h1]
    refine Eq.trans ?_ (raw_mul_log _ _ _ _ b h q j)
    refine (pay2_apply _ _ _ _ (row b h) q j).trans ?_
    have e1 : ∀ d, V m c main_v8 (ix3 (row b h) q d) = (args m c).q1c (ix4 b q h d) := fun d => (congrFun (V_v8 m c) _).trans (qcodes_at _ b h q d)
    have e2 : ∀ d, V m c main_v18 (ix3 (row b h) j d) = (args m c).k1c (ix4 b j (grp h) d) := fun d => (congrFun (V_v18 m c) _).trans (kcodes_at _ b h j d)
    have e3 : V m c main_v12 (ix3 (row b h) q (0 : Fin 1)) = (args m c).q1s (ix3 b q h) := (congrFun (V_v12 m c) _).trans (qscales_at _ b h q)
    have e4 : V m c main_v26 (ix3 (row b h) (0 : Fin 1) j) = (args m c).k1s (ix3 b j (grp h)) := (congrFun (V_v26 m c) _).trans (kscales_at _ b h j)
    rw [e3, e4, Finset.sum_congr rfl fun d _ => congr (congrArg _ (e1 d)) (e2 d)]
  · rw [if_neg h1, if_neg h1]
    refine Eq.trans ?_ (raw_mul_log _ _ _ _ b h q j)
    refine (pay3_apply _ _ _ _ (row b h) q j).trans ?_
    have e1 : ∀ d, V m c main_v10 (ix3 (row b h) q d) = (args m c).q2c (ix4 b q h d) := fun d => (congrFun (V_v10 m c) _).trans (qcodes_at _ b h q d)
    have e2 : ∀ d, V m c main_v22 (ix3 (row b h) j d) = (args m c).k2c (ix4 b j (grp h) d) := fun d => (congrFun (V_v22 m c) _).trans (kcodes_at _ b h j d)
    have e3 : V m c main_v14 (ix3 (row b h) q (0 : Fin 1)) = (args m c).q2s (ix3 b q h) := (congrFun (V_v14 m c) _).trans (qscales_at _ b h q)
    have e4 : V m c main_v30 (ix3 (row b h) (0 : Fin 1) j) = (args m c).k2s (ix3 b j (grp h)) := (congrFun (V_v30 m c) _).trans (kscales_at _ b h j)
    rw [e3, e4, Finset.sum_congr rfl fun d _ => congr (congrArg _ (e1 d)) (e2 d)]

/-- The result array at batch `b`, query `q` and coordinate `d` of head `h`. -/
theorem result_eq (hA : (args m c).Real) (b : Fin 3) (h : Fin 28) (q : Fin 8192) (d : Fin 128) (e : Fin 3584) (he : e.val = h.val * 128 + d.val) :
    (dats m 0 c).arrAt 11 cfg0.N (ix3 b q e) = out (args m c) b h q d := by
  refine (congrFun (arr_eq_payload m c t0_0) _).trans ?_
  refine (pay1_apply _ _ _ _ _ _ _ b h (row b h) rfl q d e he).trans ?_
  set x := masked (k0_pay2 (V m c main_v8) (V m c main_v18) (V m c main_v12) (V m c main_v26))
      (k0_pay3 (V m c main_v10) (V m c main_v22) (V m c main_v14) (V m c main_v30))
      (iota .tc S84x8192x8192 32 [1] iota_S84x8192x8192_d1_w32) (iota .tc S84x8192x8192 32 [2] iota_S84x8192x8192_d2_w32)
      (V m c main_v6) with hx
  have hxe : ∀ j : Fin 8192, x (ix3 (row b h) q j) = score (args m c) b h q j.val * (Real.log 2 : ℝ) := fun j => masked_eq m c b h q j
  rw [out_eq_softmax hA b h q d (fun j => score (args m c) b h q j * (Real.log 2 : ℝ)) fun j _ => rfl]
  have htop : (Finset.univ : Finset (Fin 8192)).sup (fun k => x (ix3 (row b h) q k))
      = Online.top (fun j => score (args m c) b h q j * (Real.log 2 : ℝ)) 8192 :=
    (Finset.sup_congr rfl fun k _ => hxe k).trans (sup_fin (fun j => score (args m c) b h q j * (Real.log 2 : ℝ)) 8192)
  have hwt : ∀ j : Fin 8192, weights x (ix3 (row b h) q j) = Ideal.exp (score (args m c) b h q j.val * (Real.log 2 : ℝ)
      - Online.top (fun j => score (args m c) b h q j * (Real.log 2 : ℝ)) 8192) := fun j =>
    (weights_apply x (row b h) q j).trans (by rw [htop, hxe j])
  have hden : ∑ k : Fin 8192, weights x (ix3 (row b h) q k) = ∑ k ∈ Finset.range 8192, Ideal.exp (score (args m c) b h q k * (Real.log 2 : ℝ)
      - Online.top (fun j => score (args m c) b h q j * (Real.log 2 : ℝ)) 8192) :=
    (Finset.sum_congr rfl fun k _ => hwt k).trans (Fin.sum_univ_eq_sum_range (fun k => Ideal.exp (score (args m c) b h q k * (Real.log 2 : ℝ)
      - Online.top (fun j => score (args m c) b h q j * (Real.log 2 : ℝ)) 8192)) 8192)
  rw [← Fin.sum_univ_eq_sum_range]
  refine Finset.sum_congr rfl fun j _ => ?_
  refine congr (congrArg _ ((probs_apply x _ (row b h) q j).trans ?_)) ?_
  · rw [hwt j, hden, key_val]
    exact congrArg _ ((congrFun (V_v38 m c) _).trans (kscales_at _ b h j))
  · rw [key_val]
    exact (congrFun (V_v34 m c) _).trans (kcodes_at _ b h j d)

end Cert.ReferenceIdeal

end
-- ==== Proof.Algebraic.lean ====
/-
  The kernel and the reference end with the same result: both arrays are `Attn.out` of the argument arrays at every index.
-/
module

public import proofs.«01_k».proof.Proof.KernelArray
public import proofs.«01_k».proof.Proof.RefHost
public import Idealize.ShloMosaic.Adequacy
public import Idealize.ShloMosaic.Lib.Claim

@[expose] public section

noncomputable section

namespace Cert.Algebraic

open Idealize.ShloMosaic Idealize.ShloMosaic.TcCoe Idealize.ShloMosaic.ValueIdx Idealize.SL.Sem Cert.Attn

/-- The argument arrays a reference run starts from are the kernel's. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (Cert.ReferenceIdeal.args m' c).w = (Cert.PreFacts.args m c).w)
    (h1 : (Cert.ReferenceIdeal.args m' c).q1c = (Cert.PreFacts.args m c).q1c) (h2 : (Cert.ReferenceIdeal.args m' c).q1s = (Cert.PreFacts.args m c).q1s)
    (h3 : (Cert.ReferenceIdeal.args m' c).q2c = (Cert.PreFacts.args m c).q2c) (h4 : (Cert.ReferenceIdeal.args m' c).q2s = (Cert.PreFacts.args m c).q2s)
    (h5 : (Cert.ReferenceIdeal.args m' c).k1c = (Cert.PreFacts.args m c).k1c) (h6 : (Cert.ReferenceIdeal.args m' c).k1s = (Cert.PreFacts.args m c).k1s)
    (h7 : (Cert.ReferenceIdeal.args m' c).k2c = (Cert.PreFacts.args m c).k2c) (h8 : (Cert.ReferenceIdeal.args m' c).k2s = (Cert.PreFacts.args m c).k2s)
    (h9 : (Cert.ReferenceIdeal.args m' c).vw = (Cert.PreFacts.args m c).vw) (h10 : (Cert.ReferenceIdeal.args m' c).vs = (Cert.PreFacts.args m c).vs) :
    Cert.ReferenceIdeal.args m' c = Cert.PreFacts.args m c := by
  generalize Cert.ReferenceIdeal.args m' c = A at *
  generalize Cert.PreFacts.args m c = B at *
  cases A
  cases B
  simp only at h0 h1 h2 h3 h4 h5 h6 h7 h8 h9 h10
  subst h0 h1 h2 h3 h4 h5 h6 h7 h8 h9 h10
  rfl

/-- The two result arrays are equal. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hA : (Cert.PreFacts.args m c).Real) (hw : (Cert.PreFacts.args m c).InRange) (hargs : Cert.ReferenceIdeal.args m' c = Cert.PreFacts.args m c) :
    ((Cert.ReferenceIdeal.Gen.dats m' 0 c).arrAt 11 Cert.ReferenceIdeal.cfg0.N : Vec Ideal Cert.KernelIdeal.S3x8192x3584 .bf16)
      = (Cert.KernelIdeal.dats m 0 c).arrAt 10 Cert.KernelIdeal.cfg0.N := by
  funext i
  have he := (i 2).isLt
  have he : (i 2).val < 3584 := he
  have hi : i = (ix3 (i 0 : Fin 3) (i 1 : Fin 8192) (Cert.KernelIdeal.resCol ⟨(i 2).val / 128, by omega⟩ ⟨(i 2).val % 128, Nat.mod_lt _ (by norm_num)⟩)
      : Cert.KernelIdeal.S3x8192x3584.Idx) := by
    funext a
    apply Fin.ext
    match a with
    | ⟨0, _⟩ => rfl
    | ⟨1, _⟩ => rfl
    | ⟨2, _⟩ => show (i 2).val = 128 * ((i 2).val / 128) + (i 2).val % 128; omega
  rw [hi]
  refine Eq.trans ?_ (Cert.KernelIdeal.result_eq m hA hw _ _ _ _).symm
  refine (Cert.ReferenceIdeal.result_eq m' c (hargs ▸ hA) _ ⟨(i 2).val / 128, by omega⟩ _ ⟨(i 2).val % 128, Nat.mod_lt _ (by norm_num)⟩ _ ?_).trans ?_
  · show 128 * ((i 2).val / 128) + (i 2).val % 128 = (i 2).val / 128 * 128 + (i 2).val % 128
    omega
  · rw [hargs]

theorem algebraic : letI := Cert.KernelIdeal.Gen.facts; letI := Cert.ReferenceIdeal.Gen.facts; letI := Cert.Pre_finite_in_range.Gen.facts
    Cert.algebraic_KernelIdeal_ReferenceIdeal_pre_finite_in_range := by
  intro m g m' g' hpre hagree
  refine ⟨fun c => (Cert.KernelIdeal.dats m 0 c).arrAt 10 Cert.KernelIdeal.cfg0.N, ?_, ?_⟩
  · exact (θ_run _ _ _).mono (fun r h c => ⟨h.1 c, h.2 c⟩)
      (θ_run_and (Cert.KernelIdeal.run_array m g) (Cert.KernelIdeal.unchanged m g))
  · refine (θ_run _ _ _).mono (fun r h c => ⟨(h c).1.trans ?_, (h c).2⟩) (Cert.ReferenceIdeal.Value.run_blocks m' g')
    obtain ⟨h0, h1, h2, h3, h4, h5, h6, h7, h8, h9, h10⟩ := hagree c
    obtain ⟨hA, hw⟩ := Cert.PreFacts.facts_of_pre m hpre c
    exact arrays_eq m m' c hA hw (args_eq m m' c h0 h1 h2 h3 h4 h5 h6 h7 h8 h9 h10)

end Cert.Algebraic

end
-- ==== Proof.lean ====
/-
  The claims about the attention kernel: each program ends without fault and leaves its arguments as they were, the ideal
  program is the kernel over the extended reals, and it ends with the reference's result.
-/
module

public import proofs.«01_k».proof.Defs
public import proofs.«01_k».proof.Proof.KernelFrame
public import proofs.«01_k».proof.Proof.KernelIdealFrame
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_finite_in_range
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.frame m ρ
theorem frame_pi : Cert.quiescent_KernelIdeal := fun m ρ _ => Cert.KernelIdeal.frame m ρ
theorem frame_ri : Cert.quiescent_ReferenceIdeal := fun m ρ _ => Cert.ReferenceIdeal.Gen.frame m ρ

/-- The one constant that is read as another value at the ideal instance is the mask, which is `-∞` there. -/
theorem preserves : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts, Cert.Pre_finite_in_range.Gen.facts,
    frame_p, frame_pi, fun m ρ _ => Cert.KernelIdeal.frame m ρ, frame_ri, fun m ρ _ => Cert.ReferenceIdeal.Gen.frame m ρ,
    preserves, Cert.Algebraic.algebraic⟩

end Cert.Proof

end
